-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_on_group_b_pre_finite [hKernelIdeal : Cert.KernelIdeal.Facts] [hReferenceIdeal : Cert.ReferenceIdeal.Facts] [hPre_finite : Cert.Pre_finite.Facts] [hOn_group_b : Cert.On_group_b.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 2048]⟩ : Shape).Idx, (Cert.On_group_b.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.KernelIdeal.nD Cert.KernelIdeal.τ).loc Cert.KernelIdeal.main_v27) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 2048]⟩ : Shape).Idx, (Cert.On_group_b.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.ReferenceIdeal.nD Cert.ReferenceIdeal.τ).loc Cert.ReferenceIdeal.main_v79) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hOn_group_b : Cert.On_group_b.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_on_group_b_pre_finite (hKernelIdeal := hKernelIdeal) (hReferenceIdeal := hReferenceIdeal) (hPre_finite := hPre_finite) (hOn_group_b := hOn_group_b)
    ∧ preserves_Kernel2_Kernel2Ideal
    ∧ algebraic_Kernel2Ideal_Reference2Ideal (hKernel2Ideal := hKernel2Ideal) (hReference2Ideal := hReference2Ideal)
-- ==== On_group_b.lean ====
abbrev S2x16384x2048 : Shape := ⟨3, ![2, 16384, 2048]⟩
abbrev S1x2048 : Shape := ⟨2, ![1, 2048]⟩
abbrev S1x2048x8200 : Shape := ⟨3, ![1, 2048, 8200]⟩
abbrev S1x4x1024 : Shape := ⟨3, ![1, 4, 1024]⟩
abbrev S1x1024 : Shape := ⟨2, ![1, 1024]⟩
abbrev S1x4 : Shape := ⟨2, ![1, 4]⟩
abbrev S2x1024 : Shape := ⟨2, ![2, 1024]⟩
abbrev S32768x2048 : Shape := ⟨2, ![32768, 2048]⟩
abbrev S_ : Shape := ⟨0, ![]⟩

class Facts : Prop where
  bcast_S_S32768x2048 : S_.BroadcastsInDim S32768x2048 (![] : Fin 0 → Fin S32768x2048.rank)

variable [Facts]

def fn {F : FTy → Type} [FloatOps F] (main_arg0 : FVec F S2x16384x2048 .f32) (main_arg1 : FVec F S1x2048 .f32) (main_arg2 : FVec F S1x2048x8200 .f32) (main_arg3 : FVec F S1x4x1024 .f32) (main_arg4 : FVec F S1x1024 .f32) (main_arg5 : FVec F S1x4 .f32) (main_arg6 : FVec F S1x4 .f32) (main_arg7 : FVec F S1x1024 .f32) (main_arg8 : FVec F S2x1024 .f32) (main_arg9 : FVec F S1x1024 .f32) : IVec S32768x2048 1 :=
  let main_v0 : IVec S32768x2048 32 := iotaInDim S32768x2048 32 1
  let main_c : IVec S_ 32 := constantI S_ 32 1024#32
  let main_v1 : IVec S32768x2048 32 := broadcastInDim S32768x2048 ![] bcast_S_S32768x2048 main_c
  let main_v2 : IVec S32768x2048 1 := cmpi .sge main_v0 main_v1
  main_v2
-- ==== Pre_finite.lean ====
abbrev S2x16384x2048 : Shape := ⟨3, ![2, 16384, 2048]⟩
abbrev S1x2048 : Shape := ⟨2, ![1, 2048]⟩
abbrev S1x2048x8200 : Shape := ⟨3, ![1, 2048, 8200]⟩
abbrev S1x4x1024 : Shape := ⟨3, ![1, 4, 1024]⟩
abbrev S1x1024 : Shape := ⟨2, ![1, 1024]⟩
abbrev S1x4 : Shape := ⟨2, ![1, 4]⟩
abbrev S2x1024 : Shape := ⟨2, ![2, 1024]⟩
abbrev S_ : Shape := ⟨0, ![]⟩

class Facts : Prop where
  bcast_S_S2x16384x2048 : S_.BroadcastsInDim S2x16384x2048 (![] : Fin 0 → Fin S2x16384x2048.rank)
  bcast_S_S1x2048 : S_.BroadcastsInDim S1x2048 (![] : Fin 0 → Fin S1x2048.rank)
  bcast_S_S1x2048x8200 : S_.BroadcastsInDim S1x2048x8200 (![] : Fin 0 → Fin S1x2048x8200.rank)
  bcast_S_S2x1024 : S_.BroadcastsInDim S2x1024 (![] : Fin 0 → Fin S2x1024.rank)
  bcast_S_S1x1024 : S_.BroadcastsInDim S1x1024 (![] : Fin 0 → Fin S1x1024.rank)

variable [Facts]

def fn {F : FTy → Type} [FloatOps F] (main_arg0 : FVec F S2x16384x2048 .f32) (main_arg1 : FVec F S1x2048 .f32) (main_arg2 : FVec F S1x2048x8200 .f32) (main_arg3 : FVec F S1x4x1024 .f32) (main_arg4 : FVec F S1x1024 .f32) (main_arg5 : FVec F S1x4 .f32) (main_arg6 : FVec F S1x4 .f32) (main_arg7 : FVec F S1x1024 .f32) (main_arg8 : FVec F S2x1024 .f32) (main_arg9 : FVec F S1x1024 .f32) : IVec S2x16384x2048 1 × IVec S1x2048 1 × IVec S1x2048x8200 1 × IVec S2x1024 1 × IVec S1x1024 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x8200 .f32 := Host.absf main_arg2
  let main_cst_1 : FVec F S_ .f32 := constant S_ .f32 0x7F800000#32
  let main_v7 : FVec F S1x2048x8200 .f32 := broadcastInDim S1x2048x8200 ![] bcast_S_S1x2048x8200 main_cst_1
  let main_v8 : IVec S1x2048x8200 1 := cmpf .olt main_v6 main_v7
  let main_v9 : FVec F S2x1024 .f32 := Host.absf main_arg8
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S1x1024 .f32 := Host.absf main_arg9
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Kernel.lean ====
abbrev S2x16384x2048 : Shape := ⟨3, ![2, 16384, 2048]⟩
abbrev S1x2048 : Shape := ⟨2, ![1, 2048]⟩
abbrev S1x2048x8200 : Shape := ⟨3, ![1, 2048, 8200]⟩
abbrev S1x4x1024 : Shape := ⟨3, ![1, 4, 1024]⟩
abbrev S1x1024 : Shape := ⟨2, ![1, 1024]⟩
abbrev S1x4 : Shape := ⟨2, ![1, 4]⟩
abbrev S2x1024 : Shape := ⟨2, ![2, 1024]⟩
abbrev S32768x2048 : Shape := ⟨2, ![32768, 2048]⟩
abbrev S2048x8200 : Shape := ⟨2, ![2048, 8200]⟩
abbrev S2048x4096 : Shape := ⟨2, ![2048, 4096]⟩
abbrev S2048x8192 : Shape := ⟨2, ![2048, 8192]⟩
abbrev S2048x32x256 : Shape := ⟨3, ![2048, 32, 256]⟩
abbrev S32x2048x256 : Shape := ⟨3, ![32, 2048, 256]⟩
abbrev S2048x8 : Shape := ⟨2, ![2048, 8]⟩
abbrev S8x2048 : Shape := ⟨2, ![8, 2048]⟩
abbrev S_ : Shape := ⟨0, ![]⟩
abbrev S16x2048 : Shape := ⟨2, ![16, 2048]⟩
abbrev S4 : Shape := ⟨1, ![4]⟩
abbrev S8 : Shape := ⟨1, ![8]⟩
abbrev S16 : Shape := ⟨1, ![16]⟩
abbrev S16x1 : Shape := ⟨2, ![16, 1]⟩
abbrev S16x128 : Shape := ⟨2, ![16, 128]⟩
abbrev S2048 : Shape := ⟨1, ![2048]⟩
abbrev S4x1024 : Shape := ⟨2, ![4, 1024]⟩
abbrev S1024 : Shape := ⟨1, ![1024]⟩
abbrev S256x2048 : Shape := ⟨2, ![256, 2048]⟩
abbrev S128x2048 : Shape := ⟨2, ![128, 2048]⟩
abbrev S32x128x256 : Shape := ⟨3, ![32, 128, 256]⟩
abbrev S8x1024 : Shape := ⟨2, ![8, 1024]⟩
abbrev S4x128x256 : Shape := ⟨3, ![4, 128, 256]⟩
abbrev S4x8x128 : Shape := ⟨3, ![4, 8, 128]⟩
abbrev S8x128 : Shape := ⟨2, ![8, 128]⟩
abbrev S128x256 : Shape := ⟨2, ![128, 256]⟩
abbrev S128 : Shape := ⟨1, ![128]⟩
abbrev S128x1 : Shape := ⟨2, ![128, 1]⟩
abbrev S1x2048x256 : Shape := ⟨3, ![1, 2048, 256]⟩
abbrev S2048x256 : Shape := ⟨2, ![2048, 256]⟩
abbrev S1x128x256 : Shape := ⟨3, ![1, 128, 256]⟩
abbrev S128x128 : Shape := ⟨2, ![128, 128]⟩
abbrev S8x1 : Shape := ⟨2, ![8, 1]⟩
abbrev S88x128 : Shape := ⟨2, ![88, 128]⟩
abbrev S128x1024 : Shape := ⟨2, ![128, 1024]⟩
abbrev S136x1024 : Shape := ⟨2, ![136, 1024]⟩
abbrev S17x8x1024 : Shape := ⟨3, ![17, 8, 1024]⟩
abbrev S16x8x1024 : Shape := ⟨3, ![16, 8, 1024]⟩
abbrev S1x1x1024 : Shape := ⟨3, ![1, 1, 1024]⟩
abbrev S128x512 : Shape := ⟨2, ![128, 512]⟩
abbrev S1x256 : Shape := ⟨2, ![1, 256]⟩
abbrev S16x8x256 : Shape := ⟨3, ![16, 8, 256]⟩
abbrev S256x256 : Shape := ⟨2, ![256, 256]⟩
abbrev S8x2x8x256 : Shape := ⟨4, ![8, 2, 8, 256]⟩
abbrev S8x1x8x256 : Shape := ⟨4, ![8, 1, 8, 256]⟩
abbrev S8x8x256 : Shape := ⟨3, ![8, 8, 256]⟩
abbrev S8x1x256 : Shape := ⟨3, ![8, 1, 256]⟩
abbrev S64x256 : Shape := ⟨2, ![64, 256]⟩
abbrev S4x2x16x256 : Shape := ⟨4, ![4, 2, 16, 256]⟩
abbrev S4x1x16x256 : Shape := ⟨4, ![4, 1, 16, 256]⟩
abbrev S4x16x256 : Shape := ⟨3, ![4, 16, 256]⟩
abbrev S4x1x256 : Shape := ⟨3, ![4, 1, 256]⟩
abbrev S2x2x32x256 : Shape := ⟨4, ![2, 2, 32, 256]⟩
abbrev S2x1x32x256 : Shape := ⟨4, ![2, 1, 32, 256]⟩
abbrev S2x32x256 : Shape := ⟨3, ![2, 32, 256]⟩
abbrev S2x1x256 : Shape := ⟨3, ![2, 1, 256]⟩
abbrev S1x2x64x256 : Shape := ⟨4, ![1, 2, 64, 256]⟩
abbrev S1x1x64x256 : Shape := ⟨4, ![1, 1, 64, 256]⟩
abbrev S1x64x256 : Shape := ⟨3, ![1, 64, 256]⟩
abbrev S1x1x256 : Shape := ⟨3, ![1, 1, 256]⟩
abbrev S1x128 : Shape := ⟨2, ![1, 128]⟩
abbrev S1x8x128 : Shape := ⟨3, ![1, 8, 128]⟩

abbrev nBuf : Space → Nat
  | .hbm => 42
  | .vmem => 28
  | .smem => 0
  | _ => 0

abbrev bufTy : (tb : Table) → Fin (tcTables nBuf tb) → BufTy
  | .hbm, ⟨0, _⟩ => ⟨S2x16384x2048, .f32⟩
  | .hbm, ⟨1, _⟩ => ⟨S1x2048, .f32⟩
  | .hbm, ⟨2, _⟩ => ⟨S1x2048x8200, .f32⟩
  | .hbm, ⟨3, _⟩ => ⟨S1x4x1024, .f32⟩
  | .hbm, ⟨4, _⟩ => ⟨S1x1024, .f32⟩
  | .hbm, ⟨5, _⟩ => ⟨S1x4, .f32⟩
  | .hbm, ⟨6, _⟩ => ⟨S1x4, .f32⟩
  | .hbm, ⟨7, _⟩ => ⟨S1x1024, .f32⟩
  | .hbm, ⟨8, _⟩ => ⟨S2x1024, .f32⟩
  | .hbm, ⟨9, _⟩ => ⟨S1x1024, .f32⟩
  | .hbm, ⟨10, _⟩ => ⟨S32768x2048, .f32⟩
  | .hbm, ⟨11, _⟩ => ⟨S2048x8200, .f32⟩
  | .hbm, ⟨12, _⟩ => ⟨S2048x4096, .f32⟩
  | .hbm, ⟨13, _⟩ => ⟨S2048x4096, .f32⟩
  | .hbm, ⟨14, _⟩ => ⟨S2048x8192, .f32⟩
  | .hbm, ⟨15, _⟩ => ⟨S2048x8192, .bf16⟩
  | .hbm, ⟨16, _⟩ => ⟨S2048x32x256, .bf16⟩
  | .hbm, ⟨17, _⟩ => ⟨S32x2048x256, .bf16⟩
  | .hbm, ⟨18, _⟩ => ⟨S2048x8, .f32⟩
  | .hbm, ⟨19, _⟩ => ⟨S8x2048, .f32⟩
  | .hbm, ⟨20, _⟩ => ⟨S_, .i32⟩
  | .hbm, ⟨21, _⟩ => ⟨S_, .f32⟩
  | .hbm, ⟨22, _⟩ => ⟨S16x2048, .f32⟩
  | .hbm, ⟨23, _⟩ => ⟨S16x2048, .bf16⟩
  | .hbm, ⟨24, _⟩ => ⟨S4, .f32⟩
  | .hbm, ⟨25, _⟩ => ⟨S4, .f32⟩
  | .hbm, ⟨26, _⟩ => ⟨S8, .f32⟩
  | .hbm, ⟨27, _⟩ => ⟨S_, .i32⟩
  | .hbm, ⟨28, _⟩ => ⟨S_, .f32⟩
  | .hbm, ⟨29, _⟩ => ⟨S16, .f32⟩
  | .hbm, ⟨30, _⟩ => ⟨S16x1, .f32⟩
  | .hbm, ⟨31, _⟩ => ⟨S16x128, .f32⟩
  | .hbm, ⟨32, _⟩ => ⟨S2048, .f32⟩
  | .hbm, ⟨33, _⟩ => ⟨S1x2048, .f32⟩
  | .hbm, ⟨34, _⟩ => ⟨S4x1024, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S32768x2048, .bf16⟩
  | .local _ .vmem, ⟨0, _⟩ => ⟨S256x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S1x2048, .f32⟩
  | .local _ .vmem, ⟨6, _⟩ => ⟨S32x2048x256, .bf16⟩
  | .local _ .vmem, ⟨7, _⟩ => ⟨S16x2048, .bf16⟩
  | .local _ .vmem, ⟨8, _⟩ => ⟨S4x1024, .f32⟩
  | .local _ .vmem, ⟨9, _⟩ => ⟨S1x1024, .f32⟩
  | .local _ .vmem, ⟨10, _⟩ => ⟨S16x128, .f32⟩
  | .local _ .vmem, ⟨11, _⟩ => ⟨S1x1024, .f32⟩
  | .local _ .vmem, ⟨12, _⟩ => ⟨S2x1024, .f32⟩
  | .local _ .vmem, ⟨13, _⟩ => ⟨S1x1024, .f32⟩
  | .local _ .vmem, ⟨14, _⟩ => ⟨S256x2048, .bf16⟩
  | .local _ .vmem, ⟨15, _⟩ => ⟨S256x2048, .bf16⟩
  | .local _ .vmem, ⟨16, _⟩ => ⟨S32x128x256, .f32⟩
  | .local _ .vmem, ⟨17, _⟩ => ⟨S32x128x256, .f32⟩
  | .local _ .vmem, ⟨18, _⟩ => ⟨S16x128, .f32⟩
  | .local _ .vmem, ⟨19, _⟩ => ⟨S16x128, .f32⟩
  | .local _ .vmem, ⟨20, _⟩ => ⟨S128x2048, .bf16⟩
  | .local _ .vmem, ⟨21, _⟩ => ⟨S128x2048, .bf16⟩
  | .local _ .vmem, ⟨22, _⟩ => ⟨S8x1024, .f32⟩
  | .local _ .vmem, ⟨23, _⟩ => ⟨S4x128x256, .f32⟩
  | .local _ .vmem, ⟨24, _⟩ => ⟨S4x8x128, .f32⟩
  | .local _ .vmem, ⟨25, _⟩ => ⟨S8x128, .f32⟩
  | .local _ .vmem, ⟨26, _⟩ => ⟨S4x128x256, .f32⟩
  | .local _ .vmem, ⟨27, _⟩ => ⟨S128x256, .i32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2009 : BitVec 32 := 0#32
  let c32_i32_2010 : BitVec 32 := 32#32
  let v5755 : BitVec 32 := Scalar.addi c0_i32_2009 c32_i32_2010
  let c1_i32_2011 : BitVec 32 := 1#32
  ⟨c0_i32_2009, v5755, c1_i32_2011⟩
def k0_off1 (k0_t1 : Fin k0_t1_loop.trips) : Fin 3 → Nat :=
  let c0_i32_2009 : BitVec 32 := 0#32
  let c1_i32_2011 : BitVec 32 := 1#32
  let arg26 : BitVec 32 := Scf.iv c0_i32_2009 c1_i32_2011 k0_t1
  let v5790 : Index := Scalar.indexCast arg26
  let c0_2026 : Index := 0#32
  let c0_2027 : Index := 0#32
  ![v5790.toNat, 0, 0]
def k0_off2 (k0_t1 : Fin k0_t1_loop.trips) : Fin 3 → Nat :=
  let c0_i32_2009 : BitVec 32 := 0#32
  let c1_i32_2011 : BitVec 32 := 1#32
  let arg26 : BitVec 32 := Scf.iv c0_i32_2009 c1_i32_2011 k0_t1
  let v5794 : Index := Scalar.indexCast arg26
  let c0_2029 : Index := 0#32
  let c0_2030 : Index := 0#32
  ![v5794.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c255_i32 : BitVec 32 := 255#32
  let v2 : BitVec 32 := Scalar.minsi v1 c255_i32
  let c0_i32 : BitVec 32 := 0#32
  let c0_i32_1 : BitVec 32 := 0#32
  ![v2.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c3_i32 : BitVec 32 := 3#32
  let v1 : BitVec 32 := Scalar.addi v0 c3_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x16384x2048 : Shape := ⟨3, ![2, 16384, 2048]⟩
abbrev S1x2048 : Shape := ⟨2, ![1, 2048]⟩
abbrev S1x2048x8200 : Shape := ⟨3, ![1, 2048, 8200]⟩
abbrev S1x4x1024 : Shape := ⟨3, ![1, 4, 1024]⟩
abbrev S1x1024 : Shape := ⟨2, ![1, 1024]⟩
abbrev S1x4 : Shape := ⟨2, ![1, 4]⟩
abbrev S2x1024 : Shape := ⟨2, ![2, 1024]⟩
abbrev S_ : Shape := ⟨0, ![]⟩
abbrev S1024 : Shape := ⟨1, ![1024]⟩
abbrev S2048 : Shape := ⟨1, ![2048]⟩
abbrev S2x16384 : Shape := ⟨2, ![2, 16384]⟩
abbrev S2x16384x1 : Shape := ⟨3, ![2, 16384, 1]⟩
abbrev S1x1x2048 : Shape := ⟨3, ![1, 1, 2048]⟩
abbrev S2048x8200 : Shape := ⟨2, ![2048, 8200]⟩
abbrev S2x16384x8200 : Shape := ⟨3, ![2, 16384, 8200]⟩
abbrev S2x16384x1024 : Shape := ⟨3, ![2, 16384, 1024]⟩
abbrev S1x1x1024 : Shape := ⟨3, ![1, 1, 1024]⟩
abbrev S2x16384x8x128 : Shape := ⟨4, ![2, 16384, 8, 128]⟩
abbrev S8x128 : Shape := ⟨2, ![8, 128]⟩
abbrev S16384x2x8x128 : Shape := ⟨4, ![16384, 2, 8, 128]⟩
abbrev S2x8x128x128 : Shape := ⟨4, ![2, 8, 128, 128]⟩
abbrev S1x2x8x128 : Shape := ⟨4, ![1, 2, 8, 128]⟩
abbrev S2x8x128 : Shape := ⟨3, ![2, 8, 128]⟩
abbrev S2x8x128x1 : Shape := ⟨4, ![2, 8, 128, 1]⟩
abbrev S2x8x1x128 : Shape := ⟨4, ![2, 8, 1, 128]⟩
abbrev S2x8 : Shape := ⟨2, ![2, 8]⟩
abbrev S2x8x1 : Shape := ⟨3, ![2, 8, 1]⟩
abbrev S1x8x128 : Shape := ⟨3, ![1, 8, 128]⟩
abbrev S32768x2048 : Shape := ⟨2, ![32768, 2048]⟩

abbrev nBuf : Space → Nat
  | .hbm => 184
  | .vmem => 0
  | .smem => 0
  | _ => 0

abbrev hbmTy0_0 (i : Nat) : BufTy := match i % 128 with
  | 0 => ⟨S2x16384x2048, .f32⟩
  | 1 => ⟨S1x2048, .f32⟩
  | 2 => ⟨S1x2048x8200, .f32⟩
  | 3 => ⟨S1x4x1024, .f32⟩
  | 4 => ⟨S1x1024, .f32⟩
  | 5 => ⟨S1x4, .f32⟩
  | 6 => ⟨S1x4, .f32⟩
  | 7 => ⟨S1x1024, .f32⟩
  | 8 => ⟨S2x1024, .f32⟩
  | 9 => ⟨S1x1024, .f32⟩
  | 10 => ⟨S_, .f32⟩
  | 11 => ⟨S1024, .f32⟩
  | 12 => ⟨S_, .f32⟩
  | 13 => ⟨S1024, .f32⟩
  | 14 => ⟨S1024, .f32⟩
  | 15 => ⟨S1x1024, .f32⟩
  | 16 => ⟨S2x1024, .f32⟩
  | 17 => ⟨S2x1024, .f32⟩
  | 18 => ⟨S2x1024, .f32⟩
  | 19 => ⟨S_, .f32⟩
  | 20 => ⟨S1024, .f32⟩
  | 21 => ⟨S1x1024, .f32⟩
  | 22 => ⟨S2x1024, .f32⟩
  | 23 => ⟨S2x1024, .f32⟩
  | 24 => ⟨S1x1024, .f32⟩
  | 25 => ⟨S1024, .f32⟩
  | 26 => ⟨S2048, .f32⟩
  | 27 => ⟨S2x16384x2048, .f32⟩
  | 28 => ⟨S_, .f32⟩
  | 29 => ⟨S2x16384, .f32⟩
  | 30 => ⟨S2x16384x1, .f32⟩
  | 31 => ⟨S_, .f32⟩
  | 32 => ⟨S2x16384x1, .f32⟩
  | 33 => ⟨S2x16384x1, .f32⟩
  | 34 => ⟨S_, .f32⟩
  | 35 => ⟨S2x16384x1, .f32⟩
  | 36 => ⟨S2x16384x1, .f32⟩
  | 37 => ⟨S2x16384x1, .f32⟩
  | 38 => ⟨S2x16384x2048, .f32⟩
  | 39 => ⟨S2x16384x2048, .f32⟩
  | 40 => ⟨S1x1x2048, .f32⟩
  | 41 => ⟨S2x16384x2048, .f32⟩
  | 42 => ⟨S2x16384x2048, .f32⟩
  | 43 => ⟨S2048x8200, .f32⟩
  | 44 => ⟨S2x16384x8200, .f32⟩
  | 45 => ⟨S2x16384x1024, .f32⟩
  | 46 => ⟨S2x16384x1024, .f32⟩
  | 47 => ⟨S2x16384x1024, .f32⟩
  | 48 => ⟨S2x16384x1024, .f32⟩
  | 49 => ⟨S_, .f32⟩
  | 50 => ⟨S1024, .f32⟩
  | 51 => ⟨S1024, .f32⟩
  | 52 => ⟨S2x16384x1024, .f32⟩
  | 53 => ⟨S2x16384x1024, .f32⟩
  | 54 => ⟨S_, .f32⟩
  | 55 => ⟨S2x16384x1024, .f32⟩
  | 56 => ⟨S2x16384x1024, .f32⟩
  | 57 => ⟨S_, .f32⟩
  | 58 => ⟨S2x16384x1024, .f32⟩
  | 59 => ⟨S2x16384x1024, .f32⟩
  | 60 => ⟨S1x1x1024, .f32⟩
  | 61 => ⟨S2x16384x1024, .f32⟩
  | 62 => ⟨S2x16384x1024, .f32⟩
  | 63 => ⟨S1x1x1024, .f32⟩
  | 64 => ⟨S2x16384x1024, .f32⟩
  | 65 => ⟨S2x16384x1024, .f32⟩
  | 66 => ⟨S2x16384x8x128, .f32⟩
  | 67 => ⟨S_, .f32⟩
  | 68 => ⟨S1024, .f32⟩
  | 69 => ⟨S1024, .f32⟩
  | 70 => ⟨S2x16384x1024, .f32⟩
  | 71 => ⟨S2x16384x1024, .f32⟩
  | 72 => ⟨S2x16384x1024, .f32⟩
  | 73 => ⟨S_, .f32⟩
  | 74 => ⟨S2x16384x1024, .f32⟩
  | 75 => ⟨S2x16384x1024, .f32⟩
  | 76 => ⟨S_, .f32⟩
  | 77 => ⟨S2x16384x1024, .f32⟩
  | 78 => ⟨S2x16384x1024, .f32⟩
  | 79 => ⟨S1x1x1024, .f32⟩
  | 80 => ⟨S2x16384x1024, .f32⟩
  | 81 => ⟨S2x16384x1024, .f32⟩
  | 82 => ⟨S2x16384x8x128, .f32⟩
  | 83 => ⟨S2x16384x8x128, .f32⟩
  | 84 => ⟨S2x16384x8x128, .f32⟩
  | 85 => ⟨S2x16384x8x128, .f32⟩
  | 86 => ⟨S1024, .f32⟩
  | 87 => ⟨S8x128, .f32⟩
  | 88 => ⟨S16384x2x8x128, .f32⟩
  | 89 => ⟨S16384x2x8x128, .f32⟩
  | 90 => ⟨S16384x2x8x128, .f32⟩
  | 91 => ⟨S16384x2x8x128, .f32⟩
  | 92 => ⟨S16384x2x8x128, .f32⟩
  | 93 => ⟨S_, .f32⟩
  | 94 => ⟨S2x8x128x128, .f32⟩
  | 95 => ⟨S_, .f32⟩
  | 96 => ⟨S16384x2x8x128, .f32⟩
  | 97 => ⟨S_, .i32⟩
  | 98 => ⟨S16384x2x8x128, .f32⟩
  | 99 => ⟨S16384x2x8x128, .f32⟩
  | 100 => ⟨S16384x2x8x128, .f32⟩
  | 101 => ⟨S16384x2x8x128, .f32⟩
  | 102 => ⟨S16384x2x8x128, .f32⟩
  | 103 => ⟨S8x128, .f32⟩
  | 104 => ⟨S_, .i32⟩
  | 105 => ⟨S2x8x128x128, .f32⟩
  | 106 => ⟨S16384x2x8x128, .f32⟩
  | 107 => ⟨S_, .i32⟩
  | 108 => ⟨S_, .i1⟩
  | 109 => ⟨S_, .i32⟩
  | 110 => ⟨S_, .i32⟩
  | 111 => ⟨S_, .i32⟩
  | 112 => ⟨S1x2x8x128, .f32⟩
  | 113 => ⟨S2x8x128, .f32⟩
  | 114 => ⟨S_, .i32⟩
  | 115 => ⟨S_, .i32⟩
  | 116 => ⟨S_, .i32⟩
  | 117 => ⟨S1x2x8x128, .f32⟩
  | 118 => ⟨S2x8x128, .f32⟩
  | 119 => ⟨S_, .i32⟩
  | 120 => ⟨S_, .i32⟩
  | 121 => ⟨S_, .i32⟩
  | 122 => ⟨S1x2x8x128, .f32⟩
  | 123 => ⟨S2x8x128, .f32⟩
  | 124 => ⟨S_, .i32⟩
  | 125 => ⟨S_, .i32⟩
  | 126 => ⟨S_, .i32⟩
  | 127 => ⟨S1x2x8x128, .f32⟩
  | _ => ⟨S2x16384x2048, .f32⟩

abbrev hbmTy0_1 (i : Nat) : BufTy := match i % 128 with
  | 0 => ⟨S2x8x128, .f32⟩
  | 1 => ⟨S_, .i32⟩
  | 2 => ⟨S_, .i32⟩
  | 3 => ⟨S_, .i32⟩
  | 4 => ⟨S1x2x8x128, .f32⟩
  | 5 => ⟨S2x8x128, .f32⟩
  | 6 => ⟨S2x8x128x1, .f32⟩
  | 7 => ⟨S2x8x128x128, .f32⟩
  | 8 => ⟨S2x8x128x128, .f32⟩
  | 9 => ⟨S2x8x128x1, .f32⟩
  | 10 => ⟨S2x8x1x128, .f32⟩
  | 11 => ⟨S2x8x128x128, .f32⟩
  | 12 => ⟨S2x8x128x128, .f32⟩
  | 13 => ⟨S2x8x128x128, .f32⟩
  | 14 => ⟨S2x8x128x128, .f32⟩
  | 15 => ⟨S2x8x128, .f32⟩
  | 16 => ⟨S2x8x128, .f32⟩
  | 17 => ⟨S_, .f32⟩
  | 18 => ⟨S2x8, .f32⟩
  | 19 => ⟨S2x8x1, .f32⟩
  | 20 => ⟨S_, .f32⟩
  | 21 => ⟨S2x8x1, .f32⟩
  | 22 => ⟨S2x8x1, .f32⟩
  | 23 => ⟨S_, .f32⟩
  | 24 => ⟨S2x8x1, .f32⟩
  | 25 => ⟨S2x8x1, .f32⟩
  | 26 => ⟨S2x8x1, .f32⟩
  | 27 => ⟨S2x8x128, .f32⟩
  | 28 => ⟨S2x8x128, .f32⟩
  | 29 => ⟨S1x8x128, .f32⟩
  | 30 => ⟨S2x8x128, .f32⟩
  | 31 => ⟨S2x8x128, .f32⟩
  | 32 => ⟨S2x8x128, .f32⟩
  | 33 => ⟨S2x8x128, .f32⟩
  | 34 => ⟨S_, .f32⟩
  | 35 => ⟨S2x8x128, .f32⟩
  | 36 => ⟨S2x8x128, .f32⟩
  | 37 => ⟨S_, .f32⟩
  | 38 => ⟨S2x8x128, .f32⟩
  | 39 => ⟨S2x8x128, .f32⟩
  | 40 => ⟨S2x8x128, .f32⟩
  | 41 => ⟨S2x8x128, .f32⟩
  | 42 => ⟨S1x2x8x128, .f32⟩
  | 43 => ⟨S_, .i32⟩
  | 44 => ⟨S_, .i32⟩
  | 45 => ⟨S_, .i32⟩
  | 46 => ⟨S16384x2x8x128, .f32⟩
  | 47 => ⟨S_, .i32⟩
  | 48 => ⟨S_, .i32⟩
  | 49 => ⟨S2x16384x8x128, .f32⟩
  | 50 => ⟨S2x16384x1024, .f32⟩
  | 51 => ⟨S_, .f32⟩
  | 52 => ⟨S2x16384x1024, .f32⟩
  | 53 => ⟨S2x16384x2048, .f32⟩
  | 54 => ⟨S32768x2048, .f32⟩
  | 55 => ⟨S32768x2048, .bf16⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_c : Ref sig .tc := ⟨.hbm, 97, rfl⟩
abbrev main_v73_0 : Ref sig .tc := ⟨.hbm, 98, rfl⟩
abbrev main_v73_1 : Ref sig .tc := ⟨.hbm, 99, rfl⟩
abbrev main_v73_2 : Ref sig .tc := ⟨.hbm, 100, rfl⟩
abbrev main_v73_3 : Ref sig .tc := ⟨.hbm, 101, rfl⟩
abbrev main_v73_4 : Ref sig .tc := ⟨.hbm, 102, rfl⟩
abbrev main_v73_5 : Ref sig .tc := ⟨.hbm, 103, rfl⟩
abbrev main_v73_6 : Ref sig .tc := ⟨.hbm, 104, rfl⟩
abbrev main_v73_7 : Ref sig .tc := ⟨.hbm, 105, rfl⟩
abbrev main_v73_8 : Ref sig .tc := ⟨.hbm, 106, rfl⟩
abbrev main_while0c_c_22 : Ref sig .tc := ⟨.hbm, 107, rfl⟩
abbrev main_while0c_v80 : Ref sig .tc := ⟨.hbm, 108, rfl⟩
abbrev main_while0b_call0_c : Ref sig .tc := ⟨.hbm, 109, rfl⟩
abbrev main_while0b_call0_c_0 : Ref sig .tc := ⟨.hbm, 110, rfl⟩
abbrev main_while0b_call0_c_1 : Ref sig .tc := ⟨.hbm, 111, rfl⟩
abbrev main_while0b_call0_v0 : Ref sig .tc := ⟨.hbm, 112, rfl⟩
abbrev main_while0b_v80 : Ref sig .tc := ⟨.hbm, 113, rfl⟩
abbrev main_while0b_call1_c : Ref sig .tc := ⟨.hbm, 114, rfl⟩
abbrev main_while0b_call1_c_0 : Ref sig .tc := ⟨.hbm, 115, rfl⟩
abbrev main_while0b_call1_c_1 : Ref sig .tc := ⟨.hbm, 116, rfl⟩
abbrev main_while0b_call1_v0 : Ref sig .tc := ⟨.hbm, 117, rfl⟩
abbrev main_while0b_v81 : Ref sig .tc := ⟨.hbm, 118, rfl⟩
abbrev main_while0b_call2_c : Ref sig .tc := ⟨.hbm, 119, rfl⟩
abbrev main_while0b_call2_c_0 : Ref sig .tc := ⟨.hbm, 120, rfl⟩
abbrev main_while0b_call2_c_1 : Ref sig .tc := ⟨.hbm, 121, rfl⟩
abbrev main_while0b_call2_v0 : Ref sig .tc := ⟨.hbm, 122, rfl⟩
abbrev main_while0b_v82 : Ref sig .tc := ⟨.hbm, 123, rfl⟩
abbrev main_while0b_call3_c : Ref sig .tc := ⟨.hbm, 124, rfl⟩
abbrev main_while0b_call3_c_0 : Ref sig .tc := ⟨.hbm, 125, rfl⟩
abbrev main_while0b_call3_c_1 : Ref sig .tc := ⟨.hbm, 126, rfl⟩
abbrev main_while0b_call3_v0 : Ref sig .tc := ⟨.hbm, 127, rfl⟩
abbrev main_while0b_v83 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_c_1 : Ref sig .tc := ⟨.hbm, 131, rfl⟩
abbrev main_while0b_call4_v0 : Ref sig .tc := ⟨.hbm, 132, rfl⟩
abbrev main_while0b_v84 : Ref sig .tc := ⟨.hbm, 133, rfl⟩
abbrev main_while0b_v85 : Ref sig .tc := ⟨.hbm, 134, rfl⟩
abbrev main_while0b_v86 : Ref sig .tc := ⟨.hbm, 135, rfl⟩
abbrev main_while0b_v87 : Ref sig .tc := ⟨.hbm, 136, rfl⟩
abbrev main_while0b_v88 : Ref sig .tc := ⟨.hbm, 137, rfl⟩
abbrev main_while0b_v89 : Ref sig .tc := ⟨.hbm, 138, rfl⟩
abbrev main_while0b_v90 : Ref sig .tc := ⟨.hbm, 139, rfl⟩
abbrev main_while0b_v91 : Ref sig .tc := ⟨.hbm, 140, rfl⟩
abbrev main_while0b_v92 : Ref sig .tc := ⟨.hbm, 141, rfl⟩
abbrev main_while0b_v93 : Ref sig .tc := ⟨.hbm, 142, rfl⟩
abbrev main_while0b_v94 : Ref sig .tc := ⟨.hbm, 143, rfl⟩
abbrev main_while0b_v95 : Ref sig .tc := ⟨.hbm, 144, rfl⟩
abbrev main_while0b_cst_22 : Ref sig .tc := ⟨.hbm, 145, rfl⟩
abbrev main_while0b_v96 : Ref sig .tc := ⟨.hbm, 146, rfl⟩
abbrev main_while0b_v97 : Ref sig .tc := ⟨.hbm, 147, rfl⟩
abbrev main_while0b_cst_23 : Ref sig .tc := ⟨.hbm, 148, rfl⟩
abbrev main_while0b_v98 : Ref sig .tc := ⟨.hbm, 149, rfl⟩
abbrev main_while0b_v99 : Ref sig .tc := ⟨.hbm, 150, rfl⟩
abbrev main_while0b_cst_24 : Ref sig .tc := ⟨.hbm, 151, rfl⟩
abbrev main_while0b_v100 : Ref sig .tc := ⟨.hbm, 152, rfl⟩
abbrev main_while0b_v101 : Ref sig .tc := ⟨.hbm, 153, rfl⟩
abbrev main_while0b_v102 : Ref sig .tc := ⟨.hbm, 154, rfl⟩
abbrev main_while0b_v103 : Ref sig .tc := ⟨.hbm, 155, rfl⟩
abbrev main_while0b_v104 : Ref sig .tc := ⟨.hbm, 156, rfl⟩
abbrev main_while0b_v105 : Ref sig .tc := ⟨.hbm, 157, rfl⟩
abbrev main_while0b_v106 : Ref sig .tc := ⟨.hbm, 158, rfl⟩
abbrev main_while0b_v107 : Ref sig .tc := ⟨.hbm, 159, rfl⟩
abbrev main_while0b_call5_v0 : Ref sig .tc := ⟨.hbm, 160, rfl⟩
abbrev main_while0b_call5_v1 : Ref sig .tc := ⟨.hbm, 161, rfl⟩
abbrev main_while0b_call5_cst : Ref sig .tc := ⟨.hbm, 162, rfl⟩
abbrev main_while0b_call5_v2 : Ref sig .tc := ⟨.hbm, 163, rfl⟩
abbrev main_while0b_call5_v3 : Ref sig .tc := ⟨.hbm, 164, rfl⟩
abbrev main_while0b_call5_cst_0 : Ref sig .tc := ⟨.hbm, 165, rfl⟩
abbrev main_while0b_call5_v4 : Ref sig .tc := ⟨.hbm, 166, rfl⟩
abbrev main_while0b_call5_v5 : Ref sig .tc := ⟨.hbm, 167, rfl⟩
abbrev main_while0b_v108 : Ref sig .tc := ⟨.hbm, 168, rfl⟩
abbrev main_while0b_v109 : Ref sig .tc := ⟨.hbm, 169, rfl⟩
abbrev main_while0b_call6_v0 : Ref sig .tc := ⟨.hbm, 170, rfl⟩
abbrev main_while0b_call6_c : Ref sig .tc := ⟨.hbm, 171, rfl⟩
abbrev main_while0b_call6_c_0 : Ref sig .tc := ⟨.hbm, 172, rfl⟩
abbrev main_while0b_call6_c_1 : Ref sig .tc := ⟨.hbm, 173, rfl⟩
abbrev main_while0b_v110 : Ref sig .tc := ⟨.hbm, 174, rfl⟩
abbrev main_while0b_c_25 : Ref sig .tc := ⟨.hbm, 175, rfl⟩
abbrev main_while0b_v111 : Ref sig .tc := ⟨.hbm, 176, rfl⟩
abbrev main_v74 : Ref sig .tc := ⟨.hbm, 177, rfl⟩
abbrev main_v75 : Ref sig .tc := ⟨.hbm, 178, rfl⟩
abbrev main_cst_13 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩

abbrev nD : Nat := 1
abbrev τ : Topo := Topo.v7x

variable {F : FTy → Type} [FloatOps F]

abbrev main_while0_count : Scf.Loop 32 := ⟨0#32, 16384#32, 1#32⟩
-- ==== Kernel2.lean ====
abbrev S2x16384x2048 : Shape := ⟨3, ![2, 16384, 2048]⟩
abbrev S1x2x16384x256 : Shape := ⟨4, ![1, 2, 16384, 256]⟩
abbrev S1x2048x2048 : Shape := ⟨3, ![1, 2048, 2048]⟩
abbrev S1x2048 : Shape := ⟨2, ![1, 2048]⟩
abbrev S1x256x2048 : Shape := ⟨3, ![1, 256, 2048]⟩
abbrev S2048 : Shape := ⟨1, ![2048]⟩
abbrev S32768x2048 : Shape := ⟨2, ![32768, 2048]⟩
abbrev S32768x256 : Shape := ⟨2, ![32768, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x256 : Shape := ⟨2, ![256, 256]⟩

abbrev nBuf : Space → Nat
  | .hbm => 22
  | .vmem => 13
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .f32⟩
  | .hbm, ⟨2, _⟩ => ⟨S1x2x16384x256, .f32⟩
  | .hbm, ⟨3, _⟩ => ⟨S1x2048x2048, .f32⟩
  | .hbm, ⟨4, _⟩ => ⟨S1x2048, .f32⟩
  | .hbm, ⟨5, _⟩ => ⟨S1x2048x2048, .f32⟩
  | .hbm, ⟨6, _⟩ => ⟨S1x256x2048, .f32⟩
  | .hbm, ⟨7, _⟩ => ⟨S2048, .f32⟩
  | .hbm, ⟨8, _⟩ => ⟨S32768x2048, .f32⟩
  | .hbm, ⟨9, _⟩ => ⟨S32768x256, .f32⟩
  | .hbm, ⟨10, _⟩ => ⟨S32768x2048, .f32⟩
  | .hbm, ⟨11, _⟩ => ⟨S32768x2048, .bf16⟩
  | .hbm, ⟨12, _⟩ => ⟨S2048x2048, .f32⟩
  | .hbm, ⟨13, _⟩ => ⟨S2048x2048, .bf16⟩
  | .hbm, ⟨14, _⟩ => ⟨S2048x2048, .f32⟩
  | .hbm, ⟨15, _⟩ => ⟨S2048x2048, .bf16⟩
  | .hbm, ⟨16, _⟩ => ⟨S256x2048, .f32⟩
  | .hbm, ⟨17, _⟩ => ⟨S256x2048, .bf16⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S2048x2048, .bf16⟩
  | .local _ .vmem, ⟨7, _⟩ => ⟨S2048x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2x16384x2048 : Shape := ⟨3, ![2, 16384, 2048]⟩
abbrev S1x2x16384x256 : Shape := ⟨4, ![1, 2, 16384, 256]⟩
abbrev S1x2048x2048 : Shape := ⟨3, ![1, 2048, 2048]⟩
abbrev S1x2048 : Shape := ⟨2, ![1, 2048]⟩
abbrev S1x256x2048 : Shape := ⟨3, ![1, 256, 2048]⟩
abbrev S2048 : Shape := ⟨1, ![2048]⟩
abbrev S2048x2048 : Shape := ⟨2, ![2048, 2048]⟩
abbrev S2x16384x256 : Shape := ⟨3, ![2, 16384, 256]⟩
abbrev S256x2048 : Shape := ⟨2, ![256, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 60
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .f32⟩
  | .hbm, ⟨2, _⟩ => ⟨S1x2x16384x256, .f32⟩
  | .hbm, ⟨3, _⟩ => ⟨S1x2048x2048, .f32⟩
  | .hbm, ⟨4, _⟩ => ⟨S1x2048, .f32⟩
  | .hbm, ⟨5, _⟩ => ⟨S1x2048x2048, .f32⟩
  | .hbm, ⟨6, _⟩ => ⟨S1x256x2048, .f32⟩
  | .hbm, ⟨7, _⟩ => ⟨S2048, .f32⟩
  | .hbm, ⟨8, _⟩ => ⟨S2048x2048, .f32⟩
  | .hbm, ⟨9, _⟩ => ⟨S2x16384x2048, .f32⟩
  | .hbm, ⟨10, _⟩ => ⟨S2x16384x2048, .f32⟩
  | .hbm, ⟨11, _⟩ => ⟨S2x16384x256, .f32⟩
  | .hbm, ⟨12, _⟩ => ⟨S256x2048, .f32⟩
  | .hbm, ⟨13, _⟩ => ⟨S2x16384x2048, .f32⟩
  | .hbm, ⟨14, _⟩ => ⟨S2048, .f32⟩
  | .hbm, ⟨15, _⟩ => ⟨S2x16384x2048, .f32⟩
  | .hbm, ⟨16, _⟩ => ⟨S_, .f32⟩
  | .hbm, ⟨17, _⟩ => ⟨S2x16384, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S2x16384x1, .f32⟩
  | .hbm, ⟨26, _⟩ => ⟨S2x16384x2048, .f32⟩
  | .hbm, ⟨27, _⟩ => ⟨S2x16384x2048, .f32⟩
  | .hbm, ⟨28, _⟩ => ⟨S1x1x2048, .f32⟩
  | .hbm, ⟨29, _⟩ => ⟨S2x16384x2048, .f32⟩
  | .hbm, ⟨30, _⟩ => ⟨S2x16384x2048, .f32⟩
  | .hbm, ⟨31, _⟩ => ⟨S2048x2048, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S_, .f32⟩
  | .hbm, ⟨36, _⟩ => ⟨S2x16384x2048, .f32⟩
  | .hbm, ⟨37, _⟩ => ⟨S2x16384x2048, .f32⟩
  | .hbm, ⟨38, _⟩ => ⟨S_, .f32⟩
  | .hbm, ⟨39, _⟩ => ⟨S2x16384x2048, .f32⟩
  | .hbm, ⟨40, _⟩ => ⟨S2x16384x2048, .f32⟩
  | .hbm, ⟨41, _⟩ => ⟨S2x16384x2048, .f32⟩
  | .hbm, ⟨42, _⟩ => ⟨S2x16384x2048, .f32⟩
  | .hbm, ⟨43, _⟩ => ⟨S2x16384x2048, .f32⟩
  | .hbm, ⟨44, _⟩ => ⟨S_, .f32⟩
  | .hbm, ⟨45, _⟩ => ⟨S2x16384, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S2x16384x1, .f32⟩
  | .hbm, ⟨54, _⟩ => ⟨S2x16384x2048, .f32⟩
  | .hbm, ⟨55, _⟩ => ⟨S2x16384x2048, .f32⟩
  | .hbm, ⟨56, _⟩ => ⟨S1x1x2048, .f32⟩
  | .hbm, ⟨57, _⟩ => ⟨S2x16384x2048, .f32⟩
  | .hbm, ⟨58, _⟩ => ⟨S2x16384x2048, .f32⟩
  | .hbm, ⟨59, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Proof.Same2.lean ====
/- The output stage as printed and idealised is one program: its bodies, tables and entries are the same
   text, so a run of the one is a run of the other. -/
module

public import proofs.«01_k».proof.Defs
public import proofs.«01_k».proof.Proof.Gen.Kernel2
public import proofs.«01_k».proof.Proof.Gen.Kernel2Ideal

@[expose] public section

set_option maxHeartbeats 0

namespace Cert.Same2

open Idealize.ShloMosaic Idealize.SL.Sem

variable {F : FTy → Type} [FloatOps F]

/-- The bodies of the output stage's call. -/
theorem body_eq : @Cert.Kernel2Ideal.cc0_out_stage F _ Cert.Kernel2Ideal.Gen.facts
    = @Cert.Kernel2.cc0_out_stage F _ Cert.Kernel2.Gen.facts := rfl

/-- The body tables. -/
theorem defs₀_eq : @Cert.Kernel2Ideal.defs₀ F _ Cert.Kernel2Ideal.Gen.facts
    = @Cert.Kernel2.defs₀ F _ Cert.Kernel2.Gen.facts := by
  unfold Cert.Kernel2Ideal.defs₀ Cert.Kernel2.defs₀
  congr 1
  funext l x
  match l, x with
  | ⟨0, _⟩, (t, s) => rfl
  | ⟨_ + 1, h⟩, _ => exact absurd h (Nat.not_lt.2 (Nat.le_add_left _ _))

/-- The pipelines. -/
theorem pcfgs_eq : @Cert.Kernel2Ideal.pcfgs F Cert.Kernel2Ideal.Gen.facts
    = @Cert.Kernel2.pcfgs F Cert.Kernel2.Gen.facts := rfl

/-- The tables with the pipelines. -/
theorem defs_eq : @Cert.Kernel2Ideal.defs F _ Cert.Kernel2Ideal.Gen.facts
    = @Cert.Kernel2.defs F _ Cert.Kernel2.Gen.facts := by
  unfold Cert.Kernel2Ideal.defs Cert.Kernel2.defs
  rw [defs₀_eq]
  rfl

/-- The entries. -/
theorem main_eq : @Cert.Kernel2Ideal.main F _ Cert.Kernel2Ideal.Gen.facts
    = @Cert.Kernel2.main F _ Cert.Kernel2.Gen.facts := rfl

end Cert.Same2

end
-- ==== Proof.OutRow.lean ====
/- One row of the output stage: its formula, and the stage's body read at an index, half a block at a time. -/
module

public import proofs.«01_k».proof.Proof.Gen.Kernel2Ideal.Frame
public import Idealize.ShloMosaic.Lib.Pointwise

@[expose] public section

set_option maxRecDepth 16384

noncomputable section

namespace Cert.OutRow

open Idealize.ShloMosaic Cert.Kernel2Ideal Cert.Kernel2Ideal.Gen

/-- The scale that normalises a row: one over the root of its mean square plus the small constant. -/
def rms (h : Fin 2048 → EReal) : EReal :=
  Ideal.rsqrt (Ideal.div (∑ i, h i * h i) (Ideal.ofBits FTy.f32 1157627904#32) + Ideal.ofBits FTy.f32 897988541#32)
/-- The residual stream after the mixers: the row and its projected head outputs. -/
def mixed (x y : Fin 2048 → EReal) (wo : Fin 2048 → Fin 2048 → EReal) (d : Fin 2048) : EReal := x d + ∑ c, y c * wo c d
/-- The gate, from the normalised row. -/
def gate (h pn : Fin 2048 → EReal) (wg : Fin 2048 → Fin 2048 → EReal) (d : Fin 2048) : EReal :=
  Ideal.div 1 (1 + Ideal.exp (-(∑ c, h c * rms h * pn c * wg c d)))
/-- The row with the gated embedding added. -/
def gated (h pn : Fin 2048 → EReal) (wg : Fin 2048 → Fin 2048 → EReal) (p : Fin 256 → EReal) (we : Fin 256 → Fin 2048 → EReal) (d : Fin 2048) : EReal :=
  h d + gate h pn wg d * ∑ r, p r * we r d
/-- The normalised row that is returned. -/
def last (g fn : Fin 2048 → EReal) (d : Fin 2048) : EReal := g d * rms g * fn d

variable (v0 : Vec Ideal S256x2048 .f32) (v2 : Vec Ideal S256x2048 .bf16) (v4 v31 : Vec Ideal S2048x2048 .bf16) (v26 v59 : Vec Ideal S1x2048 .f32)
  (v41 : Vec Ideal S256x256 .f32) (v44 : Vec Ideal S256x2048 .bf16)

/-- The output's row from the row of tokens, the heads' outputs and the embedding. -/
def out (x y : Fin 2048 → EReal) (wo : Fin 2048 → Fin 2048 → EReal) (pn : Fin 2048 → EReal) (wg : Fin 2048 → Fin 2048 → EReal) (p : Fin 256 → EReal)
    (we : Fin 256 → Fin 2048 → EReal) (fn : Fin 2048 → EReal) : Fin 2048 → EReal :=
  last (gated (mixed x y wo) pn wg p we) fn

/-- The body's first half. -/
theorem half0 (r : Fin 256) (k : Fin 2048) :
    (k0_pay5 (k0_pay2 v0 v2 v4) (k0_pay4 v0 v2 v4 v26 v31) v41 v44 v59 : S256x2048.Idx → EReal) (ix2 r k)
      = out (fun d => v0 (ix2 r d)) (fun d => v2 (ix2 r d)) (fun c d => v4 (ix2 c d)) (fun d => v26 (ix2 0 d)) (fun c d => v31 (ix2 c d))
          (fun d => v41 (ix2 r d)) (fun c d => v44 (ix2 c d)) (fun d => v59 (ix2 0 d)) k := by
  pointwise [k0_pay5, k0_pay4, k0_pay2]
  simp only [zero_sub]
  rfl
/-- The body's second half. -/
theorem half1 (r : Fin 256) (k : Fin 2048) :
    (k0_pay1 (k0_pay3 v0 v2 v4) (k0_pay6 (k0_pay3 v0 v2 v4)) (k0_pay7 v26) v31 v41 v44 v59 : S256x2048.Idx → EReal) (ix2 r k)
      = out (fun d => v0 (ix2 r d)) (fun d => v2 (ix2 r d)) (fun c d => v4 (ix2 c d)) (fun d => v26 (ix2 0 d)) (fun c d => v31 (ix2 c d))
          (fun d => v41 (ix2 r d)) (fun c d => v44 (ix2 c d)) (fun d => v59 (ix2 0 d)) k := by
  pointwise [k0_pay1, k0_pay3, k0_pay6, k0_pay7]
  simp only [zero_sub]
  rfl

end Cert.OutRow
-- ==== Proof.OutBlk.lean ====
/- What the output stage's windows hold at a grid point, as entries of the arguments, and the output array after the run. -/
module

public import proofs.«01_k».proof.Proof.Gen.Kernel2Ideal.Value
public import proofs.«01_k».proof.Proof.OutRow
public import Idealize.ShloMosaic.Lib.Pipeline.ValueKit
public import Idealize.ShloMosaic.Lib.Claim

@[expose] public section

set_option maxRecDepth 16384
set_option maxHeartbeats 1000000

noncomputable section

namespace Cert.OutBlk

open Idealize.ShloMosaic hiding ix1 ix2 ix3 ix4
open Idealize.ShloMosaic.ValueIdx Idealize.ShloMosaic.TcCoe Idealize.SL.Sem Cert.Kernel2Ideal Cert.Kernel2Ideal.Gen

theorem row0 : ∀ t : Fin cfg0.N, win0_0.index t = ![t.val, 0] := (by decide +kernel : ∀ t : Fin grid0.N, win0_0.index t = ![t.val, 0])
theorem row1 : ∀ t : Fin cfg0.N, win0_1.index t = ![t.val, 0] := (by decide +kernel : ∀ t : Fin grid0.N, win0_1.index t = ![t.val, 0])
theorem row2 : ∀ t : Fin cfg0.N, win0_2.index t = ![t.val, 0] := (by decide +kernel : ∀ t : Fin grid0.N, win0_2.index t = ![t.val, 0])
theorem row3 : ∀ t : Fin cfg0.N, win0_3.index t = ![0, 0] := (by decide +kernel : ∀ t : Fin grid0.N, win0_3.index t = ![0, 0])
theorem row4 : ∀ t : Fin cfg0.N, win0_4.index t = ![0, 0] := (by decide +kernel : ∀ t : Fin grid0.N, win0_4.index t = ![0, 0])
theorem row5 : ∀ t : Fin cfg0.N, win0_5.index t = ![0, 0] := (by decide +kernel : ∀ t : Fin grid0.N, win0_5.index t = ![0, 0])
theorem row6 : ∀ t : Fin cfg0.N, win0_6.index t = ![0, 0] := (by decide +kernel : ∀ t : Fin grid0.N, win0_6.index t = ![0, 0])
theorem row7 : ∀ t : Fin cfg0.N, win0_7.index t = ![0, 0] := (by decide +kernel : ∀ t : Fin grid0.N, win0_7.index t = ![0, 0])
theorem row8 : ∀ t : Fin cfg0.N, win0_8.index t = ![t.val, 0] := (by decide +kernel : ∀ t : Fin grid0.N, win0_8.index t = ![t.val, 0])

variable (m : (ℓ : Loc nD τ sig) → Buf (Elt Ideal) ℓ) (c : Dev nD)

/-! The host's arrays. -/
theorem v0_eq : (V m c main_v0 : S32768x2048.Idx → EReal)
    = shapeCast S32768x2048 (m ((c : Thread nD τ).loc main_arg0) : S2x16384x2048.Idx → EReal) shapeCasts_S2x16384x2048_S32768x2048 := by
  entry_read
  rfl
theorem v3_eq : (V m c main_v3 : S32768x2048.Idx → EReal)
    = shapeCast S32768x2048 (m ((c : Thread nD τ).loc main_arg1) : S2x16384x2048.Idx → EReal) shapeCasts_S2x16384x2048_S32768x2048 := by
  entry_read
  rfl
theorem v1_eq : (V m c main_v1 : S32768x256.Idx → EReal)
    = shapeCast S32768x256 (m ((c : Thread nD τ).loc main_arg2) : S1x2x16384x256.Idx → EReal) shapeCasts_S1x2x16384x256_S32768x256 := by
  entry_read
  rfl
theorem v5_eq : (V m c main_v5 : S2048x2048.Idx → EReal)
    = shapeCast S2048x2048 (m ((c : Thread nD τ).loc main_arg3) : S1x2048x2048.Idx → EReal) shapeCasts_S1x2048x2048_S2048x2048 := by
  entry_read
  rfl
theorem v7_eq : (V m c main_v7 : S2048x2048.Idx → EReal)
    = shapeCast S2048x2048 (m ((c : Thread nD τ).loc main_arg5) : S1x2048x2048.Idx → EReal) shapeCasts_S1x2048x2048_S2048x2048 := by
  entry_read
  rfl
theorem v9_eq : (V m c main_v9 : S256x2048.Idx → EReal)
    = shapeCast S256x2048 (m ((c : Thread nD τ).loc main_arg6) : S1x256x2048.Idx → EReal) shapeCasts_S1x256x2048_S256x2048 := by
  entry_read
  rfl
theorem v11_eq : (V m c main_v11 : S1x2048.Idx → EReal)
    = shapeCast S1x2048 (shapeCast S2048 (m ((c : Thread nD τ).loc main_arg4) : S1x2048.Idx → EReal) shapeCasts_S1x2048_S2048) shapeCasts_S2048_S1x2048 := by
  entry_read
  rfl
theorem v12_eq : (V m c main_v12 : S1x2048.Idx → EReal)
    = shapeCast S1x2048 (m ((c : Thread nD τ).loc main_arg7) : S2048.Idx → EReal) shapeCasts_S2048_S1x2048 := by
  entry_read
  rfl

/-! The windows' blocks. -/
theorem tok (a : S2x16384x2048.Idx → EReal) (T : Fin 32768) (d : Fin 2048) :
    shapeCast S32768x2048 a shapeCasts_S2x16384x2048_S32768x2048 (ix2 T d) = a (ix3 (⟨T.val / 16384, by omega⟩ : Fin 2) (⟨T.val % 16384, by omega⟩ : Fin 16384) d) := by
  refine shapeCast_apply _ _ _ _ ?_
  rw [Shape.rowMajor_val_two, Shape.rowMajor_val_three]
  show (T.val / 16384 * 16384 + T.val % 16384) * 2048 + d.val = T.val * 2048 + d.val
  rw [Nat.div_add_mod']

theorem emb (a : S1x2x16384x256.Idx → EReal) (T : Fin 32768) (d : Fin 256) :
    shapeCast S32768x256 a shapeCasts_S1x2x16384x256_S32768x256 (ix2 T d) = a (ix4 (0 : Fin 1) (⟨T.val / 16384, by omega⟩ : Fin 2) (⟨T.val % 16384, by omega⟩ : Fin 16384) d) := by
  refine shapeCast_apply _ _ _ _ ?_
  rw [Shape.rowMajor_val_two, Shape.rowMajor_val_four]
  show ((0 * 2 + T.val / 16384) * 16384 + T.val % 16384) * 256 + d.val = T.val * 256 + d.val
  omega
theorem sq (a : S1x2048x2048.Idx → EReal) (e d : Fin 2048) :
    shapeCast S2048x2048 a shapeCasts_S1x2048x2048_S2048x2048 (ix2 e d) = a (ix3 (0 : Fin 1) e d) := by
  refine shapeCast_apply _ _ _ _ ?_
  rw [Shape.rowMajor_val_two, Shape.rowMajor_val_three]
  show (0 * 2048 + e.val) * 2048 + d.val = e.val * 2048 + d.val
  omega
theorem wide (a : S1x256x2048.Idx → EReal) (e : Fin 256) (d : Fin 2048) :
    shapeCast S256x2048 a shapeCasts_S1x256x2048_S256x2048 (ix2 e d) = a (ix3 (0 : Fin 1) e d) := by
  refine shapeCast_apply _ _ _ _ ?_
  rw [Shape.rowMajor_val_two, Shape.rowMajor_val_three]
  show (0 * 256 + e.val) * 2048 + d.val = e.val * 2048 + d.val
  omega
theorem up (a : S2048.Idx → EReal) (d : Fin 2048) : shapeCast S1x2048 a shapeCasts_S2048_S1x2048 (ix2 0 d) = a (ix1 d) := by
  refine shapeCast_apply _ _ _ _ ?_
  rw [Shape.rowMajor_val_two, Shape.rowMajor_val_one]
  show d.val = 0 * 2048 + d.val
  omega
theorem down (a : S1x2048.Idx → EReal) (d : Fin 2048) : shapeCast S2048 a shapeCasts_S1x2048_S2048 (ix1 d) = a (ix2 0 d) := by
  refine shapeCast_apply _ _ _ _ ?_
  rw [Shape.rowMajor_val_two, Shape.rowMajor_val_one]
  show 0 * 2048 + d.val = d.val
  omega

theorem b0 (t : Fin cfg0.N) (r : Fin 512) (d : Fin 2048) (T : Fin 32768) (hT : T.val = 512 * t.val + r.val) :
    (iblk m c 0 t : S512x2048.Idx → EReal) (ix2 r d)
      = m ((c : Thread nD τ).loc main_arg0) (ix3 (⟨T.val / 16384, by omega⟩ : Fin 2) (⟨T.val % 16384, by omega⟩ : Fin 16384) d : S2x16384x2048.Idx) := by
  refine Eq.trans ?_ (((congrFun (v0_eq m c) (ix2 T d))).trans (tok _ T d))
  blk_ext [iblk, row0 t]
  all_goals (show t.val * 512 + r.val = T.val; omega)
theorem b1 (t : Fin cfg0.N) (r : Fin 512) (d : Fin 2048) (T : Fin 32768) (hT : T.val = 512 * t.val + r.val) :
    (iblk m c 1 t : S512x2048.Idx → EReal) (ix2 r d)
      = m ((c : Thread nD τ).loc main_arg1) (ix3 (⟨T.val / 16384, by omega⟩ : Fin 2) (⟨T.val % 16384, by omega⟩ : Fin 16384) d : S2x16384x2048.Idx) := by
  refine Eq.trans ?_ (((congrFun (v3_eq m c) (ix2 T d))).trans (tok _ T d))
  blk_ext [iblk, row1 t]
  all_goals (show t.val * 512 + r.val = T.val; omega)
theorem b2 (t : Fin cfg0.N) (r : Fin 512) (d : Fin 256) (T : Fin 32768) (hT : T.val = 512 * t.val + r.val) :
    (iblk m c 2 t : S512x256.Idx → EReal) (ix2 r d)
      = m ((c : Thread nD τ).loc main_arg2) (ix4 (0 : Fin 1) (⟨T.val / 16384, by omega⟩ : Fin 2) (⟨T.val % 16384, by omega⟩ : Fin 16384) d : S1x2x16384x256.Idx) := by
  refine Eq.trans ?_ ((congrFun (v1_eq m c) (ix2 T d)).trans (emb _ T d))
  blk_ext [iblk, row2 t]
  all_goals (show t.val * 512 + r.val = T.val; omega)
theorem b3 (t : Fin cfg0.N) (e d : Fin 2048) :
    (iblk m c 3 t : S2048x2048.Idx → EReal) (ix2 e d) = m ((c : Thread nD τ).loc main_arg3) (ix3 (0 : Fin 1) e d : S1x2048x2048.Idx) := by
  refine Eq.trans ?_ ((congrFun (v5_eq m c) (ix2 e d)).trans (sq _ e d))
  blk_ext [iblk, row3 t]
theorem b4 (t : Fin cfg0.N) (e d : Fin 2048) :
    (iblk m c 4 t : S2048x2048.Idx → EReal) (ix2 e d) = m ((c : Thread nD τ).loc main_arg5) (ix3 (0 : Fin 1) e d : S1x2048x2048.Idx) := by
  refine Eq.trans ?_ ((congrFun (v7_eq m c) (ix2 e d)).trans (sq _ e d))
  blk_ext [iblk, row4 t]
theorem b5 (t : Fin cfg0.N) (e : Fin 256) (d : Fin 2048) :
    (iblk m c 5 t : S256x2048.Idx → EReal) (ix2 e d) = m ((c : Thread nD τ).loc main_arg6) (ix3 (0 : Fin 1) e d : S1x256x2048.Idx) := by
  refine Eq.trans ?_ ((congrFun (v9_eq m c) (ix2 e d)).trans (wide _ e d))
  blk_ext [iblk, row5 t]
theorem b6 (t : Fin cfg0.N) (d : Fin 2048) :
    (iblk m c 6 t : S1x2048.Idx → EReal) (ix2 0 d) = m ((c : Thread nD τ).loc main_arg4) (ix2 (0 : Fin 1) d : S1x2048.Idx) := by
  refine Eq.trans ?_ ((congrFun (v11_eq m c) (ix2 0 d)).trans ((up _ d).trans (down _ d)))
  blk_ext [iblk, row6 t]
theorem b7 (t : Fin cfg0.N) (d : Fin 2048) :
    (iblk m c 7 t : S1x2048.Idx → EReal) (ix2 0 d) = m ((c : Thread nD τ).loc main_arg7) (ix1 d : S2048.Idx) := by
  refine Eq.trans ?_ ((congrFun (v12_eq m c) (ix2 0 d)).trans (up _ d))
  blk_ext [iblk, row7 t]

/-! One block of the output, half by half. -/
theorem emb0 (r : Fin 256) (k : Fin 2048) : r0_0.emb (ix2 r k) = (ix2 (⟨r.val, by omega⟩ : Fin 512) k : S512x2048.Idx) := by
  funext d; apply Fin.ext; rw [Rect.emb_apply]
  match d with
  | ⟨0, _⟩ => show 0 + 1 * r.val = r.val; omega
  | ⟨1, _⟩ => show 0 + 1 * k.val = k.val; omega
theorem emb2 (r : Fin 256) (k : Fin 2048) : r0_2.emb (ix2 r k) = (ix2 (⟨256 + r.val, by omega⟩ : Fin 512) k : S512x2048.Idx) := by
  funext d; apply Fin.ext; rw [Rect.emb_apply]
  match d with
  | ⟨0, _⟩ => show 256 + 1 * r.val = 256 + r.val; omega
  | ⟨1, _⟩ => show 0 + 1 * k.val = k.val; omega
theorem emb4 (r k : Fin 256) : r0_4.emb (ix2 r k) = (ix2 (⟨r.val, by omega⟩ : Fin 512) k : S512x256.Idx) := by
  funext d; apply Fin.ext; rw [Rect.emb_apply]
  match d with
  | ⟨0, _⟩ => show 0 + 1 * r.val = r.val; omega
  | ⟨1, _⟩ => show 0 + 1 * k.val = k.val; omega
theorem emb6 (r k : Fin 256) : r0_6.emb (ix2 r k) = (ix2 (⟨256 + r.val, by omega⟩ : Fin 512) k : S512x256.Idx) := by
  funext d; apply Fin.ext; rw [Rect.emb_apply]
  match d with
  | ⟨0, _⟩ => show 256 + 1 * r.val = 256 + r.val; omega
  | ⟨1, _⟩ => show 0 + 1 * k.val = k.val; omega
theorem emb1 (e k : Fin 2048) : r0_1.emb (ix2 e k) = (ix2 e k : S2048x2048.Idx) := by
  funext d; apply Fin.ext; rw [Rect.emb_apply]
  match d with
  | ⟨0, _⟩ => show 0 + 1 * e.val = e.val; omega
  | ⟨1, _⟩ => show 0 + 1 * k.val = k.val; omega
theorem emb3 (k : Fin 2048) : r0_3.emb (ix2 0 k) = (ix2 0 k : S1x2048.Idx) := by
  funext d; apply Fin.ext; rw [Rect.emb_apply]
  match d with
  | ⟨0, _⟩ => rfl
  | ⟨1, _⟩ => show 0 + 1 * k.val = k.val; omega
theorem emb5 (e : Fin 256) (k : Fin 2048) : r0_5.emb (ix2 e k) = (ix2 e k : S256x2048.Idx) := by
  funext d; apply Fin.ext; rw [Rect.emb_apply]
  match d with
  | ⟨0, _⟩ => show 0 + 1 * e.val = e.val; omega
  | ⟨1, _⟩ => show 0 + 1 * k.val = k.val; omega

section
variable (x0 : Vec Ideal S512x2048 .f32) (x1 : Vec Ideal S512x2048 .bf16) (x2 : Vec Ideal S512x256 .f32) (x3 x4 : Vec Ideal S2048x2048 .bf16)
  (x5 : Vec Ideal S256x2048 .bf16) (x6 x7 : Vec Ideal S1x2048 .f32)

/-- A row of the block, by the formula. -/
def blkRow (r : Fin 512) : Fin 2048 → EReal :=
  OutRow.out (fun d => x0 (ix2 r d)) (fun d => x1 (ix2 r d)) (fun e d => x3 (ix2 e d)) (fun d => x6 (ix2 0 d)) (fun e d => x4 (ix2 e d))
    (fun d => x2 (ix2 r d)) (fun e d => x5 (ix2 e d)) (fun d => x7 (ix2 0 d))

theorem lo (r : Fin 256) (k : Fin 2048) :
    (k0_pay5 (k0_pay2 (View.ld x0 r0_0) (View.ld x1 r0_0) (View.ld x3 r0_1)) (k0_pay4 (View.ld x0 r0_0) (View.ld x1 r0_0) (View.ld x3 r0_1) (View.ld x6 r0_3) (View.ld x4 r0_1))
      (View.ld x2 r0_4) (View.ld x5 r0_5) (View.ld x7 r0_3) : S256x2048.Idx → EReal) (ix2 r k) = blkRow x0 x1 x2 x3 x4 x5 x6 x7 ⟨r.val, by omega⟩ k := by
  have h := OutRow.half0 (View.ld x0 r0_0) (View.ld x1 r0_0) (View.ld x3 r0_1) (View.ld x4 r0_1) (View.ld x6 r0_3) (View.ld x7 r0_3)
    (View.ld x2 r0_4) (View.ld x5 r0_5) r k
  simp only [ix2_eq_valueIdx] at h
  refine h.trans ?_
  unfold blkRow
  congr 1
  · funext d; exact congrArg x0 (emb0 r d)
  · funext d; exact congrArg x1 (emb0 r d)
  · funext e d; exact congrArg x3 (emb1 e d)
  · funext d; exact congrArg x6 (emb3 d)
  · funext e d; exact congrArg x4 (emb1 e d)
  · funext d; exact congrArg x2 (emb4 r d)
  · funext e d; exact congrArg x5 (emb5 e d)
  · funext d; exact congrArg x7 (emb3 d)
theorem hi (r : Fin 256) (k : Fin 2048) :
    (k0_pay1 (k0_pay8 x0 x1 x2 x3 x4 x5 x6 x7) (k0_pay6 (k0_pay8 x0 x1 x2 x3 x4 x5 x6 x7)) (k0_pay7 (View.ld x6 r0_3)) (View.ld x4 r0_1)
      (View.ld x2 r0_6) (View.ld x5 r0_5) (View.ld x7 r0_3) : S256x2048.Idx → EReal) (ix2 r k) = blkRow x0 x1 x2 x3 x4 x5 x6 x7 ⟨256 + r.val, by omega⟩ k := by
  have h := OutRow.half1 (View.ld x0 r0_2) (View.ld x1 r0_2) (View.ld x3 r0_1) (View.ld x4 r0_1) (View.ld x6 r0_3) (View.ld x7 r0_3)
    (View.ld x2 r0_6) (View.ld x5 r0_5) r k
  simp only [ix2_eq_valueIdx] at h
  unfold k0_pay8
  refine h.trans ?_
  unfold blkRow
  congr 1
  · funext d; exact congrArg x0 (emb2 r d)
  · funext d; exact congrArg x1 (emb2 r d)
  · funext e d; exact congrArg x3 (emb1 e d)
  · funext d; exact congrArg x6 (emb3 d)
  · funext e d; exact congrArg x4 (emb1 e d)
  · funext d; exact congrArg x2 (emb6 r d)
  · funext e d; exact congrArg x5 (emb5 e d)
  · funext d; exact congrArg x7 (emb3 d)

/-- The block the body leaves. -/
theorem blk_at (r : Fin 512) (k : Fin 2048) :
    (out0_8 x0 x1 x2 x3 x4 x5 x6 x7 : S512x2048.Idx → EReal) (ix2 r k) = blkRow x0 x1 x2 x3 x4 x5 x6 x7 r k := by
  refine View.canon_apply_of_pieces (Val := Elt Ideal) (e := .f32) (fun i => blkRow x0 x1 x2 x3 x4 x5 x6 x7 (i 0) (i 1)) _ ?_ (ix2 r k) (cover0_8 _ _ _)
  intro q hq
  simp only [List.mem_cons, List.not_mem_nil, or_false] at hq
  rcases hq with rfl | rfl
  · intro x
    obtain ⟨a, d, rfl⟩ : ∃ (a : Fin 256) (d : Fin 2048), x = ix2 a d := ⟨x 0, x 1, ValueIdx.eq_ix2 x⟩
    dsimp only
    rw [emb2]
    exact hi x0 x1 x2 x3 x4 x5 x6 x7 a d
  · intro x
    obtain ⟨a, d, rfl⟩ : ∃ (a : Fin 256) (d : Fin 2048), x = ix2 a d := ⟨x 0, x 1, ValueIdx.eq_ix2 x⟩
    dsimp only
    rw [emb0]
    exact lo x0 x1 x2 x3 x4 x5 x6 x7 a d
end

/-- The output array after the run. -/
theorem out_at (T : Fin 32768) (k : Fin 2048) :
    ((dats m 0 c).arrAt 8 cfg0.N : S32768x2048.Idx → EReal) (ix2 T k)
      = OutRow.out (fun d => m ((c : Thread nD τ).loc main_arg0) (ix3 (⟨T.val / 16384, by omega⟩ : Fin 2) (⟨T.val % 16384, by omega⟩ : Fin 16384) d : S2x16384x2048.Idx))
          (fun d => m ((c : Thread nD τ).loc main_arg1) (ix3 (⟨T.val / 16384, by omega⟩ : Fin 2) (⟨T.val % 16384, by omega⟩ : Fin 16384) d : S2x16384x2048.Idx))
          (fun e d => m ((c : Thread nD τ).loc main_arg3) (ix3 (0 : Fin 1) e d : S1x2048x2048.Idx))
          (fun d => m ((c : Thread nD τ).loc main_arg4) (ix2 (0 : Fin 1) d : S1x2048.Idx))
          (fun e d => m ((c : Thread nD τ).loc main_arg5) (ix3 (0 : Fin 1) e d : S1x2048x2048.Idx))
          (fun d => m ((c : Thread nD τ).loc main_arg2) (ix4 (0 : Fin 1) (⟨T.val / 16384, by omega⟩ : Fin 2) (⟨T.val % 16384, by omega⟩ : Fin 16384) d : S1x2x16384x256.Idx))
          (fun e d => m ((c : Thread nD τ).loc main_arg6) (ix3 (0 : Fin 1) e d : S1x256x2048.Idx))
          (fun d => m ((c : Thread nD τ).loc main_arg7) (ix1 d : S2048.Idx)) k := by
  have hN : T.val / 512 < cfg0.N := by show T.val / 512 < 64; omega
  have hb := congrFun (Cert.Kernel2Ideal.Value.blocks8 m c ⟨T.val / 512, hN⟩ ((by decide +kernel : ∀ t : Fin grid0.N, win0_8.flush t = true) _))
    (ix2 (n0 := 512) (n1 := 2048) ⟨T.val % 512, by omega⟩ k)
  rw [Cert.Kernel2Ideal.Value.flushed8] at hb
  have hT : T.val = 512 * (T.val / 512) + T.val % 512 := (Nat.div_add_mod _ _).symm
  refine Eq.trans ?_ (hb.trans (Eq.trans ?_ ((blk_at (iblk m c 0 ⟨T.val / 512, hN⟩) (iblk m c 1 ⟨T.val / 512, hN⟩) (iblk m c 2 ⟨T.val / 512, hN⟩) (iblk m c 3 ⟨T.val / 512, hN⟩) (iblk m c 4 ⟨T.val / 512, hN⟩) (iblk m c 5 ⟨T.val / 512, hN⟩) (iblk m c 6 ⟨T.val / 512, hN⟩) (iblk m c 7 ⟨T.val / 512, hN⟩) ⟨T.val % 512, by omega⟩ k).trans ?_)))
  · blk_ext [row8]
    show T.val = T.val / 512 * 512 + T.val % 512
    omega
  · blk_ext []
  · unfold blkRow
    congr 1
    · funext d; exact b0 m c ⟨T.val / 512, hN⟩ ⟨T.val % 512, by omega⟩ d T hT
    · funext d; exact b1 m c ⟨T.val / 512, hN⟩ ⟨T.val % 512, by omega⟩ d T hT
    · funext e d; exact b3 m c ⟨T.val / 512, hN⟩ e d
    · funext d; exact b6 m c ⟨T.val / 512, hN⟩ d
    · funext e d; exact b4 m c ⟨T.val / 512, hN⟩ e d
    · funext d; exact b2 m c ⟨T.val / 512, hN⟩ ⟨T.val % 512, by omega⟩ d T hT
    · funext e d; exact b5 m c ⟨T.val / 512, hN⟩ e d
    · funext d; exact b7 m c ⟨T.val / 512, hN⟩ d

end Cert.OutBlk
-- ==== Proof.OutRef.lean ====
/- The output stage's reference read at an index: each token's row by the formula. -/
module

public import proofs.«01_k».proof.Proof.Gen.Reference2Ideal.Run
public import proofs.«01_k».proof.Proof.OutRow

@[expose] public section

set_option maxRecDepth 16384
set_option maxHeartbeats 1000000

noncomputable section

namespace Cert.OutRef

open Idealize.ShloMosaic Idealize.SL.Sem Cert.Reference2Ideal Cert.Reference2Ideal.Gen Cert.Reference2Ideal.Value Cert.OutRow
open Cert.Reference2Ideal.Facts

/-! The stages of the reference, each a vector of the ones before it. -/
section
variable (a0 a1 h n : FVec Ideal S2x16384x2048 .f32) (w2 : FVec Ideal S1x2x16384x256 .f32) (w3 : FVec Ideal S1x2048x2048 .f32) (w : FVec Ideal S2048 .f32)
  (w6 : FVec Ideal S1x256x2048 .f32)

def mixedV : FVec Ideal S2x16384x2048 .f32 :=
  addf a0 (Host.dotGeneral dot_S2x16384x2048_S2048x2048_S2x16384x2048_2_0_01_1_n_n none a1 (shapeCast _ w3 shapeCasts_S1x2048x2048_S2048x2048))
def normV : FVec Ideal S2x16384x2048 .f32 :=
  mulf (mulf h (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf h h) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 w))
def gatedV : FVec Ideal S2x16384x2048 .f32 :=
  addf h (mulf (Host.divf (broadcastInDim S2x16384x2048 ![] bcast_S_S2x16384x2048 (constant S_ .f32 0x3F800000#32)) (addf (broadcastInDim S2x16384x2048 ![] bcast_S_S2x16384x2048 (constant S_ .f32 0x3F800000#32)) (Host.exp (Host.negf (Host.dotGeneral dot_S2x16384x2048_S2048x2048_S2x16384x2048_2_0_01_1_n_n none n (shapeCast _ w3 shapeCasts_S1x2048x2048_S2048x2048)))))) (Host.dotGeneral dot_S2x16384x256_S256x2048_S2x16384x2048_2_0_01_1_n_n none (shapeCast _ w2 shapeCasts_S1x2x16384x256_S2x16384x256) (shapeCast _ w6 shapeCasts_S1x256x2048_S256x2048)))

variable (b : Fin 2) (t : Fin 16384) (k : Fin 2048)

theorem mixedV_at : mixedV a0 a1 w3 (ix3 b t k)
    = mixed (fun d => a0 (ix3 b t d)) (fun d => a1 (ix3 b t d)) (fun e d => w3 (ix3 0 e d)) k := by
  pointwise [mixedV]
  rfl
theorem normV_at : normV h w (ix3 b t k) = last (fun d => h (ix3 b t d)) (fun d => w (ix1 d)) k := by
  pointwise [normV]
  rfl
theorem gatedV_at : gatedV h n w2 w3 w6 (ix3 b t k)
    = h (ix3 b t k) + Ideal.div 1 (1 + Ideal.exp (-(∑ e, n (ix3 b t e) * w3 (ix3 0 e k)))) * ∑ r, w2 (ix4 0 b t r) * w6 (ix3 0 r k) := by
  pointwise [gatedV]
theorem flat_at (a : FVec Ideal S1x2048 .f32) : shapeCast S2048 a shapeCasts_S1x2048_S2048 (ix1 k) = a (ix2 0 k) := by
  pointwise
end

/-- What the reference returns, of its arguments: before the last change of shape. -/
def resV (a0 a1 : FVec Ideal S2x16384x2048 .f32) (a2 : FVec Ideal S1x2x16384x256 .f32) (a3 : FVec Ideal S1x2048x2048 .f32) (a4 : FVec Ideal S1x2048 .f32)
    (a5 : FVec Ideal S1x2048x2048 .f32) (a6 : FVec Ideal S1x256x2048 .f32) (a7 : FVec Ideal S2048 .f32) : FVec Ideal S2x16384x2048 .f32 :=
  normV (gatedV (mixedV a0 a1 a3) (normV (mixedV a0 a1 a3) (shapeCast _ a4 shapeCasts_S1x2048_S2048)) a2 a5 a6) a7

theorem resV_at (a0 a1 : FVec Ideal S2x16384x2048 .f32) (a2 : FVec Ideal S1x2x16384x256 .f32) (a3 : FVec Ideal S1x2048x2048 .f32) (a4 : FVec Ideal S1x2048 .f32)
    (a5 : FVec Ideal S1x2048x2048 .f32) (a6 : FVec Ideal S1x256x2048 .f32) (a7 : FVec Ideal S2048 .f32) (b : Fin 2) (t : Fin 16384) (k : Fin 2048) :
    resV a0 a1 a2 a3 a4 a5 a6 a7 (ix3 b t k)
      = out (fun d => a0 (ix3 b t d)) (fun d => a1 (ix3 b t d)) (fun e d => a3 (ix3 0 e d)) (fun d => a4 (ix2 0 d))
          (fun e d => a5 (ix3 0 e d)) (fun d => a2 (ix4 0 b t d)) (fun e d => a6 (ix3 0 e d)) (fun d => a7 (ix1 d)) k := by
  have hm : (fun d => mixedV a0 a1 a3 (ix3 b t d)) = mixed (fun d => a0 (ix3 b t d)) (fun d => a1 (ix3 b t d)) (fun e d => a3 (ix3 0 e d)) :=
    funext fun d => mixedV_at a0 a1 a3 b t d
  have hn : ∀ e, normV (mixedV a0 a1 a3) (shapeCast _ a4 shapeCasts_S1x2048_S2048) (ix3 b t e)
      = last (mixed (fun d => a0 (ix3 b t d)) (fun d => a1 (ix3 b t d)) (fun e d => a3 (ix3 0 e d))) (fun d => a4 (ix2 0 d)) e := fun e => by
    rw [normV_at, hm]
    exact congrArg (fun w => last _ w e) (funext fun d => flat_at d a4)
  unfold resV out
  rw [normV_at]
  refine congrArg (fun g => last g _ k) (funext fun d => ?_)
  rw [gatedV_at, mixedV_at]
  simp only [hn]
  rfl

variable (m : (ℓ : Loc nD τ sig) → Buf (Elt Ideal) ℓ) (c : Dev nD)

/-- The run's result is that vector, its tokens in one row each. -/
theorem res_eq : res_out0 m c = shapeCast S32768x2048
    (resV (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)))
    shapeCasts_S2x16384x2048_S32768x2048 := by
  unfold res_out0 res_main_v43 resV normV gatedV mixedV
  rfl

theorem cast_at (v : FVec Ideal S2x16384x2048 .f32) (T : Fin 32768) (k : Fin 2048) :
    shapeCast S32768x2048 v shapeCasts_S2x16384x2048_S32768x2048 (ix2 T k) = v (ix3 ⟨T.val / 16384, by omega⟩ ⟨T.val % 16384, by omega⟩ k) := by
  refine shapeCast_apply _ _ _ _ ?_
  rw [ix2_eq_valueIdx, ix3_eq_valueIdx, Shape.rowMajor_val_two, Shape.rowMajor_val_three]
  show (T.val / 16384 * 16384 + T.val % 16384) * 2048 + k.val = T.val * 2048 + k.val
  rw [Nat.div_add_mod']

end Cert.OutRef
-- ==== Proof.Same.lean ====
/- The kernel as printed and the kernel idealised are one program: their bodies, tables and entries are the same
   text, so a run of the one is a run of the other. -/
module

public import proofs.«01_k».proof.Defs
public import proofs.«01_k».proof.Proof.Gen.Kernel
public import proofs.«01_k».proof.Proof.Gen.KernelIdeal

@[expose] public section

set_option maxHeartbeats 0

namespace Cert.Same

open Idealize.ShloMosaic Idealize.SL.Sem

variable {F : FTy → Type} [FloatOps F]

/-- The bodies of the one call. -/
theorem body_eq : @Cert.KernelIdeal.cc0_mixers F _ Cert.KernelIdeal.Gen.facts
    = @Cert.Kernel.cc0_mixers F _ Cert.Kernel.Gen.facts := rfl

/-- The body tables. -/
theorem defs₀_eq : @Cert.KernelIdeal.defs₀ F _ Cert.KernelIdeal.Gen.facts
    = @Cert.Kernel.defs₀ F _ Cert.Kernel.Gen.facts := by
  unfold Cert.KernelIdeal.defs₀ Cert.Kernel.defs₀
  congr 1
  funext l x
  match l, x with
  | ⟨0, _⟩, (t, s) => rfl
  | ⟨_ + 1, h⟩, _ => exact absurd h (Nat.not_lt.2 (Nat.le_add_left _ _))

/-- The pipelines. -/
theorem pcfgs_eq : @Cert.KernelIdeal.pcfgs F Cert.KernelIdeal.Gen.facts
    = @Cert.Kernel.pcfgs F Cert.Kernel.Gen.facts := rfl

/-- The tables with the pipelines. -/
theorem defs_eq : @Cert.KernelIdeal.defs F _ Cert.KernelIdeal.Gen.facts
    = @Cert.Kernel.defs F _ Cert.Kernel.Gen.facts := by
  unfold Cert.KernelIdeal.defs Cert.Kernel.defs
  rw [defs₀_eq]
  rfl

/-- The entries. -/
theorem main_eq : @Cert.KernelIdeal.main F _ Cert.KernelIdeal.Gen.facts
    = @Cert.Kernel.main F _ Cert.Kernel.Gen.facts := rfl

end Cert.Same

end
-- ==== Proof.PairOps.lean ====
/- The pair of gated heads as the kernel computes it over a chunk of 128 tokens, written once: the block-diagonal
   operand, one level of the tree of decays below eight rows, one level at eight rows and above, the read-out, the
   state and the normalised, gated output — each built from the operations the printed payloads are built from. -/
module

public import proofs.«01_k».proof.Proof.Gen.KernelIdeal
public import Idealize.ShloMosaic.Lib.Pipeline.Value
public import Idealize.ShloMosaic.Lib.KernelVsHost
public import Idealize.ShloMosaic.Lib.MatmulPlain
public import Idealize.ShloMosaic.Lib.ValueIdx
public import Idealize.ShloMosaic.Lib.ValueLayout
public import Idealize.ShloMosaic.Lib.IdealHost

@[expose] public section

set_option maxRecDepth 16384

noncomputable section

namespace Cert.Pair

open Idealize.ShloMosaic Idealize.SL.Sem Cert.KernelIdeal Cert.KernelIdeal.Gen

abbrev V2 := FVec Ideal S128x256 .f32
abbrev V3 := FVec Ideal S16x8x256 .f32

/-- Two heads side by side, laid out block-diagonally. -/
def bd (a : FVec Ideal S128x256 .bf16) : FVec Ideal S256x256 .bf16 :=
  concatenate S256x256 0
    [⟨S128x256, concatenate S128x256 1 [⟨S128x128, extractStridedSlice S128x128 ![0, 0] a slices_S128x256_o0_0_S128x128⟩,
        ⟨S128x128, broadcast S128x128 (Scalar.ofBits (F := Ideal) .bf16 0x0000#16)⟩] concatenates_S128x128_S128x128_S128x256_d1⟩,
      ⟨S128x256, concatenate S128x256 1 [⟨S128x128, broadcast S128x128 (Scalar.ofBits (F := Ideal) .bf16 0x0000#16)⟩,
        ⟨S128x128, extractStridedSlice S128x128 ![0, 128] a slices_S128x256_o0_128_S128x128⟩] concatenates_S128x128_S128x128_S128x256_d1⟩]
    concatenates_S128x256_S128x256_S256x256_d0

def nt (a b : FVec Ideal S128x256 .bf16) : V2 :=
  matmul dot_S128x256_S256x256_S128x256_1_1_0_0_n_n none a (bd b) (constant S128x256 .f32 0x00000000#32)
def nt64 (a : FVec Ideal S64x256 .bf16) (b : FVec Ideal S128x256 .bf16) : FVec Ideal S64x256 .f32 :=
  matmul dot_S64x256_S256x256_S64x256_1_1_0_0_n_n none a (bd b) (constant S64x256 .f32 0x00000000#32)
def nn (a b : FVec Ideal S128x256 .bf16) : V2 :=
  matmul dot_S128x256_S256x256_S128x256_1_0_0_1_n_n none a (bd b) (constant S128x256 .f32 0x00000000#32)

def to8 (x : V2) : V3 := shapeCast S16x8x256 x shapeCasts_S128x256_S16x8x256
def un8 (x : V3) : V2 := shapeCast S128x256 x shapeCasts_S16x8x256_S128x256
def bit (w : BitVec 32) : IVec S16x8x256 1 :=
  cmpi .ne (andi (iota .tc S16x8x256 32 [1] iota_S16x8x256_d1_w32) (broadcast S16x8x256 w)) (broadcast S16x8x256 0#32)
def rot (r : BitVec 32) (x : V3) : V3 := dynamicRotate 1 r none x rotates_S16x8x256_d1
def spread (w r : BitVec 32) (t : V3) : V3 := select (bit w) t (rot r t)

/-- The operand of a level below eight rows. -/
def zLo (w : BitVec 32) (q k : V2) (c tot : V3) : FVec Ideal S128x256 .bf16 :=
  truncf .bf16 (un8 (mulf (select (bit w) (to8 q) (to8 k)) (exp (select (bit w) c (subf tot c))))) bitsLt_bf16_f32
/-- The scores of a level below eight rows, kept where the table names the level. -/
def pLo (lev : BitVec 32) (lv : IVec S128x256 32) (z : FVec Ideal S128x256 .bf16) : V2 :=
  select (cmpi .eq lv (broadcast S128x256 lev)) (nt z z) (broadcast S128x256 (Scalar.ofBits (F := Ideal) .f32 0x00000000#32))
/-- The running decays after a level below eight rows. -/
def cLo (w r : BitVec 32) (c tot : V3) : V2 :=
  un8 (addf c (select (bit w) (rot r tot) (broadcast S16x8x256 (Scalar.ofBits (F := Ideal) .f32 0x00000000#32))))

/-- Blocks of `m` rows in pairs. -/
abbrev S4 (nb m : ℕ) : Shape := ⟨4, ![nb, 2, m, 256]⟩
abbrev S4' (nb m : ℕ) : Shape := ⟨4, ![nb, 1, m, 256]⟩
abbrev S3 (nb m : ℕ) : Shape := ⟨3, ![nb, m, 256]⟩
abbrev S3' (nb : ℕ) : Shape := ⟨3, ![nb, 1, 256]⟩

/-- What the shapes of one level at eight rows and above satisfy. -/
structure Hi (nb m r : ℕ) : Prop where
  up : S128x256.ShapeCasts (S4 nb m)
  dn : (S4 nb m).ShapeCasts S128x256
  lo : (S4 nb m).Slices ![0, 0, 0, 0] (S4' nb m)
  hi : (S4 nb m).Slices ![0, 1, 0, 0] (S4' nb m)
  sq : (S4' nb m).ShapeCasts (S3 nb m)
  un : (S3 nb m).ShapeCasts (S4' nb m)
  cat : Shape.Concatenates [S4' nb m, S4' nb m] (S4 nb m) 1
  fl : (S3 nb m).ShapeCasts S64x256
  uf : S64x256.ShapeCasts (S3 nb m)
  last : (S3 nb m).Slices ![0, r, 0] (S3' nb)
  keep : (S3' nb).ShapeCasts (S3' nb)
  bc : (S3' nb).Broadcasts (S3 nb m)

section
variable {nb m r : ℕ} (h : Hi nb m r) {α : Type}

def lower (x : S128x256.Idx → α) : (S3 nb m).Idx → α :=
  shapeCast (S3 nb m) (extractStridedSlice (S4' nb m) ![0, 0, 0, 0] (shapeCast (S4 nb m) x h.up) h.lo) h.sq
def upper (x : S128x256.Idx → α) : (S3 nb m).Idx → α :=
  shapeCast (S3 nb m) (extractStridedSlice (S4' nb m) ![0, 1, 0, 0] (shapeCast (S4 nb m) x h.up) h.hi) h.sq
def merge (lo hi : (S3 nb m).Idx → α) : S128x256.Idx → α :=
  shapeCast S128x256 (concatenate (S4 nb m) 1 [⟨S4' nb m, shapeCast (S4' nb m) lo h.un⟩, ⟨S4' nb m, shapeCast (S4' nb m) hi h.un⟩] h.cat) h.dn
def lastRow (x : (S3 nb m).Idx → α) : (S3 nb m).Idx → α :=
  broadcastTo (S3 nb m) (shapeCast (S3' nb) (extractStridedSlice (S3' nb) ![0, r, 0] x h.last) h.keep) h.bc

/-- The lower and the upper operand of a level at eight rows and above. -/
def zDn (k c : V2) : FVec Ideal (S3 nb m) .f32 :=
  mulf (lower h k) (exp (subf (lastRow h (lower h c) : FVec Ideal (S3 nb m) .f32) (lower h c)))
def zUp (q c : V2) : FVec Ideal (S3 nb m) .f32 := mulf (upper h q) (exp (upper h c : FVec Ideal (S3 nb m) .f32))
/-- The scores of the upper rows. -/
def pHi (lev : BitVec 32) (lv : IVec S128x256 32) (q k c : V2) : FVec Ideal (S3 nb m) .f32 :=
  shapeCast (S3 nb m)
    (select (cmpi .eq (shapeCast S64x256 (upper h lv) h.fl : IVec S64x256 32) (broadcast S64x256 lev))
      (nt64 (truncf .bf16 (shapeCast S64x256 (zUp h q c) h.fl : FVec Ideal S64x256 .f32) bitsLt_bf16_f32)
        (truncf .bf16 (merge h (zDn h k c) (zUp h q c) : V2) bitsLt_bf16_f32))
      (broadcast S64x256 (Scalar.ofBits (F := Ideal) .f32 0x00000000#32))) h.uf
def attHi (lev : BitVec 32) (lv : IVec S128x256 32) (q k c att : V2) : V2 :=
  merge h (lower h att) (addf (upper h att : FVec Ideal (S3 nb m) .f32) (pHi h lev lv q k c))
def cHi (c : V2) : V2 :=
  merge h (lower h c) (addf (upper h c : FVec Ideal (S3 nb m) .f32) (lastRow h (lower h c)))
end

theorem hi8 : Hi 8 8 7 :=
  ⟨shapeCasts_S128x256_S8x2x8x256, shapeCasts_S8x2x8x256_S128x256, slices_S8x2x8x256_o0_0_0_0_S8x1x8x256,
    slices_S8x2x8x256_o0_1_0_0_S8x1x8x256, shapeCasts_S8x1x8x256_S8x8x256, shapeCasts_S8x8x256_S8x1x8x256,
    concatenates_S8x1x8x256_S8x1x8x256_S8x2x8x256_d1, shapeCasts_S8x8x256_S64x256, shapeCasts_S64x256_S8x8x256,
    slices_S8x8x256_o0_7_0_S8x1x256, shapeCasts_S8x1x256_S8x1x256, broadcasts_S8x1x256_S8x8x256⟩
theorem hi16 : Hi 4 16 15 :=
  ⟨shapeCasts_S128x256_S4x2x16x256, shapeCasts_S4x2x16x256_S128x256, slices_S4x2x16x256_o0_0_0_0_S4x1x16x256,
    slices_S4x2x16x256_o0_1_0_0_S4x1x16x256, shapeCasts_S4x1x16x256_S4x16x256, shapeCasts_S4x16x256_S4x1x16x256,
    concatenates_S4x1x16x256_S4x1x16x256_S4x2x16x256_d1, shapeCasts_S4x16x256_S64x256, shapeCasts_S64x256_S4x16x256,
    slices_S4x16x256_o0_15_0_S4x1x256, shapeCasts_S4x1x256_S4x1x256, broadcasts_S4x1x256_S4x16x256⟩
theorem hi32 : Hi 2 32 31 :=
  ⟨shapeCasts_S128x256_S2x2x32x256, shapeCasts_S2x2x32x256_S128x256, slices_S2x2x32x256_o0_0_0_0_S2x1x32x256,
    slices_S2x2x32x256_o0_1_0_0_S2x1x32x256, shapeCasts_S2x1x32x256_S2x32x256, shapeCasts_S2x32x256_S2x1x32x256,
    concatenates_S2x1x32x256_S2x1x32x256_S2x2x32x256_d1, shapeCasts_S2x32x256_S64x256, shapeCasts_S64x256_S2x32x256,
    slices_S2x32x256_o0_31_0_S2x1x256, shapeCasts_S2x1x256_S2x1x256, broadcasts_S2x1x256_S2x32x256⟩
theorem hi64 : Hi 1 64 63 :=
  ⟨shapeCasts_S128x256_S1x2x64x256, shapeCasts_S1x2x64x256_S128x256, slices_S1x2x64x256_o0_0_0_0_S1x1x64x256,
    slices_S1x2x64x256_o0_1_0_0_S1x1x64x256, shapeCasts_S1x1x64x256_S1x64x256, shapeCasts_S1x64x256_S1x1x64x256,
    concatenates_S1x1x64x256_S1x1x64x256_S1x2x64x256_d1, shapeCasts_S1x64x256_S64x256, shapeCasts_S64x256_S1x64x256,
    slices_S1x64x256_o0_63_0_S1x1x256, shapeCasts_S1x1x256_S1x1x256, broadcasts_S1x1x256_S1x64x256⟩

/-! The running decays and the scores, level by level. -/

section
variable (lv0 lv1 lv2 lv3 lv4 lv5 lv6 : IVec S128x256 32) (q k c : V2)

def c1 : V2 := cLo 1#32 1#32 (to8 c) (to8 c)
def c2 : V2 := cLo 2#32 2#32 (to8 (c1 c)) (spread 1#32 7#32 (to8 (c1 c)))
def c3 : V2 := cLo 4#32 4#32 (to8 (c2 c)) (spread 2#32 6#32 (spread 1#32 7#32 (to8 (c2 c))))
def c4 : V2 := cHi hi8 (c3 c)
def c5 : V2 := cHi hi16 (c4 c)
def c6 : V2 := cHi hi32 (c5 c)
def c7 : V2 := cHi hi64 (c6 c)

def z0 : FVec Ideal S128x256 .bf16 := zLo 1#32 q k (to8 c) (to8 c)
def z1 : FVec Ideal S128x256 .bf16 := zLo 2#32 q k (to8 (c1 c)) (spread 1#32 7#32 (to8 (c1 c)))
def z2 : FVec Ideal S128x256 .bf16 := zLo 4#32 q k (to8 (c2 c)) (spread 2#32 6#32 (spread 1#32 7#32 (to8 (c2 c))))

def att1 : V2 := pLo 0#32 lv0 (z0 q k c)
def att2 : V2 := addf (att1 lv0 q k c) (pLo 1#32 lv1 (z1 q k c))
def att3 : V2 := addf (att2 lv0 lv1 q k c) (pLo 2#32 lv2 (z2 q k c))
def att4 : V2 := attHi hi8 3#32 lv3 q k (c3 c) (att3 lv0 lv1 lv2 q k c)
def att5 : V2 := attHi hi16 4#32 lv4 q k (c4 c) (att4 lv0 lv1 lv2 lv3 q k c)
def att6 : V2 := attHi hi32 5#32 lv5 q k (c5 c) (att5 lv0 lv1 lv2 lv3 lv4 q k c)
def att7 : V2 := attHi hi64 6#32 lv6 q k (c6 c) (att6 lv0 lv1 lv2 lv3 lv4 lv5 q k c)
end

/-! The inputs: the lower bound of the decay, the key and the log decay. -/

def lbAll (w : Vec Ideal S2x1024 .f32) : FVec Ideal S1x1024 .f32 :=
  divf (extractStridedSlice S1x1024 ![0, 0]
      (exp (subf w (broadcastTo S2x1024 (shapeCast S1x1024 (multiReduction (F := Ideal) .maximumf [0] S1024 w 0xFF800000#32 reduces_S2x1024_S1024 (.inl rfl) rfl) shapeCasts_S1024_S1x1024) broadcasts_S1x1024_S2x1024) : FVec Ideal S2x1024 .f32))
      slices_S2x1024_o0_0_S1x1024 : FVec Ideal S1x1024 .f32)
    (shapeCast S1x1024 (multiReduction (F := Ideal) .add [0] S1024
      (exp (subf w (broadcastTo S2x1024 (shapeCast S1x1024 (multiReduction (F := Ideal) .maximumf [0] S1024 w 0xFF800000#32 reduces_S2x1024_S1024 (.inl rfl) rfl) shapeCasts_S1024_S1x1024) broadcasts_S1x1024_S2x1024) : FVec Ideal S2x1024 .f32))
      0x00000000#32 reduces_S2x1024_S1024 (.inl rfl) rfl) shapeCasts_S1024_S1x1024)

def sigm (x : V2) : V2 :=
  divf (broadcast S128x256 (Scalar.ofBits (F := Ideal) .f32 0x3F800000#32))
    (addf (broadcast S128x256 (Scalar.ofBits (F := Ideal) .f32 0x3F800000#32))
      (exp (subf (broadcast S128x256 (Scalar.ofBits (F := Ideal) .f32 0x00000000#32)) x)))
def oneSub (lb : FVec Ideal S1x256 .f32) : FVec Ideal S1x256 .f32 :=
  subf (broadcast S1x256 (Scalar.ofBits (F := Ideal) .f32 0x3F800000#32)) lb
def key (lb : FVec Ideal S1x256 .f32) (f : V2) : V2 :=
  mulf (broadcastTo S128x256 (oneSub lb) broadcasts_S1x256_S128x256)
    (sigm (subf (broadcast S128x256 (Scalar.ofBits (F := Ideal) .f32 0x00000000#32)) f))
def logDecay (lb : FVec Ideal S1x256 .f32) (f : V2) : V2 :=
  log (addf (broadcastTo S128x256 lb broadcasts_S1x256_S128x256 : V2)
    (mulf (broadcastTo S128x256 (oneSub lb) broadcasts_S1x256_S128x256) (sigm f)))

/-! What the chunk reads out, leaves behind and stores. -/

def total (c : V2) : V2 :=
  broadcastTo S128x256 (shapeCast S1x256 (extractStridedSlice S1x256 ![127, 0] c slices_S128x256_o127_0_S1x256) shapeCasts_S1x256_S1x256) broadcasts_S1x256_S128x256
def outp (q v att c s : V2) : V2 :=
  addf (nn (truncf .bf16 att bitsLt_bf16_f32) (truncf .bf16 v bitsLt_bf16_f32))
    (nt (truncf .bf16 (mulf q (exp c)) bitsLt_bf16_f32) (truncf .bf16 s bitsLt_bf16_f32))
def left (x : FVec Ideal S128x256 .bf16) : FVec Ideal S128x128 .bf16 := extractStridedSlice S128x128 ![0, 0] x slices_S128x256_o0_0_S128x128
def right (x : FVec Ideal S128x256 .bf16) : FVec Ideal S128x128 .bf16 := extractStridedSlice S128x128 ![0, 128] x slices_S128x256_o0_128_S128x128
def tn (a b : FVec Ideal S128x128 .bf16) : FVec Ideal S128x128 .f32 :=
  matmul dot_S128x128_S128x128_S128x128_0_0_1_1_n_n none a b (constant S128x128 .f32 0x00000000#32)
def ke (k c : V2) : FVec Ideal S128x256 .bf16 := truncf .bf16 (mulf k (exp (subf (total c) c))) bitsLt_bf16_f32
def newState (k v c s : V2) : V2 :=
  addf (mulf s (exp (total c)))
    (concatenate S128x256 1 [⟨S128x128, tn (left (truncf .bf16 v bitsLt_bf16_f32)) (left (ke k c))⟩,
      ⟨S128x128, tn (right (truncf .bf16 v bitsLt_bf16_f32)) (right (ke k c))⟩] concatenates_S128x128_S128x128_S128x256_d1)

abbrev V1 := FVec Ideal S128x128 .f32
/-- The sum of each row, as a column. -/
def rowSum (x : V1) : FVec Ideal S128x1 .f32 :=
  shapeCast S128x1 (multiReduction (F := Ideal) .add [1] S128 x 0x00000000#32 reduces_S128x128_S128 (.inl rfl) rfl) shapeCasts_S128_S128x1
/-- One head's read-out with the token's own term. -/
def oneHead (o qk v : V1) : V1 := addf o (mulf (broadcastTo S128x128 (rowSum qk) broadcasts_S128x1_S128x128) v)
def rms (x : V1) : FVec Ideal S128x1 .f32 :=
  rsqrt (addf (divf (rowSum (mulf x x)) (broadcast S128x1 (Scalar.ofBits (F := Ideal) .f32 0x43000000#32)))
    (broadcast S128x1 (Scalar.ofBits (F := Ideal) .f32 0x358637BD#32)))
def headOut (o qk v : V1) (nw : FVec Ideal S1x128 .f32) (g : V1) : FVec Ideal S128x128 .bf16 :=
  truncf .bf16 (mulf (mulf (mulf (oneHead o qk v) (broadcastTo S128x128 (rms (oneHead o qk v)) broadcasts_S128x1_S128x128))
    (broadcastTo S128x128 nw broadcasts_S1x128_S128x128)) g) bitsLt_bf16_f32
def silu (g : V2) : V2 := mulf g (sigm g)
def lft (x : V2) : V1 := extractStridedSlice S128x128 ![0, 0] x slices_S128x256_o0_0_S128x128
def rgt (x : V2) : V1 := extractStridedSlice S128x128 ![0, 128] x slices_S128x256_o0_128_S128x128
def out0 (q k v o g : V2) (nw : Vec Ideal S1x256 .f32) : FVec Ideal S128x128 .bf16 :=
  headOut (lft o) (lft (mulf q k)) (lft v)
    (extractStridedSlice S1x128 ![0, 0] (shapeCast S1x256 nw shapeCasts_S1x256_S1x256) slices_S1x256_o0_0_S1x128) (lft (silu g))
def out1 (q k v o g : V2) (nw : Vec Ideal S1x256 .f32) : FVec Ideal S128x128 .bf16 :=
  headOut (rgt o) (rgt (mulf q k)) (rgt v)
    (extractStridedSlice S1x128 ![0, 128] (shapeCast S1x256 nw shapeCasts_S1x256_S1x256) slices_S1x256_o0_128_S1x128) (rgt (silu g))

/-! The pair over what it loads: the stored state and the two stored heads. -/

def stStore (lb : FVec Ideal S1x256 .f32) (f v s : V2) : Vec Ideal S1x128x256 .f32 :=
  shapeCast S1x128x256 (newState (key lb f) v (c7 (logDecay lb f)) s) shapeCasts_S128x256_S1x128x256
def attOf (lb : FVec Ideal S1x256 .f32) (lv : Vec Ideal S128x256 .i32) (q f : V2) : V2 :=
  att7 lv lv lv lv lv lv lv q (key lb f) (logDecay lb f)
def oOf (lb : FVec Ideal S1x256 .f32) (lv : Vec Ideal S128x256 .i32) (q f v s : V2) : V2 :=
  outp q v (attOf lb lv q f) (c7 (logDecay lb f)) s
def yStore0 (lb : FVec Ideal S1x256 .f32) (lv : Vec Ideal S128x256 .i32) (q f v g s : V2) (nw : Vec Ideal S1x256 .f32) : FVec Ideal S128x128 .bf16 :=
  out0 q (key lb f) v (oOf lb lv q f v s) g nw
def yStore1 (lb : FVec Ideal S1x256 .f32) (lv : Vec Ideal S128x256 .i32) (q f v g s : V2) (nw : Vec Ideal S1x256 .f32) : FVec Ideal S128x128 .bf16 :=
  out1 q (key lb f) v (oOf lb lv q f v s) g nw

end Cert.Pair
-- ==== Proof.Recurrence.lean ====
/- The gated recurrence of one head over the reals, unrolled over a chunk of tokens. -/
module

public import Mathlib.Analysis.SpecialFunctions.Log.Basic
public import Mathlib.Algebra.BigOperators.Ring.Finset

@[expose] public section

noncomputable section

namespace Cert.Hgrn

open Finset

/-- The running sum of `lf` over the `n` tokens from `s` on. -/
def run (lf : ℕ → ℝ) (s n : ℕ) : ℝ := ∑ i ∈ range n, lf (s + i)

theorem run_zero (lf : ℕ → ℝ) (s : ℕ) : run lf s 0 = 0 := by simp [run]

theorem run_succ (lf : ℕ → ℝ) (s n : ℕ) : run lf s (n + 1) = run lf s n + lf (s + n) := sum_range_succ _ n

/-- A running sum cut in two. -/
theorem run_add (lf : ℕ → ℝ) (s a b : ℕ) : run lf s (a + b) = run lf s a + run lf (s + a) b := by
  induction b with
  | zero => simp [run_zero]
  | succ b ih => rw [← Nat.add_assoc, run_succ, ih, run_succ, Nat.add_assoc]; ring

/-- The state of one (key, value) pair of channels before token `s`: `S_{s+1} = f_s S_s + k_s v_s`, from nothing. -/
def state (f k v : ℕ → ℝ) : ℕ → ℝ
  | 0 => 0
  | s + 1 => f s * state f k v s + k s * v s

/-- The state `n` tokens on: the old state decayed over all of them, and each token's outer product decayed over the
tokens after it. -/
theorem state_add (f k v : ℕ → ℝ) (hf : ∀ s, 0 < f s) (s n : ℕ) :
    state f k v (s + n) = Real.exp (run (fun i => Real.log (f i)) s n) * state f k v s
      + ∑ j ∈ range n, Real.exp (run (fun i => Real.log (f i)) s n - run (fun i => Real.log (f i)) s (j + 1))
          * (k (s + j) * v (s + j)) := by
  induction n with
  | zero => simp [run_zero]
  | succ n ih =>
    have h1 : Real.exp (run (fun i => Real.log (f i)) s (n + 1))
        = f (s + n) * Real.exp (run (fun i => Real.log (f i)) s n) := by
      rw [run_succ, Real.exp_add, Real.exp_log (hf _), mul_comm]
    rw [← Nat.add_assoc, state, ih, sum_range_succ, sub_self, Real.exp_zero, one_mul, h1, mul_add, mul_sum]
    have h2 : ∀ j ∈ range n, f (s + n) * (Real.exp (run (fun i => Real.log (f i)) s n
          - run (fun i => Real.log (f i)) s (j + 1)) * (k (s + j) * v (s + j)))
        = Real.exp (run (fun i => Real.log (f i)) s (n + 1) - run (fun i => Real.log (f i)) s (j + 1))
          * (k (s + j) * v (s + j)) := by
      intro j _
      rw [Real.exp_sub, Real.exp_sub, h1]; ring
    rw [sum_congr rfl h2]; ring

/-- What token `t` of a chunk of `L` tokens from `s` on reads out: the scores of the earlier tokens of the chunk, the
state before the chunk, and the token itself. -/
theorem readout (L E : ℕ) (q f k : ℕ → ℕ → ℝ) (v : ℕ → ℝ) (hf : ∀ e s, 0 < f e s) (s t : ℕ) (ht : t < L) :
    ∑ e ∈ range E, q e (s + t) * state (f e) (k e) v (s + t + 1)
      = (∑ j ∈ range L, (if j < t then ∑ e ∈ range E, q e (s + t) * k e (s + j)
            * Real.exp (run (fun i => Real.log (f e i)) s (t + 1) - run (fun i => Real.log (f e i)) s (j + 1)) else 0) * v (s + j))
        + (∑ e ∈ range E, q e (s + t) * Real.exp (run (fun i => Real.log (f e i)) s (t + 1)) * state (f e) (k e) v s)
        + (∑ e ∈ range E, q e (s + t) * k e (s + t)) * v (s + t) := by
  have h1 : ∀ e, state (f e) (k e) v (s + t + 1) = Real.exp (run (fun i => Real.log (f e i)) s (t + 1)) * state (f e) (k e) v s
      + (∑ j ∈ range t, Real.exp (run (fun i => Real.log (f e i)) s (t + 1) - run (fun i => Real.log (f e i)) s (j + 1))
          * (k e (s + j) * v (s + j)) + k e (s + t) * v (s + t)) := by
    intro e
    rw [Nat.add_assoc, state_add _ _ _ (hf e), sum_range_succ, sub_self, Real.exp_zero, one_mul]
  have h2 : ∑ j ∈ range L, (if j < t then ∑ e ∈ range E, q e (s + t) * k e (s + j)
            * Real.exp (run (fun i => Real.log (f e i)) s (t + 1) - run (fun i => Real.log (f e i)) s (j + 1)) else 0) * v (s + j)
      = ∑ e ∈ range E, q e (s + t) * ∑ j ∈ range t,
          Real.exp (run (fun i => Real.log (f e i)) s (t + 1) - run (fun i => Real.log (f e i)) s (j + 1))
          * (k e (s + j) * v (s + j)) := by
    rw [← sum_subset (range_subset_range.mpr ht.le)]
    · simp_rw [mul_sum]
      rw [sum_comm]
      refine sum_congr rfl fun j hj => ?_
      rw [if_pos (mem_range.mp hj), sum_mul]
      exact sum_congr rfl fun e _ => by ring
    · intro j _ hj
      rw [if_neg (fun h => hj (mem_range.mpr h)), zero_mul]
  rw [h2, sum_mul, ← sum_add_distrib, ← sum_add_distrib]
  refine sum_congr rfl fun e _ => ?_
  rw [h1]; ring

end Cert.Hgrn
-- ==== Proof.PairRead.lean ====
/- The operations of the pair of heads read at an index: blocks of rows, rotations, the block-diagonal products. -/
module

public import proofs.«01_k».proof.Proof.PairOps
public import proofs.«01_k».proof.Proof.Recurrence

@[expose] public section

set_option maxRecDepth 16384

noncomputable section

namespace Cert.Pair

open Idealize.ShloMosaic Idealize.ShloMosaic.ValueIdx Cert.KernelIdeal Cert.KernelIdeal.Gen

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real matrix held by an array of reals extended by the infinities. -/
def Is {n w : ℕ} (x : (⟨2, ![n, w]⟩ : Shape).Idx → EReal) (f : ℕ → ℕ → ℝ) : Prop :=
  ∀ (t : Fin n) (e : Fin w), x (ix2 t e) = ((f t.val e.val : ℝ) : EReal)
/-- The same over blocks of rows: block `a`'s row `b` is the matrix's row `p a b`. -/
def IsBlk {nb m w : ℕ} (p : ℕ → ℕ → ℕ) (x : (⟨3, ![nb, m, w]⟩ : Shape).Idx → EReal) (f : ℕ → ℕ → ℝ) : Prop :=
  ∀ (a : Fin nb) (b : Fin m) (e : Fin w), x (ix3 a b e) = ((f (p a.val b.val) e.val : ℝ) : EReal)

section
variable {α : Type}

theorem to8_apply' (x : S128x256.Idx → α) (a : Fin 16) (b : Fin 8) (e : Fin 256) :
    shapeCast S16x8x256 x shapeCasts_S128x256_S16x8x256 (ix3 a b e) = x (ix2 ⟨8 * a.val + b.val, by omega⟩ e) := by
  apply shapeCast_apply
  rw [Shape.rowMajor_val_two, Shape.rowMajor_val_three]
  show (8 * a.val + b.val) * 256 + e.val = (a.val * 8 + b.val) * 256 + e.val
  ring
theorem un8_apply' (y : S16x8x256.Idx → α) (t : Fin 128) (e : Fin 256) :
    shapeCast S128x256 y shapeCasts_S16x8x256_S128x256 (ix2 t e)
      = y (ix3 ⟨t.val / 8, by omega⟩ ⟨t.val % 8, by omega⟩ e) := by
  apply shapeCast_apply
  rw [Shape.rowMajor_val_two, Shape.rowMajor_val_three]
  show (t.val / 8 * 8 + t.val % 8) * 256 + e.val = t.val * 256 + e.val
  omega

theorem rot_apply (r : ℕ) (hr : r < 8) (y : V3) (a : Fin 16) (b : Fin 8) (e : Fin 256) :
    rot (BitVec.ofNat 32 r) y (ix3 a b e) = y (ix3 a ⟨(b.val + 8 - r) % 8, by omega⟩ e) := by
  apply dynamicRotate_apply
  intro d
  have h8 : (BitVec.ofNat 32 r).toNat % 8 = r := by simp; omega
  match d with
  | ⟨0, _⟩ => rfl
  | ⟨1, _⟩ =>
    show (b.val + 8 - r) % 8 = (b.val + 8 - (BitVec.ofNat 32 r).toNat % 8) % 8
    rw [h8]
  | ⟨2, _⟩ => rfl

theorem bit_apply (w : BitVec 32) (a : Fin 16) (b : Fin 8) (e : Fin 256) :
    bit w (ix3 a b e) = BitVec.ofBool ((BitVec.ofNat 32 b.val &&& w) != 0#32) := by
  show BitVec.ofBool ((BitVec.ofNat 32 (0 * 8 + b.val) &&& w) != 0#32) = _
  rw [Nat.zero_mul, Nat.zero_add]

theorem select_bit {w : BitVec 32} {m : ℕ} (hw : ∀ b : Fin 8, (BitVec.ofBool ((BitVec.ofNat 32 b.val &&& w) != 0#32)) = if b.val / m % 2 = 1 then 1#1 else 0#1)
    (x y : V3) (a : Fin 16) (b : Fin 8) (e : Fin 256) :
    select (bit w) x y (ix3 a b e) = if b.val / m % 2 = 1 then x (ix3 a b e) else y (ix3 a b e) := by
  rw [select_apply, bit_apply, hw b]
  split <;> rfl

theorem bits1 : ∀ b : Fin 8, (BitVec.ofBool ((BitVec.ofNat 32 b.val &&& 1#32) != 0#32)) = if b.val / 1 % 2 = 1 then 1#1 else 0#1 := by decide
theorem bits2 : ∀ b : Fin 8, (BitVec.ofBool ((BitVec.ofNat 32 b.val &&& 2#32) != 0#32)) = if b.val / 2 % 2 = 1 then 1#1 else 0#1 := by decide
theorem bits4 : ∀ b : Fin 8, (BitVec.ofBool ((BitVec.ofNat 32 b.val &&& 4#32) != 0#32)) = if b.val / 4 % 2 = 1 then 1#1 else 0#1 := by decide

section Blocks
variable {nb m r : ℕ} (h : Hi nb m r) (hnb : nb * (2 * m) = 128)
include hnb

omit hnb in
theorem blk_lt (a : Fin nb) (b : Fin m) : 2 * m * a.val + m + b.val < nb * (2 * m) := by
  have h1 : 2 * m * a.val + 2 * m ≤ 2 * m * nb := by
    rw [← Nat.mul_succ]; exact Nat.mul_le_mul_left _ a.isLt
  have := b.isLt
  rw [Nat.mul_comm nb]; omega

theorem lower_apply (x : S128x256.Idx → α) (a : Fin nb) (b : Fin m) (e : Fin 256) :
    lower h x (ix3 a b e) = x (ix2 ⟨2 * m * a.val + b.val, by have := blk_lt a b; omega⟩ e) := by
  unfold lower
  rw [shapeCast_apply _ h.sq (ix3 a b e) (ix4 a 0 b e) (by
      rw [Shape.rowMajor_val_three, Shape.rowMajor_val_four]
      show ((a.val * 1 + 0) * m + b.val) * 256 + e.val = (a.val * m + b.val) * 256 + e.val
      ring),
    extractStridedSlice_apply ![0, 0, 0, 0] _ h.lo (ix4 a 0 b e) (ix4 a 0 b e) (by
      intro d; match d with
      | ⟨0, _⟩ => exact (Nat.zero_add _).symm
      | ⟨1, _⟩ => rfl
      | ⟨2, _⟩ => exact (Nat.zero_add _).symm
      | ⟨3, _⟩ => exact (Nat.zero_add _).symm)]
  apply shapeCast_apply
  rw [Shape.rowMajor_val_two, Shape.rowMajor_val_four]
  show (2 * m * a.val + b.val) * 256 + e.val = ((a.val * 2 + 0) * m + b.val) * 256 + e.val
  ring

theorem upper_apply (x : S128x256.Idx → α) (a : Fin nb) (b : Fin m) (e : Fin 256) :
    upper h x (ix3 a b e) = x (ix2 ⟨2 * m * a.val + m + b.val, by have := blk_lt a b; omega⟩ e) := by
  unfold upper
  rw [shapeCast_apply _ h.sq (ix3 a b e) (ix4 a 0 b e) (by
      rw [Shape.rowMajor_val_three, Shape.rowMajor_val_four]
      show ((a.val * 1 + 0) * m + b.val) * 256 + e.val = (a.val * m + b.val) * 256 + e.val
      ring),
    extractStridedSlice_apply ![0, 1, 0, 0] _ h.hi (ix4 a 0 b e) (ix4 a 1 b e) (by
      intro d; match d with
      | ⟨0, _⟩ => exact (Nat.zero_add _).symm
      | ⟨1, _⟩ => rfl
      | ⟨2, _⟩ => exact (Nat.zero_add _).symm
      | ⟨3, _⟩ => exact (Nat.zero_add _).symm)]
  apply shapeCast_apply
  rw [Shape.rowMajor_val_two, Shape.rowMajor_val_four]
  show (2 * m * a.val + m + b.val) * 256 + e.val = ((a.val * 2 + 1) * m + b.val) * 256 + e.val
  ring

theorem merge_lo (x y : (S3 nb m).Idx → α) (a : Fin nb) (b : Fin m) (e : Fin 256) :
    merge h x y (ix2 ⟨2 * m * a.val + b.val, by have := blk_lt a b; omega⟩ e) = x (ix3 a b e) := by
  unfold merge
  rw [shapeCast_apply _ h.dn _ (ix4 a 0 b e) (by
      rw [Shape.rowMajor_val_two, Shape.rowMajor_val_four]
      show ((a.val * 2 + 0) * m + b.val) * 256 + e.val = (2 * m * a.val + b.val) * 256 + e.val
      ring),
    concatenate_pair_apply_left 1 _ _ h.cat (ix4 a 0 b e) rfl (ix4 a 0 b e) (by
      intro d; match d with
      | ⟨0, _⟩ => rfl
      | ⟨1, _⟩ => rfl
      | ⟨2, _⟩ => rfl
      | ⟨3, _⟩ => rfl)]
  apply shapeCast_apply
  rw [Shape.rowMajor_val_three, Shape.rowMajor_val_four]
  show (a.val * m + b.val) * 256 + e.val = ((a.val * 1 + 0) * m + b.val) * 256 + e.val
  ring

theorem merge_hi (x y : (S3 nb m).Idx → α) (a : Fin nb) (b : Fin m) (e : Fin 256) :
    merge h x y (ix2 ⟨2 * m * a.val + m + b.val, by have := blk_lt a b; omega⟩ e) = y (ix3 a b e) := by
  unfold merge
  rw [shapeCast_apply _ h.dn _ (ix4 a 1 b e) (by
      rw [Shape.rowMajor_val_two, Shape.rowMajor_val_four]
      show ((a.val * 2 + 1) * m + b.val) * 256 + e.val = (2 * m * a.val + m + b.val) * 256 + e.val
      ring),
    concatenate_pair_apply_right 1 _ _ h.cat (ix4 a 1 b e) rfl rfl (ix4 a 0 b e) (by
      intro d hd; match d with
      | ⟨0, _⟩ => rfl
      | ⟨1, _⟩ => exact absurd rfl hd
      | ⟨2, _⟩ => rfl
      | ⟨3, _⟩ => rfl) (by rfl)]
  apply shapeCast_apply
  rw [Shape.rowMajor_val_three, Shape.rowMajor_val_four]
  show (a.val * m + b.val) * 256 + e.val = ((a.val * 1 + 0) * m + b.val) * 256 + e.val
  ring

omit hnb in
theorem lastRow_apply (hr : r < m) (x : (S3 nb m).Idx → α) (a : Fin nb) (b : Fin m) (e : Fin 256) :
    lastRow h x (ix3 a b e) = x (ix3 a ⟨r, hr⟩ e) := by
  unfold lastRow
  rw [broadcastTo_apply _ h.bc (ix3 a b e) (ix3 a 0 e) (by
      intro d; match d with
      | ⟨0, _⟩ =>
        show a.val = if nb = 1 then 0 else a.val
        split
        · have := a.isLt; omega
        · rfl
      | ⟨1, _⟩ => rfl
      | ⟨2, _⟩ => rfl),
    shapeCast_apply _ h.keep (ix3 a 0 e) (ix3 a 0 e) rfl]
  apply extractStridedSlice_apply
  intro d; match d with
  | ⟨0, _⟩ => exact (Nat.zero_add _).symm
  | ⟨1, _⟩ => rfl
  | ⟨2, _⟩ => exact (Nat.zero_add _).symm

/-- Every row lies in a lower or an upper block. -/
theorem row_cases {P : Fin 128 → Prop}
    (hlo : ∀ (a : Fin nb) (b : Fin m) (hlt : 2 * m * a.val + b.val < 128), P ⟨2 * m * a.val + b.val, hlt⟩)
    (hhi : ∀ (a : Fin nb) (b : Fin m) (hlt : 2 * m * a.val + m + b.val < 128), P ⟨2 * m * a.val + m + b.val, hlt⟩) (t : Fin 128) : P t := by
  have hm : 0 < 2 * m := by
    rcases Nat.eq_zero_or_pos (2 * m) with h0 | h0
    · rw [h0] at hnb; omega
    · exact h0
  have ha : t.val / (2 * m) < nb := Nat.div_lt_of_lt_mul (by rw [Nat.mul_comm, hnb]; exact t.isLt)
  have hd := Nat.div_add_mod t.val (2 * m)
  have hlt := Nat.mod_lt t.val hm
  by_cases hb : t.val % (2 * m) < m
  · have := hlo ⟨_, ha⟩ ⟨_, hb⟩ (by show 2 * m * (t.val / (2 * m)) + t.val % (2 * m) < 128; rw [hd]; exact t.isLt)
    have e : (⟨2 * m * (t.val / (2 * m)) + t.val % (2 * m), by rw [hd]; exact t.isLt⟩ : Fin 128) = t := Fin.ext hd
    rw [← e]; exact this
  · have hb' : t.val % (2 * m) - m < m := by omega
    have hd' : 2 * m * (t.val / (2 * m)) + m + (t.val % (2 * m) - m) = t.val := by omega
    have := hhi ⟨_, ha⟩ ⟨_, hb'⟩ (by show 2 * m * (t.val / (2 * m)) + m + (t.val % (2 * m) - m) < 128; rw [hd']; exact t.isLt)
    have e : (⟨2 * m * (t.val / (2 * m)) + m + (t.val % (2 * m) - m), by rw [hd']; exact t.isLt⟩ : Fin 128) = t := Fin.ext hd'
    rw [← e]; exact this

theorem flat_apply (x : (S3 nb m).Idx → α) (a : Fin nb) (b : Fin m) (e : Fin 256) (hlt : a.val * m + b.val < 64) :
    shapeCast S64x256 x h.fl (ix2 ⟨a.val * m + b.val, hlt⟩ e) = x (ix3 a b e) := by
  apply shapeCast_apply
  rw [Shape.rowMajor_val_two, Shape.rowMajor_val_three]
  rfl
theorem unflat_apply (x : S64x256.Idx → α) (a : Fin nb) (b : Fin m) (e : Fin 256) (hlt : a.val * m + b.val < 64) :
    shapeCast (S3 nb m) x h.uf (ix3 a b e) = x (ix2 ⟨a.val * m + b.val, hlt⟩ e) := by
  apply shapeCast_apply
  rw [Shape.rowMajor_val_two, Shape.rowMajor_val_three]
  rfl
theorem flat_lt (a : Fin nb) (b : Fin m) : a.val * m + b.val < 64 := by
  have := blk_lt a b; rw [hnb] at this
  have e : 2 * m * a.val = 2 * (a.val * m) := by ring
  omega
end Blocks
end

/-! The block-diagonal products. -/

theorem zero16 : (Scalar.ofBits (F := Ideal) .bf16 0x0000#16 : EReal) = 0 := Ideal.ofBits_zero_bf16
theorem zero32 : (Scalar.ofBits (F := Ideal) .f32 0x00000000#32 : EReal) = 0 := Ideal.ofBits_zero_f32

theorem bd_apply (z : FVec Ideal S128x256 .bf16) (i e : Fin 256) :
    (bd z (ix2 i e) : EReal) = if i.val / 128 = e.val / 128 then z (ix2 ⟨i.val % 128, by omega⟩ e) else 0 := by
  have hi := i.isLt; have he := e.isLt
  unfold bd
  by_cases h1 : i.val < 128
  · rw [concatenate_pair_apply_left (t := S256x256) (s₁ := S128x256) (s₂ := S128x256) 0 _ _ _ (ix2 i e) rfl (ix2 (n0 := 128) (n1 := 256) ⟨i.val, h1⟩ e) (by
      intro d; match d with
      | ⟨0, _⟩ => rfl
      | ⟨1, _⟩ => rfl)]
    by_cases h2 : e.val < 128
    · rw [concatenate_pair_apply_left (t := S128x256) (s₁ := S128x128) (s₂ := S128x128) 1 _ _ _ _ rfl (ix2 (n0 := 128) (n1 := 128) ⟨i.val, h1⟩ ⟨e.val, h2⟩) (by
        intro d; match d with
        | ⟨0, _⟩ => rfl
        | ⟨1, _⟩ => rfl), if_pos (by omega)]
      apply extractStridedSlice_apply
      intro d; match d with
      | ⟨0, _⟩ => show i.val % 128 = 0 + i.val; omega
      | ⟨1, _⟩ => show e.val = 0 + e.val; omega
    · rw [concatenate_pair_apply_right (t := S128x256) (s₁ := S128x128) (s₂ := S128x128) 1 _ _ _ _ rfl rfl (ix2 (n0 := 128) (n1 := 128) ⟨i.val, h1⟩ ⟨e.val - 128, by omega⟩) (by
        intro d hd; match d with
        | ⟨0, _⟩ => rfl
        | ⟨1, _⟩ => exact absurd rfl hd) (by show e.val - 128 + 128 = e.val; omega), if_neg (by omega)]
      exact zero16
  · rw [concatenate_pair_apply_right (t := S256x256) (s₁ := S128x256) (s₂ := S128x256) 0 _ _ _ (ix2 i e) rfl rfl (ix2 (n0 := 128) (n1 := 256) ⟨i.val - 128, by omega⟩ e) (by
      intro d hd; match d with
      | ⟨0, _⟩ => exact absurd rfl hd
      | ⟨1, _⟩ => rfl) (by show i.val - 128 + 128 = i.val; omega)]
    by_cases h2 : e.val < 128
    · rw [concatenate_pair_apply_left (t := S128x256) (s₁ := S128x128) (s₂ := S128x128) 1 _ _ _ _ rfl (ix2 (n0 := 128) (n1 := 128) ⟨i.val - 128, by omega⟩ ⟨e.val, h2⟩) (by
        intro d; match d with
        | ⟨0, _⟩ => rfl
        | ⟨1, _⟩ => rfl), if_neg (by omega)]
      exact zero16
    · rw [concatenate_pair_apply_right (t := S128x256) (s₁ := S128x128) (s₂ := S128x128) 1 _ _ _ _ rfl rfl (ix2 (n0 := 128) (n1 := 128) ⟨i.val - 128, by omega⟩ ⟨e.val - 128, by omega⟩) (by
        intro d hd; match d with
        | ⟨0, _⟩ => rfl
        | ⟨1, _⟩ => exact absurd rfl hd) (by show e.val - 128 + 128 = e.val; omega), if_pos (by omega)]
      apply extractStridedSlice_apply
      intro d; match d with
      | ⟨0, _⟩ => show i.val % 128 = 0 + (i.val - 128); omega
      | ⟨1, _⟩ => show e.val = 128 + (e.val - 128); omega

theorem bd_is {z : FVec Ideal S128x256 .bf16} {g : ℕ → ℕ → ℝ} (hz : Is (z : S128x256.Idx → EReal) g) :
    Is (bd z : S256x256.Idx → EReal) (fun i e => if i / 128 = e / 128 then g (i % 128) e else 0) := by
  intro i e
  rw [bd_apply]
  show _ = (((if i.val / 128 = e.val / 128 then g (i.val % 128) e.val else 0 : ℝ)) : EReal)
  by_cases h : i.val / 128 = e.val / 128
  · rw [if_pos h, if_pos h]; exact hz _ _
  · rw [if_neg h, if_neg h]; rfl

/-- A sum over both heads' channels of which only one head's count. -/
theorem sum_half (p : ℕ) (hp : p < 2) (f : ℕ → ℝ) :
    ∑ e ∈ Finset.range 256, (if p = e / 128 then f e else 0) = ∑ e ∈ Finset.range 128, f (128 * p + e) := by
  rw [show 256 = 128 + 128 from rfl, Finset.sum_range_add]
  have hA : ∀ e ∈ Finset.range 128, (if p = e / 128 then f e else 0) = if p = 0 then f e else 0 := by
    intro e he; rw [Finset.mem_range] at he; rw [show e / 128 = 0 by omega]
  have hB : ∀ e ∈ Finset.range 128, (if p = (128 + e) / 128 then f (128 + e) else 0) = if p = 1 then f (128 + e) else 0 := by
    intro e he; rw [Finset.mem_range] at he; rw [show (128 + e) / 128 = 1 by omega]
  rw [Finset.sum_congr rfl hA, Finset.sum_congr rfl hB]
  interval_cases p <;> simp

theorem prod_is {M K N : ℕ} {x : (⟨2, ![M, K]⟩ : Shape).Idx → EReal} {f : ℕ → ℕ → ℝ} (hx : Is x f)
    {y : (⟨2, ![N, K]⟩ : Shape).Idx → EReal} {g : ℕ → ℕ → ℝ} (hy : Is y g) (t : Fin M) (i : Fin N) :
    ∑ k : Fin K, x (ix2 t k) * y (ix2 i k) = ((∑ e ∈ Finset.range K, f t e * g i e : ℝ) : EReal) := by
  rw [← Fin.sum_univ_eq_sum_range (fun e => f t e * g i e), coe_sum]
  exact Finset.sum_congr rfl fun k _ => by rw [hx, hy, EReal.coe_mul]

theorem nt_is {a z : FVec Ideal S128x256 .bf16} {f g : ℕ → ℕ → ℝ} (ha : Is (a : S128x256.Idx → EReal) f) (hz : Is (z : S128x256.Idx → EReal) g) :
    Is (nt a z : S128x256.Idx → EReal)
      (fun t i => ∑ e ∈ Finset.range 128, f t (128 * (i / 128) + e) * g (i % 128) (128 * (i / 128) + e)) := by
  intro t i
  have h : nt a z (ix2 t i) = _ :=
    Ideal.matmul_transposedRhs_apply (M := 128) (K := 256) (N := 256) none a (bd z) (constant S128x256 .f32 0x00000000#32) t i
  rw [h, show (constant (F := Ideal) S128x256 .f32 0x00000000#32 (ix2 t i) : EReal) = 0 from zero32, zero_add]
  refine (prod_is ha (bd_is hz) t i).trans ?_
  congr 1
  refine Eq.trans ?_ (sum_half (i.val / 128) (by omega) (fun e => f t.val e * g (i.val % 128) e))
  exact Finset.sum_congr rfl fun e _ => by
    show f t.val e * (if i.val / 128 = e / 128 then g (i.val % 128) e else 0) = _
    split <;> simp

theorem nt64_is {a : FVec Ideal S64x256 .bf16} {z : FVec Ideal S128x256 .bf16} {f g : ℕ → ℕ → ℝ} (ha : Is (a : S64x256.Idx → EReal) f) (hz : Is (z : S128x256.Idx → EReal) g) :
    Is (nt64 a z : S64x256.Idx → EReal)
      (fun t i => ∑ e ∈ Finset.range 128, f t (128 * (i / 128) + e) * g (i % 128) (128 * (i / 128) + e)) := by
  intro t i
  have h : nt64 a z (ix2 t i) = _ :=
    Ideal.matmul_transposedRhs_apply (M := 64) (K := 256) (N := 256) none a (bd z) (constant S64x256 .f32 0x00000000#32) t i
  rw [h, show (constant (F := Ideal) S64x256 .f32 0x00000000#32 (ix2 t i) : EReal) = 0 from zero32, zero_add]
  refine (prod_is ha (bd_is hz) t i).trans ?_
  congr 1
  refine Eq.trans ?_ (sum_half (i.val / 128) (by omega) (fun e => f t.val e * g (i.val % 128) e))
  exact Finset.sum_congr rfl fun e _ => by
    show f t.val e * (if i.val / 128 = e / 128 then g (i.val % 128) e else 0) = _
    split <;> simp

theorem nn_is {a z : FVec Ideal S128x256 .bf16} {f g : ℕ → ℕ → ℝ} (ha : Is (a : S128x256.Idx → EReal) f) (hz : Is (z : S128x256.Idx → EReal) g) :
    Is (nn a z : S128x256.Idx → EReal)
      (fun t e => ∑ j ∈ Finset.range 128, f t (128 * (e / 128) + j) * g j e) := by
  intro t e
  have h : nn a z (ix2 t e) = _ :=
    Ideal.matmul_plain_apply (M := 128) (K := 256) (N := 256) none a (bd z) (constant S128x256 .f32 0x00000000#32) t e
  rw [h, show (constant (F := Ideal) S128x256 .f32 0x00000000#32 (ix2 t e) : EReal) = 0 from zero32, zero_add]
  have h2 : ∀ k : Fin 256, (a (ix2 t k) : EReal) * bd z (ix2 k e)
      = ((if e.val / 128 = k.val / 128 then f t k.val * g (k.val % 128) e.val else 0 : ℝ) : EReal) := by
    intro k
    rw [ha, bd_is hz, ← EReal.coe_mul]
    congr 1
    show f t.val k.val * (if k.val / 128 = e.val / 128 then g (k.val % 128) e.val else 0) = _
    by_cases hk : k.val / 128 = e.val / 128
    · rw [if_pos hk, if_pos hk.symm]
    · rw [if_neg hk, if_neg (fun q => hk q.symm), mul_zero]
  rw [Finset.sum_congr rfl fun k _ => h2 k, ← coe_sum,
    Fin.sum_univ_eq_sum_range (fun k => if e.val / 128 = k / 128 then f t.val k * g (k % 128) e.val else 0),
    sum_half (e.val / 128) (by omega) (fun k => f t.val k * g (k % 128) e.val)]
  congr 1
  refine Finset.sum_congr rfl fun j hj => ?_
  rw [Finset.mem_range] at hj
  rw [show (128 * (e.val / 128) + j) % 128 = j by omega]

end Cert.Pair
-- ==== Proof.PairReal.lean ====
/- One chunk of a pair of heads over the reals: the tree of decays gives every earlier token its score, and the chunk's
   read-out and state are the token-by-token recurrence's. -/
module

public import proofs.«01_k».proof.Proof.PairRead

@[expose] public section

set_option maxRecDepth 16384

noncomputable section

namespace Cert.Pair

open Idealize.ShloMosaic Idealize.ShloMosaic.ValueIdx Cert.KernelIdeal Cert.KernelIdeal.Gen Cert.Hgrn

theorem Is.congr {n w : ℕ} {x : (⟨2, ![n, w]⟩ : Shape).Idx → EReal} {f g : ℕ → ℕ → ℝ} (h : Is x f)
    (hfg : ∀ t < n, ∀ e < w, f t e = g t e) : Is x g := fun t e => by
  rw [h t e, hfg t.val t.isLt e.val e.isLt]

section
variable (lf q k : ℕ → ℕ → ℝ)

/-- The log decay of channel `e` over the first `n` tokens of the chunk. -/
def C (e n : ℕ) : ℝ := run (fun i => lf i e) 0 n
/-- The log decay from the start of token `t`'s block of `m` tokens up to and with `t`. -/
def cR (m t e : ℕ) : ℝ := C lf e (t + 1) - C lf e (t - t % m)
/-- The log decay over the whole block. -/
def T (m t e : ℕ) : ℝ := C lf e (t - t % m + m) - C lf e (t - t % m)
/-- A level's operand: the query decayed from the block's start, the key decayed to the block's end. -/
def zR (m t e : ℕ) : ℝ := if t / m % 2 = 1 then q t e * Real.exp (cR lf m t e) else k t e * Real.exp (T lf m t e - cR lf m t e)
/-- Token `t` is in the upper and token `j` in the lower half of the same block of `2m`. -/
def mask (m t j : ℕ) : Prop := t / (2 * m) = j / (2 * m) ∧ t / m % 2 = 1 ∧ j / m % 2 = 0
instance (m t j : ℕ) : Decidable (mask m t j) := by unfold mask; infer_instance
/-- The score of token `i % 128` of head `i / 128` at token `t`. -/
def E (t i : ℕ) : ℝ := ∑ e ∈ Finset.range 128, q t (128 * (i / 128) + e) * k (i % 128) (128 * (i / 128) + e)
  * Real.exp (C lf (128 * (i / 128) + e) (t + 1) - C lf (128 * (i / 128) + e) (i % 128 + 1))
/-- A level's scores. -/
def P (m t i : ℕ) : ℝ := ∑ e ∈ Finset.range 128,
  zR lf q k m t (128 * (i / 128) + e) * zR lf q k m (i % 128) (128 * (i / 128) + e)

def Tree (m : ℕ) : Prop := m = 1 ∨ m = 2 ∨ m = 4 ∨ m = 8 ∨ m = 16 ∨ m = 32 ∨ m = 64

theorem cR_one (t e : ℕ) : cR lf 1 t e = lf t e := by
  unfold cR C
  rw [Nat.mod_one, Nat.sub_zero, run_succ, add_sub_cancel_left, Nat.zero_add]

theorem cR_lower {m : ℕ} (hm : Tree m) (t e : ℕ) (h : t / m % 2 = 0) : cR lf (2 * m) t e = cR lf m t e := by
  unfold cR
  rw [show t % (2 * m) = t % m by rcases hm with rfl | rfl | rfl | rfl | rfl | rfl | rfl <;> omega]
theorem cR_upper {m : ℕ} (hm : Tree m) (t u e : ℕ) (h : t / m % 2 = 1) (hu : u / m + 1 = t / m) :
    cR lf (2 * m) t e = cR lf m t e + T lf m u e := by
  unfold cR T
  rw [show t - t % (2 * m) = u - u % m by rcases hm with rfl | rfl | rfl | rfl | rfl | rfl | rfl <;> omega,
    show t - t % m = u - u % m + m by rcases hm with rfl | rfl | rfl | rfl | rfl | rfl | rfl <;> omega]
  ring
theorem cR_last {m : ℕ} (hm : Tree m) (t u e : ℕ) (hu : u / m = t / m) (hl : u % m + 1 = m) : cR lf m u e = T lf m t e := by
  unfold cR T
  rw [show u + 1 = t - t % m + m by rcases hm with rfl | rfl | rfl | rfl | rfl | rfl | rfl <;> omega,
    show u - u % m = t - t % m by rcases hm with rfl | rfl | rfl | rfl | rfl | rfl | rfl <;> omega]

theorem P_mask {m : ℕ} (hm : Tree m) (t i : ℕ) (h : mask m t (i % 128)) : P lf q k m t i = E lf q k t i := by
  unfold P E
  refine Finset.sum_congr rfl fun e _ => ?_
  obtain ⟨h1, h2, h3⟩ := h
  unfold zR
  rw [if_pos h2, if_neg (by omega)]
  unfold cR T
  rw [show t - t % m = (i % 128) - (i % 128) % m + m by
    generalize i % 128 = j at *
    rcases hm with rfl | rfl | rfl | rfl | rfl | rfl | rfl <;> omega]
  rw [mul_mul_mul_comm, ← Real.exp_add]
  congr 2
  ring

variable {lf q k}

abbrev row8 : ℕ → ℕ → ℕ := fun a b => 8 * a + b

theorem to8_is {x : V2} {f : ℕ → ℕ → ℝ} (h : Is (x : S128x256.Idx → EReal) f) : IsBlk row8 (to8 x : S16x8x256.Idx → EReal) f :=
  fun a b e => (to8_apply' x a b e).trans (h _ _)
theorem un8_is {x : V3} {f : ℕ → ℕ → ℝ} (h : IsBlk row8 (x : S16x8x256.Idx → EReal) f) : Is (un8 x : S128x256.Idx → EReal) f := by
  intro t e
  refine (un8_apply' x t e).trans ((h _ _ _).trans ?_)
  rw [show row8 (t.val / 8) (t.val % 8) = t.val by show 8 * (t.val / 8) + t.val % 8 = t.val; omega]

theorem exp_is (r : ℝ) : (FloatOps.exp (F := Ideal) (φ := .f32) ((r : EReal)) : EReal) = ((Real.exp r : ℝ) : EReal) := rfl

def Bits (w : BitVec 32) (m : ℕ) : Prop :=
  ∀ b : Fin 8, (BitVec.ofBool ((BitVec.ofNat 32 b.val &&& w) != 0#32)) = if b.val / m % 2 = 1 then 1#1 else 0#1

theorem zLo_is {w : BitVec 32} {m : ℕ} (hw : Bits w m) (hm : m = 1 ∨ m = 2 ∨ m = 4) {q' k' : V2} {c tot : V3}
    (hq : Is (q' : S128x256.Idx → EReal) q) (hk : Is (k' : S128x256.Idx → EReal) k)
    (hc : IsBlk row8 (c : S16x8x256.Idx → EReal) (cR lf m)) (ht : IsBlk row8 (tot : S16x8x256.Idx → EReal) (T lf m)) :
    Is (zLo w q' k' c tot : S128x256.Idx → EReal) (zR lf q k m) := by
  refine un8_is (x := mulf (select (bit w) (to8 q') (to8 k')) (exp (select (bit w) c (subf tot c)))) ?_
  intro a b e
  have h2 : (8 * a.val + b.val) / m % 2 = b.val / m % 2 := by rcases hm with rfl | rfl | rfl <;> omega
  show (select (bit w) (to8 q') (to8 k') (ix3 a b e) : EReal)
    * FloatOps.exp (F := Ideal) (φ := .f32) (select (bit w) c (subf tot c) (ix3 a b e)) = _
  rw [select_bit hw, select_bit hw]
  unfold zR
  simp only [h2]
  by_cases hb : b.val / m % 2 = 1
  · rw [if_pos hb, if_pos hb, if_pos hb, to8_is hq a b e, hc a b e, exp_is, ← EReal.coe_mul]
  · rw [if_neg hb, if_neg hb, if_neg hb, to8_is hk a b e]
    show _ * FloatOps.exp (F := Ideal) (φ := .f32) ((tot (ix3 a b e) : EReal) - c (ix3 a b e)) = _
    rw [hc a b e, ht a b e, ← EReal.coe_sub, exp_is, ← EReal.coe_mul]

theorem cLo_is {w : BitVec 32} {m : ℕ} (hw : Bits w m) (hm : m = 1 ∨ m = 2 ∨ m = 4) {c tot : V3}
    (hc : IsBlk row8 (c : S16x8x256.Idx → EReal) (cR lf m)) (ht : IsBlk row8 (tot : S16x8x256.Idx → EReal) (T lf m)) :
    Is (cLo w (BitVec.ofNat 32 m) c tot : S128x256.Idx → EReal) (cR lf (2 * m)) := by
  have hT : Tree m := by unfold Tree; omega
  refine un8_is (x := addf c (select (bit w) (rot (BitVec.ofNat 32 m) tot) (broadcast S16x8x256 (Scalar.ofBits (F := Ideal) .f32 0x00000000#32)))) ?_
  intro a b e
  have hb8 := b.isLt
  show (c (ix3 a b e) : EReal) + select (bit w) _ _ (ix3 a b e) = _
  rw [select_bit hw, hc a b e]
  by_cases hb : b.val / m % 2 = 1
  · rw [if_pos hb, rot_apply m (by omega), ht, ← EReal.coe_add]
    rw [cR_upper lf hT (row8 a.val b.val) (row8 a.val ((b.val + 8 - m) % 8)) e.val
      (by dsimp only [row8]; rcases hm with rfl | rfl | rfl <;> omega) (by dsimp only [row8]; rcases hm with rfl | rfl | rfl <;> omega)]
  · rw [if_neg hb, cR_lower lf hT _ _ (by dsimp only [row8]; rcases hm with rfl | rfl | rfl <;> omega)]
    rw [broadcast_apply, zero32, add_zero]

theorem spread1_is {c : V3} {f : ℕ → ℕ → ℝ} (hc : IsBlk row8 (c : S16x8x256.Idx → EReal) f) :
    IsBlk row8 (spread 1#32 7#32 c : S16x8x256.Idx → EReal) (fun t e => f (t - t % 2 + 1) e) := by
  intro a b e
  have hb8 := b.isLt
  unfold spread
  rw [select_bit bits1]
  by_cases hb : b.val / 1 % 2 = 1
  · rw [if_pos hb, hc a b e]
    simp only
    rw [show 8 * a.val + b.val - (8 * a.val + b.val) % 2 + 1 = 8 * a.val + b.val by omega]
  · rw [if_neg hb, rot_apply 7 (by omega), hc]
    simp only
    rw [show 8 * a.val + b.val - (8 * a.val + b.val) % 2 + 1 = 8 * a.val + (b.val + 8 - 7) % 8 by omega]

theorem spread2_is {c : V3} {f : ℕ → ℕ → ℝ} (hc : IsBlk row8 (c : S16x8x256.Idx → EReal) (fun t e => f (t - t % 2 + 1) e)) :
    IsBlk row8 (spread 2#32 6#32 c : S16x8x256.Idx → EReal) (fun t e => f (t - t % 4 + 3) e) := by
  intro a b e
  have hb8 := b.isLt
  unfold spread
  rw [select_bit bits2]
  by_cases hb : b.val / 2 % 2 = 1
  · rw [if_pos hb, hc a b e]
    simp only
    rw [show 8 * a.val + b.val - (8 * a.val + b.val) % 4 + 3 = 8 * a.val + b.val - (8 * a.val + b.val) % 2 + 1 by omega]
  · rw [if_neg hb, rot_apply 6 (by omega), hc]
    simp only
    rw [show 8 * a.val + b.val - (8 * a.val + b.val) % 4 + 3
      = 8 * a.val + (b.val + 8 - 6) % 8 - (8 * a.val + (b.val + 8 - 6) % 8) % 2 + 1 by omega]

theorem IsBlk.congr {nb m w : ℕ} {p : ℕ → ℕ → ℕ} {x : (⟨3, ![nb, m, w]⟩ : Shape).Idx → EReal} {f g : ℕ → ℕ → ℝ}
    (h : IsBlk p x f) (hfg : ∀ t e, f t e = g t e) : IsBlk p x g := fun a b e => by rw [h a b e, hfg]

/-! Levels at eight rows and above. -/
section Hi
variable {nb m r : ℕ} (h : Hi nb m r) (hnb : nb * (2 * m) = 128) (hr : r + 1 = m) (hm : Tree m)

abbrev rowLo (m : ℕ) : ℕ → ℕ → ℕ := fun a b => 2 * m * a + b
abbrev rowHi (m : ℕ) : ℕ → ℕ → ℕ := fun a b => 2 * m * a + m + b

include hnb in
theorem lower_is {x : V2} {f : ℕ → ℕ → ℝ} (hx : Is (x : S128x256.Idx → EReal) f) : IsBlk (rowLo m) (lower h x : (S3 nb m).Idx → EReal) f :=
  fun a b e => (lower_apply h hnb x a b e).trans (hx _ _)
include hnb in
theorem upper_is {x : V2} {f : ℕ → ℕ → ℝ} (hx : Is (x : S128x256.Idx → EReal) f) : IsBlk (rowHi m) (upper h x : (S3 nb m).Idx → EReal) f :=
  fun a b e => (upper_apply h hnb x a b e).trans (hx _ _)
include hnb in
theorem merge_is {x y : (S3 nb m).Idx → EReal} {f : ℕ → ℕ → ℝ} (hx : IsBlk (rowLo m) x f) (hy : IsBlk (rowHi m) y f) :
    Is (merge h x y : S128x256.Idx → EReal) f := by
  intro t e
  revert t
  refine row_cases hnb ?_ ?_
  · intro a b hlt
    exact (merge_lo h hnb x y a b e).trans (hx a b e)
  · intro a b hlt
    exact (merge_hi h hnb x y a b e).trans (hy a b e)

include hm in
theorem blk_arith (a b : ℕ) (hb : b < m) : (2 * m * a + b) / m % 2 = 0 ∧ (2 * m * a + m + b) / m % 2 = 1
    ∧ (2 * m * a + b) / m + 1 = (2 * m * a + m + b) / m := by
  rcases hm with rfl | rfl | rfl | rfl | rfl | rfl | rfl <;> omega

include hm in
theorem blk_last (a b r : ℕ) (hb : b < m) (hr : r + 1 = m) : (2 * m * a + r) / m = (2 * m * a + b) / m ∧ (2 * m * a + r) % m + 1 = m := by
  rcases hm with rfl | rfl | rfl | rfl | rfl | rfl | rfl <;> omega

include hnb hr hm in
theorem lastRow_is {c : V2} (hc : Is (c : S128x256.Idx → EReal) (cR lf m)) :
    IsBlk (rowLo m) (lastRow h (lower h c) : (S3 nb m).Idx → EReal) (T lf m) := by
  intro a b e
  have hb := b.isLt
  have := lower_is h hnb hc a ⟨r, by omega⟩ e
  refine (lastRow_apply h (by omega) _ a b e).trans (this.trans ?_)
  obtain ⟨h1, h2⟩ := blk_last hm a.val b.val r hb hr
  rw [cR_last lf hm (rowLo m a.val b.val) _ _ h1 h2]

include hnb hr hm in
theorem zDn_is {k' c : V2} (hk : Is (k' : S128x256.Idx → EReal) k) (hc : Is (c : S128x256.Idx → EReal) (cR lf m)) :
    IsBlk (rowLo m) (zDn h k' c : (S3 nb m).Idx → EReal) (zR lf q k m) := by
  intro a b e
  obtain ⟨h1, -, -⟩ := blk_arith hm a.val b.val b.isLt
  show (lower h k' (ix3 a b e) : EReal)
    * FloatOps.exp (F := Ideal) (φ := .f32) ((lastRow h (lower h c) (ix3 a b e) : EReal) - lower h c (ix3 a b e)) = _
  rw [lower_is h hnb hk a b e, lastRow_is h hnb hr hm hc a b e, lower_is h hnb hc a b e, ← EReal.coe_sub, exp_is, ← EReal.coe_mul]
  unfold zR
  rw [if_neg (by rw [h1]; decide)]
include hnb hm in
theorem zUp_is {q' c : V2} (hq : Is (q' : S128x256.Idx → EReal) q) (hc : Is (c : S128x256.Idx → EReal) (cR lf m)) :
    IsBlk (rowHi m) (zUp h q' c : (S3 nb m).Idx → EReal) (zR lf q k m) := by
  intro a b e
  obtain ⟨-, h1, -⟩ := blk_arith hm a.val b.val b.isLt
  show (upper h q' (ix3 a b e) : EReal) * FloatOps.exp (F := Ideal) (φ := .f32) (upper h c (ix3 a b e)) = _
  rw [upper_is h hnb hq a b e, upper_is h hnb hc a b e, exp_is, ← EReal.coe_mul]
  unfold zR
  rw [if_pos h1]

include hnb hr hm in
theorem cHi_is {c : V2} (hc : Is (c : S128x256.Idx → EReal) (cR lf m)) : Is (cHi h c : S128x256.Idx → EReal) (cR lf (2 * m)) := by
  refine merge_is h hnb ?_ ?_
  · intro a b e
    obtain ⟨h1, -, -⟩ := blk_arith hm a.val b.val b.isLt
    rw [lower_is h hnb hc a b e, cR_lower lf hm _ _ h1]
  · intro a b e
    obtain ⟨-, h1, h2⟩ := blk_arith hm a.val b.val b.isLt
    show (upper h c (ix3 a b e) : EReal) + lastRow h (lower h c) (ix3 a b e) = _
    rw [upper_is h hnb hc a b e, lastRow_is h hnb hr hm hc a b e, ← EReal.coe_add, cR_upper lf hm _ _ _ h1 h2]

variable {lv : IVec S128x256 32} {n : ℕ}

include hnb hr hm in
theorem pHi_is {q' k' c : V2} (hq : Is (q' : S128x256.Idx → EReal) q) (hk : Is (k' : S128x256.Idx → EReal) k)
    (hc : Is (c : S128x256.Idx → EReal) (cR lf m))
    (hlv : ∀ (t : Fin 128) (i : Fin 256), lv (ix2 t i) = BitVec.ofNat 32 n ↔ mask m t.val (i.val % 128)) :
    IsBlk (rowHi m) (pHi h (BitVec.ofNat 32 n) lv q' k' c : (S3 nb m).Idx → EReal)
      (fun t i => if mask m t (i % 128) then E lf q k t i else 0) := by
  intro a b i
  have hlt := flat_lt hnb a b
  have hmp : 0 < m := by omega
  have hz : Is (merge h (zDn h k' c) (zUp h q' c) : S128x256.Idx → EReal) (zR lf q k m) :=
    merge_is h hnb (zDn_is h hnb hr hm hk hc) (zUp_is h hnb hm hq hc)
  refine (unflat_apply h hnb _ a b i hlt).trans ?_
  rw [select_apply]
  have hrow : Is (shapeCast S64x256 (zUp h q' c : (S3 nb m).Idx → EReal) h.fl)
      (fun t e => zR lf q k m (rowHi m (t / m) (t % m)) e) := by
    intro t e
    have hmp : 0 < m := by omega
    have hn : nb * m = 64 := by
      have : nb * (2 * m) = 2 * (nb * m) := by ring
      omega
    have h1 : t.val / m < nb := Nat.div_lt_of_lt_mul (by rw [Nat.mul_comm, hn]; exact t.isLt)
    have h2 := Nat.mod_lt t.val hmp
    have h3 : t.val / m * m + t.val % m = t.val := Nat.div_add_mod' _ _
    have hf := (flat_apply h hnb (zUp h q' c : (S3 nb m).Idx → EReal) ⟨_, h1⟩ ⟨_, h2⟩ e (by show _ < 64; simp only; rw [h3]; exact t.isLt)).trans
      (zUp_is (k := k) h hnb hm hq hc ⟨_, h1⟩ ⟨_, h2⟩ e)
    have e1 : t = (⟨t.val / m * m + t.val % m, by rw [h3]; exact t.isLt⟩ : Fin 64) := Fin.ext h3.symm
    exact (congrArg (fun u => shapeCast S64x256 (zUp h q' c : (S3 nb m).Idx → EReal) h.fl (ix2 u e)) e1).trans hf
  have hp := nt64_is (a := truncf .bf16 (shapeCast S64x256 (zUp h q' c) h.fl : FVec Ideal S64x256 .f32) bitsLt_bf16_f32)
    (z := truncf .bf16 (merge h (zDn h k' c) (zUp h q' c) : V2) bitsLt_bf16_f32) hrow hz ⟨a.val * m + b.val, hlt⟩ i
  have hw : (shapeCast S64x256 (upper h lv) h.fl : IVec S64x256 32) (ix2 ⟨a.val * m + b.val, hlt⟩ i)
      = lv (ix2 ⟨2 * m * a.val + m + b.val, by have := blk_lt a b; omega⟩ i) :=
    (flat_apply h hnb _ a b i hlt).trans (upper_apply h hnb lv a b i)
  have hcmp : cmpi .eq (shapeCast S64x256 (upper h lv) h.fl : IVec S64x256 32) (broadcast S64x256 (BitVec.ofNat 32 n)) (ix2 ⟨a.val * m + b.val, hlt⟩ i)
      = if mask m (rowHi m a.val b.val) (i.val % 128) then 1#1 else 0#1 := by
    show BitVec.ofBool ((shapeCast S64x256 (upper h lv) h.fl : IVec S64x256 32) (ix2 ⟨a.val * m + b.val, hlt⟩ i) == BitVec.ofNat 32 n) = _
    rw [hw]
    by_cases hk : mask m (rowHi m a.val b.val) (i.val % 128)
    · rw [if_pos hk, (hlv _ _).2 hk, beq_self_eq_true]; rfl
    · rw [if_neg hk, beq_eq_false_iff_ne.2 (fun q => hk ((hlv _ _).1 q))]; rfl
  rw [hcmp]
  simp only
  by_cases hk : mask m (rowHi m a.val b.val) (i.val % 128)
  · rw [if_pos hk, if_pos hk, select_one]
    refine hp.trans ?_
    rw [← P_mask lf q k hm _ _ hk]
    have e1 : (a.val * m + b.val) / m = a.val := by
      rw [Nat.mul_comm, Nat.mul_add_div hmp, Nat.div_eq_of_lt b.isLt, Nat.add_zero]
    have e2 : (a.val * m + b.val) % m = b.val := by
      rw [Nat.mul_comm, Nat.mul_add_mod, Nat.mod_eq_of_lt b.isLt]
    simp only [e1, e2]
    rfl
  · rw [if_neg hk, if_neg hk, select_zero]
    exact zero32

include hnb hr hm in
theorem attHi_is {q' k' c att : V2} (hq : Is (q' : S128x256.Idx → EReal) q) (hk : Is (k' : S128x256.Idx → EReal) k)
    (hc : Is (c : S128x256.Idx → EReal) (cR lf m)) {f : ℕ → ℕ → ℝ} (ha : Is (att : S128x256.Idx → EReal) f)
    (hlv : ∀ (t : Fin 128) (i : Fin 256), lv (ix2 t i) = BitVec.ofNat 32 n ↔ mask m t.val (i.val % 128)) :
    Is (attHi h (BitVec.ofNat 32 n) lv q' k' c att : S128x256.Idx → EReal)
      (fun t i => f t i + if mask m t (i % 128) then E lf q k t i else 0) := by
  refine merge_is h hnb ?_ ?_
  · intro a b i
    obtain ⟨h1, -, -⟩ := blk_arith hm a.val b.val b.isLt
    rw [lower_is h hnb ha a b i]
    simp only
    rw [if_neg (fun q => by have h2 := q.2.1; rw [h1] at h2; exact absurd h2 (by decide)), add_zero]
  · intro a b i
    show (upper h att (ix3 a b i) : EReal) + pHi h (BitVec.ofNat 32 n) lv q' k' c (ix3 a b i) = _
    rw [upper_is h hnb ha a b i, pHi_is h hnb hr hm hq hk hc hlv a b i, ← EReal.coe_add]
end Hi

theorem pLo_is {m n : ℕ} (hm : Tree m) {z : FVec Ideal S128x256 .bf16} {lv : IVec S128x256 32}
    (hz : Is (z : S128x256.Idx → EReal) (zR lf q k m))
    (hlv : ∀ (t : Fin 128) (i : Fin 256), lv (ix2 t i) = BitVec.ofNat 32 n ↔ mask m t.val (i.val % 128)) :
    Is (pLo (BitVec.ofNat 32 n) lv z : S128x256.Idx → EReal) (fun t i => if mask m t (i % 128) then E lf q k t i else 0) := by
  intro t i
  unfold pLo
  rw [select_apply]
  have hcmp : cmpi .eq lv (broadcast S128x256 (BitVec.ofNat 32 n)) (ix2 t i)
      = if mask m t.val (i.val % 128) then 1#1 else 0#1 := by
    show BitVec.ofBool (lv (ix2 t i) == BitVec.ofNat 32 n) = _
    by_cases hk : mask m t.val (i.val % 128)
    · rw [if_pos hk, (hlv _ _).2 hk, beq_self_eq_true]; rfl
    · rw [if_neg hk, beq_eq_false_iff_ne.2 (fun q => hk ((hlv _ _).1 q))]; rfl
  rw [hcmp]
  simp only
  by_cases hk : mask m t.val (i.val % 128)
  · rw [if_pos hk, if_pos hk, select_one]
    refine (nt_is hz hz t i).trans ?_
    rw [← P_mask lf q k hm _ _ hk]
    rfl
  · rw [if_neg hk, if_neg hk, select_zero]
    exact zero32

theorem masks : ∀ t < 128, ∀ j < 128, (((((((if mask 1 t j then 1 else 0) + if mask 2 t j then 1 else 0) + if mask 4 t j then 1 else 0)
    + if mask 8 t j then 1 else 0) + if mask 16 t j then 1 else 0) + if mask 32 t j then 1 else 0) + if mask 64 t j then 1 else 0)
    = if j < t then 1 else 0 := by decide +kernel

end
end Cert.Pair
-- ==== Proof.PairSum.lean ====
/- One chunk of a pair of heads over the reals, put together: what it reads out and the state it leaves are the
   token-by-token recurrence's. -/
module

public import proofs.«01_k».proof.Proof.PairReal

@[expose] public section

set_option maxRecDepth 16384

noncomputable section

namespace Cert.Pair

open Idealize.ShloMosaic Idealize.ShloMosaic.ValueIdx Cert.KernelIdeal Cert.KernelIdeal.Gen Cert.Hgrn

/-- The table names, for each pair of tokens, the level at which the tree joins them. -/
def LvOK (lv : IVec S128x256 32) : Prop := ∀ n < 7, ∀ (t : Fin 128) (i : Fin 256),
  lv (ix2 t i) = BitVec.ofNat 32 n ↔ mask (2 ^ n) t.val (i.val % 128)

theorem Is.add {n w : ℕ} {x y : (⟨2, ![n, w]⟩ : Shape).Idx → EReal} {f g : ℕ → ℕ → ℝ} (hx : Is x f) (hy : Is y g) :
    Is (fun i => x i + y i) (fun t e => f t e + g t e) := fun t e => by
  show x _ + y _ = _
  rw [hx, hy, ← EReal.coe_add]

theorem Is.mul {n w : ℕ} {x y : (⟨2, ![n, w]⟩ : Shape).Idx → EReal} {f g : ℕ → ℕ → ℝ} (hx : Is x f) (hy : Is y g) :
    Is (fun i => x i * y i) (fun t e => f t e * g t e) := fun t e => by
  show x _ * y _ = _
  rw [hx, hy, ← EReal.coe_mul]
theorem Is.exp {x : V2} {f : ℕ → ℕ → ℝ} (hx : Is (x : S128x256.Idx → EReal) f) :
    Is (Idealize.ShloMosaic.exp x : S128x256.Idx → EReal) (fun t e => Real.exp (f t e)) := fun t e => by
  show FloatOps.exp (F := Ideal) (φ := .f32) (x (ix2 t e)) = _
  rw [hx, exp_is]

section
variable {lf q k : ℕ → ℕ → ℝ} {lv : IVec S128x256 32} {q' k' c v' s' : V2}

theorem T_of_last {m : ℕ} (hm : Tree m) (t e : ℕ) : cR lf m (t - t % m + (m - 1)) e = T lf m t e :=
  cR_last lf hm t _ e (by rcases hm with rfl | rfl | rfl | rfl | rfl | rfl | rfl <;> omega)
    (by rcases hm with rfl | rfl | rfl | rfl | rfl | rfl | rfl <;> omega)

theorem t1 : Tree 1 := Or.inl rfl
theorem t2 : Tree 2 := Or.inr (Or.inl rfl)
theorem t4 : Tree 4 := Or.inr (Or.inr (Or.inl rfl))
theorem t8 : Tree 8 := Or.inr (Or.inr (Or.inr (Or.inl rfl)))
theorem t16 : Tree 16 := Or.inr (Or.inr (Or.inr (Or.inr (Or.inl rfl))))
theorem t32 : Tree 32 := Or.inr (Or.inr (Or.inr (Or.inr (Or.inr (Or.inl rfl)))))
theorem t64 : Tree 64 := Or.inr (Or.inr (Or.inr (Or.inr (Or.inr (Or.inr rfl)))))

section decays
variable (hc : Is (c : S128x256.Idx → EReal) lf)
include hc
theorem b1_is : IsBlk row8 (to8 c : S16x8x256.Idx → EReal) (cR lf 1) := to8_is (hc.congr fun t _ e _ => (cR_one lf t e).symm)
theorem T1_is : IsBlk row8 (to8 c : S16x8x256.Idx → EReal) (T lf 1) :=
  (b1_is hc).congr fun t e => by rw [← T_of_last t1 t e]; simp [Nat.mod_one]
theorem c1_is : Is (c1 c : S128x256.Idx → EReal) (cR lf 2) := cLo_is bits1 (Or.inl rfl) (b1_is hc) (T1_is hc)
theorem T2_is : IsBlk row8 (spread 1#32 7#32 (to8 (c1 c)) : S16x8x256.Idx → EReal) (T lf 2) :=
  (spread1_is (to8_is (c1_is hc))).congr fun t e => T_of_last t2 t e
theorem c2_is : Is (c2 c : S128x256.Idx → EReal) (cR lf 4) := cLo_is bits2 (Or.inr (Or.inl rfl)) (to8_is (c1_is hc)) (T2_is hc)
theorem T4_is : IsBlk row8 (spread 2#32 6#32 (spread 1#32 7#32 (to8 (c2 c))) : S16x8x256.Idx → EReal) (T lf 4) :=
  (spread2_is (spread1_is (to8_is (c2_is hc)))).congr fun t e => T_of_last t4 t e
theorem c3_is : Is (c3 c : S128x256.Idx → EReal) (cR lf 8) := cLo_is bits4 (Or.inr (Or.inr rfl)) (to8_is (c2_is hc)) (T4_is hc)
theorem c4_is : Is (c4 c : S128x256.Idx → EReal) (cR lf 16) := cHi_is hi8 rfl rfl t8 (c3_is hc)
theorem c5_is : Is (c5 c : S128x256.Idx → EReal) (cR lf 32) := cHi_is hi16 rfl rfl t16 (c4_is hc)
theorem c6_is : Is (c6 c : S128x256.Idx → EReal) (cR lf 64) := cHi_is hi32 rfl rfl t32 (c5_is hc)
theorem c7_is : Is (c7 c : S128x256.Idx → EReal) (fun t e => C lf e (t + 1)) :=
  Is.congr (cHi_is hi64 rfl rfl t64 (c6_is hc)) fun t ht e _ => by
    show C lf e (t + 1) - C lf e (t - t % (2 * 64)) = _
    rw [show t - t % (2 * 64) = 0 by omega, show C lf e 0 = 0 from run_zero _ _, sub_zero]

variable (hq : Is (q' : S128x256.Idx → EReal) q) (hk : Is (k' : S128x256.Idx → EReal) k) (hlv : LvOK lv)
include hq hk
theorem z0_is : Is (z0 q' k' c : S128x256.Idx → EReal) (zR lf q k 1) := zLo_is bits1 (Or.inl rfl) hq hk (b1_is hc) (T1_is hc)
theorem z1_is : Is (z1 q' k' c : S128x256.Idx → EReal) (zR lf q k 2) :=
  zLo_is bits2 (Or.inr (Or.inl rfl)) hq hk (to8_is (c1_is hc)) (T2_is hc)
theorem z2_is : Is (z2 q' k' c : S128x256.Idx → EReal) (zR lf q k 4) :=
  zLo_is bits4 (Or.inr (Or.inr rfl)) hq hk (to8_is (c2_is hc)) (T4_is hc)
include hlv

/-- Every earlier token of the chunk has its score, and no other. -/
theorem att7_is : Is (att7 lv lv lv lv lv lv lv q' k' c : S128x256.Idx → EReal)
    (fun t i => if i % 128 < t then E lf q k t i else 0) := by
  have a1 : Is (att1 lv q' k' c : S128x256.Idx → EReal) _ := pLo_is (n := 0) t1 (z0_is hc hq hk) (hlv 0 (by omega))
  have a2 : Is (att2 lv lv q' k' c : S128x256.Idx → EReal) _ := Is.add a1 (pLo_is (n := 1) t2 (z1_is hc hq hk) (hlv 1 (by omega)))
  have a3 : Is (att3 lv lv lv q' k' c : S128x256.Idx → EReal) _ := Is.add a2 (pLo_is (n := 2) t4 (z2_is hc hq hk) (hlv 2 (by omega)))
  have a4 : Is (att4 lv lv lv lv q' k' c : S128x256.Idx → EReal) _ :=
    attHi_is hi8 (n := 3) rfl rfl t8 hq hk (c3_is hc) a3 (hlv 3 (by omega))
  have a5 : Is (att5 lv lv lv lv lv q' k' c : S128x256.Idx → EReal) _ :=
    attHi_is hi16 (n := 4) rfl rfl t16 hq hk (c4_is hc) a4 (hlv 4 (by omega))
  have a6 : Is (att6 lv lv lv lv lv lv q' k' c : S128x256.Idx → EReal) _ :=
    attHi_is hi32 (n := 5) rfl rfl t32 hq hk (c5_is hc) a5 (hlv 5 (by omega))
  have a7 : Is (att7 lv lv lv lv lv lv lv q' k' c : S128x256.Idx → EReal) _ :=
    attHi_is hi64 (n := 6) rfl rfl t64 hq hk (c6_is hc) a6 (hlv 6 (by omega))
  refine a7.congr fun t ht i hi => ?_
  have h := masks t ht (i % 128) (Nat.mod_lt _ (by omega))
  have hE : ∀ m, (if mask m t (i % 128) then E lf q k t i else 0) = E lf q k t i * (((if mask m t (i % 128) then 1 else 0) : ℕ) : ℝ) := by
    intro m; split <;> simp
  simp only [hE]
  rw [← mul_add, ← mul_add, ← mul_add, ← mul_add, ← mul_add, ← mul_add]
  rw [← Nat.cast_add, ← Nat.cast_add, ← Nat.cast_add, ← Nat.cast_add, ← Nat.cast_add, ← Nat.cast_add, h]
  split <;> simp
end decays

theorem total_is {f : ℕ → ℕ → ℝ} (hc : Is (c : S128x256.Idx → EReal) f) : Is (total c : S128x256.Idx → EReal) (fun _ e => f 127 e) := by
  intro t e
  unfold total
  rw [broadcastTo_apply _ broadcasts_S1x256_S128x256 (ix2 t e) (ix2 0 e) (by
      intro d; match d with
      | ⟨0, _⟩ => rfl
      | ⟨1, _⟩ => rfl),
    shapeCast_apply _ shapeCasts_S1x256_S1x256 (ix2 0 e) (ix2 0 e) rfl,
    extractStridedSlice_apply ![127, 0] _ slices_S128x256_o127_0_S1x256 (ix2 0 e) (ix2 (n0 := 128) (n1 := 256) ⟨127, by omega⟩ e) (by
      intro d; match d with
      | ⟨0, _⟩ => rfl
      | ⟨1, _⟩ => exact (Nat.zero_add _).symm)]
  exact hc _ _

theorem tn_is {a b : FVec Ideal S128x128 .bf16} {f g : ℕ → ℕ → ℝ} (ha : Is (a : S128x128.Idx → EReal) f) (hb : Is (b : S128x128.Idx → EReal) g) :
    Is (tn a b : S128x128.Idx → EReal) (fun x e => ∑ j ∈ Finset.range 128, f j x * g j e) := by
  intro x e
  have hr : dot_S128x128_S128x128_S128x128_0_0_1_1_n_n.contr.rank = 1 := rfl
  have hz : dot_S128x128_S128x128_S128x128_0_0_1_1_n_n.contr.size ⟨0, by rw [hr]; exact Nat.one_pos⟩ = 128 := rfl
  show FloatOps.matmul dot_S128x128_S128x128_S128x128_0_0_1_1_n_n none a b (constant S128x128 .f32 0x00000000#32) (ix2 x e) = _
  rw [Ideal.matmul_apply, ← Equiv.sum_comp (contrEquiv1 _ 128 hr hz).symm,
    show (constant (F := Ideal) S128x128 .f32 0x00000000#32 (ix2 x e) : EReal) = 0 from zero32, zero_add]
  show _ = ((∑ j ∈ Finset.range 128, f j x * g j e : ℝ) : EReal)
  rw [← Fin.sum_univ_eq_sum_range (fun j => f j x * g j e), coe_sum]
  refine Finset.sum_congr rfl fun k _ => ?_
  have hk := contrEquiv1_symm_val _ 128 hr hz k
  have el : dot_S128x128_S128x128_S128x128_0_0_1_1_n_n.lhsIdx (ix2 x e) ((contrEquiv1 _ 128 hr hz).symm k) = ix2 k x := by
    funext d; apply Fin.ext
    match d with
    | ⟨0, _⟩ => exact hk
    | ⟨1, _⟩ => rfl
  have er : dot_S128x128_S128x128_S128x128_0_0_1_1_n_n.rhsIdx (ix2 x e) ((contrEquiv1 _ 128 hr hz).symm k) = ix2 k e := by
    funext d; apply Fin.ext
    match d with
    | ⟨0, _⟩ => exact hk
    | ⟨1, _⟩ => rfl
  rw [el, er, ha, hb, EReal.coe_mul]

theorem left_is {x : FVec Ideal S128x256 .bf16} {f : ℕ → ℕ → ℝ} (hx : Is (x : S128x256.Idx → EReal) f) : Is (left x : S128x128.Idx → EReal) f := by
  intro t e
  unfold left
  rw [extractStridedSlice_apply ![0, 0] _ slices_S128x256_o0_0_S128x128 (ix2 t e) (ix2 (n0 := 128) (n1 := 256) t ⟨e.val, by omega⟩) (by
      intro d; match d with
      | ⟨0, _⟩ => exact (Nat.zero_add _).symm
      | ⟨1, _⟩ => exact (Nat.zero_add _).symm)]
  exact hx _ _
theorem right_is {x : FVec Ideal S128x256 .bf16} {f : ℕ → ℕ → ℝ} (hx : Is (x : S128x256.Idx → EReal) f) :
    Is (right x : S128x128.Idx → EReal) (fun t e => f t (128 + e)) := by
  intro t e
  unfold right
  rw [extractStridedSlice_apply ![0, 128] _ slices_S128x256_o0_128_S128x128 (ix2 t e) (ix2 (n0 := 128) (n1 := 256) t ⟨128 + e.val, by omega⟩) (by
      intro d; match d with
      | ⟨0, _⟩ => exact (Nat.zero_add _).symm
      | ⟨1, _⟩ => rfl)]
  exact hx _ _

theorem cat_is {a b : FVec Ideal S128x128 .f32} {f : ℕ → ℕ → ℝ} (ha : Is (a : S128x128.Idx → EReal) f)
    (hb : Is (b : S128x128.Idx → EReal) (fun t e => f t (128 + e))) :
    Is (concatenate S128x256 1 [⟨S128x128, a⟩, ⟨S128x128, b⟩] concatenates_S128x128_S128x128_S128x256_d1 : S128x256.Idx → EReal) f := by
  intro t e
  by_cases h2 : e.val < 128
  · rw [concatenate_pair_apply_left (t := S128x256) (s₁ := S128x128) (s₂ := S128x128) 1 _ _ _ _ rfl (ix2 (n0 := 128) (n1 := 128) t ⟨e.val, h2⟩) (by
      intro d; match d with
      | ⟨0, _⟩ => rfl
      | ⟨1, _⟩ => rfl)]
    exact ha _ _
  · rw [concatenate_pair_apply_right (t := S128x256) (s₁ := S128x128) (s₂ := S128x128) 1 _ _ _ _ rfl rfl (ix2 (n0 := 128) (n1 := 128) t ⟨e.val - 128, by omega⟩) (by
      intro d hd; match d with
      | ⟨0, _⟩ => rfl
      | ⟨1, _⟩ => exact absurd rfl hd) (by show e.val - 128 + 128 = e.val; omega)]
    refine (hb _ _).trans ?_
    simp only
    rw [show 128 + (e.val - 128) = e.val by omega]
end

/-! The chunk of the recurrence that starts at token `s`. -/
section chunk
variable (s : ℕ) (Q K F V : ℕ → ℕ → ℝ)

/-- The logarithm of the decay. -/
def LF (t e : ℕ) : ℝ := Real.log (F t e)
/-- The state of the pair before token `s`: row `x` is a value channel, column `128 i + e` key channel `e` of head `i`. -/
def St (x c : ℕ) : ℝ := state (fun t => F t c) (fun t => K t c) (fun t => V t (128 * (c / 128) + x)) s
/-- What token `t` reads out at column `c`. -/
def O (t c : ℕ) : ℝ := ∑ e ∈ Finset.range 128, Q t (128 * (c / 128) + e) * St (t + 1) K F V (c % 128) (128 * (c / 128) + e)

theorem C_shift (e n : ℕ) : C (fun t e => LF F (s + t) e) e n = run (fun i => Real.log (F i e)) s n := by
  unfold C run LF
  exact Finset.sum_congr rfl fun i _ => by rw [Nat.zero_add]

variable {s Q K F V} (hF : ∀ t e, 0 < F t e) {lv : IVec S128x256 32} {q' k' c v' s' : V2}
  (hq : Is (q' : S128x256.Idx → EReal) (fun t e => Q (s + t) e)) (hk : Is (k' : S128x256.Idx → EReal) (fun t e => K (s + t) e))
  (hc : Is (c : S128x256.Idx → EReal) (fun t e => LF F (s + t) e)) (hv : Is (v' : S128x256.Idx → EReal) (fun t e => V (s + t) e))
  (hs : Is (s' : S128x256.Idx → EReal) (St s K F V)) (hlv : LvOK lv)

include hF hk hc hv hs in
theorem newState_is : Is (newState k' v' (c7 c) s' : S128x256.Idx → EReal) (St (s + 128) K F V) := by
  have h7 := c7_is hc
  have hT := total_is h7
  have hke : Is (ke k' (c7 c) : S128x256.Idx → EReal) (fun t e => K (s + t) e * Real.exp (
      C (fun t e => LF F (s + t) e) e 128 - C (fun t e => LF F (s + t) e) e (t + 1))) := by
    refine Is.mul hk (Is.exp (x := subf (total (c7 c)) (c7 c)) ?_)
    intro t e
    show (total (c7 c) (ix2 t e) : EReal) - c7 c (ix2 t e) = _
    rw [hT, h7, ← EReal.coe_sub]
  have hcat := cat_is (f := fun x cc => ∑ j ∈ Finset.range 128, V (s + j) (128 * (cc / 128) + x) * (K (s + j) cc * Real.exp (
      C (fun t e => LF F (s + t) e) cc 128 - C (fun t e => LF F (s + t) e) cc (j + 1))))
    ((tn_is (left_is (x := truncf .bf16 v' bitsLt_bf16_f32) hv) (left_is hke)).congr fun x hx e he => by
      rw [show e / 128 = 0 by omega]; simp)
    ((tn_is (right_is (x := truncf .bf16 v' bitsLt_bf16_f32) hv) (right_is hke)).congr fun x hx e he => by
      rw [show (128 + e) / 128 = 1 by omega])
  refine Is.congr (Is.add (Is.mul hs (Is.exp hT)) hcat) fun x hx cc hcc => ?_
  unfold St
  rw [state_add _ _ _ (fun t => hF t cc), mul_comm]
  simp only [C_shift]
  congr 1
  exact Finset.sum_congr rfl fun j _ => by ring

include hF hq hk hc hv hs hlv in
/-- The read-out before the token's own term is added. -/
theorem outp_is : Is (outp q' v' (att7 lv lv lv lv lv lv lv q' k' c) (c7 c) s' : S128x256.Idx → EReal)
    (fun t cc => O Q K F V (s + t) cc
      - (∑ e ∈ Finset.range 128, Q (s + t) (128 * (cc / 128) + e) * K (s + t) (128 * (cc / 128) + e)) * V (s + t) cc) := by
  have h7 := c7_is hc
  have ha := att7_is hc hq hk hlv
  have h1 := nn_is (a := truncf .bf16 (att7 lv lv lv lv lv lv lv q' k' c) bitsLt_bf16_f32) (z := truncf .bf16 v' bitsLt_bf16_f32) ha hv
  have h2 := nt_is (a := truncf .bf16 (mulf q' (Idealize.ShloMosaic.exp (c7 c))) bitsLt_bf16_f32) (z := truncf .bf16 s' bitsLt_bf16_f32)
    (Is.mul hq (Is.exp h7)) hs
  refine Is.congr (Is.add h1 h2) fun t ht cc hcc => ?_
  have hr := readout 128 128 (fun e t => Q t (128 * (cc / 128) + e)) (fun e t => F t (128 * (cc / 128) + e))
    (fun e t => K t (128 * (cc / 128) + e)) (fun t => V t cc) (fun e t => hF t _) s t ht
  have hO : O Q K F V (s + t) cc = ∑ e ∈ Finset.range 128, Q (s + t) (128 * (cc / 128) + e)
      * state (fun t => F t (128 * (cc / 128) + e)) (fun t => K t (128 * (cc / 128) + e)) (fun t => V t cc) (s + t + 1) := by
    unfold O St
    refine Finset.sum_congr rfl fun e he => ?_
    rw [Finset.mem_range] at he
    rw [show 128 * ((128 * (cc / 128) + e) / 128) + cc % 128 = cc by omega]
  rw [hO, hr, add_sub_cancel_right]
  congr 1
  · refine Finset.sum_congr rfl fun j hj => ?_
    rw [Finset.mem_range] at hj
    rw [show (128 * (cc / 128) + j) % 128 = j by omega]
    congr 1
    split
    · unfold E
      rw [show (128 * (cc / 128) + j) / 128 = cc / 128 by omega, show (128 * (cc / 128) + j) % 128 = j by omega]
      simp only [C_shift]
    · rfl
  · refine Finset.sum_congr rfl fun e he => ?_
    rw [Finset.mem_range] at he
    simp only [C_shift]
    unfold St
    rw [show 128 * ((128 * (cc / 128) + e) / 128) + cc % 128 = cc by omega]
end chunk

end Cert.Pair
-- ==== Proof.PairOut.lean ====
/- What the pair of heads computes from real inputs, as real numbers: the lower bound of the decay, the key, the decay,
   the state it stores and the normalised, gated read-out it stores. -/
module

public import proofs.«01_k».proof.Proof.PairSum

@[expose] public section

set_option maxRecDepth 16384

noncomputable section

namespace Cert.Pair

open Idealize.ShloMosaic Idealize.ShloMosaic.ValueIdx Cert.KernelIdeal Cert.KernelIdeal.Gen Cert.Hgrn

/-! The constants. -/

/-- The number added to a mean square before its root is taken. -/
def eps : ℝ := (Scalar.ofBits (F := Ideal) .f32 0x358637BD#32 : EReal).toReal
theorem eps_pos_coe : (Scalar.ofBits (F := Ideal) .f32 0x358637BD#32 : EReal) = ((eps : ℝ) : EReal) ∧ 0 < eps := by
  have h : ∃ r : ℝ, 0 < r ∧ (Scalar.ofBits (F := Ideal) .f32 0x358637BD#32 : EReal) = (r : EReal) := by
    refine ⟨8796093 / 2 ^ 43, by norm_num, ?_⟩
    show Ideal.ofBits .f32 0x358637BD#32 = _
    simp [Ideal.ofBits, Ideal.ieee, -EReal.coe_mul]; norm_num
  obtain ⟨r, hr, he⟩ := h
  unfold eps
  rw [he, EReal.toReal_coe]
  exact ⟨rfl, hr⟩
theorem eps_coe : (Scalar.ofBits (F := Ideal) .f32 0x358637BD#32 : EReal) = ((eps : ℝ) : EReal) := eps_pos_coe.1
theorem eps_pos : 0 < eps := eps_pos_coe.2
theorem n128 : (Scalar.ofBits (F := Ideal) .f32 0x43000000#32 : EReal) = ((128 : ℝ) : EReal) := by
  show Ideal.ofBits .f32 0x43000000#32 = _
  simp [Ideal.ofBits, Ideal.ieee, -EReal.coe_mul]; norm_num
theorem n2048 : (Scalar.ofBits (F := Ideal) .f32 0x45000000#32 : EReal) = ((2048 : ℝ) : EReal) := by
  show Ideal.ofBits .f32 0x45000000#32 = _
  simp [Ideal.ofBits, Ideal.ieee, -EReal.coe_mul]; norm_num
theorem one32 : (Scalar.ofBits (F := Ideal) .f32 0x3F800000#32 : EReal) = ((1 : ℝ) : EReal) := Ideal.ofBits_one_f32

/-- The logistic function. -/
def sg (x : ℝ) : ℝ := (1 + Real.exp (-x))⁻¹
theorem sg_pos (x : ℝ) : 0 < sg x := by unfold sg; positivity
theorem div_real {x y : ℝ} (h : y ≠ 0) : Ideal.div (x : EReal) (y : EReal) = ((x / y : ℝ) : EReal) := by
  rw [Ideal.div_coe h, ← EReal.coe_mul, mul_one_div]
theorem sg_coe (x : ℝ) : Ideal.div ((1 : ℝ) : EReal) (((1 : ℝ) : EReal) + Ideal.exp (0 - (x : EReal))) = ((sg x : ℝ) : EReal) := by
  rw [zero_sub, ← EReal.coe_neg, Ideal.exp_coe, ← EReal.coe_add, div_real (by positivity)]
  unfold sg; rw [one_div]

/-- The reciprocal root of a mean square over `n` numbers whose squares sum to `x`. -/
def rt (n x : ℝ) : ℝ := (Real.sqrt (x / n + eps))⁻¹
theorem rt_coe {n x : ℝ} (hn : 0 < n) (hx : 0 ≤ x) :
    Ideal.rsqrt (Ideal.div (x : EReal) (n : EReal) + ((eps : ℝ) : EReal)) = ((rt n x : ℝ) : EReal) := by
  have h : 0 < x / n + eps := by have := eps_pos; positivity
  rw [div_real hn.ne', ← EReal.coe_add, Ideal.rsqrt_coe, if_neg (not_lt.2 h.le), if_neg h.ne']
  rfl

section
variable {f : ℕ → ℕ → ℝ}

theorem sigm_is {x : V2} (hx : Is (x : S128x256.Idx → EReal) f) : Is (sigm x : S128x256.Idx → EReal) (fun t e => sg (f t e)) := by
  intro t e
  show Ideal.div (Scalar.ofBits (F := Ideal) .f32 0x3F800000#32 : EReal) ((Scalar.ofBits (F := Ideal) .f32 0x3F800000#32 : EReal)
    + Ideal.exp ((Scalar.ofBits (F := Ideal) .f32 0x00000000#32 : EReal) - x (ix2 t e))) = _
  rw [one32, zero32, hx t e, sg_coe]

variable {lb : FVec Ideal S1x256 .f32} {L : ℕ → ℝ}

/-- A row held by an array. -/
abbrev IsRow {w : ℕ} (x : (⟨2, ![1, w]⟩ : Shape).Idx → EReal) (L : ℕ → ℝ) : Prop := Is x fun _ e => L e

theorem row_bc {x : FVec Ideal S1x256 .f32} (hx : IsRow (x : S1x256.Idx → EReal) L) :
    Is (broadcastTo S128x256 x broadcasts_S1x256_S128x256 : S128x256.Idx → EReal) fun _ e => L e := by
  intro t e
  rw [broadcastTo_apply _ broadcasts_S1x256_S128x256 (ix2 t e) (ix2 0 e) (by
      intro d; match d with
      | ⟨0, _⟩ => rfl
      | ⟨1, _⟩ => rfl)]
  exact hx 0 e

theorem oneSub_is (hl : IsRow (lb : S1x256.Idx → EReal) L) : IsRow (oneSub lb : S1x256.Idx → EReal) fun e => 1 - L e := by
  intro t e
  show (Scalar.ofBits (F := Ideal) .f32 0x3F800000#32 : EReal) - lb (ix2 t e) = _
  rw [one32, hl t e, ← EReal.coe_sub]

theorem key_is (hl : IsRow (lb : S1x256.Idx → EReal) L) {x : V2} (hx : Is (x : S128x256.Idx → EReal) f) :
    Is (key lb x : S128x256.Idx → EReal) fun t e => (1 - L e) * sg (-f t e) := by
  refine Is.mul (row_bc (oneSub_is hl)) (sigm_is (x := subf (broadcast S128x256 (Scalar.ofBits (F := Ideal) .f32 0x00000000#32)) x) ?_)
  intro t e
  show (Scalar.ofBits (F := Ideal) .f32 0x00000000#32 : EReal) - x (ix2 t e) = _
  rw [zero32, hx t e, zero_sub, ← EReal.coe_neg]

theorem logDecay_is (hl : IsRow (lb : S1x256.Idx → EReal) L) (h0 : ∀ e, 0 < L e) (h1 : ∀ e, L e < 1) {x : V2}
    (hx : Is (x : S128x256.Idx → EReal) f) :
    Is (logDecay lb x : S128x256.Idx → EReal) fun t e => Real.log (L e + (1 - L e) * sg (f t e)) := by
  intro t e
  have h := Is.add (row_bc hl) (Is.mul (row_bc (oneSub_is hl)) (sigm_is hx)) t e
  show Ideal.log (broadcastTo S128x256 lb broadcasts_S1x256_S128x256 (ix2 t e) +
    broadcastTo S128x256 (oneSub lb) broadcasts_S1x256_S128x256 (ix2 t e) * sigm x (ix2 t e)) = _
  refine (congrArg Ideal.log h).trans ?_
  have hp : 0 < L e.val + (1 - L e.val) * sg (f t.val e.val) := by
    have := sg_pos (f t.val e.val); have := h0 e.val; have : 0 < 1 - L e.val := by linarith [h1 e.val]
    positivity
  rw [Ideal.log_coe, if_neg (not_le.2 hp)]
end

/-! The two stored heads. -/
section
variable {o qk v g : V1} {nw : FVec Ideal S1x128 .f32} {fo fq fv fg : ℕ → ℕ → ℝ} {N : ℕ → ℝ}

theorem rowSum_is {x : V1} (hx : Is (x : S128x128.Idx → EReal) fo) :
    Is (rowSum x : S128x1.Idx → EReal) fun t _ => ∑ e ∈ Finset.range 128, fo t e := by
  intro t z
  unfold rowSum
  rw [shapeCast_apply _ shapeCasts_S128_S128x1 (ix2 t z) (ix1 t) (by
      rw [Shape.rowMajor_val_two, Shape.rowMajor_val_one]
      show t.val = t.val * 1 + z.val
      omega)]
  refine (Ideal.multiReduction_add_single x _ _ _ _ _).trans ?_
  show _ = ((∑ e ∈ Finset.range 128, fo t.val e : ℝ) : EReal)
  rw [← Fin.sum_univ_eq_sum_range (fun e => fo t.val e), coe_sum]
  refine Finset.sum_congr rfl fun k _ => ?_
  refine Eq.trans (congrArg x ?_) (hx t k)
  funext d; apply Fin.ext
  match d with
  | ⟨0, _⟩ => rfl
  | ⟨1, _⟩ => rfl

theorem col_bc {x : FVec Ideal S128x1 .f32} {r : ℕ → ℝ} (hx : Is (x : S128x1.Idx → EReal) fun t _ => r t) :
    Is (broadcastTo S128x128 x broadcasts_S128x1_S128x128 : S128x128.Idx → EReal) fun t _ => r t := by
  intro t e
  rw [broadcastTo_apply _ broadcasts_S128x1_S128x128 (ix2 t e) (ix2 t 0) (by
      intro d; match d with
      | ⟨0, _⟩ => rfl
      | ⟨1, _⟩ => rfl)]
  exact hx t 0
theorem row_bc1 {x : FVec Ideal S1x128 .f32} (hx : IsRow (x : S1x128.Idx → EReal) N) :
    Is (broadcastTo S128x128 x broadcasts_S1x128_S128x128 : S128x128.Idx → EReal) fun _ e => N e := by
  intro t e
  rw [broadcastTo_apply _ broadcasts_S1x128_S128x128 (ix2 t e) (ix2 0 e) (by
      intro d; match d with
      | ⟨0, _⟩ => rfl
      | ⟨1, _⟩ => rfl)]
  exact hx 0 e

theorem rms_is {x : V1} (hx : Is (x : S128x128.Idx → EReal) fo) :
    Is (rms x : S128x1.Idx → EReal) fun t _ => rt 128 (∑ e ∈ Finset.range 128, fo t e * fo t e) := by
  intro t z
  have h := rowSum_is (Is.mul hx hx) t z
  show Ideal.rsqrt (Ideal.div (rowSum (mulf x x) (ix2 t z)) (Scalar.ofBits (F := Ideal) .f32 0x43000000#32 : EReal)
    + (Scalar.ofBits (F := Ideal) .f32 0x358637BD#32 : EReal)) = _
  refine (congrArg (fun y => Ideal.rsqrt (Ideal.div y _ + _)) h).trans ?_
  rw [n128, eps_coe]
  exact rt_coe (by norm_num) (Finset.sum_nonneg fun e _ => mul_self_nonneg _)

theorem headOut_is (ho : Is (o : S128x128.Idx → EReal) fo) (hq : Is (qk : S128x128.Idx → EReal) fq)
    (hv : Is (v : S128x128.Idx → EReal) fv) (hn : IsRow (nw : S1x128.Idx → EReal) N) (hg : Is (g : S128x128.Idx → EReal) fg)
    {h : ℕ → ℕ → ℝ} (hh : ∀ t < 128, ∀ e < 128, fo t e + (∑ i ∈ Finset.range 128, fq t i) * fv t e = h t e) :
    Is (headOut o qk v nw g : S128x128.Idx → EReal)
      fun t e => h t e * rt 128 (∑ i ∈ Finset.range 128, h t i * h t i) * N e * fg t e := by
  have h1 : Is (oneHead o qk v : S128x128.Idx → EReal) h :=
    Is.congr (Is.add ho (Is.mul (col_bc (rowSum_is hq)) hv)) hh
  exact Is.mul (Is.mul (Is.mul h1 (col_bc (rms_is h1))) (row_bc1 hn)) hg
end

section
variable {f : ℕ → ℕ → ℝ}
theorem lft_is {x : V2} (hx : Is (x : S128x256.Idx → EReal) f) : Is (lft x : S128x128.Idx → EReal) f := left_is (x := x) hx
theorem rgt_is {x : V2} (hx : Is (x : S128x256.Idx → EReal) f) : Is (rgt x : S128x128.Idx → EReal) (fun t e => f t (128 + e)) :=
  right_is (x := x) hx
theorem silu_is {x : V2} (hx : Is (x : S128x256.Idx → EReal) f) :
    Is (silu x : S128x256.Idx → EReal) fun t e => f t e * sg (f t e) := Is.mul hx (sigm_is hx)
end

/-! A chunk of the pair, from the numbers it is given. -/
section
variable (L : ℕ → ℝ) (Q Fp V G : ℕ → ℕ → ℝ) (N : ℕ → ℝ)

/-- The decay and the key. -/
def decR (t e : ℕ) : ℝ := L e + (1 - L e) * sg (Fp t e)
def keyR (t e : ℕ) : ℝ := (1 - L e) * sg (-Fp t e)
/-- The read-out, the state, and the value stored. -/
def oR (t c : ℕ) : ℝ := O Q (keyR L Fp) (decR L Fp) V t c
def stR (s x c : ℕ) : ℝ := St s (keyR L Fp) (decR L Fp) V x c
def yR (t c : ℕ) : ℝ :=
  oR L Q Fp V t c * rt 128 (∑ i ∈ Finset.range 128, oR L Q Fp V t (128 * (c / 128) + i) * oR L Q Fp V t (128 * (c / 128) + i))
    * N c * (G t c * sg (G t c))

variable {L Q Fp V G N} {s : ℕ} (h0 : ∀ e, 0 < L e) (h1 : ∀ e, L e < 1)
  {lb : FVec Ideal S1x256 .f32} {lv : Vec Ideal S128x256 .i32} {q f v g st : V2} {nw : Vec Ideal S1x256 .f32}
  (hl : IsRow (lb : S1x256.Idx → EReal) L) (hlv : LvOK lv)
  (hq : Is (q : S128x256.Idx → EReal) (fun t e => Q (s + t) e)) (hf : Is (f : S128x256.Idx → EReal) (fun t e => Fp (s + t) e))
  (hv : Is (v : S128x256.Idx → EReal) (fun t e => V (s + t) e)) (hg : Is (g : S128x256.Idx → EReal) (fun t e => G (s + t) e))
  (hst : Is (st : S128x256.Idx → EReal) (stR L Fp V s)) (hn : IsRow (nw : S1x256.Idx → EReal) N)

include h0 h1 in
theorem dec_pos (t e : ℕ) : 0 < decR L Fp t e := by
  unfold decR
  have := sg_pos (Fp t e); have := h0 e; have : 0 < 1 - L e := by linarith [h1 e]
  positivity

include h0 h1 hl hf hv hst in
theorem stStore_is (x : Fin 128) (c : Fin 256) :
    (stStore lb f v st (ix3 0 x c) : EReal) = ((stR L Fp V (s + 128) x.val c.val : ℝ) : EReal) := by
  unfold stStore
  rw [shapeCast_apply _ shapeCasts_S128x256_S1x128x256 (ix3 0 x c) (ix2 x c) (by
      rw [Shape.rowMajor_val_two, Shape.rowMajor_val_three]
      show x.val * 256 + c.val = (0 * 128 + x.val) * 256 + c.val
      ring)]
  exact newState_is (dec_pos h0 h1) (key_is hl hf) (logDecay_is hl h0 h1 hf) hv hst x c

include h0 h1 hl hlv hq hf hv hst in
theorem oOf_is : Is (oOf lb lv q f v st : S128x256.Idx → EReal) (fun t cc => oR L Q Fp V (s + t) cc
      - (∑ e ∈ Finset.range 128, Q (s + t) (128 * (cc / 128) + e) * keyR L Fp (s + t) (128 * (cc / 128) + e)) * V (s + t) cc) :=
  outp_is (dec_pos h0 h1) hq (key_is hl hf) (logDecay_is hl h0 h1 hf) hv hst hlv

include hn in
theorem nw0_is : IsRow (extractStridedSlice S1x128 ![0, 0] (shapeCast S1x256 nw shapeCasts_S1x256_S1x256) slices_S1x256_o0_0_S1x128 : S1x128.Idx → EReal) N := by
  intro z e
  rw [extractStridedSlice_apply ![0, 0] _ slices_S1x256_o0_0_S1x128 (ix2 z e) (ix2 (n0 := 1) (n1 := 256) z ⟨e.val, by omega⟩) (by
      intro d; match d with
      | ⟨0, _⟩ => exact (Nat.zero_add _).symm
      | ⟨1, _⟩ => exact (Nat.zero_add _).symm),
    shapeCast_apply _ shapeCasts_S1x256_S1x256 _ _ rfl]
  exact hn _ _
include hn in
theorem nw1_is : IsRow (extractStridedSlice S1x128 ![0, 128] (shapeCast S1x256 nw shapeCasts_S1x256_S1x256) slices_S1x256_o0_128_S1x128 : S1x128.Idx → EReal)
    fun e => N (128 + e) := by
  intro z e
  rw [extractStridedSlice_apply ![0, 128] _ slices_S1x256_o0_128_S1x128 (ix2 z e) (ix2 (n0 := 1) (n1 := 256) z ⟨128 + e.val, by omega⟩) (by
      intro d; match d with
      | ⟨0, _⟩ => exact (Nat.zero_add _).symm
      | ⟨1, _⟩ => rfl),
    shapeCast_apply _ shapeCasts_S1x256_S1x256 _ _ rfl]
  exact hn _ _

include h0 h1 hl hlv hq hf hv hg hst hn in
theorem yStore0_is : Is (yStore0 lb lv q f v g st nw : S128x128.Idx → EReal) fun t x => yR L Q Fp V G N (s + t) x := by
  have ho := oOf_is h0 h1 hl hlv hq hf hv hst
  have hk := key_is hl hf
  refine Is.congr (headOut_is (lft_is ho) (lft_is (x := mulf q (key lb f)) (Is.mul hq hk)) (lft_is hv) (nw0_is hn) (lft_is (silu_is hg))
    (h := fun t e => oR L Q Fp V (s + t) e) ?_) ?_
  · intro t _ e he
    rw [show e / 128 = 0 by omega]
    simp only [Nat.mul_zero, Nat.zero_add]
    show _ - _ + (∑ i ∈ Finset.range 128, Q (s + t) i * keyR L Fp (s + t) i) * _ = _
    rw [sub_add_cancel]
  · intro t _ e he
    unfold yR
    rw [show e / 128 = 0 by omega]
    simp only [Nat.mul_zero, Nat.zero_add]

include h0 h1 hl hlv hq hf hv hg hst hn in
theorem yStore1_is : Is (yStore1 lb lv q f v g st nw : S128x128.Idx → EReal) fun t x => yR L Q Fp V G N (s + t) (128 + x) := by
  have ho := oOf_is h0 h1 hl hlv hq hf hv hst
  have hk := key_is hl hf
  refine Is.congr (headOut_is (rgt_is ho) (rgt_is (x := mulf q (key lb f)) (Is.mul hq hk)) (rgt_is hv) (nw1_is hn) (rgt_is (silu_is hg))
    (h := fun t e => oR L Q Fp V (s + t) (128 + e)) ?_) ?_
  · intro t _ e he
    rw [show (128 + e) / 128 = 1 by omega]
    simp only [Nat.mul_one]
    show _ - _ + (∑ i ∈ Finset.range 128, Q (s + t) (128 + i) * keyR L Fp (s + t) (128 + i)) * _ = _
    rw [sub_add_cancel]
  · intro t _ e he
    unfold yR
    rw [show (128 + e) / 128 = 1 by omega]
end

/-! The lower bound of the decay. -/

/-- The first row of the softmax over the two rows. -/
def lbR (w : ℕ → ℕ → ℝ) (c : ℕ) : ℝ := Real.exp (w 0 c - max (w 0 c) (w 1 c))
  / (Real.exp (w 0 c - max (w 0 c) (w 1 c)) + Real.exp (w 1 c - max (w 0 c) (w 1 c)))
theorem lbR_pos (w : ℕ → ℕ → ℝ) (c : ℕ) : 0 < lbR w c := by unfold lbR; positivity
theorem lbR_lt (w : ℕ → ℕ → ℝ) (c : ℕ) : lbR w c < 1 := by
  unfold lbR
  rw [div_lt_one (by positivity)]
  have := Real.exp_pos (w 1 c - max (w 0 c) (w 1 c))
  linarith

theorem fold2 (f : Fin 2 → EReal) : (Finset.univ : Finset (Fin 2)).fold max ⊥ f = max (f 0) (f 1) := by
  rw [show (Finset.univ : Finset (Fin 2)) = {0, 1} by decide, Finset.fold_insert (by decide), Finset.fold_singleton, max_bot_right]

section
variable {w : Vec Ideal S2x1024 .f32} {W : ℕ → ℕ → ℝ} (hw : Is (w : S2x1024.Idx → EReal) W)
include hw

theorem lift2 (c : Fin 1024) (k : Fin 2) : (reduces_S2x1024_S1024 : S2x1024.Reduces [0] S1024).lift (ix1 c) k = ix2 k c := by
  funext d; apply Fin.ext
  match d with
  | ⟨0, _⟩ => rfl
  | ⟨1, _⟩ => rfl

theorem colMax_is (c : Fin 1024) : (multiReduction (F := Ideal) .maximumf [0] S1024 w 0xFF800000#32 reduces_S2x1024_S1024 (.inl rfl) rfl (ix1 c) : EReal)
    = ((max (W 0 c.val) (W 1 c.val) : ℝ) : EReal) := by
  refine (Ideal.multiReduction_maximumf_single w _ _ _ _ _).trans ?_
  have hb : (FloatOps.ofBits (F := Ideal) .f32 0xFF800000#32 : EReal) = ⊥ := by
    show Ideal.ofBits .f32 0xFF800000#32 = _
    simp [Ideal.ofBits, Ideal.ieee]
  rw [hb]
  refine (fold2 _).trans ?_
  show max (w ((reduces_S2x1024_S1024 : S2x1024.Reduces [0] S1024).lift (ix1 c) (0 : Fin 2)))
    (w ((reduces_S2x1024_S1024 : S2x1024.Reduces [0] S1024).lift (ix1 c) (1 : Fin 2))) = _
  rw [lift2 hw c 0, lift2 hw c 1, hw 0 c, hw 1 c]
  exact (EReal.coe_strictMono.monotone.map_max).symm

theorem lexp_is : Is (exp (subf w (broadcastTo S2x1024 (shapeCast S1x1024 (multiReduction (F := Ideal) .maximumf [0] S1024 w 0xFF800000#32 reduces_S2x1024_S1024 (.inl rfl) rfl) shapeCasts_S1024_S1x1024) broadcasts_S1x1024_S2x1024) : FVec Ideal S2x1024 .f32) : S2x1024.Idx → EReal)
    fun l c => Real.exp (W l c - max (W 0 c) (W 1 c)) := by
  intro l c
  show Ideal.exp (w (ix2 l c) - broadcastTo S2x1024 _ broadcasts_S1x1024_S2x1024 (ix2 l c)) = _
  rw [broadcastTo_apply _ broadcasts_S1x1024_S2x1024 (ix2 l c) (ix2 0 c) (by
      intro d; match d with
      | ⟨0, _⟩ => rfl
      | ⟨1, _⟩ => rfl),
    shapeCast_apply _ shapeCasts_S1024_S1x1024 (ix2 0 c) (ix1 c) (by
      rw [Shape.rowMajor_val_two, Shape.rowMajor_val_one]
      show c.val = 0 * 1024 + c.val
      omega), colMax_is hw c, hw l c, ← EReal.coe_sub, Ideal.exp_coe]

theorem lbAll_is : IsRow (lbAll w : S1x1024.Idx → EReal) (lbR W) := by
  intro z c
  have he := lexp_is hw
  unfold lbAll
  have hs : ∀ k : Fin 2, exp (subf w (broadcastTo S2x1024 (shapeCast S1x1024 (multiReduction (F := Ideal) .maximumf [0] S1024 w 0xFF800000#32 reduces_S2x1024_S1024 (.inl rfl) rfl) shapeCasts_S1024_S1x1024) broadcasts_S1x1024_S2x1024) : FVec Ideal S2x1024 .f32)
      ((reduces_S2x1024_S1024 : S2x1024.Reduces [0] S1024).lift (ix1 c) k) = ((Real.exp (W k.val c.val - max (W 0 c.val) (W 1 c.val)) : ℝ) : EReal) := by
    intro k; rw [lift2 hw c k]; exact he k c
  have hsum : (∑ k : Fin 2, exp (subf w (broadcastTo S2x1024 (shapeCast S1x1024 (multiReduction (F := Ideal) .maximumf [0] S1024 w 0xFF800000#32 reduces_S2x1024_S1024 (.inl rfl) rfl) shapeCasts_S1024_S1x1024) broadcasts_S1x1024_S2x1024) : FVec Ideal S2x1024 .f32)
      ((reduces_S2x1024_S1024 : S2x1024.Reduces [0] S1024).lift (ix1 c) k) : EReal)
      = ((Real.exp (W 0 c.val - max (W 0 c.val) (W 1 c.val)) + Real.exp (W 1 c.val - max (W 0 c.val) (W 1 c.val)) : ℝ) : EReal) := by
    rw [Fin.sum_univ_two, hs 0, hs 1, ← EReal.coe_add]; rfl
  refine (congrArg₂ Ideal.div (?_ : _ = ((Real.exp (W 0 c.val - max (W 0 c.val) (W 1 c.val)) : ℝ) : EReal)) (?_ : _ = _)).trans
    (div_real (y := Real.exp (W 0 c.val - max (W 0 c.val) (W 1 c.val)) + Real.exp (W 1 c.val - max (W 0 c.val) (W 1 c.val))) (by positivity))
  · refine (extractStridedSlice_apply ![0, 0] _ slices_S2x1024_o0_0_S1x1024 (ix2 z c) (ix2 (n0 := 2) (n1 := 1024) 0 c) ?_).trans (he 0 c)
    intro d; match d with
    | ⟨0, _⟩ => show 0 = 0 + z.val; omega
    | ⟨1, _⟩ => exact (Nat.zero_add _).symm
  · refine (shapeCast_apply _ shapeCasts_S1024_S1x1024 (ix2 z c) (ix1 c) ?_).trans ((Ideal.multiReduction_add_single _ _ _ _ _ _).trans hsum)
    rw [Shape.rowMajor_val_two, Shape.rowMajor_val_one]
    show c.val = z.val * 1024 + c.val
    omega
end

end Cert.Pair
-- ==== Proof.Tiles.lean ====
/- How the blocks a grid step stores are read back: the thirty-two column tiles of a projection, the four pairs of the state,
   and the sixteen read-outs of a step's output. -/
module

public import proofs.«01_k».proof.Proof.PairOps
public import Idealize.ShloMosaic.Lib.Pipeline.ValueKit.Tiles
public import Idealize.ShloMosaic.Lib.Pipeline.Value
public import Idealize.ShloMosaic.Lib.WholeRead
public import Idealize.ShloMosaic.Lib.Ring
public import proofs.«01_k».proof.Proof.Gen.KernelIdeal.Skeleton
public import Idealize.ShloMosaic.Lib.Pipeline.CanonAppend

@[expose] public section

set_option maxRecDepth 16384

noncomputable section

namespace Cert.Tiles

open Idealize.ShloMosaic Idealize.ShloMosaic.ValueIdx Cert.KernelIdeal Cert.KernelIdeal.Gen Cert.Pair

/-! One store of a family, read back. -/
section
variable {S : Shape} {e : EltTy}

theorem not_mem_of {r : Rect S} {y : S.Idx} (h : ∀ x, r.emb x ≠ y) : y ∉ r.set := fun hy => by
  obtain ⟨x, hx⟩ := r.exists_idx_of_mem hy
  exact h x hx

theorem mem_emb (r : Rect S) (x : r.shape.Idx) : r.emb x ∈ r.set := by
  exact r.toLoadRect.idx_mem x
end

/-! The tiles of a projection. -/

theorem inbT (k : Fin 32) : ∀ a, (![k.val, 0, 0] : Fin 3 → ℕ) a + S1x128x256.size a ≤ S32x128x256.size a := by
  intro a; match a with
  | ⟨0, _⟩ => show k.val + 1 ≤ 32; omega
  | ⟨1, _⟩ => exact Nat.le_refl _
  | ⟨2, _⟩ => exact Nat.le_refl _
theorem inbW (k : Fin 32) : ∀ a, (![k.val, 0, 0] : Fin 3 → ℕ) a + S1x2048x256.size a ≤ S32x2048x256.size a := by
  intro a; match a with
  | ⟨0, _⟩ => show k.val + 1 ≤ 32; omega
  | ⟨1, _⟩ => exact Nat.le_refl _
  | ⟨2, _⟩ => exact Nat.le_refl _
theorem inbS (k : Fin 4) : ∀ a, (![k.val, 0, 0] : Fin 3 → ℕ) a + S1x128x256.size a ≤ S4x128x256.size a := by
  intro a; match a with
  | ⟨0, _⟩ => show k.val + 1 ≤ 4; omega
  | ⟨1, _⟩ => exact Nat.le_refl _
  | ⟨2, _⟩ => exact Nat.le_refl _

abbrev tileRect (k : Fin 32) : Rect S32x128x256 := Rect.unit (s := S32x128x256) ![k.val, 0, 0] S1x128x256.size (inbT k)
abbrev wRect (k : Fin 32) : Rect S32x2048x256 := Rect.unit (s := S32x2048x256) ![k.val, 0, 0] S1x2048x256.size (inbW k)
abbrev stRect (k : Fin 4) : Rect S4x128x256 := Rect.unit (s := S4x128x256) ![k.val, 0, 0] S1x128x256.size (inbS k)

/-- A tile of a projection, a tile of the weights, and a pair of the state. -/
abbrev T3 := S1x128x256.Idx → Elt Ideal .f32
def tile (P : S32x128x256.Idx → Elt Ideal .f32) (k : Fin 32) : T3 := fun x => P (ix3 k (x 1) (x 2))
def wtile (W : S32x2048x256.Idx → Elt Ideal .bf16) (k : Fin 32) : S1x2048x256.Idx → Elt Ideal .bf16 := fun x => W (ix3 k (x 1) (x 2))
def stile (P : S4x128x256.Idx → Elt Ideal .f32) (k : Fin 4) : T3 := fun x => P (ix3 k (x 1) (x 2))
/-- The arrays the tiles make up. -/
def glue (p : Fin 32 → T3) : S32x128x256.Idx → Elt Ideal .f32 := fun i => p (i 0) (ix3 0 (i 1) (i 2))
def sglue (p : Fin 4 → T3) : S4x128x256.Idx → Elt Ideal .f32 := fun i => p (i 0) (ix3 0 (i 1) (i 2))

theorem z3 {b c : ℕ} (x : (⟨3, ![1, b, c]⟩ : Shape).Idx) : ix3 (n0 := 1) (n1 := b) (n2 := c) 0 (x 1) (x 2) = x := by
  funext d; apply Fin.ext
  match d with
  | ⟨0, _⟩ => have := (x 0).isLt; show 0 = (x 0).val; change (x 0).val < 1 at this; omega
  | ⟨1, _⟩ => rfl
  | ⟨2, _⟩ => rfl

theorem tile_glue (p : Fin 32 → T3) : tile (glue p) = p := by
  funext k x; exact congrArg (p k) (z3 x)
theorem stile_glue (p : Fin 4 → T3) : stile (sglue p) = p := by
  funext k x; exact congrArg (p k) (z3 x)

theorem tile_emb (k : Fin 32) (x : (tileRect k).shape.Idx) : (tileRect k).emb x = (ix3 k (x 1) (x 2) : S32x128x256.Idx) := by
  funext d; apply Fin.ext; rw [Rect.emb_apply]
  match d with
  | ⟨0, _⟩ => have := (x 0).isLt; change (x 0).val < 1 at this; show k.val + 1 * (x 0).val = k.val; omega
  | ⟨1, _⟩ => show 0 + 1 * (x 1).val = (x 1).val; omega
  | ⟨2, _⟩ => show 0 + 1 * (x 2).val = (x 2).val; omega
theorem w_emb (k : Fin 32) (x : (wRect k).shape.Idx) : (wRect k).emb x = (ix3 k (x 1) (x 2) : S32x2048x256.Idx) := by
  funext d; apply Fin.ext; rw [Rect.emb_apply]
  match d with
  | ⟨0, _⟩ => have := (x 0).isLt; change (x 0).val < 1 at this; show k.val + 1 * (x 0).val = k.val; omega
  | ⟨1, _⟩ => show 0 + 1 * (x 1).val = (x 1).val; omega
  | ⟨2, _⟩ => show 0 + 1 * (x 2).val = (x 2).val; omega
theorem st_emb (k : Fin 4) (x : (stRect k).shape.Idx) : (stRect k).emb x = (ix3 k (x 1) (x 2) : S4x128x256.Idx) := by
  funext d; apply Fin.ext; rw [Rect.emb_apply]
  match d with
  | ⟨0, _⟩ => have := (x 0).isLt; change (x 0).val < 1 at this; show k.val + 1 * (x 0).val = k.val; omega
  | ⟨1, _⟩ => show 0 + 1 * (x 1).val = (x 1).val; omega
  | ⟨2, _⟩ => show 0 + 1 * (x 2).val = (x 2).val; omega

/-- Thirty-two stores, one a tile. -/
def tl (p : Fin 32 → T3) : List (View.Piece (Elt Ideal) S32x128x256 .f32) := [⟨tileRect 31, p 31⟩, ⟨tileRect 30, p 30⟩, ⟨tileRect 29, p 29⟩, ⟨tileRect 28, p 28⟩, ⟨tileRect 27, p 27⟩, ⟨tileRect 26, p 26⟩, ⟨tileRect 25, p 25⟩, ⟨tileRect 24, p 24⟩, ⟨tileRect 23, p 23⟩, ⟨tileRect 22, p 22⟩, ⟨tileRect 21, p 21⟩, ⟨tileRect 20, p 20⟩, ⟨tileRect 19, p 19⟩, ⟨tileRect 18, p 18⟩, ⟨tileRect 17, p 17⟩, ⟨tileRect 16, p 16⟩, ⟨tileRect 15, p 15⟩, ⟨tileRect 14, p 14⟩, ⟨tileRect 13, p 13⟩, ⟨tileRect 12, p 12⟩, ⟨tileRect 11, p 11⟩, ⟨tileRect 10, p 10⟩, ⟨tileRect 9, p 9⟩, ⟨tileRect 8, p 8⟩, ⟨tileRect 7, p 7⟩, ⟨tileRect 6, p 6⟩, ⟨tileRect 5, p 5⟩, ⟨tileRect 4, p 4⟩, ⟨tileRect 3, p 3⟩, ⟨tileRect 2, p 2⟩, ⟨tileRect 1, p 1⟩, ⟨tileRect 0, p 0⟩]

theorem tl_pieces (p : Fin 32 → T3) : ∀ q ∈ tl p, ∀ x : q.1.shape.Idx, q.2 x = glue p (q.1.emb x) := by
  have h : ∀ k (x : (tileRect k).shape.Idx), p k x = glue p ((tileRect k).emb x) := fun k x => by
    rw [tile_emb]; exact (congrArg (p k) (z3 x)).symm
  intro q hq
  simp only [tl, List.mem_cons, List.not_mem_nil, or_false] at hq
  rcases hq with rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl <;> exact h _
theorem tl_mem (p : Fin 32 → T3) (k : Fin 32) : (⟨tileRect k, p k⟩ : View.Piece (Elt Ideal) S32x128x256 .f32) ∈ tl p := by
  fin_cases k <;> simp [tl]
theorem tl_cover (p : Fin 32 → T3) (y : S32x128x256.Idx) : ∃ q ∈ tl p, y ∈ q.1.set :=
  ⟨_, tl_mem p (y 0), by
    have h := mem_emb (tileRect (y 0)) (ix3 0 (y 1) (y 2))
    have h2 := (tile_emb (y 0) (ix3 0 (y 1) (y 2))).symm
    have e : (ix3 (y 0) (y 1) (y 2) : S32x128x256.Idx) = y := by
      funext d; match d with
      | ⟨0, _⟩ => rfl
      | ⟨1, _⟩ => rfl
      | ⟨2, _⟩ => rfl
    exact (e.symm.trans h2) ▸ h⟩
theorem canon_tl_append (p : Fin 32 → T3) (L : List (View.Piece (Elt Ideal) S32x128x256 .f32)) : View.canon (tl p ++ L) = glue p :=
  funext fun y => View.canon_append_of_pieces (glue p) L (tl p) (tl_pieces p) y (tl_cover p y)
theorem canon_tl (p : Fin 32 → T3) : View.canon (tl p) = glue p :=
  funext fun y => View.canon_apply_of_pieces (glue p) (tl p) (tl_pieces p) y (tl_cover p y)
theorem ld_glue (p : Fin 32 → T3) (k : Fin 32) : (fun j => glue p ((tileRect k).toLoadRect.idx j)) = p k := by
  funext j
  show glue p ((tileRect k).emb j) = _
  rw [tile_emb]; exact congrArg (p k) (z3 j)
theorem tl_read {κ : Kind} {sp : Space} (v : View sig κ sp S32x128x256 .f32) (p : Fin 32 → T3) (k : Fin 32) :
    v.readCov (Val := Elt Ideal) (tl p) (tileRect k).toLoadRect = p k := by
  rw [View.readCov_eq_canon', canon_tl]; exact ld_glue p k

section
variable {κ : Kind} {sp : Space} (v : View sig κ sp S32x128x256 .f32)
theorem tl_hit (k : Fin 32) (w : T3) (L : List (View.Piece (Elt Ideal) S32x128x256 .f32)) :
    v.readCov (Val := Elt Ideal) (⟨tileRect k, w⟩ :: L) (tileRect k).toLoadRect = w := by
  rw [View.readCov_eq_canon']; funext j; exact View.canon_cons_emb (tileRect k) w L j
theorem tl_skip (k a : Fin 32) (hne : a ≠ k) (w : T3) (L : List (View.Piece (Elt Ideal) S32x128x256 .f32)) :
    v.readCov (Val := Elt Ideal) (⟨tileRect a, w⟩ :: L) (tileRect k).toLoadRect = v.readCov (Val := Elt Ideal) L (tileRect k).toLoadRect := by
  rw [View.readCov_eq_canon', View.readCov_eq_canon']; funext j
  refine View.canon_cons_of_not_mem _ L (not_mem_of fun x hx => hne ?_)
  have hx' : (tileRect a).emb x = (tileRect k).emb j := hx
  rw [tile_emb, tile_emb] at hx'
  exact congrFun hx' 0
/-- Tiles stored one after another, in order. -/
theorem tl_loop (p : Fin 32 → T3) (pb : ℕ → List (View.Piece (Elt Ideal) S32x128x256 .f32))
    (hs : ∀ k : Fin 32, pb (k.val + 1) = [⟨tileRect k, p k⟩] ++ pb k.val) (k : Fin 32) :
    v.readCov (Val := Elt Ideal) (pb 32) (tileRect k).toLoadRect = p k := by
  have h : ∀ n, n ≤ 32 → k.val < n → v.readCov (Val := Elt Ideal) (pb n) (tileRect k).toLoadRect = p k := by
    intro n
    induction n with
    | zero => intro _ h; omega
    | succ n ih =>
      intro hn hk
      rw [hs ⟨n, hn⟩]
      by_cases e : n = k.val
      · subst e; exact tl_hit v k _ _
      · exact (tl_skip v k ⟨n, hn⟩ (fun h => e (congrArg Fin.val h)) _ _).trans (ih (by omega) (by omega))
  exact h 32 (Nat.le_refl _) k.isLt
end
theorem piece_off {S : Shape} {e : EltTy} {off off' size : Fin S.rank → ℕ} (h : off = off') (inb inb') (w : (Rect.unit off size inb).shape.Idx → Elt Ideal e) :
    (⟨Rect.unit off size inb, w⟩ : View.Piece (Elt Ideal) S e) = ⟨Rect.unit off' size inb', w⟩ := by subst h; rfl
theorem readAt_off {S : Shape} {e : EltTy} {sp : Space} {off off' size : Fin S.rank → ℕ} (h : off = off') (inb inb') (a : Memref sig .tc sp S e) (X) :
    View.readAt (Elt Ideal) a.view (Rect.unit off size inb).toLoadRect X = View.readAt (Elt Ideal) a.view (Rect.unit off' size inb').toLoadRect X := by subst h; rfl

/-! The pairs of the state. -/
theorem canon_st4 (p3 p2 p1 p0 : T3) (L : List (View.Piece (Elt Ideal) S4x128x256 .f32)) (p : Fin 4 → T3)
    (h3 : p3 = p 3) (h2 : p2 = p 2) (h1 : p1 = p 1) (h0 : p0 = p 0) :
    View.canon (⟨stRect 3, p3⟩ :: ⟨stRect 2, p2⟩ :: ⟨stRect 1, p1⟩ :: ⟨stRect 0, p0⟩ :: L : List (View.Piece (Elt Ideal) S4x128x256 .f32)) = sglue p := by
  subst h3 h2 h1 h0
  have h : ∀ k (x : (stRect k).shape.Idx), p k x = sglue p ((stRect k).emb x) := fun k x => by
    rw [st_emb]; exact (congrArg (p k) (z3 x)).symm
  funext y
  refine View.canon_append_of_pieces (sglue p) L [⟨stRect 3, p 3⟩, ⟨stRect 2, p 2⟩, ⟨stRect 1, p 1⟩, ⟨stRect 0, p 0⟩] ?_ y ?_
  · intro q hq
    simp only [List.mem_cons, List.not_mem_nil, or_false] at hq
    rcases hq with rfl|rfl|rfl|rfl <;> exact h _
  · refine ⟨⟨stRect (y 0), p (y 0)⟩, ?_, ?_⟩
    · have : ∀ k : Fin 4, (⟨stRect k, p k⟩ : View.Piece (Elt Ideal) S4x128x256 .f32) ∈ [(⟨stRect 3, p 3⟩ : View.Piece (Elt Ideal) S4x128x256 .f32), ⟨stRect 2, p 2⟩, ⟨stRect 1, p 1⟩, ⟨stRect 0, p 0⟩] := by
        intro k; fin_cases k <;> simp
      exact this _
    · have h := mem_emb (stRect (y 0)) (ix3 0 (y 1) (y 2))
      have h2 := (st_emb (y 0) (ix3 0 (y 1) (y 2))).symm
      have e : (ix3 (y 0) (y 1) (y 2) : S4x128x256.Idx) = y := by
        funext d; match d with
        | ⟨0, _⟩ => rfl
        | ⟨1, _⟩ => rfl
        | ⟨2, _⟩ => rfl
      exact (e.symm.trans h2) ▸ h

section
variable {κ : Kind} {sp : Space} (v : View sig κ sp S4x128x256 .f32)
theorem st_hit (k : Fin 4) (w : T3) (L : List (View.Piece (Elt Ideal) S4x128x256 .f32)) :
    v.readCov (Val := Elt Ideal) (⟨stRect k, w⟩ :: L) (stRect k).toLoadRect = w := by
  rw [View.readCov_eq_canon']; funext j; exact View.canon_cons_emb (stRect k) w L j
theorem st_skip (k a : Fin 4) (hne : a ≠ k) (w : T3) (L : List (View.Piece (Elt Ideal) S4x128x256 .f32)) :
    v.readCov (Val := Elt Ideal) (⟨stRect a, w⟩ :: L) (stRect k).toLoadRect = v.readCov (Val := Elt Ideal) L (stRect k).toLoadRect := by
  rw [View.readCov_eq_canon', View.readCov_eq_canon']; funext j
  refine View.canon_cons_of_not_mem _ L (not_mem_of fun x hx => hne ?_)
  have hx' : (stRect a).emb x = (stRect k).emb j := hx
  rw [st_emb, st_emb] at hx'
  exact congrFun hx' 0
theorem st_zero (k : Fin 4) (inb) (z : Vec Ideal S4x128x256 .f32) :
    v.readCov (Val := Elt Ideal) [⟨Rect.unit (s := S4x128x256) ![0, 0, 0] S4x128x256.size inb, z⟩] (stRect k).toLoadRect = stile z k := by
  rw [View.readCov_eq_canon']; funext j
  have h0 : (![0, 0, 0] : Fin S4x128x256.rank → ℕ) = fun _ => 0 := by
    funext a; match a with
    | ⟨0, _⟩ => rfl
    | ⟨1, _⟩ => rfl
    | ⟨2, _⟩ => rfl
  rw [View.canon_unit_zero h0 inb z]
  show z ((stRect k).emb j) = _
  rw [st_emb]; rfl
end

/-! Loads of what a scratch holds on entry. -/
section
variable {sp : Space}
theorem rd_tile (a : Memref sig .tc sp S32x128x256 .f32) (h : a.IsWhole) (X : Vec Ideal S32x128x256 .f32) :
    (fun k => View.readAt (Elt Ideal) a.view (tileRect k).toLoadRect (h.unread X)) = tile X := by
  funext k x; refine (h.readAt_unread X _ x).trans ?_
  show X ((tileRect k).emb x) = _; rw [tile_emb]; rfl
theorem rd_w (a : Memref sig .tc sp S32x2048x256 .bf16) (h : a.IsWhole) (X : Vec Ideal S32x2048x256 .bf16) :
    (fun k => View.readAt (Elt Ideal) a.view (wRect k).toLoadRect (h.unread X)) = wtile X := by
  funext k x; refine (h.readAt_unread X _ x).trans ?_
  show X ((wRect k).emb x) = _; rw [w_emb]; rfl
theorem rd_st (a : Memref sig .tc sp S4x128x256 .f32) (h : a.IsWhole) (X : Vec Ideal S4x128x256 .f32) :
    (fun k => View.readAt (Elt Ideal) a.view (stRect k).toLoadRect (h.unread X)) = stile X := by
  funext k x; refine (h.readAt_unread X _ x).trans ?_
  show X ((stRect k).emb x) = _; rw [st_emb]; rfl
theorem rd_all {S : Shape} {e : EltTy} (a : Memref sig .tc sp S e) (h : a.IsWhole) (X : S.Idx → Elt Ideal e) {off : Fin S.rank → ℕ}
    (h0 : off = fun _ => 0) (inb : ∀ d, off d + S.size d ≤ S.size d) :
    View.readAt (Elt Ideal) a.view (Rect.unit off S.size inb).toLoadRect (h.unread X) = X := by
  subst h0; funext x; refine (h.readAt_unread X _ x).trans ?_
  show X ((Rect.whole S).emb x) = X x; rw [Rect.emb_whole_apply]
theorem ld_whole {S : Shape} {e : EltTy} {off : Fin S.rank → ℕ} (h0 : off = fun _ => 0) (inb : ∀ d, off d + S.size d ≤ S.size d) (w : S.Idx → Elt Ideal e) :
    (fun j => w ((Rect.unit off S.size inb).toLoadRect.idx j)) = w := by
  subst h0; funext x; show w ((Rect.whole S).emb x) = w x; rw [Rect.emb_whole_apply]
/-- The upper and the lower half of a block of tokens. -/
def xhalf (x : Vec Ideal S256x2048 .f32) (r : Fin 2) : Vec Ideal S128x2048 .f32 := fun i =>
  x (ix2 (n0 := 256) (n1 := 2048) ⟨128 * r.val + (show Fin 128 from i 0).val, by have := (show Fin 128 from i 0).isLt; omega⟩ (i 1))
theorem rd_half0 (a : Memref sig .tc sp S256x2048 .f32) (h : a.IsWhole) (X : Vec Ideal S256x2048 .f32) :
    View.readAt (Elt Ideal) a.view (Rect.unit (s := S256x2048) ![0, 0] S128x2048.size inb_S256x2048_S128x2048_0_0).toLoadRect (h.unread X) = xhalf X 0 := by
  funext x; refine (h.readAt_unread X _ x).trans (congrArg X ?_)
  funext d; apply Fin.ext
  match d with
  | ⟨0, _⟩ => show 0 + 1 * (x 0).val = 128 * 0 + (x 0).val; omega
  | ⟨1, _⟩ => show 0 + 1 * (x 1).val = (x 1).val; omega
theorem rd_half1 (a : Memref sig .tc sp S256x2048 .f32) (h : a.IsWhole) (X : Vec Ideal S256x2048 .f32) :
    View.readAt (Elt Ideal) a.view (Rect.unit (s := S256x2048) ![128, 0] S128x2048.size inb_S256x2048_S128x2048_128_0).toLoadRect (h.unread X) = xhalf X 1 := by
  funext x; refine (h.readAt_unread X _ x).trans (congrArg X ?_)
  funext d; apply Fin.ext
  match d with
  | ⟨0, _⟩ => show 128 + 1 * (x 0).val = 128 * 1 + (x 0).val; omega
  | ⟨1, _⟩ => show 0 + 1 * (x 1).val = (x 1).val; omega
theorem o2 : (![0, 0] : Fin 2 → ℕ) = fun _ => 0 := by
  funext a; match a with
  | ⟨0, _⟩ => rfl
  | ⟨1, _⟩ => rfl
end

/-! The step's output. -/
abbrev yRect (r c : ℕ) (h : ∀ a, (![r, c] : Fin 2 → ℕ) a + S128x128.size a ≤ S256x2048.size a) : Rect S256x2048 :=
  Rect.unit (s := S256x2048) ![r, c] S128x128.size h
abbrev mRect (r c : ℕ) (h : ∀ a, (![r, c] : Fin 2 → ℕ) a + S128x256.size a ≤ S256x2048.size a) : Rect S256x2048 :=
  Rect.unit (s := S256x2048) ![r, c] S128x256.size h
abbrev Y2 := S128x128.Idx → Elt Ideal .bf16
abbrev M2 := S128x256.Idx → Elt Ideal .bf16
def yl (m0 m1 m2 m3 m4 m5 m6 m7 : M2) (y : Fin 2 → Fin 4 → Fin 2 → Y2) : List (View.Piece (Elt Ideal) S256x2048 .bf16) :=
  [⟨mRect 128 768 (by decide), m7⟩, ⟨mRect 128 512 (by decide), m6⟩, ⟨mRect 128 256 (by decide), m5⟩, ⟨mRect 128 0 (by decide), m4⟩, ⟨yRect 128 1920 (by decide), y 1 3 1⟩, ⟨yRect 128 1792 (by decide), y 1 3 0⟩, ⟨yRect 128 1664 (by decide), y 1 2 1⟩, ⟨yRect 128 1536 (by decide), y 1 2 0⟩, ⟨yRect 128 1408 (by decide), y 1 1 1⟩, ⟨yRect 128 1280 (by decide), y 1 1 0⟩, ⟨yRect 128 1152 (by decide), y 1 0 1⟩, ⟨yRect 128 1024 (by decide), y 1 0 0⟩, ⟨mRect 0 768 (by decide), m3⟩, ⟨mRect 0 512 (by decide), m2⟩, ⟨mRect 0 256 (by decide), m1⟩, ⟨mRect 0 0 (by decide), m0⟩, ⟨yRect 0 1920 (by decide), y 0 3 1⟩, ⟨yRect 0 1792 (by decide), y 0 3 0⟩, ⟨yRect 0 1664 (by decide), y 0 2 1⟩, ⟨yRect 0 1536 (by decide), y 0 2 0⟩, ⟨yRect 0 1408 (by decide), y 0 1 1⟩, ⟨yRect 0 1280 (by decide), y 0 1 0⟩, ⟨yRect 0 1152 (by decide), y 0 0 1⟩, ⟨yRect 0 1024 (by decide), y 0 0 0⟩]

theorem yl_cover (m0 m1 m2 m3 m4 m5 m6 m7 : M2) (y : Fin 2 → Fin 4 → Fin 2 → Y2) (z : S256x2048.Idx) : ∃ q ∈ yl m0 m1 m2 m3 m4 m5 m6 m7 y, z ∈ q.1.set :=
  View.cover_of_tiledBy (yl m0 m1 m2 m3 m4 m5 m6 m7 y) ![128, 128] (by sl_kernel_rfl) z

theorem canon_yl (m0 m1 m2 m3 m4 m5 m6 m7 : M2) (y : Fin 2 → Fin 4 → Fin 2 → Y2) (ch : Fin 2) (hp : Fin 4) (i : Fin 2) (t x : Fin 128) :
    View.canon (yl m0 m1 m2 m3 m4 m5 m6 m7 y) (ix2 (n0 := 256) (n1 := 2048) ⟨128 * ch.val + t.val, by omega⟩ ⟨1024 + 256 * hp.val + 128 * i.val + x.val, by omega⟩)
      = y ch hp i (ix2 t x) := by
  refine View.canon_eq_of_allAt _ _ _ (yl_cover m0 m1 m2 m3 m4 m5 m6 m7 y _) ?_
  have hm : ∀ (r c : ℕ) h (m : M2), c ≤ 768 → View.RectAt (Val := Elt Ideal) (ix2 (n0 := 256) (n1 := 2048) ⟨128 * ch.val + t.val, by omega⟩ ⟨1024 + 256 * hp.val + 128 * i.val + x.val, by omega⟩)
      (mRect r c h) m (y ch hp i (ix2 t x)) := by
    intro r c h m hc z hz
    exfalso
    have h1 := congrArg (fun j : S256x2048.Idx => (j 1).val) hz
    have h2 : c + 1 * (z 1).val = 1024 + 256 * hp.val + 128 * i.val + x.val := h1
    have h3 : (z 1).val < 256 := (z 1).isLt
    omega
  have hy : ∀ (ch' : Fin 2) (hp' : Fin 4) (i' : Fin 2) (r c : ℕ) h, r = 128 * ch'.val → c = 1024 + 256 * hp'.val + 128 * i'.val →
      View.RectAt (Val := Elt Ideal) (ix2 (n0 := 256) (n1 := 2048) ⟨128 * ch.val + t.val, by omega⟩ ⟨1024 + 256 * hp.val + 128 * i.val + x.val, by omega⟩)
        (yRect r c h) (y ch' hp' i') (y ch hp i (ix2 t x)) := by
    intro ch' hp' i' r c h hr hc z hz
    have h0 := congrArg (fun j : S256x2048.Idx => (j 0).val) hz
    have h1 := congrArg (fun j : S256x2048.Idx => (j 1).val) hz
    have h0' : r + 1 * (z 0).val = 128 * ch.val + t.val := h0
    have h1' : c + 1 * (z 1).val = 1024 + 256 * hp.val + 128 * i.val + x.val := h1
    have l0 : (z 0).val < 128 := (z 0).isLt
    have l1 : (z 1).val < 128 := (z 1).isLt
    have e1 : ch' = ch := by apply Fin.ext; omega
    have e2 : hp' = hp := by apply Fin.ext; omega
    have e3 : i' = i := by apply Fin.ext; omega
    subst e1 e2 e3
    congr 1
    funext d; apply Fin.ext
    match d with
    | ⟨0, _⟩ => show (z 0).val = t.val; omega
    | ⟨1, _⟩ => show (z 1).val = x.val; omega
  unfold yl
  repeat' first
    | exact View.allAt_nil _ _
    | refine View.allAt_cons _ _ _ (hm _ _ _ _ (by decide)) ?_
    | refine View.allAt_cons _ _ _ (hy _ _ _ _ _ _ (by decide) (by decide)) ?_

theorem canon_yl' (m0 m1 m2 m3 m4 m5 m6 m7 : M2) (y000 y001 y010 y011 y020 y021 y030 y031 y100 y101 y110 y111 y120 y121 y130 y131 : Y2) (y : Fin 2 → Fin 4 → Fin 2 → Y2)
    (h000 : y000 = y 0 0 0) (h001 : y001 = y 0 0 1) (h010 : y010 = y 0 1 0) (h011 : y011 = y 0 1 1) (h020 : y020 = y 0 2 0) (h021 : y021 = y 0 2 1) (h030 : y030 = y 0 3 0) (h031 : y031 = y 0 3 1) (h100 : y100 = y 1 0 0) (h101 : y101 = y 1 0 1) (h110 : y110 = y 1 1 0) (h111 : y111 = y 1 1 1) (h120 : y120 = y 1 2 0) (h121 : y121 = y 1 2 1) (h130 : y130 = y 1 3 0) (h131 : y131 = y 1 3 1) (ch : Fin 2) (hp : Fin 4) (i : Fin 2) (t x : Fin 128) :
    View.canon ([⟨mRect 128 768 (by decide), m7⟩, ⟨mRect 128 512 (by decide), m6⟩, ⟨mRect 128 256 (by decide), m5⟩, ⟨mRect 128 0 (by decide), m4⟩, ⟨yRect 128 1920 (by decide), y131⟩, ⟨yRect 128 1792 (by decide), y130⟩, ⟨yRect 128 1664 (by decide), y121⟩, ⟨yRect 128 1536 (by decide), y120⟩, ⟨yRect 128 1408 (by decide), y111⟩, ⟨yRect 128 1280 (by decide), y110⟩, ⟨yRect 128 1152 (by decide), y101⟩, ⟨yRect 128 1024 (by decide), y100⟩, ⟨mRect 0 768 (by decide), m3⟩, ⟨mRect 0 512 (by decide), m2⟩, ⟨mRect 0 256 (by decide), m1⟩, ⟨mRect 0 0 (by decide), m0⟩, ⟨yRect 0 1920 (by decide), y031⟩, ⟨yRect 0 1792 (by decide), y030⟩, ⟨yRect 0 1664 (by decide), y021⟩, ⟨yRect 0 1536 (by decide), y020⟩, ⟨yRect 0 1408 (by decide), y011⟩, ⟨yRect 0 1280 (by decide), y010⟩, ⟨yRect 0 1152 (by decide), y001⟩, ⟨yRect 0 1024 (by decide), y000⟩] : List (View.Piece (Elt Ideal) S256x2048 .bf16)) (ix2 (n0 := 256) (n1 := 2048) ⟨128 * ch.val + t.val, by omega⟩ ⟨1024 + 256 * hp.val + 128 * i.val + x.val, by omega⟩)
      = y ch hp i (ix2 t x) := by
  subst h000 h001 h010 h011 h020 h021 h030 h031 h100 h101 h110 h111 h120 h121 h130 h131
  exact canon_yl m0 m1 m2 m3 m4 m5 m6 m7 y ch hp i t x

/-! What a chunk does, from the tiles of its projection. -/
section
variable (hg : Vec Ideal S2x1024 .f32) (lv : Vec Ideal S128x256 .i32) (nw : Vec Ideal S1x1024 .f32) (P : Fin 32 → T3) (s : Fin 4 → T3)

theorem slHp (hp : Fin 4) : S1x1024.Slices ![0, 256 * hp.val] S1x256 := by
  match hp with
  | 0 => exact slices_S1x1024_o0_0_S1x256
  | 1 => exact slices_S1x1024_o0_256_S1x256
  | 2 => exact slices_S1x1024_o0_512_S1x256
  | 3 => exact slices_S1x1024_o0_768_S1x256
theorem inbN (hp : Fin 4) : ∀ a, (![0, 256 * hp.val] : Fin 2 → ℕ) a + S1x256.size a ≤ S1x1024.size a := by
  intro a; match a with
  | ⟨0, _⟩ => exact Nat.le_refl _
  | ⟨1, _⟩ => show 256 * hp.val + 256 ≤ 1024; omega
/-- The lower bounds, the normalisation weights and the columns of one pair. -/
def lbs (hp : Fin 4) : FVec Ideal S1x256 .f32 := extractStridedSlice S1x256 ![0, 256 * hp.val] (lbAll hg) (slHp hp)
abbrev nwRect (hp : Fin 4) : Rect S1x1024 := Rect.unit (s := S1x1024) ![0, 256 * hp.val] S1x256.size (inbN hp)
def castT (x : T3) : FVec Ideal S128x256 .f32 := shapeCast S128x256 x shapeCasts_S1x128x256_S128x256
abbrev tq (b : ℕ) (hp : Fin 4) (h : b ≤ 28 := by decide) : Fin 32 := ⟨b + hp.val, by omega⟩
def stepSt (hp : Fin 4) : T3 :=
  stStore (lbs hg hp) (castT (P (tq 20 hp))) (castT (P (tq 24 hp))) (castT (s hp))
def stepY (nwh : Vec Ideal S1x256 .f32) (hp : Fin 4) : Fin 2 → Y2
  | 0 => yStore0 (lbs hg hp) lv (castT (P (tq 16 hp))) (castT (P (tq 20 hp))) (castT (P (tq 24 hp))) (castT (P (tq 28 hp))) (castT (s hp)) nwh
  | 1 => yStore1 (lbs hg hp) lv (castT (P (tq 16 hp))) (castT (P (tq 20 hp))) (castT (P (tq 24 hp))) (castT (P (tq 28 hp))) (castT (s hp)) nwh
theorem stStep_eq (hp : Fin 4) (LB : Vec Ideal S2x1024 .f32) (f v s' : T3) (hl : LB = hg) (hf : f = P (tq 20 hp)) (hv : v = P (tq 24 hp)) (hs : s' = s hp) :
    stStore (lbs LB hp) (castT f) (castT v) (castT s') = stepSt hg P s hp := by subst hl hf hv hs; rfl
theorem y0_eq (nwh : Vec Ideal S1x256 .f32) (hp : Fin 4) (LB : Vec Ideal S2x1024 .f32) (lv' : Vec Ideal S128x256 .i32) (q f v g s' : T3) (n' : Vec Ideal S1x256 .f32)
    (hl : LB = hg) (hlv : lv' = lv) (hq : q = P (tq 16 hp)) (hf : f = P (tq 20 hp)) (hv : v = P (tq 24 hp)) (hgt : g = P (tq 28 hp)) (hs : s' = s hp) (hn : n' = nwh) :
    yStore0 (lbs LB hp) lv' (castT q) (castT f) (castT v) (castT g) (castT s') n' = stepY hg lv P s nwh hp 0 := by
  subst hl hlv hq hf hv hgt hs hn; rfl
theorem y1_eq (nwh : Vec Ideal S1x256 .f32) (hp : Fin 4) (LB : Vec Ideal S2x1024 .f32) (lv' : Vec Ideal S128x256 .i32) (q f v g s' : T3) (n' : Vec Ideal S1x256 .f32)
    (hl : LB = hg) (hlv : lv' = lv) (hq : q = P (tq 16 hp)) (hf : f = P (tq 20 hp)) (hv : v = P (tq 24 hp)) (hgt : g = P (tq 28 hp)) (hs : s' = s hp) (hn : n' = nwh) :
    yStore1 (lbs LB hp) lv' (castT q) (castT f) (castT v) (castT g) (castT s') n' = stepY hg lv P s nwh hp 1 := by
  subst hl hlv hq hf hv hgt hs hn; rfl
def nwt (hp : Fin 4) : Vec Ideal S1x256 .f32 := fun x => nw (ix2 (n0 := 1) (n1 := 1024) 0 ⟨256 * hp.val + (show Fin 256 from x 1).val, by have h := (show Fin 256 from x 1).isLt; omega⟩)
theorem rd_nw {sp : Space} (a : Memref sig .tc sp S1x1024 .f32) (h : a.IsWhole) :
    (fun hp => View.readAt (Elt Ideal) a.view (nwRect hp).toLoadRect (h.unread nw)) = nwt nw := by
  funext hp x; refine (h.readAt_unread nw _ x).trans (congrArg nw ?_)
  funext d; apply Fin.ext
  match d with
  | ⟨0, _⟩ => have h : (x 0).val < 1 := (x 0).isLt; show 0 + 1 * (x 0).val = 0; omega
  | ⟨1, _⟩ => show 256 * hp.val + 1 * (x 1).val = 256 * hp.val + (x 1).val; omega
end

/-! The normalised tokens and a tile of their projection. -/
def unorm (x : Vec Ideal S128x2048 .f32) (nw : Vec Ideal S1x2048 .f32) : FVec Ideal S128x2048 .bf16 := k0_pay188 x nw
def tileP (u : Vec Ideal S128x2048 .bf16) (w : Vec Ideal S1x2048x256 .bf16) : T3 := k0_pay432 u w
def projT (u : Vec Ideal S128x2048 .bf16) (w : Fin 32 → Vec Ideal S1x2048x256 .bf16) (k : Fin 32) : T3 := tileP u (w k)

end Cert.Tiles
-- ==== Proof.Chunk.lean ====
/- A chunk of the mixer from real inputs, as real numbers: the normalised tokens, their projection tile by tile, and what
   the four pairs of gated heads store and leave as state. -/
module

public import proofs.«01_k».proof.Proof.PairOut
public import proofs.«01_k».proof.Proof.Tiles

@[expose] public section

set_option maxRecDepth 16384

noncomputable section

namespace Cert.Pair

open Idealize.ShloMosaic Idealize.ShloMosaic.ValueIdx Cert.KernelIdeal Cert.KernelIdeal.Gen Cert.Hgrn Cert.Tiles

/-! The normalised tokens. -/
section
variable {x : Vec Ideal S128x2048 .f32} {nw : Vec Ideal S1x2048 .f32} {f : ℕ → ℕ → ℝ} {N : ℕ → ℝ}

theorem sc_refl {s : Shape} {e : EltTy} (x : s.Idx → Elt Ideal e) (h : s.ShapeCasts s) : shapeCast s x h = x :=
  funext fun i => shapeCast_apply x h i i rfl

theorem longSum_is {x : FVec Ideal S128x2048 .f32} {f : ℕ → ℕ → ℝ} (hx : Is (x : S128x2048.Idx → EReal) f) :
    Is (shapeCast S128x1 (multiReduction (F := Ideal) .add [1] S128 x 0x00000000#32 reduces_S128x2048_S128 (.inl rfl) rfl) shapeCasts_S128_S128x1 : S128x1.Idx → EReal)
      fun t _ => ∑ e ∈ Finset.range 2048, f t e := by
  intro t z
  rw [shapeCast_apply _ shapeCasts_S128_S128x1 (ix2 t z) (ix1 t) (by
      rw [Shape.rowMajor_val_two, Shape.rowMajor_val_one]
      show t.val = t.val * 1 + z.val
      omega)]
  refine (Ideal.multiReduction_add_single x _ _ _ _ _).trans ?_
  show _ = ((∑ e ∈ Finset.range 2048, f t.val e : ℝ) : EReal)
  rw [← Fin.sum_univ_eq_sum_range (fun e => f t.val e), coe_sum]
  refine Finset.sum_congr rfl fun k _ => ?_
  refine Eq.trans (congrArg x ?_) (hx t k)
  funext d; apply Fin.ext
  match d with
  | ⟨0, _⟩ => rfl
  | ⟨1, _⟩ => rfl

theorem unorm_is (hx : Is (x : S128x2048.Idx → EReal) f) (hn : IsRow (nw : S1x2048.Idx → EReal) N) :
    Is (unorm x nw : S128x2048.Idx → EReal) fun t d => f t d * rt 2048 (∑ i ∈ Finset.range 2048, f t i * f t i) * N d := by
  intro t d
  have hc : shapeCast S128x2048 x shapeCasts_S128x2048_S128x2048 = x := sc_refl (e := .f32) _ _
  have hcn : shapeCast S1x2048 nw shapeCasts_S1x2048_S1x2048 = nw := sc_refl (e := .f32) _ _
  unfold unorm k0_pay188
  dsimp only
  rw [hc, hcn]
  refine (congrFun (sc_refl (e := .bf16) _ shapeCasts_S128x2048_S128x2048) (ix2 t d)).trans ?_
  have hs := longSum_is (Is.mul hx hx) t 0
  show (x (ix2 t d) : EReal) * broadcastTo S128x2048 _ broadcasts_S128x1_S128x2048 (ix2 t d) * broadcastTo S128x2048 nw broadcasts_S1x2048_S128x2048 (ix2 t d) = _
  rw [broadcastTo_apply _ broadcasts_S128x1_S128x2048 (ix2 t d) (ix2 t 0) (by
      intro d; match d with
      | ⟨0, _⟩ => rfl
      | ⟨1, _⟩ => rfl), broadcastTo_apply nw broadcasts_S1x2048_S128x2048 (ix2 t d) (ix2 0 d) (by
      intro d; match d with
      | ⟨0, _⟩ => rfl
      | ⟨1, _⟩ => rfl), hx t d, hn 0 d]
  have h : (rsqrt (addf (divf (shapeCast S128x1 (multiReduction (F := Ideal) .add [1] S128 (mulf x x) 0x00000000#32 reduces_S128x2048_S128 (.inl rfl) rfl) shapeCasts_S128_S128x1)
      (broadcast S128x1 (Scalar.ofBits (F := Ideal) .f32 0x45000000#32))) (broadcast S128x1 (Scalar.ofBits (F := Ideal) .f32 0x358637BD#32))) : FVec Ideal S128x1 .f32) (ix2 t 0)
      = ((rt 2048 (∑ i ∈ Finset.range 2048, f t.val i * f t.val i) : ℝ) : EReal) := by
    refine Eq.trans ?_ (rt_coe (by norm_num) (Finset.sum_nonneg fun i _ => mul_self_nonneg _))
    exact congrArg Ideal.rsqrt (congrArg₂ (fun a b : EReal => a + b) (congrArg₂ Ideal.div hs n2048) eps_coe)
  rw [h, ← EReal.coe_mul, ← EReal.coe_mul]
end

/-! The tiles of the projection. -/
/-- The tiles hold the numbers `f`, token by column. -/
def IsT (P : Fin 32 → T3) (f : ℕ → ℕ → ℝ) : Prop := ∀ (k : Fin 32) (t : Fin 128) (x : Fin 256),
  (P k (ix3 0 t x) : EReal) = ((f t.val (256 * k.val + x.val) : ℝ) : EReal)

theorem projT_is {u : Vec Ideal S128x2048 .bf16} {w : Fin 32 → Vec Ideal S1x2048x256 .bf16} {f W : ℕ → ℕ → ℝ}
    (hu : Is (u : S128x2048.Idx → EReal) f)
    (hw : ∀ (k : Fin 32) (d : Fin 2048) (x : Fin 256), (w k (ix3 0 d x) : EReal) = ((W d.val (256 * k.val + x.val) : ℝ) : EReal)) :
    IsT (projT u w) fun t c => ∑ d ∈ Finset.range 2048, f t d * W d c := by
  intro k t x
  unfold projT tileP k0_pay432
  dsimp only
  rw [shapeCast_apply _ shapeCasts_S128x256_S1x128x256 (ix3 0 t x) (ix2 t x) (by
      rw [Shape.rowMajor_val_two, Shape.rowMajor_val_three]
      show t.val * 256 + x.val = (0 * 128 + t.val) * 256 + x.val
      omega)]
  refine (Ideal.matmul_plain_apply (M := 128) (K := 2048) (N := 256) none u (shapeCast S2048x256 (w k) shapeCasts_S1x2048x256_S2048x256) (constant S128x256 .f32 0x00000000#32) t x).trans ?_
  rw [show (constant (F := Ideal) S128x256 .f32 0x00000000#32 (ix2 t x) : EReal) = 0 from zero32, zero_add]
  rw [← Fin.sum_univ_eq_sum_range (fun d => f t.val d * W d (256 * k.val + x.val)), coe_sum]
  refine Finset.sum_congr rfl fun d _ => ?_
  rw [shapeCast_apply (w k) shapeCasts_S1x2048x256_S2048x256 (ix2 d x) (ix3 0 d x) (by
      rw [Shape.rowMajor_val_two, Shape.rowMajor_val_three]
      show (0 * 2048 + d.val) * 256 + x.val = d.val * 256 + x.val
      omega), hu t d, hw k d x, ← EReal.coe_mul]

/-! The four pairs. -/
section
variable (R : ℕ → ℕ → ℝ) (H : ℕ → ℕ → ℝ) (NN : ℕ → ℝ)
/-- A pair's columns of the projection `R` of one sequence, its lower bounds and its normalisation weights. -/
def cj (b hp t e : ℕ) : ℝ := R t (256 * (b + hp) + e)
def lj (hp e : ℕ) : ℝ := lbR H (256 * hp + e)
def nj (hp e : ℕ) : ℝ := NN (256 * hp + e)
/-- A pair's state before token `s`, and its output. -/
def stJ (s hp x c : ℕ) : ℝ := stR (lj H hp) (cj R 20 hp) (cj R 24 hp) s x c
def yJ (t hp c : ℕ) : ℝ := yR (lj H hp) (cj R 16 hp) (cj R 20 hp) (cj R 24 hp) (cj R 28 hp) (nj NN hp) t c

def IsS (S : Fin 4 → T3) (f : ℕ → ℕ → ℕ → ℝ) : Prop := ∀ (hp : Fin 4) (x : Fin 128) (c : Fin 256),
  (S hp (ix3 0 x c) : EReal) = ((f hp.val x.val c.val : ℝ) : EReal)

variable {R H NN} {hg : Vec Ideal S2x1024 .f32} {lv : Vec Ideal S128x256 .i32} {nw : Vec Ideal S1x1024 .f32} {P : Fin 32 → T3} {S : Fin 4 → T3} {s : ℕ}

theorem cast_is {P : T3} {f : ℕ → ℕ → ℝ} (h : ∀ (t : Fin 128) (x : Fin 256), (P (ix3 0 t x) : EReal) = ((f t.val x.val : ℝ) : EReal)) :
    Is (castT P : S128x256.Idx → EReal) f := by
  intro t x
  unfold castT
  rw [shapeCast_apply _ shapeCasts_S1x128x256_S128x256 (ix2 t x) (ix3 0 t x) (by
      rw [Shape.rowMajor_val_two, Shape.rowMajor_val_three]
      show (0 * 128 + t.val) * 256 + x.val = t.val * 256 + x.val
      omega)]
  exact h t x

theorem lbs_is (hh : Is (hg : S2x1024.Idx → EReal) H) (hp : Fin 4) : IsRow (lbs hg hp : S1x256.Idx → EReal) (lj H hp.val) := by
  intro z e
  unfold lbs
  rw [extractStridedSlice_apply _ _ (slHp hp) (ix2 z e) (ix2 (n0 := 1) (n1 := 1024) z ⟨256 * hp.val + e.val, by omega⟩) (by
      intro d; match d with
      | ⟨0, _⟩ => exact (Nat.zero_add _).symm
      | ⟨1, _⟩ => rfl)]
  exact lbAll_is hh z _

theorem nwt_is (hn : IsRow (nw : S1x1024.Idx → EReal) NN) (hp : Fin 4) : IsRow (nwt nw hp : S1x256.Idx → EReal) (nj NN hp.val) := by
  intro z e
  exact hn 0 ⟨256 * hp.val + e.val, by omega⟩

section
variable (hh : Is (hg : S2x1024.Idx → EReal) H) (hP : IsT P fun t c => R (s + t) c) (hS : IsS S (stJ R H s))
include hh hP hS

theorem tq_is (b : ℕ) (hb : b ≤ 28) (hp : Fin 4) : Is (castT (P (tq b hp hb)) : S128x256.Idx → EReal) fun t e => cj R b hp.val (s + t) e :=
  cast_is fun t x => hP (tq b hp hb) t x

theorem stepSt_is : IsS (stepSt hg P S) (stJ R H (s + 128)) := by
  intro hp x c
  exact stStore_is (fun e => lbR_pos _ _) (fun e => lbR_lt _ _) (lbs_is hh hp) (tq_is hh hP hS 20 (by decide) hp) (tq_is hh hP hS 24 (by decide) hp)
    (cast_is fun t x => hS hp t x) x c

theorem stepY_is (hlv : LvOK lv) (hn : IsRow (nw : S1x1024.Idx → EReal) NN) (hp : Fin 4) (i : Fin 2) (t x : Fin 128) :
    (stepY hg lv P S (nwt nw hp) hp i (ix2 t x) : EReal) = ((yJ R H NN (s + t.val) hp.val (128 * i.val + x.val) : ℝ) : EReal) := by
  have hq := tq_is hh hP hS 16 (by decide) hp
  have hf := tq_is hh hP hS 20 (by decide) hp
  have hv := tq_is hh hP hS 24 (by decide) hp
  have hg' := tq_is hh hP hS 28 (by decide) hp
  have hs : Is (castT (S hp) : S128x256.Idx → EReal) (stR (lj H hp.val) (cj R 20 hp.val) (cj R 24 hp.val) s) := cast_is fun t x => hS hp t x
  match i with
  | 0 =>
    refine (yStore0_is (fun e => lbR_pos _ _) (fun e => lbR_lt _ _) (lbs_is hh hp) hlv hq hf hv hg' hs (nwt_is hn hp) t x).trans ?_
    unfold yJ; congr 2; show x.val = 128 * 0 + x.val; omega
  | 1 =>
    exact yStore1_is (fun e => lbR_pos _ _) (fun e => lbR_lt _ _) (lbs_is hh hp) hlv hq hf hv hg' hs (nwt_is hn hp) t x
end
end

end Cert.Pair
-- ==== Proof.Levels.lean ====
/- The table of levels the first grid point stores: entry (t, i) is the highest bit in which t and i % 128 differ, where t is
   the later of the two, and −1 elsewhere. -/
module

public import proofs.«01_k».proof.Proof.PairSum
public import proofs.«01_k».proof.Proof.Gen.KernelIdeal.Skeleton

@[expose] public section

set_option maxRecDepth 16384

noncomputable section

namespace Cert.Pair

open Idealize.ShloMosaic Idealize.ShloMosaic.ValueIdx Cert.KernelIdeal Cert.KernelIdeal.Gen Cert.Hgrn

/-- An entry, from the two tokens. -/
def lvE (t j : ℕ) : BitVec 32 := if (BitVec.ofNat 32 j).slt (BitVec.ofNat 32 t)
  then 31#32 - IntOp.ctlz (BitVec.ofNat 32 t ^^^ BitVec.ofNat 32 j) else 4294967295#32

theorem lvE_ok : ∀ (t j : Fin 128) (n : Fin 7), lvE t.val j.val = BitVec.ofNat 32 n.val ↔ mask (2 ^ n.val) t.val j.val := by
  decide +kernel

theorem half_read (t j : Fin 128) :
    select (cmpi .sgt (iota .tc S128x128 32 [0] iota_S128x128_d0_w32) (iota .tc S128x128 32 [1] iota_S128x128_d1_w32))
      (subi (broadcast S128x128 31#32) (ctlz (xori (iota .tc S128x128 32 [0] iota_S128x128_d0_w32) (iota .tc S128x128 32 [1] iota_S128x128_d1_w32))))
      (broadcast S128x128 4294967295#32) (ix2 t j) = lvE t.val j.val := by
  show (if (BitVec.ofBool ((BitVec.ofNat 32 (0 * 128 + j.val)).slt (BitVec.ofNat 32 (0 * 128 + t.val))) : BitVec 1) = 1#1 then
    31#32 - IntOp.ctlz (BitVec.ofNat 32 (0 * 128 + t.val) ^^^ BitVec.ofNat 32 (0 * 128 + j.val)) else 4294967295#32) = _
  rw [Nat.zero_mul, Nat.zero_add, Nat.zero_add]
  unfold lvE
  cases (BitVec.ofNat 32 j.val).slt (BitVec.ofNat 32 t.val) <;> rfl

theorem levels_ok : LvOK k0_pay8 := by
  intro n hn t i
  have h : k0_pay8 (ix2 t i) = lvE t.val (i.val % 128) := by
    unfold k0_pay8
    dsimp only
    rw [shapeCast_apply _ shapeCasts_S128x256_S128x256 (ix2 t i) (ix2 t i) rfl]
    by_cases h1 : i.val < 128
    · rw [concatenate_pair_apply_left (t := S128x256) (s₁ := S128x128) (s₂ := S128x128) 1 _ _ _ _ rfl (ix2 (n0 := 128) (n1 := 128) t ⟨i.val, h1⟩) (by
        intro d; match d with
        | ⟨0, _⟩ => rfl
        | ⟨1, _⟩ => rfl)]
      refine (half_read t ⟨i.val, h1⟩).trans ?_
      rw [Nat.mod_eq_of_lt h1]
    · rw [concatenate_pair_apply_right (t := S128x256) (s₁ := S128x128) (s₂ := S128x128) 1 _ _ _ _ rfl rfl (ix2 (n0 := 128) (n1 := 128) t ⟨i.val - 128, by omega⟩) (by
        intro d hd; match d with
        | ⟨0, _⟩ => rfl
        | ⟨1, _⟩ => exact absurd rfl hd) (by show i.val - 128 + 128 = i.val; omega)]
      refine (half_read t ⟨i.val - 128, by omega⟩).trans ?_
      show lvE t.val (i.val - 128) = _
      rw [show i.val % 128 = i.val - 128 by omega]
  rw [h]
  exact lvE_ok t ⟨i.val % 128, by omega⟩ ⟨n, hn⟩

end Cert.Pair
-- ==== Proof.Reads.lean ====
/- What the kernel's windows hold at a grid point, as entries of the argument arrays: the blocks of the token array, the
   norms' weights, the projection's tiles and the bounds' rows. -/
module

public import proofs.«01_k».proof.Proof.PairOut
public import proofs.«01_k».proof.Proof.Gen.KernelIdeal.Frame
public import Idealize.ShloMosaic.Lib.Pipeline.Value
public import Idealize.ShloMosaic.Lib.Pipeline.ValueKit
public import Idealize.ShloMosaic.Lib.Claim

@[expose] public section

set_option maxRecDepth 16384

noncomputable section

namespace Cert.Reads

open Idealize.ShloMosaic hiding ix1 ix2 ix3 ix4
open Idealize.ShloMosaic.ValueIdx Idealize.ShloMosaic.TcCoe Idealize.SL.Sem Cert.KernelIdeal Cert.KernelIdeal.Gen Cert.Pair

/-- The finite entries of the arrays that the gated heads read. -/
structure Nums where
  X : ℕ → ℕ → ℝ
  N : ℕ → ℝ
  W : ℕ → ℕ → ℝ
  H : ℕ → ℕ → ℝ
  G : ℕ → ℝ

/-- The arguments hold these numbers. -/
structure Holds (a0 : S2x16384x2048.Idx → EReal) (a1 : S1x2048.Idx → EReal) (a2 : S1x2048x8200.Idx → EReal) (a8 : S2x1024.Idx → EReal)
    (a9 : S1x1024.Idx → EReal) (D : Nums) : Prop where
  x : ∀ (b : Fin 2) (t : Fin 16384) (d : Fin 2048), a0 (ix3 b t d) = ((D.X (16384 * b.val + t.val) d.val : ℝ) : EReal)
  n : IsRow a1 D.N
  w : ∀ (d : Fin 2048) (k : Fin 8200), a2 (ix3 0 d k) = ((D.W d.val k.val : ℝ) : EReal)
  h : Is a8 D.H
  g : IsRow a9 D.G

/-- The weights without the gates' eight columns. -/
def Nums.M (D : Nums) (d k : ℕ) : ℝ := if k < 4096 then D.W d k else D.W d (k + 8)

theorem index0 : ∀ t : Fin cfg0.N, win0_0.index t = ![0, 0] := (by decide +kernel : ∀ t : Fin grid0.N, win0_0.index t = ![0, 0])
theorem index1 : ∀ t : Fin cfg0.N, win0_1.index t = ![min (2 * t.val + 2) 255, 0] :=
  (by decide +kernel : ∀ t : Fin grid0.N, win0_1.index t = ![min (2 * t.val + 2) 255, 0])
theorem index2 : ∀ t : Fin cfg0.N, win0_2.index t = ![min (2 * t.val + 3) 255, 0] :=
  (by decide +kernel : ∀ t : Fin grid0.N, win0_2.index t = ![min (2 * t.val + 3) 255, 0])
theorem index3 : ∀ t : Fin cfg0.N, win0_3.index t = ![0, 0] := (by decide +kernel : ∀ t : Fin grid0.N, win0_3.index t = ![0, 0])
theorem index4 : ∀ t : Fin cfg0.N, win0_4.index t = ![0, 0, 0] := (by decide +kernel : ∀ t : Fin grid0.N, win0_4.index t = ![0, 0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![t.val, 0] := (by decide +kernel : ∀ t : Fin grid0.N, win0_12.index t = ![t.val, 0])

variable (m : (ℓ : Loc nD τ sig) → Buf (Elt Ideal) ℓ) (c : Dev nD)

/-! The host's arrays. -/
theorem v0_eq : (V m c main_v0 : S32768x2048.Idx → EReal)
    = shapeCast S32768x2048 (m ((c : Thread nD τ).loc main_arg0) : S2x16384x2048.Idx → EReal) shapeCasts_S2x16384x2048_S32768x2048 := by
  entry_read
  rfl

theorem v19_eq : (V m c main_v19 : S1x2048.Idx → EReal)
    = shapeCast S1x2048 (shapeCast S2048 (m ((c : Thread nD τ).loc main_arg1) : S1x2048.Idx → EReal) shapeCasts_S1x2048_S2048) shapeCasts_S2048_S1x2048 := by
  entry_read
  rfl

theorem v26_eq : (V m c main_v26 : S1x1024.Idx → EReal)
    = shapeCast S1x1024 (shapeCast S1024 (m ((c : Thread nD τ).loc main_arg9) : S1x1024.Idx → EReal) shapeCasts_S1x1024_S1024) shapeCasts_S1024_S1x1024 := by
  entry_read
  rfl

theorem v7_eq : (V m c main_v7 : S32x2048x256.Idx → EReal)
    = transpose S32x2048x256 [1, 0, 2] (shapeCast S2048x32x256
        (concatenate S2048x8192 1 [⟨S2048x4096, extractStridedSlice S2048x4096 ![0, 0] (shapeCast S2048x8200 (m ((c : Thread nD τ).loc main_arg2) : S1x2048x8200.Idx → EReal) shapeCasts_S1x2048x8200_S2048x8200) slices_S2048x8200_S2048x4096_0_0⟩,
          ⟨S2048x4096, extractStridedSlice S2048x4096 ![0, 4104] (shapeCast S2048x8200 (m ((c : Thread nD τ).loc main_arg2) : S1x2048x8200.Idx → EReal) shapeCasts_S1x2048x8200_S2048x8200) slices_S2048x8200_S2048x4096_0_4104⟩]
          concatenates_S2048x4096_S2048x4096_S2048x8192_d1) shapeCasts_S2048x8192_S2048x32x256)
        transposes_S2048x32x256_S32x2048x256_1_0_2 := by
  entry_read
  rfl

variable {m c} {D : Nums}
  (hD : Holds (m ((c : Thread nD τ).loc main_arg0)) (m ((c : Thread nD τ).loc main_arg1)) (m ((c : Thread nD τ).loc main_arg2))
    (m ((c : Thread nD τ).loc main_arg8)) (m ((c : Thread nD τ).loc main_arg9)) D)
include hD

/-- The tokens, one row each. -/
theorem tok (T : Fin 32768) (d : Fin 2048) : (V m c main_v0 : S32768x2048.Idx → EReal) (ix2 T d) = ((D.X T.val d.val : ℝ) : EReal) := by
  rw [v0_eq]
  refine (shapeCast_apply _ _ _ (ix3 (⟨T.val / 16384, by omega⟩ : Fin 2) (⟨T.val % 16384, by omega⟩ : Fin 16384) d) ?_).trans ((hD.x _ _ _).trans ?_)
  · rw [Shape.rowMajor_val_two, Shape.rowMajor_val_three]
    show (T.val / 16384 * 16384 + T.val % 16384) * 2048 + d.val = T.val * 2048 + d.val
    rw [Nat.div_add_mod']
  · show ((D.X (16384 * (T.val / 16384) + T.val % 16384) d.val : ℝ) : EReal) = _
    rw [Nat.div_add_mod]

theorem r0 (t : Fin cfg0.N) : Is (iblk m c 0 t : S256x2048.Idx → EReal) fun r d => D.X r d := by
  intro r d
  refine Eq.trans ?_ (tok hD ⟨r.val, by omega⟩ d)
  blk_ext [iblk, index0 t]

theorem r1 (t : Fin cfg0.N) : Is (iblk m c 1 t : S128x2048.Idx → EReal) fun r d => D.X (128 * min (2 * t.val + 2) 255 + r) d := by
  intro r d
  refine Eq.trans ?_ (tok hD ⟨128 * min (2 * t.val + 2) 255 + r.val, by omega⟩ d)
  blk_ext [iblk, index1 t]
  exact (congrArg (· + r.val) (Nat.mul_comm _ _))

theorem r2 (t : Fin cfg0.N) : Is (iblk m c 2 t : S128x2048.Idx → EReal) fun r d => D.X (128 * min (2 * t.val + 3) 255 + r) d := by
  intro r d
  refine Eq.trans ?_ (tok hD ⟨128 * min (2 * t.val + 3) 255 + r.val, by omega⟩ d)
  blk_ext [iblk, index2 t]
  exact (congrArg (· + r.val) (Nat.mul_comm _ _))

theorem r3 (t : Fin cfg0.N) : IsRow (iblk m c 3 t : S1x2048.Idx → EReal) D.N := by
  intro r d
  have h : (V m c main_v19 : S1x2048.Idx → EReal) (ix2 r d) = ((D.N d.val : ℝ) : EReal) := by
    rw [v19_eq]
    refine (shapeCast_apply _ _ _ (ix1 d) ?_).trans ((shapeCast_apply _ _ _ (ix2 (0 : Fin 1) d) ?_).trans (hD.n _ _))
    · rw [Shape.rowMajor_val_two, Shape.rowMajor_val_one]
      show d.val = r.val * 2048 + d.val
      omega
    · rw [Shape.rowMajor_val_two, Shape.rowMajor_val_one]
      show 0 * 2048 + d.val = d.val
      omega
  refine Eq.trans ?_ h
  blk_ext [iblk, index3 t]

theorem r11 (t : Fin cfg0.N) : IsRow (iblk m c 11 t : S1x1024.Idx → EReal) D.G := by
  intro r d
  have h : (V m c main_v26 : S1x1024.Idx → EReal) (ix2 r d) = ((D.G d.val : ℝ) : EReal) := by
    rw [v26_eq]
    refine (shapeCast_apply _ _ _ (ix1 d) ?_).trans ((shapeCast_apply _ _ _ (ix2 (0 : Fin 1) d) ?_).trans (hD.g _ _))
    · rw [Shape.rowMajor_val_two, Shape.rowMajor_val_one]
      show d.val = r.val * 1024 + d.val
      omega
    · rw [Shape.rowMajor_val_two, Shape.rowMajor_val_one]
      show 0 * 1024 + d.val = d.val
      omega
  refine Eq.trans ?_ h
  blk_ext [iblk, index11 t]

theorem r10 (t : Fin cfg0.N) : Is (iblk m c 10 t : S2x1024.Idx → EReal) D.H := by
  intro r d
  refine Eq.trans ?_ (hD.h r d)
  have h := congrFun (V_main_arg8 (F := Ideal) m c) (ix2 r d : S2x1024.Idx)
  refine Eq.trans ?_ h
  blk_ext [iblk, index10 t]

theorem wcol (d : Fin 2048) (k : Fin 8200) :
    (shapeCast S2048x8200 (m ((c : Thread nD τ).loc main_arg2) : S1x2048x8200.Idx → EReal) shapeCasts_S1x2048x8200_S2048x8200 : S2048x8200.Idx → EReal) (ix2 d k)
      = ((D.W d.val k.val : ℝ) : EReal) := by
  refine (shapeCast_apply _ _ _ (ix3 (0 : Fin 1) d k) ?_).trans (hD.w _ _)
  rw [Shape.rowMajor_val_two, Shape.rowMajor_val_three]
  show (0 * 2048 + d.val) * 8200 + k.val = d.val * 8200 + k.val
  omega

theorem r4 (t : Fin cfg0.N) (k : Fin 32) (d : Fin 2048) (x : Fin 256) :
    (iblk m c 4 t : S32x2048x256.Idx → EReal) (ix3 k d x) = ((D.M d.val (256 * k.val + x.val) : ℝ) : EReal) := by
  have h : (V m c main_v7 : S32x2048x256.Idx → EReal) (ix3 k d x) = ((D.M d.val (256 * k.val + x.val) : ℝ) : EReal) := by
    rw [v7_eq]
    refine (transpose_apply (s := S2048x32x256) (t := S32x2048x256) [1, 0, 2] _ _ (ix3 k d x) (ix3 d k x) ?_).trans ?_
    · intro a; fin_cases a <;> rfl
    refine (shapeCast_apply _ _ _ (ix2 d (⟨256 * k.val + x.val, by omega⟩ : Fin 8192)) ?_).trans ?_
    · rw [Shape.rowMajor_val_two, Shape.rowMajor_val_three]
      show d.val * 8192 + (256 * k.val + x.val) = (d.val * 32 + k.val) * 256 + x.val
      ring
    unfold Nums.M
    split_ifs with hk
    · refine (concatenate_pair_apply_left (t := S2048x8192) (s₁ := S2048x4096) (s₂ := S2048x4096) 1 _ _ _ _ rfl (ix2 d (⟨256 * k.val + x.val, hk⟩ : Fin 4096)) ?_).trans ?_
      · intro a; fin_cases a <;> rfl
      refine (extractStridedSlice_apply _ _ _ _ (ix2 d (⟨256 * k.val + x.val, by omega⟩ : Fin 8200)) ?_).trans (wcol hD _ _)
      intro a; fin_cases a
      · show d.val = 0 + d.val; omega
      · show 256 * k.val + x.val = 0 + (256 * k.val + x.val); omega
    · refine (concatenate_pair_apply_right (t := S2048x8192) (s₁ := S2048x4096) (s₂ := S2048x4096) 1 _ _ _ _ rfl rfl (ix2 d (⟨256 * k.val + x.val - 4096, by omega⟩ : Fin 4096)) ?_ ?_).trans ?_
      · intro a ha; fin_cases a
        · rfl
        · exact absurd rfl ha
      · show 256 * k.val + x.val - 4096 + 4096 = 256 * k.val + x.val; omega
      refine (extractStridedSlice_apply _ _ _ _ (ix2 d (⟨256 * k.val + x.val + 8, by omega⟩ : Fin 8200)) ?_).trans (wcol hD _ _)
      intro a; fin_cases a
      · show d.val = 0 + d.val; omega
      · show 256 * k.val + x.val + 8 = 4104 + (256 * k.val + x.val - 4096); omega
  refine Eq.trans ?_ h
  blk_ext [iblk, index4 t]

end Cert.Reads
-- ==== Proof.GridStep.lean ====
/- One grid point, for finite arguments: what it leaves in the carried buffers and in its block of the output, from what it
   found. -/
module

public import proofs.«01_k».proof.Proof.Chunk
public import proofs.«01_k».proof.Proof.Levels
public import proofs.«01_k».proof.Proof.Reads

@[expose] public section

set_option maxRecDepth 16384

noncomputable section

namespace Cert.Grid

open Idealize.ShloMosaic hiding ix1 ix2 ix3 ix4
open Idealize.ShloMosaic.ValueIdx Idealize.ShloMosaic.TcCoe Idealize.SL.Sem Cert.KernelIdeal Cert.KernelIdeal.Gen Cert.Pair Cert.Tiles Cert.Reads

/-- The normalised tokens, their projection, and the projection of one sequence. -/
def un (D : Nums) (T d : ℕ) : ℝ := D.X T d * rt 2048 (∑ i ∈ Finset.range 2048, D.X T i * D.X T i) * D.N d
def pr (D : Nums) (T k : ℕ) : ℝ := ∑ d ∈ Finset.range 2048, un D T d * D.M d k
def sq (D : Nums) (b t k : ℕ) : ℝ := pr D (16384 * b + t) k

section
variable {R : ℕ → ℕ → ℝ} {H : ℕ → ℕ → ℝ} {NN : ℕ → ℝ} {hg : Vec Ideal S2x1024 .f32} {lv : Vec Ideal S128x256 .i32} {nw : Vec Ideal S1x1024 .f32}
  {P0 P1 : Fin 32 → T3} {S : Fin 4 → T3} {s : ℕ}
  (hh : Is (hg : S2x1024.Idx → EReal) H) (h0 : IsT P0 fun t c => R (s + t) c) (h1 : IsT P1 fun t c => R (s + 128 + t) c) (hS : IsS S (stJ R H s))
include hh h0 h1 hS

/-- Two chunks on. -/
theorem two_state : IsS (stepSt hg P1 (stepSt hg P0 S)) (stJ R H (s + 256)) := by
  have a := stepSt_is hh h0 hS
  exact stepSt_is hh h1 a
theorem two_out (hlv : LvOK lv) (hn : IsRow (nw : S1x1024.Idx → EReal) NN) (ch : Fin 2) (hp : Fin 4) (j : Fin 2) (t x : Fin 128) :
    (stepY hg lv (![P0, P1] ch) (![S, stepSt hg P0 S] ch) (nwt nw hp) hp j (ix2 t x) : EReal)
      = ((yJ R H NN (s + (128 * ch.val + t.val)) hp.val (128 * j.val + x.val) : ℝ) : EReal) := by
  have a := stepSt_is hh h0 hS
  fin_cases ch
  · refine (stepY_is hh h0 hS hlv hn hp j t x).trans ?_
    simp
  · refine (stepY_is hh h1 a hlv hn hp j t x).trans ?_
    simp [Nat.add_assoc]
end

theorem zero_state (R H : ℕ → ℕ → ℝ) : IsS (stile (k0_pay13 (F := Ideal))) (stJ R H 0) := by
  intro hp x c
  show (stile (k0_pay13 (F := Ideal)) hp (ix3 0 x c) : EReal) = (((0 : ℝ)) : EReal)
  have h : (k0_pay13 (F := Ideal) : S4x128x256.Idx → EReal) = fun _ => Scalar.ofBits (F := Ideal) .f32 0x00000000#32 := by
    unfold k0_pay13
    exact sc_refl (e := .f32) _ _
  exact (congrFun h _).trans (zero32.trans EReal.coe_zero.symm)

variable {m : (ℓ : Loc nD τ sig) → Buf (Elt Ideal) ℓ} {c : Dev nD} {D : Nums}
  (hD : Holds (m ((c : Thread nD τ).loc main_arg0)) (m ((c : Thread nD τ).loc main_arg1)) (m ((c : Thread nD τ).loc main_arg2))
    (m ((c : Thread nD τ).loc main_arg8)) (m ((c : Thread nD τ).loc main_arg9)) D)
include hD

theorem proj_blk {u : Vec Ideal S128x2048 .bf16} {T : ℕ} (t : Fin cfg0.N) (hu : Is (u : S128x2048.Idx → EReal) fun r d => un D (T + r) d) :
    IsT (projT u (wtile (iblk m c 4 t))) fun r k => pr D (T + r) k :=
  projT_is (W := D.M) hu fun k d x => r4 hD t k d x

theorem u_b (t : Fin cfg0.N) : Is (unorm (iblk m c 2 t) (iblk m c 3 t) : S128x2048.Idx → EReal) fun r d => un D (128 * min (2 * t.val + 3) 255 + r) d :=
  unorm_is (r2 hD t) (r3 hD t)

theorem p_a (t : Fin cfg0.N) : IsT (projT (unorm (iblk m c 1 t) (iblk m c 3 t)) (wtile (iblk m c 4 t))) fun r k => pr D (128 * min (2 * t.val + 2) 255 + r) k :=
  proj_blk hD t (unorm_is (r1 hD t) (r3 hD t))

theorem u_half (t : Fin cfg0.N) (h : Fin 2) : Is (unorm (xhalf (iblk m c 0 t) h) (iblk m c 3 t) : S128x2048.Idx → EReal) fun r d => un D (128 * h.val + r) d :=
  unorm_is (fun r d => r0 hD t ⟨128 * h.val + r.val, by omega⟩ d) (r3 hD t)

/-- What a point leaves. -/
structure Left (D : Nums) (n : ℕ) (o0 : Vec Ideal S256x2048 .bf16) (o1 : Vec Ideal S32x128x256 .f32) (o5 : Vec Ideal S128x2048 .bf16)
    (o10 : Vec Ideal S4x128x256 .f32) (o11 : Vec Ideal S128x256 .i32) : Prop where
  p : IsT (tile o1) fun r k => pr D (128 * min (2 * n + 2) 255 + r) k
  u : Is (o5 : S128x2048.Idx → EReal) fun r d => un D (128 * min (2 * n + 3) 255 + r) d
  s : IsS (stile o10) (stJ (sq D (n / 64)) D.H (256 * (n % 64) + 256))
  l : LvOK o11
  y : ∀ (ch : Fin 2) (hp : Fin 4) (j : Fin 2) (t x : Fin 128),
    (o0 (ix2 (n0 := 256) (n1 := 2048) ⟨128 * ch.val + t.val, by omega⟩ ⟨1024 + 256 * hp.val + 128 * j.val + x.val, by omega⟩) : EReal)
      = ((yJ (sq D (n / 64)) D.H D.G (256 * (n % 64) + (128 * ch.val + t.val)) hp.val (128 * j.val + x.val) : ℝ) : EReal)

omit hD in
theorem tok_eq (n r : ℕ) : 16384 * (n / 64) + (256 * (n % 64) + r) = 256 * n + r := by omega
omit hD in
theorem tlt (t : Fin cfg0.N) : t.val < 128 := t.isLt
omit hD in
theorem sq_eq (n r k : ℕ) : sq D (n / 64) (256 * (n % 64) + r) k = pr D (256 * n + r) k := by
  unfold sq
  rw [tok_eq]

/-- What a point leaves, from what it found. -/
theorem mk_left (t : Fin cfg0.N) {o0 : Vec Ideal S256x2048 .bf16} {o1 : Vec Ideal S32x128x256 .f32} {o5 : Vec Ideal S128x2048 .bf16}
    {o10 : Vec Ideal S4x128x256 .f32} {o11 LV : Vec Ideal S128x256 .i32} {P0 P1 : Fin 32 → T3} {S0 : Fin 4 → T3}
    (hP0 : IsT P0 fun r k => pr D (256 * t.val + r) k) (hP1 : IsT P1 fun r k => pr D (256 * t.val + 128 + r) k)
    (hS0 : IsS S0 (stJ (sq D (t.val / 64)) D.H (256 * (t.val % 64)))) (hLV : LvOK LV)
    (e1 : o1 = glue (projT (unorm (iblk m c 1 t) (iblk m c 3 t)) (wtile (iblk m c 4 t)))) (e5 : o5 = unorm (iblk m c 2 t) (iblk m c 3 t))
    (e10 : o10 = sglue (stepSt (iblk m c 10 t) P1 (stepSt (iblk m c 10 t) P0 S0))) (e11 : o11 = LV)
    (ey : ∀ (ch : Fin 2) (hp : Fin 4) (j : Fin 2) (r x : Fin 128),
      o0 (ix2 (n0 := 256) (n1 := 2048) ⟨128 * ch.val + r.val, by omega⟩ ⟨1024 + 256 * hp.val + 128 * j.val + x.val, by omega⟩)
        = stepY (iblk m c 10 t) LV (![P0, P1] ch) (![S0, stepSt (iblk m c 10 t) P0 S0] ch) (nwt (iblk m c 11 t) hp) hp j (ix2 r x)) :
    Left D t.val o0 o1 o5 o10 o11 := by
  have a0 : IsT P0 fun r k => sq D (t.val / 64) (256 * (t.val % 64) + r) k := by
    intro k r x
    rw [hP0 k r x]
    beta_reduce
    rw [sq_eq]
  have a1 : IsT P1 fun r k => sq D (t.val / 64) (256 * (t.val % 64) + 128 + r) k := by
    intro k r x
    rw [hP1 k r x]
    beta_reduce
    rw [Nat.add_assoc (256 * (t.val % 64)), sq_eq, Nat.add_assoc]
  subst e1 e5 e10 e11
  refine ⟨?_, u_b hD t, ?_, hLV, ?_⟩
  · rw [tile_glue]
    exact p_a hD t
  · rw [stile_glue]
    exact two_state (r10 hD t) a0 a1 hS0
  · intro ch hp j r x
    exact (ey ch hp j r x).trans (two_out (r10 hD t) a0 a1 hS0 hLV (r11 hD t) ch hp j r x)

def LeftAt (D : Nums) (n : ℕ) (h : n < cfg0.N) : Prop :=
  Left D n (outsAt0 m c n h).1 (outsAt0 m c n h).2.1 (outsAt0 m c n h).2.2.2.1 (outsAt0 m c n h).2.2.2.2.2.2.2.2.1 (outsAt0 m c n h).2.2.2.2.2.2.2.2.2

end Cert.Grid
-- ==== Proof.BridgeA.lean ====
/- What the pair of gated heads stores at a point of case A of the grid, chunk by chunk: each printed payload is the
   pair written once, over what the point loads. -/
module

public import proofs.«01_k».proof.Proof.PairOps
public import proofs.«01_k».proof.Proof.Gen.KernelIdeal.Frame.RunA

@[expose] public section

set_option maxRecDepth 16384

noncomputable section

namespace Cert.BridgeA

open Idealize.ShloMosaic Idealize.SL.Sem Cert.KernelIdeal Cert.KernelIdeal.Gen Cert.Pair

variable (c : Dev nD) (i : grid0.Coords)
  (a1 : Memref sig .tc .vmem S256x2048 .f32) (ha1 : a1.IsWhole)
  (a2 : Memref sig .tc .vmem S128x2048 .f32) (ha2 : a2.IsWhole)
  (a3 : Memref sig .tc .vmem S128x2048 .f32) (ha3 : a3.IsWhole)
  (a4 : Memref sig .tc .vmem S1x2048 .f32) (ha4 : a4.IsWhole)
  (a5 : Memref sig .tc .vmem S32x2048x256 .bf16) (ha5 : a5.IsWhole)
  (a6 : Memref sig .tc .vmem S16x2048 .bf16) (ha6 : a6.IsWhole)
  (a7 : Memref sig .tc .vmem S4x1024 .f32) (ha7 : a7.IsWhole)
  (a8 : Memref sig .tc .vmem S1x1024 .f32) (ha8 : a8.IsWhole)
  (a9 : Memref sig .tc .vmem S16x128 .f32) (ha9 : a9.IsWhole)
  (a10 : Memref sig .tc .vmem S1x1024 .f32) (ha10 : a10.IsWhole)
  (a11 : Memref sig .tc .vmem S2x1024 .f32) (ha11 : a11.IsWhole)
  (a12 : Memref sig .tc .vmem S1x1024 .f32) (ha12 : a12.IsWhole)
  (a13 : Memref sig .tc .vmem S256x2048 .bf16) (ha13 : a13.IsWhole)
  (a14 : Memref sig .tc .vmem S32x128x256 .f32) (ha14 : a14.IsWhole)
  (a15 : Memref sig .tc .vmem S32x128x256 .f32) (ha15 : a15.IsWhole)
  (a16 : Memref sig .tc .vmem S16x128 .f32) (ha16 : a16.IsWhole)
  (a17 : Memref sig .tc .vmem S16x128 .f32) (ha17 : a17.IsWhole)
  (a18 : Memref sig .tc .vmem S128x2048 .bf16) (ha18 : a18.IsWhole)
  (a19 : Memref sig .tc .vmem S128x2048 .bf16) (ha19 : a19.IsWhole)
  (a20 : Memref sig .tc .vmem S8x1024 .f32) (ha20 : a20.IsWhole)
  (a21 : Memref sig .tc .vmem S4x128x256 .f32) (ha21 : a21.IsWhole)
  (a22 : Memref sig .tc .vmem S4x8x128 .f32) (ha22 : a22.IsWhole)
  (a23 : Memref sig .tc .vmem S8x128 .f32) (ha23 : a23.IsWhole)
  (a24 : Memref sig .tc .vmem S4x128x256 .f32) (ha24 : a24.IsWhole)
  (a25 : Memref sig .tc .vmem S128x256 .i32) (ha25 : a25.IsWhole)
  (hc0 : cond0_0 i)
  (x0 : Vec Ideal S256x2048 .f32)
  (x1 : Vec Ideal S128x2048 .f32)
  (x2 : Vec Ideal S128x2048 .f32)
  (x3 : Vec Ideal S1x2048 .f32)
  (x4 : Vec Ideal S32x2048x256 .bf16)
  (x5 : Vec Ideal S16x2048 .bf16)
  (x6 : Vec Ideal S4x1024 .f32)
  (x7 : Vec Ideal S1x1024 .f32)
  (x8 : Vec Ideal S16x128 .f32)
  (x9 : Vec Ideal S1x1024 .f32)
  (x10 : Vec Ideal S2x1024 .f32)
  (x11 : Vec Ideal S1x1024 .f32)
  (xs0 : Vec Ideal S32x128x256 .f32)
  (xs2 : Vec Ideal S16x128 .f32)
  (xs5 : Vec Ideal S128x2048 .bf16)
  (xs6 : Vec Ideal S8x1024 .f32)
  (xs7 : Vec Ideal S4x128x256 .f32)
  (xs8 : Vec Ideal S4x8x128 .f32)
  (xs9 : Vec Ideal S8x128 .f32)
  (xs10 : Vec Ideal S4x128x256 .f32)
  (xs11 : Vec Ideal S128x256 .i32)

/-- What a load of the first chunk's projection reads, after the loop over its tiles. -/
abbrev p14 (B : LoadRect S32x128x256) : B.shape.Idx → Elt Ideal .f32 :=
  a14.view.readCov (pb_k0_t1 Variants.none c none i a1 ha1 a2 ha2 a3 ha3 a4 ha4 a5 ha5 a6       ha6 a7 ha7 a8 ha8 a9 ha9 a10 ha10 a11 ha11 a12 ha12 a13 ha13 a14 ha14 a15       ha15 a16 ha16 a17 ha17 a18 ha18 a19 ha19 a20 ha20 a21 ha21 a22 ha22 a23 ha23       a24 ha24 a25 ha25 hc0 (ha5.unread x4)       (a18.view.writes (Elt Ideal) a18.view.junk         (kernelRun0_A.sl.HS4_1 c a1 ha1 a4 ha4 x0 x3))       (Scf.trips k0_t1_loop.lb k0_t1_loop.ub         k0_t1_loop.st)) B

theorem state_0_0 : (k0_pay108 (kernelRun0_A.sl.r_58 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_59 c a24) (kernelRun0_A.sl.r_62 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_63 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_64 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) : Vec Ideal S1x128x256 .f32) = stStore (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![20, 0, 0] S1x128x256.size inb_S32x128x256_S1x128x256_20_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![24, 0, 0] S1x128x256.size inb_S32x128x256_S1x128x256_24_0_0).toLoadRect) shapeCasts_S1x128x256_S128x256) (shapeCast S128x256 (a24.view.readCov (kernelRun0_A.sl.HS10_1 (F := Ideal) ) (Rect.unit (s := S4x128x256) ![0, 0, 0] S1x128x256.size inb_S4x128x256_S1x128x256_0_0_0).toLoadRect) shapeCasts_S1x128x256_S128x256) := rfl

theorem out_0_0_0 : (k0_pay113 (kernelRun0_A.sl.r_67 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11) (kernelRun0_A.sl.r_68 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) : FVec Ideal S128x128 .bf16) = yStore0 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (a25.view.readCov kernelRun0_A.sl.HS11_1 (Rect.unit (s := S128x256) ![0, 0] S128x256.size inb_S128x256_S128x256_0_0).toLoadRect) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![16, 0, 0] S1x128x256.size inb_S32x128x256_S1x128x256_16_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![20, 0, 0] S1x128x256.size inb_S32x128x256_S1x128x256_20_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![24, 0, 0] S1x128x256.size inb_S32x128x256_S1x128x256_24_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![28, 0, 0] S1x128x256.size inb_S32x128x256_S1x128x256_28_0_0).toLoadRect) shapeCasts_S1x128x256_S128x256) (shapeCast S128x256 (a24.view.readCov (kernelRun0_A.sl.HS10_1 (F := Ideal) ) (Rect.unit (s := S4x128x256) ![0, 0, 0] S1x128x256.size inb_S4x128x256_S1x128x256_0_0_0).toLoadRect) shapeCasts_S1x128x256_S128x256) (View.readAt (Elt Ideal) a12.view (Rect.unit (s := S1x1024) ![0, 0] S1x256.size inb_S1x1024_S1x256_0_0).toLoadRect (ha12.unread x11)) := rfl

theorem out_0_0_1 : (k0_pay114 (kernelRun0_A.sl.r_22 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_60 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_61 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_65 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_66 c a12 ha12 x11) : FVec Ideal S128x128 .bf16) = yStore1 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (a25.view.readCov kernelRun0_A.sl.HS11_1 (Rect.unit (s := S128x256) ![0, 0] S128x256.size inb_S128x256_S128x256_0_0).toLoadRect) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![16, 0, 0] S1x128x256.size inb_S32x128x256_S1x128x256_16_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![20, 0, 0] S1x128x256.size inb_S32x128x256_S1x128x256_20_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![24, 0, 0] S1x128x256.size inb_S32x128x256_S1x128x256_24_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![28, 0, 0] S1x128x256.size inb_S32x128x256_S1x128x256_28_0_0).toLoadRect) shapeCasts_S1x128x256_S128x256) (shapeCast S128x256 (a24.view.readCov (kernelRun0_A.sl.HS10_1 (F := Ideal) ) (Rect.unit (s := S4x128x256) ![0, 0, 0] S1x128x256.size inb_S4x128x256_S1x128x256_0_0_0).toLoadRect) shapeCasts_S1x128x256_S128x256) (View.readAt (Elt Ideal) a12.view (Rect.unit (s := S1x1024) ![0, 0] S1x256.size inb_S1x1024_S1x256_0_0).toLoadRect (ha12.unread x11)) := rfl

theorem state_0_1 : (k0_pay181 (kernelRun0_A.sl.r_75 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_113 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_114 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_115 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_116 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) : Vec Ideal S1x128x256 .f32) = stStore (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![21, 0, 0] S1x128x256.size inb_S32x128x256_S1x128x256_21_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![25, 0, 0] S1x128x256.size inb_S32x128x256_S1x128x256_25_0_0).toLoadRect) shapeCasts_S1x128x256_S128x256) (shapeCast S128x256 (a24.view.readCov (kernelRun0_A.sl.HS10_2 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![1, 0, 0] S1x128x256.size inb_S4x128x256_S1x128x256_1_0_0).toLoadRect) shapeCasts_S1x128x256_S128x256) := rfl

theorem out_0_1_0 : (k0_pay186 (kernelRun0_A.sl.r_71 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_120 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_121 c a12 ha12 x11) (kernelRun0_A.sl.r_122 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_123 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : FVec Ideal S128x128 .bf16) = yStore0 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (a25.view.readCov kernelRun0_A.sl.HS11_1 (Rect.unit (s := S128x256) ![0, 0] S128x256.size inb_S128x256_S128x256_0_0).toLoadRect) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![17, 0, 0] S1x128x256.size inb_S32x128x256_S1x128x256_17_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![21, 0, 0] S1x128x256.size inb_S32x128x256_S1x128x256_21_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![25, 0, 0] S1x128x256.size inb_S32x128x256_S1x128x256_25_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![29, 0, 0] S1x128x256.size inb_S32x128x256_S1x128x256_29_0_0).toLoadRect) shapeCasts_S1x128x256_S128x256) (shapeCast S128x256 (a24.view.readCov (kernelRun0_A.sl.HS10_2 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![1, 0, 0] S1x128x256.size inb_S4x128x256_S1x128x256_1_0_0).toLoadRect) shapeCasts_S1x128x256_S128x256) (View.readAt (Elt Ideal) a12.view (Rect.unit (s := S1x1024) ![0, 256] S1x256.size inb_S1x1024_S1x256_0_256).toLoadRect (ha12.unread x11)) := rfl

theorem out_0_1_1 : (kernelRun0_A.sl.r_124 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11 : FVec Ideal S128x128 .bf16) = yStore1 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (a25.view.readCov kernelRun0_A.sl.HS11_1 (Rect.unit (s := S128x256) ![0, 0] S128x256.size inb_S128x256_S128x256_0_0).toLoadRect) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![17, 0, 0] S1x128x256.size inb_S32x128x256_S1x128x256_17_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![21, 0, 0] S1x128x256.size inb_S32x128x256_S1x128x256_21_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![25, 0, 0] S1x128x256.size inb_S32x128x256_S1x128x256_25_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![29, 0, 0] S1x128x256.size inb_S32x128x256_S1x128x256_29_0_0).toLoadRect) shapeCasts_S1x128x256_S128x256) (shapeCast S128x256 (a24.view.readCov (kernelRun0_A.sl.HS10_2 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![1, 0, 0] S1x128x256.size inb_S4x128x256_S1x128x256_1_0_0).toLoadRect) shapeCasts_S1x128x256_S128x256) (View.readAt (Elt Ideal) a12.view (Rect.unit (s := S1x1024) ![0, 256] S1x256.size inb_S1x1024_S1x256_0_256).toLoadRect (ha12.unread x11)) := rfl

theorem state_0_2 : (k0_pay259 (kernelRun0_A.sl.r_131 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_171 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_172 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_173 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_174 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) : Vec Ideal S1x128x256 .f32) = stStore (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![22, 0, 0] S1x128x256.size inb_S32x128x256_S1x128x256_22_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![26, 0, 0] S1x128x256.size inb_S32x128x256_S1x128x256_26_0_0).toLoadRect) shapeCasts_S1x128x256_S128x256) (shapeCast S128x256 (a24.view.readCov (kernelRun0_A.sl.HS10_3 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![2, 0, 0] S1x128x256.size inb_S4x128x256_S1x128x256_2_0_0).toLoadRect) shapeCasts_S1x128x256_S128x256) := rfl

theorem out_0_2_0 : (k0_pay264 (kernelRun0_A.sl.r_181 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_182 c a12 ha12 x11) (kernelRun0_A.sl.r_183 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_184 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : FVec Ideal S128x128 .bf16) = yStore0 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (a25.view.readCov kernelRun0_A.sl.HS11_1 (Rect.unit (s := S128x256) ![0, 0] S128x256.size inb_S128x256_S128x256_0_0).toLoadRect) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![18, 0, 0] S1x128x256.size inb_S32x128x256_S1x128x256_18_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![22, 0, 0] S1x128x256.size inb_S32x128x256_S1x128x256_22_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![26, 0, 0] S1x128x256.size inb_S32x128x256_S1x128x256_26_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![30, 0, 0] S1x128x256.size inb_S32x128x256_S1x128x256_30_0_0).toLoadRect) shapeCasts_S1x128x256_S128x256) (shapeCast S128x256 (a24.view.readCov (kernelRun0_A.sl.HS10_3 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![2, 0, 0] S1x128x256.size inb_S4x128x256_S1x128x256_2_0_0).toLoadRect) shapeCasts_S1x128x256_S128x256) (View.readAt (Elt Ideal) a12.view (Rect.unit (s := S1x1024) ![0, 512] S1x256.size inb_S1x1024_S1x256_0_512).toLoadRect (ha12.unread x11)) := rfl

theorem out_0_2_1 : (k0_pay265 (kernelRun0_A.sl.r_127 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_175 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_180 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_181 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_182 c a12 ha12 x11) : FVec Ideal S128x128 .bf16) = yStore1 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (a25.view.readCov kernelRun0_A.sl.HS11_1 (Rect.unit (s := S128x256) ![0, 0] S128x256.size inb_S128x256_S128x256_0_0).toLoadRect) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![18, 0, 0] S1x128x256.size inb_S32x128x256_S1x128x256_18_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![22, 0, 0] S1x128x256.size inb_S32x128x256_S1x128x256_22_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![26, 0, 0] S1x128x256.size inb_S32x128x256_S1x128x256_26_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![30, 0, 0] S1x128x256.size inb_S32x128x256_S1x128x256_30_0_0).toLoadRect) shapeCasts_S1x128x256_S128x256) (shapeCast S128x256 (a24.view.readCov (kernelRun0_A.sl.HS10_3 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![2, 0, 0] S1x128x256.size inb_S4x128x256_S1x128x256_2_0_0).toLoadRect) shapeCasts_S1x128x256_S128x256) (View.readAt (Elt Ideal) a12.view (Rect.unit (s := S1x1024) ![0, 512] S1x256.size inb_S1x1024_S1x256_0_512).toLoadRect (ha12.unread x11)) := rfl

theorem state_0_3 : (k0_pay332 (kernelRun0_A.sl.r_187 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_188 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_226 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_227 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.v2251 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : Vec Ideal S1x128x256 .f32) = stStore (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![23, 0, 0] S1x128x256.size inb_S32x128x256_S1x128x256_23_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![27, 0, 0] S1x128x256.size inb_S32x128x256_S1x128x256_27_0_0).toLoadRect) shapeCasts_S1x128x256_S128x256) (shapeCast S128x256 (a24.view.readCov (kernelRun0_A.sl.HS10_4 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![3, 0, 0] S1x128x256.size inb_S4x128x256_S1x128x256_3_0_0).toLoadRect) shapeCasts_S1x128x256_S128x256) := rfl

theorem out_0_3_0 : (k0_pay337 (kernelRun0_A.sl.r_187 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_228 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_229 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_230 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) k0_pay334 (View.readAt (Elt Ideal) a12.view (Rect.unit (s := S1x1024) ![0, 768] S1x256.size inb_S1x1024_S1x256_0_768).toLoadRect (ha12.unread x11)) : FVec Ideal S128x128 .bf16) = yStore0 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (a25.view.readCov kernelRun0_A.sl.HS11_1 (Rect.unit (s := S128x256) ![0, 0] S128x256.size inb_S128x256_S128x256_0_0).toLoadRect) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![19, 0, 0] S1x128x256.size inb_S32x128x256_S1x128x256_19_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![23, 0, 0] S1x128x256.size inb_S32x128x256_S1x128x256_23_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![27, 0, 0] S1x128x256.size inb_S32x128x256_S1x128x256_27_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![31, 0, 0] S1x128x256.size inb_S32x128x256_S1x128x256_31_0_0).toLoadRect) shapeCasts_S1x128x256_S128x256) (shapeCast S128x256 (a24.view.readCov (kernelRun0_A.sl.HS10_4 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![3, 0, 0] S1x128x256.size inb_S4x128x256_S1x128x256_3_0_0).toLoadRect) shapeCasts_S1x128x256_S128x256) (View.readAt (Elt Ideal) a12.view (Rect.unit (s := S1x1024) ![0, 768] S1x256.size inb_S1x1024_S1x256_0_768).toLoadRect (ha12.unread x11)) := rfl

theorem out_0_3_1 : (k0_pay341 (kernelRun0_A.sl.r_231 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_232 c a12 ha12 x11) (kernelRun0_A.sl.r_233 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_234 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) k0_pay340 : FVec Ideal S128x128 .bf16) = yStore1 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (a25.view.readCov kernelRun0_A.sl.HS11_1 (Rect.unit (s := S128x256) ![0, 0] S128x256.size inb_S128x256_S128x256_0_0).toLoadRect) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![19, 0, 0] S1x128x256.size inb_S32x128x256_S1x128x256_19_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![23, 0, 0] S1x128x256.size inb_S32x128x256_S1x128x256_23_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![27, 0, 0] S1x128x256.size inb_S32x128x256_S1x128x256_27_0_0).toLoadRect) shapeCasts_S1x128x256_S128x256) (shapeCast S128x256 (p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (Rect.unit (s := S32x128x256) ![31, 0, 0] S1x128x256.size inb_S32x128x256_S1x128x256_31_0_0).toLoadRect) shapeCasts_S1x128x256_S128x256) (shapeCast S128x256 (a24.view.readCov (kernelRun0_A.sl.HS10_4 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![3, 0, 0] S1x128x256.size inb_S4x128x256_S1x128x256_3_0_0).toLoadRect) shapeCasts_S1x128x256_S128x256) (View.readAt (Elt Ideal) a12.view (Rect.unit (s := S1x1024) ![0, 768] S1x256.size inb_S1x1024_S1x256_0_768).toLoadRect (ha12.unread x11)) := rfl

theorem state_1_0 : (k0_pay542 (kernelRun0_A.sl.r_323 c a1 ha1 a4 ha4 a5 ha5 a15 a19 x0 x3 x4) (kernelRun0_A.sl.r_324 c a1 ha1 a4 ha4 a5 ha5 a11 ha11 a15 a19 x0 x3 x4 x10) (kernelRun0_A.sl.r_363 c a1 ha1 a4 ha4 a5 ha5 a11 ha11 a15 a19 x0 x3 x4 x10) (kernelRun0_A.sl.r_364 c a1 ha1 a4 ha4 a5 ha5 a11 ha11 a15 a19 x0 x3 x4 x10) (kernelRun0_A.sl.v3536 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : Vec Ideal S1x128x256 .f32) = stStore (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (shapeCast S128x256 (a15.view.readCov (kernelRun0_A.sl.HS1_32 (F := Ideal) c a1 ha1 a4 ha4 a5 ha5 a19 x0 x3 x4) (Rect.unit (s := S32x128x256) ![20, 0, 0] S1x128x256.size inb_S32x128x256_S1x128x256_20_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![24, 0, 0] S1x128x256.size inb_S32x128x256_S1x128x256_24_0_0).toLoadRect) shapeCasts_S1x128x256_S128x256) (shapeCast S128x256 (a24.view.readCov (kernelRun0_A.sl.HS10_5 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![0, 0, 0] S1x128x256.size inb_S4x128x256_S1x128x256_0_0_0).toLoadRect) shapeCasts_S1x128x256_S128x256) := rfl

theorem out_1_0_0 : (k0_pay547 (kernelRun0_A.sl.r_323 c a1 ha1 a4 ha4 a5 ha5 a15 a19 x0 x3 x4) (kernelRun0_A.sl.r_365 c a1 ha1 a4 ha4 a5 ha5 a11 ha11 a15 a19 x0 x3 x4 x10) (kernelRun0_A.sl.r_366 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_367 c a1 ha1 a4 ha4 a5 ha5 a15 a19 x0 x3 x4) (kernelRun0_A.sl.r_368 c a1 ha1 a4 ha4 a5 ha5 a15 a19 x0 x3 x4) kernelRun0_A.sl.cst_157 (View.readAt (Elt Ideal) a12.view (Rect.unit (s := S1x1024) ![0, 0] S1x256.size inb_S1x1024_S1x256_0_0).toLoadRect (ha12.unread x11)) : FVec Ideal S128x128 .bf16) = yStore0 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (a25.view.readCov kernelRun0_A.sl.HS11_1 (Rect.unit (s := S128x256) ![0, 0] S128x256.size inb_S128x256_S128x256_0_0).toLoadRect) (shapeCast S128x256 (a15.view.readCov (kernelRun0_A.sl.HS1_32 (F := Ideal) c a1 ha1 a4 ha4 a5 ha5 a19 x0 x3 x4) (Rect.unit (s := S32x128x256) ![16, 0, 0] S1x128x256.size inb_S32x128x256_S1x128x256_16_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![20, 0, 0] S1x128x256.size inb_S32x128x256_S1x128x256_20_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![24, 0, 0] S1x128x256.size inb_S32x128x256_S1x128x256_24_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![28, 0, 0] S1x128x256.size inb_S32x128x256_S1x128x256_28_0_0).toLoadRect) shapeCasts_S1x128x256_S128x256) (shapeCast S128x256 (a24.view.readCov (kernelRun0_A.sl.HS10_5 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![0, 0, 0] S1x128x256.size inb_S4x128x256_S1x128x256_0_0_0).toLoadRect) shapeCasts_S1x128x256_S128x256) (View.readAt (Elt Ideal) a12.view (Rect.unit (s := S1x1024) ![0, 0] S1x256.size inb_S1x1024_S1x256_0_0).toLoadRect (ha12.unread x11)) := rfl

theorem out_1_0_1 : (k0_pay551 (kernelRun0_A.sl.r_369 c a1 ha1 a4 ha4 a5 ha5 a15 a19 x0 x3 x4) (kernelRun0_A.sl.r_370 c a12 ha12 x11) (kernelRun0_A.sl.r_371 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_372 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) k0_pay550 : FVec Ideal S128x128 .bf16) = yStore1 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (a25.view.readCov kernelRun0_A.sl.HS11_1 (Rect.unit (s := S128x256) ![0, 0] S128x256.size inb_S128x256_S128x256_0_0).toLoadRect) (shapeCast S128x256 (a15.view.readCov (kernelRun0_A.sl.HS1_32 (F := Ideal) c a1 ha1 a4 ha4 a5 ha5 a19 x0 x3 x4) (Rect.unit (s := S32x128x256) ![16, 0, 0] S1x128x256.size inb_S32x128x256_S1x128x256_16_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![20, 0, 0] S1x128x256.size inb_S32x128x256_S1x128x256_20_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![24, 0, 0] S1x128x256.size inb_S32x128x256_S1x128x256_24_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![28, 0, 0] S1x128x256.size inb_S32x128x256_S1x128x256_28_0_0).toLoadRect) shapeCasts_S1x128x256_S128x256) (shapeCast S128x256 (a24.view.readCov (kernelRun0_A.sl.HS10_5 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![0, 0, 0] S1x128x256.size inb_S4x128x256_S1x128x256_0_0_0).toLoadRect) shapeCasts_S1x128x256_S128x256) (View.readAt (Elt Ideal) a12.view (Rect.unit (s := S1x1024) ![0, 0] S1x256.size inb_S1x1024_S1x256_0_0).toLoadRect (ha12.unread x11)) := rfl

theorem state_1_1 : (k0_pay622 (kernelRun0_A.sl.r_413 c a1 ha1 a4 ha4 a5 ha5 a11 ha11 a15 a19 x0 x3 x4 x10) (kernelRun0_A.sl.r_414 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_417 c a1 ha1 a4 ha4 a5 ha5 a11 ha11 a15 a19 x0 x3 x4 x10) (kernelRun0_A.sl.r_418 c a1 ha1 a4 ha4 a5 ha5 a15 a19 x0 x3 x4) (kernelRun0_A.sl.r_419 c a1 ha1 a4 ha4 a5 ha5 a11 ha11 a15 a19 x0 x3 x4 x10) : Vec Ideal S1x128x256 .f32) = stStore (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (shapeCast S128x256 (a15.view.readCov (kernelRun0_A.sl.HS1_32 (F := Ideal) c a1 ha1 a4 ha4 a5 ha5 a19 x0 x3 x4) (Rect.unit (s := S32x128x256) ![21, 0, 0] S1x128x256.size inb_S32x128x256_S1x128x256_21_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![25, 0, 0] S1x128x256.size inb_S32x128x256_S1x128x256_25_0_0).toLoadRect) shapeCasts_S1x128x256_S128x256) (shapeCast S128x256 (a24.view.readCov (kernelRun0_A.sl.HS10_6 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![1, 0, 0] S1x128x256.size inb_S4x128x256_S1x128x256_1_0_0).toLoadRect) shapeCasts_S1x128x256_S128x256) := rfl

theorem out_1_1_0 : (k0_pay626 (kernelRun0_A.sl.r_422 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11) : FVec Ideal S128x128 .bf16) = yStore0 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (a25.view.readCov kernelRun0_A.sl.HS11_1 (Rect.unit (s := S128x256) ![0, 0] S128x256.size inb_S128x256_S128x256_0_0).toLoadRect) (shapeCast S128x256 (a15.view.readCov (kernelRun0_A.sl.HS1_32 (F := Ideal) c a1 ha1 a4 ha4 a5 ha5 a19 x0 x3 x4) (Rect.unit (s := S32x128x256) ![17, 0, 0] S1x128x256.size inb_S32x128x256_S1x128x256_17_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![21, 0, 0] S1x128x256.size inb_S32x128x256_S1x128x256_21_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![25, 0, 0] S1x128x256.size inb_S32x128x256_S1x128x256_25_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![29, 0, 0] S1x128x256.size inb_S32x128x256_S1x128x256_29_0_0).toLoadRect) shapeCasts_S1x128x256_S128x256) (shapeCast S128x256 (a24.view.readCov (kernelRun0_A.sl.HS10_6 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![1, 0, 0] S1x128x256.size inb_S4x128x256_S1x128x256_1_0_0).toLoadRect) shapeCasts_S1x128x256_S128x256) (View.readAt (Elt Ideal) a12.view (Rect.unit (s := S1x1024) ![0, 256] S1x256.size inb_S1x1024_S1x256_0_256).toLoadRect (ha12.unread x11)) := rfl

theorem out_1_1_1 : (k0_pay627 (kernelRun0_A.sl.r_375 c a1 ha1 a4 ha4 a5 ha5 a15 a19 x0 x3 x4) (kernelRun0_A.sl.r_415 c a1 ha1 a4 ha4 a5 ha5 a11 ha11 a15 a19 x0 x3 x4 x10) (kernelRun0_A.sl.r_416 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_420 c a1 ha1 a4 ha4 a5 ha5 a15 a19 x0 x3 x4) (kernelRun0_A.sl.r_421 c a12 ha12 x11) : FVec Ideal S128x128 .bf16) = yStore1 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (a25.view.readCov kernelRun0_A.sl.HS11_1 (Rect.unit (s := S128x256) ![0, 0] S128x256.size inb_S128x256_S128x256_0_0).toLoadRect) (shapeCast S128x256 (a15.view.readCov (kernelRun0_A.sl.HS1_32 (F := Ideal) c a1 ha1 a4 ha4 a5 ha5 a19 x0 x3 x4) (Rect.unit (s := S32x128x256) ![17, 0, 0] S1x128x256.size inb_S32x128x256_S1x128x256_17_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![21, 0, 0] S1x128x256.size inb_S32x128x256_S1x128x256_21_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![25, 0, 0] S1x128x256.size inb_S32x128x256_S1x128x256_25_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![29, 0, 0] S1x128x256.size inb_S32x128x256_S1x128x256_29_0_0).toLoadRect) shapeCasts_S1x128x256_S128x256) (shapeCast S128x256 (a24.view.readCov (kernelRun0_A.sl.HS10_6 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![1, 0, 0] S1x128x256.size inb_S4x128x256_S1x128x256_1_0_0).toLoadRect) shapeCasts_S1x128x256_S128x256) (View.readAt (Elt Ideal) a12.view (Rect.unit (s := S1x1024) ![0, 256] S1x256.size inb_S1x1024_S1x256_0_256).toLoadRect (ha12.unread x11)) := rfl

theorem state_1_2 : (k0_pay690 (kernelRun0_A.sl.r_464 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : Vec Ideal S1x128x256 .f32) = stStore (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (shapeCast S128x256 (a15.view.readCov (kernelRun0_A.sl.HS1_32 (F := Ideal) c a1 ha1 a4 ha4 a5 ha5 a19 x0 x3 x4) (Rect.unit (s := S32x128x256) ![22, 0, 0] S1x128x256.size inb_S32x128x256_S1x128x256_22_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![26, 0, 0] S1x128x256.size inb_S32x128x256_S1x128x256_26_0_0).toLoadRect) shapeCasts_S1x128x256_S128x256) (shapeCast S128x256 (a24.view.readCov (kernelRun0_A.sl.HS10_7 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![2, 0, 0] S1x128x256.size inb_S4x128x256_S1x128x256_2_0_0).toLoadRect) shapeCasts_S1x128x256_S128x256) := rfl

theorem out_1_2_0 : (k0_pay693 (kernelRun0_A.sl.r_425 c a1 ha1 a4 ha4 a5 ha5 a15 a19 x0 x3 x4) (kernelRun0_A.sl.r_462 c a1 ha1 a4 ha4 a5 ha5 a11 ha11 a15 a19 x0 x3 x4 x10) (kernelRun0_A.sl.r_463 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.v4631 c a1 ha1 a4 ha4 a5 ha5 a15 a19 x0 x3 x4) (View.readAt (Elt Ideal) a12.view (Rect.unit (s := S1x1024) ![0, 512] S1x256.size inb_S1x1024_S1x256_0_512).toLoadRect (ha12.unread x11)) : FVec Ideal S128x128 .bf16) = yStore0 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (a25.view.readCov kernelRun0_A.sl.HS11_1 (Rect.unit (s := S128x256) ![0, 0] S128x256.size inb_S128x256_S128x256_0_0).toLoadRect) (shapeCast S128x256 (a15.view.readCov (kernelRun0_A.sl.HS1_32 (F := Ideal) c a1 ha1 a4 ha4 a5 ha5 a19 x0 x3 x4) (Rect.unit (s := S32x128x256) ![18, 0, 0] S1x128x256.size inb_S32x128x256_S1x128x256_18_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![22, 0, 0] S1x128x256.size inb_S32x128x256_S1x128x256_22_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![26, 0, 0] S1x128x256.size inb_S32x128x256_S1x128x256_26_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![30, 0, 0] S1x128x256.size inb_S32x128x256_S1x128x256_30_0_0).toLoadRect) shapeCasts_S1x128x256_S128x256) (shapeCast S128x256 (a24.view.readCov (kernelRun0_A.sl.HS10_7 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![2, 0, 0] S1x128x256.size inb_S4x128x256_S1x128x256_2_0_0).toLoadRect) shapeCasts_S1x128x256_S128x256) (View.readAt (Elt Ideal) a12.view (Rect.unit (s := S1x1024) ![0, 512] S1x256.size inb_S1x1024_S1x256_0_512).toLoadRect (ha12.unread x11)) := rfl

theorem out_1_2_1 : (k0_pay696 (kernelRun0_A.sl.r_425 c a1 ha1 a4 ha4 a5 ha5 a15 a19 x0 x3 x4) (kernelRun0_A.sl.r_465 c a1 ha1 a4 ha4 a5 ha5 a15 a19 x0 x3 x4) (kernelRun0_A.sl.r_466 c a12 ha12 x11) (kernelRun0_A.sl.r_467 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_468 c a1 ha1 a4 ha4 a5 ha5 a11 ha11 a15 a19 x0 x3 x4 x10) : FVec Ideal S128x128 .bf16) = yStore1 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (a25.view.readCov kernelRun0_A.sl.HS11_1 (Rect.unit (s := S128x256) ![0, 0] S128x256.size inb_S128x256_S128x256_0_0).toLoadRect) (shapeCast S128x256 (a15.view.readCov (kernelRun0_A.sl.HS1_32 (F := Ideal) c a1 ha1 a4 ha4 a5 ha5 a19 x0 x3 x4) (Rect.unit (s := S32x128x256) ![18, 0, 0] S1x128x256.size inb_S32x128x256_S1x128x256_18_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![22, 0, 0] S1x128x256.size inb_S32x128x256_S1x128x256_22_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![26, 0, 0] S1x128x256.size inb_S32x128x256_S1x128x256_26_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![30, 0, 0] S1x128x256.size inb_S32x128x256_S1x128x256_30_0_0).toLoadRect) shapeCasts_S1x128x256_S128x256) (shapeCast S128x256 (a24.view.readCov (kernelRun0_A.sl.HS10_7 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![2, 0, 0] S1x128x256.size inb_S4x128x256_S1x128x256_2_0_0).toLoadRect) shapeCasts_S1x128x256_S128x256) (View.readAt (Elt Ideal) a12.view (Rect.unit (s := S1x1024) ![0, 512] S1x256.size inb_S1x1024_S1x256_0_512).toLoadRect (ha12.unread x11)) := rfl

theorem state_1_3 : (k0_pay765 (kernelRun0_A.sl.r_475 c a1 ha1 a4 ha4 a5 ha5 a11 ha11 a15 a19 x0 x3 x4 x10) (kernelRun0_A.sl.r_513 c a1 ha1 a4 ha4 a5 ha5 a11 ha11 a15 a19 x0 x3 x4 x10) (kernelRun0_A.sl.r_514 c a1 ha1 a4 ha4 a5 ha5 a11 ha11 a15 a19 x0 x3 x4 x10) (kernelRun0_A.sl.r_515 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_516 c a1 ha1 a4 ha4 a5 ha5 a15 a19 x0 x3 x4) : Vec Ideal S1x128x256 .f32) = stStore (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (shapeCast S128x256 (a15.view.readCov (kernelRun0_A.sl.HS1_32 (F := Ideal) c a1 ha1 a4 ha4 a5 ha5 a19 x0 x3 x4) (Rect.unit (s := S32x128x256) ![23, 0, 0] S1x128x256.size inb_S32x128x256_S1x128x256_23_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![27, 0, 0] S1x128x256.size inb_S32x128x256_S1x128x256_27_0_0).toLoadRect) shapeCasts_S1x128x256_S128x256) (shapeCast S128x256 (a24.view.readCov (kernelRun0_A.sl.HS10_8 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![3, 0, 0] S1x128x256.size inb_S4x128x256_S1x128x256_3_0_0).toLoadRect) shapeCasts_S1x128x256_S128x256) := rfl

theorem out_1_3_0 : (k0_pay770 (kernelRun0_A.sl.r_523 c a1 ha1 a4 ha4 a5 ha5 a15 a19 x0 x3 x4) (kernelRun0_A.sl.r_524 c a12 ha12 x11) (kernelRun0_A.sl.r_525 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_526 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : FVec Ideal S128x128 .bf16) = yStore0 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (a25.view.readCov kernelRun0_A.sl.HS11_1 (Rect.unit (s := S128x256) ![0, 0] S128x256.size inb_S128x256_S128x256_0_0).toLoadRect) (shapeCast S128x256 (a15.view.readCov (kernelRun0_A.sl.HS1_32 (F := Ideal) c a1 ha1 a4 ha4 a5 ha5 a19 x0 x3 x4) (Rect.unit (s := S32x128x256) ![19, 0, 0] S1x128x256.size inb_S32x128x256_S1x128x256_19_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![23, 0, 0] S1x128x256.size inb_S32x128x256_S1x128x256_23_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![27, 0, 0] S1x128x256.size inb_S32x128x256_S1x128x256_27_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![31, 0, 0] S1x128x256.size inb_S32x128x256_S1x128x256_31_0_0).toLoadRect) shapeCasts_S1x128x256_S128x256) (shapeCast S128x256 (a24.view.readCov (kernelRun0_A.sl.HS10_8 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![3, 0, 0] S1x128x256.size inb_S4x128x256_S1x128x256_3_0_0).toLoadRect) shapeCasts_S1x128x256_S128x256) (View.readAt (Elt Ideal) a12.view (Rect.unit (s := S1x1024) ![0, 768] S1x256.size inb_S1x1024_S1x256_0_768).toLoadRect (ha12.unread x11)) := rfl

theorem out_1_3_1 : (k0_pay771 (kernelRun0_A.sl.r_471 c a1 ha1 a4 ha4 a5 ha5 a15 a19 x0 x3 x4) (kernelRun0_A.sl.r_517 c a1 ha1 a4 ha4 a5 ha5 a11 ha11 a15 a19 x0 x3 x4 x10) (kernelRun0_A.sl.r_522 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_523 c a1 ha1 a4 ha4 a5 ha5 a15 a19 x0 x3 x4) (kernelRun0_A.sl.r_524 c a12 ha12 x11) : FVec Ideal S128x128 .bf16) = yStore1 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (a25.view.readCov kernelRun0_A.sl.HS11_1 (Rect.unit (s := S128x256) ![0, 0] S128x256.size inb_S128x256_S128x256_0_0).toLoadRect) (shapeCast S128x256 (a15.view.readCov (kernelRun0_A.sl.HS1_32 (F := Ideal) c a1 ha1 a4 ha4 a5 ha5 a19 x0 x3 x4) (Rect.unit (s := S32x128x256) ![19, 0, 0] S1x128x256.size inb_S32x128x256_S1x128x256_19_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![23, 0, 0] S1x128x256.size inb_S32x128x256_S1x128x256_23_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![27, 0, 0] S1x128x256.size inb_S32x128x256_S1x128x256_27_0_0).toLoadRect) shapeCasts_S1x128x256_S128x256) (shapeCast S128x256 (a15.view.readCov (kernelRun0_A.sl.HS1_32 (F := Ideal) c a1 ha1 a4 ha4 a5 ha5 a19 x0 x3 x4) (Rect.unit (s := S32x128x256) ![31, 0, 0] S1x128x256.size inb_S32x128x256_S1x128x256_31_0_0).toLoadRect) shapeCasts_S1x128x256_S128x256) (shapeCast S128x256 (a24.view.readCov (kernelRun0_A.sl.HS10_8 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![3, 0, 0] S1x128x256.size inb_S4x128x256_S1x128x256_3_0_0).toLoadRect) shapeCasts_S1x128x256_S128x256) (View.readAt (Elt Ideal) a12.view (Rect.unit (s := S1x1024) ![0, 768] S1x256.size inb_S1x1024_S1x256_0_768).toLoadRect (ha12.unread x11)) := rfl

end Cert.BridgeA
-- ==== Proof.MemA.lean ====
/- What a point of case A of the grid leaves in the scratch buffers it carries, and the columns of the output its gated
   heads store, over what it loads. -/
module

public import proofs.«01_k».proof.Proof.BridgeA
public import proofs.«01_k».proof.Proof.Tiles
public import proofs.«01_k».proof.Proof.Gen.KernelIdeal.Frame
public import proofs.«01_k».proof.Proof.Gen.KernelIdeal.Frame.RunA

@[expose] public section

set_option maxRecDepth 16384

noncomputable section

namespace Cert.MemA

open Idealize.ShloMosaic Idealize.ShloMosaic.ValueIdx Cert.Tiles Idealize.SL.Sem Cert.KernelIdeal Cert.KernelIdeal.Gen Cert.Pair

variable (c : Dev nD) (i : grid0.Coords)
  (a1 : Memref sig .tc .vmem S256x2048 .f32) (ha1 : a1.IsWhole)
  (a2 : Memref sig .tc .vmem S128x2048 .f32) (ha2 : a2.IsWhole)
  (a3 : Memref sig .tc .vmem S128x2048 .f32) (ha3 : a3.IsWhole)
  (a4 : Memref sig .tc .vmem S1x2048 .f32) (ha4 : a4.IsWhole)
  (a5 : Memref sig .tc .vmem S32x2048x256 .bf16) (ha5 : a5.IsWhole)
  (a6 : Memref sig .tc .vmem S16x2048 .bf16) (ha6 : a6.IsWhole)
  (a7 : Memref sig .tc .vmem S4x1024 .f32) (ha7 : a7.IsWhole)
  (a8 : Memref sig .tc .vmem S1x1024 .f32) (ha8 : a8.IsWhole)
  (a9 : Memref sig .tc .vmem S16x128 .f32) (ha9 : a9.IsWhole)
  (a10 : Memref sig .tc .vmem S1x1024 .f32) (ha10 : a10.IsWhole)
  (a11 : Memref sig .tc .vmem S2x1024 .f32) (ha11 : a11.IsWhole)
  (a12 : Memref sig .tc .vmem S1x1024 .f32) (ha12 : a12.IsWhole)
  (a13 : Memref sig .tc .vmem S256x2048 .bf16) (ha13 : a13.IsWhole)
  (a14 : Memref sig .tc .vmem S32x128x256 .f32) (ha14 : a14.IsWhole)
  (a15 : Memref sig .tc .vmem S32x128x256 .f32) (ha15 : a15.IsWhole)
  (a16 : Memref sig .tc .vmem S16x128 .f32) (ha16 : a16.IsWhole)
  (a17 : Memref sig .tc .vmem S16x128 .f32) (ha17 : a17.IsWhole)
  (a18 : Memref sig .tc .vmem S128x2048 .bf16) (ha18 : a18.IsWhole)
  (a19 : Memref sig .tc .vmem S128x2048 .bf16) (ha19 : a19.IsWhole)
  (a20 : Memref sig .tc .vmem S8x1024 .f32) (ha20 : a20.IsWhole)
  (a21 : Memref sig .tc .vmem S4x128x256 .f32) (ha21 : a21.IsWhole)
  (a22 : Memref sig .tc .vmem S4x8x128 .f32) (ha22 : a22.IsWhole)
  (a23 : Memref sig .tc .vmem S8x128 .f32) (ha23 : a23.IsWhole)
  (a24 : Memref sig .tc .vmem S4x128x256 .f32) (ha24 : a24.IsWhole)
  (a25 : Memref sig .tc .vmem S128x256 .i32) (ha25 : a25.IsWhole)
  (x0 : Vec Ideal S256x2048 .f32)
  (x1 : Vec Ideal S128x2048 .f32)
  (x2 : Vec Ideal S128x2048 .f32)
  (x3 : Vec Ideal S1x2048 .f32)
  (x4 : Vec Ideal S32x2048x256 .bf16)
  (x5 : Vec Ideal S16x2048 .bf16)
  (x6 : Vec Ideal S4x1024 .f32)
  (x7 : Vec Ideal S1x1024 .f32)
  (x8 : Vec Ideal S16x128 .f32)
  (x9 : Vec Ideal S1x1024 .f32)
  (x10 : Vec Ideal S2x1024 .f32)
  (x11 : Vec Ideal S1x1024 .f32)
  (xs0 : Vec Ideal S32x128x256 .f32)
  (xs2 : Vec Ideal S16x128 .f32)
  (xs5 : Vec Ideal S128x2048 .bf16)
  (xs6 : Vec Ideal S8x1024 .f32)
  (xs7 : Vec Ideal S4x128x256 .f32)
  (xs8 : Vec Ideal S4x8x128 .f32)
  (xs9 : Vec Ideal S8x128 .f32)
  (xs10 : Vec Ideal S4x128x256 .f32)
  (xs11 : Vec Ideal S128x256 .i32)
  (hc0 : cond0_0 i) (hc1 : cond0_1 i)

theorem wEq : (fun k => View.readAt (Elt Ideal) a5.view (wRect k).toLoadRect (ha5.unread x4)) = wtile x4 := rd_w a5 ha5 x4

theorem u0Eq : (a18.view.readCov (kernelRun0_A.sl.HS4_1 (F := Ideal) c a1 ha1 a4 ha4 x0 x3) (Rect.unit (s := S128x2048) ![0, 0] S128x2048.size inb_S128x2048_S128x2048_0_0).toLoadRect : S128x2048.Idx → Elt Ideal .bf16) = unorm (xhalf x0 0) x3 := by
  refine (View.readCov_unit_zero (Val := Elt Ideal) a18.view o2 _ (unorm (View.readAt (Elt Ideal) a1.view (Rect.unit (s := S256x2048) ![0, 0] S128x2048.size inb_S256x2048_S128x2048_0_0).toLoadRect (ha1.unread x0)) (View.readAt (Elt Ideal) a4.view (Rect.unit (s := S1x2048) ![0, 0] S1x2048.size inb_S1x2048_S1x2048_0_0).toLoadRect (ha4.unread x3))) ).trans ?_
  rw [rd_half0 a1 ha1 x0, rd_all a4 ha4 x3 o2]

theorem u1Eq : (a19.view.readCov (kernelRun0_A.sl.HS5_1 (F := Ideal) c a1 ha1 a4 ha4 x0 x3) (Rect.unit (s := S128x2048) ![0, 0] S128x2048.size inb_S128x2048_S128x2048_0_0).toLoadRect : S128x2048.Idx → Elt Ideal .bf16) = unorm (xhalf x0 1) x3 := by
  refine (View.readCov_unit_zero (Val := Elt Ideal) a19.view o2 _ (unorm (View.readAt (Elt Ideal) a1.view (Rect.unit (s := S256x2048) ![128, 0] S128x2048.size inb_S256x2048_S128x2048_128_0).toLoadRect (ha1.unread x0)) (View.readAt (Elt Ideal) a4.view (Rect.unit (s := S1x2048) ![0, 0] S1x2048.size inb_S1x2048_S1x2048_0_0).toLoadRect (ha4.unread x3))) ).trans ?_
  rw [rd_half1 a1 ha1 x0, rd_all a4 ha4 x3 o2]

theorem u2Eq : (a18.view.readCov (kernelRun0_A.sl.HS4_2 (F := Ideal) c a1 ha1 a2 ha2 a4 ha4 x0 x1 x3) (Rect.unit (s := S128x2048) ![0, 0] S128x2048.size inb_S128x2048_S128x2048_0_0).toLoadRect) = unorm x1 x3 := by
  rw [View.readCov_eq_canon']
  have h : View.canon (kernelRun0_A.sl.HS4_2 (F := Ideal) c a1 ha1 a2 ha2 a4 ha4 x0 x1 x3) = unorm (View.readAt (Elt Ideal) a2.view (Rect.unit (s := S128x2048) ![0, 0] S128x2048.size inb_S128x2048_S128x2048_0_0).toLoadRect (ha2.unread x1)) (View.readAt (Elt Ideal) a4.view (Rect.unit (s := S1x2048) ![0, 0] S1x2048.size inb_S1x2048_S1x2048_0_0).toLoadRect (ha4.unread x3)) := View.canon_cons_unit_zero (Val := Elt Ideal) (S := S128x2048) (e := .bf16) o2 inb_S128x2048_S128x2048_0_0 (unorm (View.readAt (Elt Ideal) a2.view (Rect.unit (s := S128x2048) ![0, 0] S128x2048.size inb_S128x2048_S128x2048_0_0).toLoadRect (ha2.unread x1)) (View.readAt (Elt Ideal) a4.view (Rect.unit (s := S1x2048) ![0, 0] S1x2048.size inb_S1x2048_S1x2048_0_0).toLoadRect (ha4.unread x3))) (kernelRun0_A.sl.HS4_1 (F := Ideal) c a1 ha1 a4 ha4 x0 x3)
  rw [h, rd_all a2 ha2 x1 o2, rd_all a4 ha4 x3 o2]
  exact ld_whole (S := S128x2048) (e := .bf16) o2 _ _

theorem p1Eq (k : Fin 32) : a15.view.readCov (kernelRun0_A.sl.HS1_32 (F := Ideal) c a1 ha1 a4 ha4 a5 ha5 a19 x0 x3 x4) (tileRect k).toLoadRect = (projT (unorm (xhalf x0 1) x3) (wtile x4)) k := by
  have h : (kernelRun0_A.sl.HS1_32 (F := Ideal) c a1 ha1 a4 ha4 a5 ha5 a19 x0 x3 x4) = tl (projT (a19.view.readCov (kernelRun0_A.sl.HS5_1 (F := Ideal) c a1 ha1 a4 ha4 x0 x3) (Rect.unit (s := S128x2048) ![0, 0] S128x2048.size inb_S128x2048_S128x2048_0_0).toLoadRect) (fun k => View.readAt (Elt Ideal) a5.view (wRect k).toLoadRect (ha5.unread x4))) := rfl
  rw [h, tl_read, wEq, u1Eq]

theorem tripEq (k : Fin 32) :
    tripL_k0_t1 (F := Ideal) Variants.none c none i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 (ha5.unread x4) (a18.view.writes (Elt Ideal) a18.view.junk (kernelRun0_A.sl.HS4_1 (F := Ideal) c a1 ha1 a4 ha4 x0 x3)) k
      = [⟨tileRect k, projT (a18.view.readCov (kernelRun0_A.sl.HS4_1 (F := Ideal) c a1 ha1 a4 ha4 x0 x3) (Rect.unit (s := S128x2048) ![0, 0] S128x2048.size inb_S128x2048_S128x2048_0_0).toLoadRect) (fun k => View.readAt (Elt Ideal) a5.view (wRect k).toLoadRect (ha5.unread x4)) k⟩] := by
  unfold tripL_k0_t1 trip_k0_t1
  dsimp only
  refine (congrArg (fun q : View.Piece (Elt Ideal) S32x128x256 .f32 => [q]) (piece_off (S := S32x128x256) (e := .f32) (size := S1x128x256.size) (k0_off2_eq k) (k0_off2_inb i k hc0) (inbT k)
    (k0_pay4 (F := Ideal) (a18.view.readCov (kernelRun0_A.sl.HS4_1 (F := Ideal) c a1 ha1 a4 ha4 x0 x3) (Rect.unit (s := S128x2048) ![0, 0] S128x2048.size inb_S128x2048_S128x2048_0_0).toLoadRect) (View.readAt (Elt Ideal) a5.view (Rect.unit (s := S32x2048x256) (k0_off1 k) S1x2048x256.size (k0_off1_inb i k hc0)).toLoadRect (ha5.unread x4))))).trans ?_
  have h2 : View.readAt (Elt Ideal) a5.view (Rect.unit (s := S32x2048x256) (k0_off1 k) S1x2048x256.size (k0_off1_inb i k hc0)).toLoadRect (ha5.unread x4)
      = View.readAt (Elt Ideal) a5.view (wRect k).toLoadRect (ha5.unread x4) := readAt_off (S := S32x2048x256) (size := S1x2048x256.size) (k0_off1_eq k) _ (inbW k) a5 _
  exact congrArg (fun w => ([⟨tileRect k, (k0_pay4 (F := Ideal) (a18.view.readCov (kernelRun0_A.sl.HS4_1 (F := Ideal) c a1 ha1 a4 ha4 x0 x3) (Rect.unit (s := S128x2048) ![0, 0] S128x2048.size inb_S128x2048_S128x2048_0_0).toLoadRect) w : S1x128x256.Idx → Elt Ideal .f32)⟩] : List (View.Piece (Elt Ideal) S32x128x256 .f32))) h2

theorem p0Eq (k : Fin 32) : Cert.BridgeA.p14 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 (tileRect k).toLoadRect = (projT (unorm (xhalf x0 0) x3) (wtile x4)) k := by
  refine (tl_loop a14.view (projT (a18.view.readCov (kernelRun0_A.sl.HS4_1 (F := Ideal) c a1 ha1 a4 ha4 x0 x3) (Rect.unit (s := S128x2048) ![0, 0] S128x2048.size inb_S128x2048_S128x2048_0_0).toLoadRect) (fun k => View.readAt (Elt Ideal) a5.view (wRect k).toLoadRect (ha5.unread x4)))
    (pb_k0_t1 Variants.none c none i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 (ha5.unread x4) (a18.view.writes (Elt Ideal) a18.view.junk (kernelRun0_A.sl.HS4_1 (F := Ideal) c a1 ha1 a4 ha4 x0 x3))) ?_ k).trans ?_
  · intro j
    rw [pb_k0_t1_succ (F := Ideal) Variants.none c none i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 _ _ j]
    exact congrArg (fun q => q ++ _) (tripEq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 j)
  · rw [u0Eq c a1 ha1 a4 ha4 a18 x0 x3, wEq]

theorem hgEq : View.readAt (Elt Ideal) a11.view (Rect.unit (s := S2x1024) ![0, 0] S2x1024.size inb_S2x1024_S2x1024_0_0).toLoadRect (ha11.unread x10) = x10 := rd_all a11 ha11 x10 o2 _

theorem nwEq_0 : (View.readAt (Elt Ideal) a12.view (Rect.unit (s := S1x1024) ![0, 0] S1x256.size inb_S1x1024_S1x256_0_0).toLoadRect (ha12.unread x11)) = nwt x11 0 := congrFun (rd_nw x11 a12 ha12) 0

theorem nwEq_1 : (View.readAt (Elt Ideal) a12.view (Rect.unit (s := S1x1024) ![0, 256] S1x256.size inb_S1x1024_S1x256_0_256).toLoadRect (ha12.unread x11)) = nwt x11 1 := congrFun (rd_nw x11 a12 ha12) 1

theorem nwEq_2 : (View.readAt (Elt Ideal) a12.view (Rect.unit (s := S1x1024) ![0, 512] S1x256.size inb_S1x1024_S1x256_0_512).toLoadRect (ha12.unread x11)) = nwt x11 2 := congrFun (rd_nw x11 a12 ha12) 2

theorem nwEq_3 : (View.readAt (Elt Ideal) a12.view (Rect.unit (s := S1x1024) ![0, 768] S1x256.size inb_S1x1024_S1x256_0_768).toLoadRect (ha12.unread x11)) = nwt x11 3 := congrFun (rd_nw x11 a12 ha12) 3

theorem lvEq : (a25.view.readCov (Val := Elt Ideal) kernelRun0_A.sl.HS11_1 (Rect.unit (s := S128x256) ![0, 0] S128x256.size inb_S128x256_S128x256_0_0).toLoadRect) = k0_pay8 := View.readCov_unit_zero (Val := Elt Ideal) a25.view o2 _ _

theorem ld_0_0 : (a24.view.readCov (kernelRun0_A.sl.HS10_1 (F := Ideal) ) (Rect.unit (s := S4x128x256) ![0, 0, 0] S1x128x256.size inb_S4x128x256_S1x128x256_0_0_0).toLoadRect) = (stile (k0_pay13 (F := Ideal))) 0 :=
  st_zero a24.view 0 _ _

theorem st_0_0 : (k0_pay108 (kernelRun0_A.sl.r_58 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_59 c a24) (kernelRun0_A.sl.r_62 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_63 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_64 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) : Vec Ideal S1x128x256 .f32) = stepSt x10 (projT (unorm (xhalf x0 0) x3) (wtile x4)) (stile (k0_pay13 (F := Ideal))) 0 :=
  (Cert.BridgeA.state_0_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10).trans (stStep_eq x10 (projT (unorm (xhalf x0 0) x3) (wtile x4)) (stile (k0_pay13 (F := Ideal))) 0 _ _ _ _ (hgEq a11 ha11 x10) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 0)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 0)) (ld_0_0 a24))

theorem y_0_0_0 : (k0_pay113 (kernelRun0_A.sl.r_67 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11) (kernelRun0_A.sl.r_68 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) : FVec Ideal S128x128 .bf16) = stepY x10 k0_pay8 (projT (unorm (xhalf x0 0) x3) (wtile x4)) (stile (k0_pay13 (F := Ideal))) (nwt x11 0) 0 0 :=
  (Cert.BridgeA.out_0_0_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y0_eq x10 k0_pay8 (projT (unorm (xhalf x0 0) x3) (wtile x4)) (stile (k0_pay13 (F := Ideal))) (nwt x11 0) 0 _ _ _ _ _ _ _ _ (hgEq a11 ha11 x10) (lvEq a25) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 16 0)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 0)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 0)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 28 0)) (ld_0_0 a24) (nwEq_0 a12 ha12 x11))

theorem y_0_0_1 : (k0_pay114 (kernelRun0_A.sl.r_22 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_60 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_61 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_65 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_66 c a12 ha12 x11) : FVec Ideal S128x128 .bf16) = stepY x10 k0_pay8 (projT (unorm (xhalf x0 0) x3) (wtile x4)) (stile (k0_pay13 (F := Ideal))) (nwt x11 0) 0 1 :=
  (Cert.BridgeA.out_0_0_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y1_eq x10 k0_pay8 (projT (unorm (xhalf x0 0) x3) (wtile x4)) (stile (k0_pay13 (F := Ideal))) (nwt x11 0) 0 _ _ _ _ _ _ _ _ (hgEq a11 ha11 x10) (lvEq a25) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 16 0)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 0)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 0)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 28 0)) (ld_0_0 a24) (nwEq_0 a12 ha12 x11))

theorem ld_0_1 : (a24.view.readCov (kernelRun0_A.sl.HS10_2 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![1, 0, 0] S1x128x256.size inb_S4x128x256_S1x128x256_1_0_0).toLoadRect) = (stile (k0_pay13 (F := Ideal))) 1 :=
  (st_skip a24.view 1 0 (by decide) _ _).trans (st_zero a24.view 1 _ _)

theorem st_0_1 : (k0_pay181 (kernelRun0_A.sl.r_75 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_113 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_114 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_115 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_116 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) : Vec Ideal S1x128x256 .f32) = stepSt x10 (projT (unorm (xhalf x0 0) x3) (wtile x4)) (stile (k0_pay13 (F := Ideal))) 1 :=
  (Cert.BridgeA.state_0_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10).trans (stStep_eq x10 (projT (unorm (xhalf x0 0) x3) (wtile x4)) (stile (k0_pay13 (F := Ideal))) 1 _ _ _ _ (hgEq a11 ha11 x10) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 1)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 1)) (ld_0_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0))

theorem y_0_1_0 : (k0_pay186 (kernelRun0_A.sl.r_71 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_120 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_121 c a12 ha12 x11) (kernelRun0_A.sl.r_122 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_123 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : FVec Ideal S128x128 .bf16) = stepY x10 k0_pay8 (projT (unorm (xhalf x0 0) x3) (wtile x4)) (stile (k0_pay13 (F := Ideal))) (nwt x11 1) 1 0 :=
  (Cert.BridgeA.out_0_1_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y0_eq x10 k0_pay8 (projT (unorm (xhalf x0 0) x3) (wtile x4)) (stile (k0_pay13 (F := Ideal))) (nwt x11 1) 1 _ _ _ _ _ _ _ _ (hgEq a11 ha11 x10) (lvEq a25) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 16 1)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 1)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 1)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 28 1)) (ld_0_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_1 a12 ha12 x11))

theorem y_0_1_1 : (kernelRun0_A.sl.r_124 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11 : FVec Ideal S128x128 .bf16) = stepY x10 k0_pay8 (projT (unorm (xhalf x0 0) x3) (wtile x4)) (stile (k0_pay13 (F := Ideal))) (nwt x11 1) 1 1 :=
  (Cert.BridgeA.out_0_1_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y1_eq x10 k0_pay8 (projT (unorm (xhalf x0 0) x3) (wtile x4)) (stile (k0_pay13 (F := Ideal))) (nwt x11 1) 1 _ _ _ _ _ _ _ _ (hgEq a11 ha11 x10) (lvEq a25) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 16 1)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 1)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 1)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 28 1)) (ld_0_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_1 a12 ha12 x11))

theorem ld_0_2 : (a24.view.readCov (kernelRun0_A.sl.HS10_3 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![2, 0, 0] S1x128x256.size inb_S4x128x256_S1x128x256_2_0_0).toLoadRect) = (stile (k0_pay13 (F := Ideal))) 2 :=
  (st_skip a24.view 2 1 (by decide) _ _).trans ((st_skip a24.view 2 0 (by decide) _ _).trans (st_zero a24.view 2 _ _))

theorem st_0_2 : (k0_pay259 (kernelRun0_A.sl.r_131 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_171 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_172 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_173 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_174 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) : Vec Ideal S1x128x256 .f32) = stepSt x10 (projT (unorm (xhalf x0 0) x3) (wtile x4)) (stile (k0_pay13 (F := Ideal))) 2 :=
  (Cert.BridgeA.state_0_2 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10).trans (stStep_eq x10 (projT (unorm (xhalf x0 0) x3) (wtile x4)) (stile (k0_pay13 (F := Ideal))) 2 _ _ _ _ (hgEq a11 ha11 x10) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 2)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 2)) (ld_0_2 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0))

theorem y_0_2_0 : (k0_pay264 (kernelRun0_A.sl.r_181 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_182 c a12 ha12 x11) (kernelRun0_A.sl.r_183 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_184 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : FVec Ideal S128x128 .bf16) = stepY x10 k0_pay8 (projT (unorm (xhalf x0 0) x3) (wtile x4)) (stile (k0_pay13 (F := Ideal))) (nwt x11 2) 2 0 :=
  (Cert.BridgeA.out_0_2_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y0_eq x10 k0_pay8 (projT (unorm (xhalf x0 0) x3) (wtile x4)) (stile (k0_pay13 (F := Ideal))) (nwt x11 2) 2 _ _ _ _ _ _ _ _ (hgEq a11 ha11 x10) (lvEq a25) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 16 2)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 2)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 2)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 28 2)) (ld_0_2 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_2 a12 ha12 x11))

theorem y_0_2_1 : (k0_pay265 (kernelRun0_A.sl.r_127 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_175 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_180 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_181 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_182 c a12 ha12 x11) : FVec Ideal S128x128 .bf16) = stepY x10 k0_pay8 (projT (unorm (xhalf x0 0) x3) (wtile x4)) (stile (k0_pay13 (F := Ideal))) (nwt x11 2) 2 1 :=
  (Cert.BridgeA.out_0_2_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y1_eq x10 k0_pay8 (projT (unorm (xhalf x0 0) x3) (wtile x4)) (stile (k0_pay13 (F := Ideal))) (nwt x11 2) 2 _ _ _ _ _ _ _ _ (hgEq a11 ha11 x10) (lvEq a25) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 16 2)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 2)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 2)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 28 2)) (ld_0_2 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_2 a12 ha12 x11))

theorem ld_0_3 : (a24.view.readCov (kernelRun0_A.sl.HS10_4 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![3, 0, 0] S1x128x256.size inb_S4x128x256_S1x128x256_3_0_0).toLoadRect) = (stile (k0_pay13 (F := Ideal))) 3 :=
  (st_skip a24.view 3 2 (by decide) _ _).trans ((st_skip a24.view 3 1 (by decide) _ _).trans ((st_skip a24.view 3 0 (by decide) _ _).trans (st_zero a24.view 3 _ _)))

theorem st_0_3 : (k0_pay332 (kernelRun0_A.sl.r_187 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_188 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_226 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_227 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.v2251 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : Vec Ideal S1x128x256 .f32) = stepSt x10 (projT (unorm (xhalf x0 0) x3) (wtile x4)) (stile (k0_pay13 (F := Ideal))) 3 :=
  (Cert.BridgeA.state_0_3 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10).trans (stStep_eq x10 (projT (unorm (xhalf x0 0) x3) (wtile x4)) (stile (k0_pay13 (F := Ideal))) 3 _ _ _ _ (hgEq a11 ha11 x10) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 3)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 3)) (ld_0_3 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0))

theorem y_0_3_0 : (k0_pay337 (kernelRun0_A.sl.r_187 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_228 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_229 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_230 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) k0_pay334 (View.readAt (Elt Ideal) a12.view (Rect.unit (s := S1x1024) ![0, 768] S1x256.size inb_S1x1024_S1x256_0_768).toLoadRect (ha12.unread x11)) : FVec Ideal S128x128 .bf16) = stepY x10 k0_pay8 (projT (unorm (xhalf x0 0) x3) (wtile x4)) (stile (k0_pay13 (F := Ideal))) (nwt x11 3) 3 0 :=
  (Cert.BridgeA.out_0_3_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y0_eq x10 k0_pay8 (projT (unorm (xhalf x0 0) x3) (wtile x4)) (stile (k0_pay13 (F := Ideal))) (nwt x11 3) 3 _ _ _ _ _ _ _ _ (hgEq a11 ha11 x10) (lvEq a25) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 16 3)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 3)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 3)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 28 3)) (ld_0_3 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_3 a12 ha12 x11))

theorem y_0_3_1 : (k0_pay341 (kernelRun0_A.sl.r_231 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4) (kernelRun0_A.sl.r_232 c a12 ha12 x11) (kernelRun0_A.sl.r_233 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_234 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) k0_pay340 : FVec Ideal S128x128 .bf16) = stepY x10 k0_pay8 (projT (unorm (xhalf x0 0) x3) (wtile x4)) (stile (k0_pay13 (F := Ideal))) (nwt x11 3) 3 1 :=
  (Cert.BridgeA.out_0_3_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y1_eq x10 k0_pay8 (projT (unorm (xhalf x0 0) x3) (wtile x4)) (stile (k0_pay13 (F := Ideal))) (nwt x11 3) 3 _ _ _ _ _ _ _ _ (hgEq a11 ha11 x10) (lvEq a25) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 16 3)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 20 3)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 24 3)) (p0Eq c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 hc0 (tq 28 3)) (ld_0_3 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_3 a12 ha12 x11))

theorem ld_1_0 : (a24.view.readCov (kernelRun0_A.sl.HS10_5 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![0, 0, 0] S1x128x256.size inb_S4x128x256_S1x128x256_0_0_0).toLoadRect) = (stepSt x10 (projT (unorm (xhalf x0 0) x3) (wtile x4)) (stile (k0_pay13 (F := Ideal)))) 0 :=
  (st_skip a24.view 0 3 (by decide) _ _).trans ((st_skip a24.view 0 2 (by decide) _ _).trans ((st_skip a24.view 0 1 (by decide) _ _).trans ((st_hit a24.view 0 _ _).trans (st_0_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0))))

theorem st_1_0 : (k0_pay542 (kernelRun0_A.sl.r_323 c a1 ha1 a4 ha4 a5 ha5 a15 a19 x0 x3 x4) (kernelRun0_A.sl.r_324 c a1 ha1 a4 ha4 a5 ha5 a11 ha11 a15 a19 x0 x3 x4 x10) (kernelRun0_A.sl.r_363 c a1 ha1 a4 ha4 a5 ha5 a11 ha11 a15 a19 x0 x3 x4 x10) (kernelRun0_A.sl.r_364 c a1 ha1 a4 ha4 a5 ha5 a11 ha11 a15 a19 x0 x3 x4 x10) (kernelRun0_A.sl.v3536 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : Vec Ideal S1x128x256 .f32) = stepSt x10 (projT (unorm (xhalf x0 1) x3) (wtile x4)) (stepSt x10 (projT (unorm (xhalf x0 0) x3) (wtile x4)) (stile (k0_pay13 (F := Ideal)))) 0 :=
  (Cert.BridgeA.state_1_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10).trans (stStep_eq x10 (projT (unorm (xhalf x0 1) x3) (wtile x4)) (stepSt x10 (projT (unorm (xhalf x0 0) x3) (wtile x4)) (stile (k0_pay13 (F := Ideal)))) 0 _ _ _ _ (hgEq a11 ha11 x10) (p1Eq c a1 ha1 a4 ha4 a5 ha5 a15 a19 x0 x3 x4 (tq 20 0)) (p1Eq c a1 ha1 a4 ha4 a5 ha5 a15 a19 x0 x3 x4 (tq 24 0)) (ld_1_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0))

theorem y_1_0_0 : (k0_pay547 (kernelRun0_A.sl.r_323 c a1 ha1 a4 ha4 a5 ha5 a15 a19 x0 x3 x4) (kernelRun0_A.sl.r_365 c a1 ha1 a4 ha4 a5 ha5 a11 ha11 a15 a19 x0 x3 x4 x10) (kernelRun0_A.sl.r_366 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_367 c a1 ha1 a4 ha4 a5 ha5 a15 a19 x0 x3 x4) (kernelRun0_A.sl.r_368 c a1 ha1 a4 ha4 a5 ha5 a15 a19 x0 x3 x4) kernelRun0_A.sl.cst_157 (View.readAt (Elt Ideal) a12.view (Rect.unit (s := S1x1024) ![0, 0] S1x256.size inb_S1x1024_S1x256_0_0).toLoadRect (ha12.unread x11)) : FVec Ideal S128x128 .bf16) = stepY x10 k0_pay8 (projT (unorm (xhalf x0 1) x3) (wtile x4)) (stepSt x10 (projT (unorm (xhalf x0 0) x3) (wtile x4)) (stile (k0_pay13 (F := Ideal)))) (nwt x11 0) 0 0 :=
  (Cert.BridgeA.out_1_0_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y0_eq x10 k0_pay8 (projT (unorm (xhalf x0 1) x3) (wtile x4)) (stepSt x10 (projT (unorm (xhalf x0 0) x3) (wtile x4)) (stile (k0_pay13 (F := Ideal)))) (nwt x11 0) 0 _ _ _ _ _ _ _ _ (hgEq a11 ha11 x10) (lvEq a25) (p1Eq c a1 ha1 a4 ha4 a5 ha5 a15 a19 x0 x3 x4 (tq 16 0)) (p1Eq c a1 ha1 a4 ha4 a5 ha5 a15 a19 x0 x3 x4 (tq 20 0)) (p1Eq c a1 ha1 a4 ha4 a5 ha5 a15 a19 x0 x3 x4 (tq 24 0)) (p1Eq c a1 ha1 a4 ha4 a5 ha5 a15 a19 x0 x3 x4 (tq 28 0)) (ld_1_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_0 a12 ha12 x11))

theorem y_1_0_1 : (k0_pay551 (kernelRun0_A.sl.r_369 c a1 ha1 a4 ha4 a5 ha5 a15 a19 x0 x3 x4) (kernelRun0_A.sl.r_370 c a12 ha12 x11) (kernelRun0_A.sl.r_371 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_372 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) k0_pay550 : FVec Ideal S128x128 .bf16) = stepY x10 k0_pay8 (projT (unorm (xhalf x0 1) x3) (wtile x4)) (stepSt x10 (projT (unorm (xhalf x0 0) x3) (wtile x4)) (stile (k0_pay13 (F := Ideal)))) (nwt x11 0) 0 1 :=
  (Cert.BridgeA.out_1_0_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y1_eq x10 k0_pay8 (projT (unorm (xhalf x0 1) x3) (wtile x4)) (stepSt x10 (projT (unorm (xhalf x0 0) x3) (wtile x4)) (stile (k0_pay13 (F := Ideal)))) (nwt x11 0) 0 _ _ _ _ _ _ _ _ (hgEq a11 ha11 x10) (lvEq a25) (p1Eq c a1 ha1 a4 ha4 a5 ha5 a15 a19 x0 x3 x4 (tq 16 0)) (p1Eq c a1 ha1 a4 ha4 a5 ha5 a15 a19 x0 x3 x4 (tq 20 0)) (p1Eq c a1 ha1 a4 ha4 a5 ha5 a15 a19 x0 x3 x4 (tq 24 0)) (p1Eq c a1 ha1 a4 ha4 a5 ha5 a15 a19 x0 x3 x4 (tq 28 0)) (ld_1_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_0 a12 ha12 x11))

theorem ld_1_1 : (a24.view.readCov (kernelRun0_A.sl.HS10_6 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![1, 0, 0] S1x128x256.size inb_S4x128x256_S1x128x256_1_0_0).toLoadRect) = (stepSt x10 (projT (unorm (xhalf x0 0) x3) (wtile x4)) (stile (k0_pay13 (F := Ideal)))) 1 :=
  (st_skip a24.view 1 0 (by decide) _ _).trans ((st_skip a24.view 1 3 (by decide) _ _).trans ((st_skip a24.view 1 2 (by decide) _ _).trans ((st_hit a24.view 1 _ _).trans (st_0_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0))))

theorem st_1_1 : (k0_pay622 (kernelRun0_A.sl.r_413 c a1 ha1 a4 ha4 a5 ha5 a11 ha11 a15 a19 x0 x3 x4 x10) (kernelRun0_A.sl.r_414 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_417 c a1 ha1 a4 ha4 a5 ha5 a11 ha11 a15 a19 x0 x3 x4 x10) (kernelRun0_A.sl.r_418 c a1 ha1 a4 ha4 a5 ha5 a15 a19 x0 x3 x4) (kernelRun0_A.sl.r_419 c a1 ha1 a4 ha4 a5 ha5 a11 ha11 a15 a19 x0 x3 x4 x10) : Vec Ideal S1x128x256 .f32) = stepSt x10 (projT (unorm (xhalf x0 1) x3) (wtile x4)) (stepSt x10 (projT (unorm (xhalf x0 0) x3) (wtile x4)) (stile (k0_pay13 (F := Ideal)))) 1 :=
  (Cert.BridgeA.state_1_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10).trans (stStep_eq x10 (projT (unorm (xhalf x0 1) x3) (wtile x4)) (stepSt x10 (projT (unorm (xhalf x0 0) x3) (wtile x4)) (stile (k0_pay13 (F := Ideal)))) 1 _ _ _ _ (hgEq a11 ha11 x10) (p1Eq c a1 ha1 a4 ha4 a5 ha5 a15 a19 x0 x3 x4 (tq 20 1)) (p1Eq c a1 ha1 a4 ha4 a5 ha5 a15 a19 x0 x3 x4 (tq 24 1)) (ld_1_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0))

theorem y_1_1_0 : (k0_pay626 (kernelRun0_A.sl.r_422 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11) : FVec Ideal S128x128 .bf16) = stepY x10 k0_pay8 (projT (unorm (xhalf x0 1) x3) (wtile x4)) (stepSt x10 (projT (unorm (xhalf x0 0) x3) (wtile x4)) (stile (k0_pay13 (F := Ideal)))) (nwt x11 1) 1 0 :=
  (Cert.BridgeA.out_1_1_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y0_eq x10 k0_pay8 (projT (unorm (xhalf x0 1) x3) (wtile x4)) (stepSt x10 (projT (unorm (xhalf x0 0) x3) (wtile x4)) (stile (k0_pay13 (F := Ideal)))) (nwt x11 1) 1 _ _ _ _ _ _ _ _ (hgEq a11 ha11 x10) (lvEq a25) (p1Eq c a1 ha1 a4 ha4 a5 ha5 a15 a19 x0 x3 x4 (tq 16 1)) (p1Eq c a1 ha1 a4 ha4 a5 ha5 a15 a19 x0 x3 x4 (tq 20 1)) (p1Eq c a1 ha1 a4 ha4 a5 ha5 a15 a19 x0 x3 x4 (tq 24 1)) (p1Eq c a1 ha1 a4 ha4 a5 ha5 a15 a19 x0 x3 x4 (tq 28 1)) (ld_1_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_1 a12 ha12 x11))

theorem y_1_1_1 : (k0_pay627 (kernelRun0_A.sl.r_375 c a1 ha1 a4 ha4 a5 ha5 a15 a19 x0 x3 x4) (kernelRun0_A.sl.r_415 c a1 ha1 a4 ha4 a5 ha5 a11 ha11 a15 a19 x0 x3 x4 x10) (kernelRun0_A.sl.r_416 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_420 c a1 ha1 a4 ha4 a5 ha5 a15 a19 x0 x3 x4) (kernelRun0_A.sl.r_421 c a12 ha12 x11) : FVec Ideal S128x128 .bf16) = stepY x10 k0_pay8 (projT (unorm (xhalf x0 1) x3) (wtile x4)) (stepSt x10 (projT (unorm (xhalf x0 0) x3) (wtile x4)) (stile (k0_pay13 (F := Ideal)))) (nwt x11 1) 1 1 :=
  (Cert.BridgeA.out_1_1_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y1_eq x10 k0_pay8 (projT (unorm (xhalf x0 1) x3) (wtile x4)) (stepSt x10 (projT (unorm (xhalf x0 0) x3) (wtile x4)) (stile (k0_pay13 (F := Ideal)))) (nwt x11 1) 1 _ _ _ _ _ _ _ _ (hgEq a11 ha11 x10) (lvEq a25) (p1Eq c a1 ha1 a4 ha4 a5 ha5 a15 a19 x0 x3 x4 (tq 16 1)) (p1Eq c a1 ha1 a4 ha4 a5 ha5 a15 a19 x0 x3 x4 (tq 20 1)) (p1Eq c a1 ha1 a4 ha4 a5 ha5 a15 a19 x0 x3 x4 (tq 24 1)) (p1Eq c a1 ha1 a4 ha4 a5 ha5 a15 a19 x0 x3 x4 (tq 28 1)) (ld_1_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_1 a12 ha12 x11))

theorem ld_1_2 : (a24.view.readCov (kernelRun0_A.sl.HS10_7 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![2, 0, 0] S1x128x256.size inb_S4x128x256_S1x128x256_2_0_0).toLoadRect) = (stepSt x10 (projT (unorm (xhalf x0 0) x3) (wtile x4)) (stile (k0_pay13 (F := Ideal)))) 2 :=
  (st_skip a24.view 2 1 (by decide) _ _).trans ((st_skip a24.view 2 0 (by decide) _ _).trans ((st_skip a24.view 2 3 (by decide) _ _).trans ((st_hit a24.view 2 _ _).trans (st_0_2 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0))))

theorem st_1_2 : (k0_pay690 (kernelRun0_A.sl.r_464 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : Vec Ideal S1x128x256 .f32) = stepSt x10 (projT (unorm (xhalf x0 1) x3) (wtile x4)) (stepSt x10 (projT (unorm (xhalf x0 0) x3) (wtile x4)) (stile (k0_pay13 (F := Ideal)))) 2 :=
  (Cert.BridgeA.state_1_2 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10).trans (stStep_eq x10 (projT (unorm (xhalf x0 1) x3) (wtile x4)) (stepSt x10 (projT (unorm (xhalf x0 0) x3) (wtile x4)) (stile (k0_pay13 (F := Ideal)))) 2 _ _ _ _ (hgEq a11 ha11 x10) (p1Eq c a1 ha1 a4 ha4 a5 ha5 a15 a19 x0 x3 x4 (tq 20 2)) (p1Eq c a1 ha1 a4 ha4 a5 ha5 a15 a19 x0 x3 x4 (tq 24 2)) (ld_1_2 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0))

theorem y_1_2_0 : (k0_pay693 (kernelRun0_A.sl.r_425 c a1 ha1 a4 ha4 a5 ha5 a15 a19 x0 x3 x4) (kernelRun0_A.sl.r_462 c a1 ha1 a4 ha4 a5 ha5 a11 ha11 a15 a19 x0 x3 x4 x10) (kernelRun0_A.sl.r_463 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.v4631 c a1 ha1 a4 ha4 a5 ha5 a15 a19 x0 x3 x4) (View.readAt (Elt Ideal) a12.view (Rect.unit (s := S1x1024) ![0, 512] S1x256.size inb_S1x1024_S1x256_0_512).toLoadRect (ha12.unread x11)) : FVec Ideal S128x128 .bf16) = stepY x10 k0_pay8 (projT (unorm (xhalf x0 1) x3) (wtile x4)) (stepSt x10 (projT (unorm (xhalf x0 0) x3) (wtile x4)) (stile (k0_pay13 (F := Ideal)))) (nwt x11 2) 2 0 :=
  (Cert.BridgeA.out_1_2_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y0_eq x10 k0_pay8 (projT (unorm (xhalf x0 1) x3) (wtile x4)) (stepSt x10 (projT (unorm (xhalf x0 0) x3) (wtile x4)) (stile (k0_pay13 (F := Ideal)))) (nwt x11 2) 2 _ _ _ _ _ _ _ _ (hgEq a11 ha11 x10) (lvEq a25) (p1Eq c a1 ha1 a4 ha4 a5 ha5 a15 a19 x0 x3 x4 (tq 16 2)) (p1Eq c a1 ha1 a4 ha4 a5 ha5 a15 a19 x0 x3 x4 (tq 20 2)) (p1Eq c a1 ha1 a4 ha4 a5 ha5 a15 a19 x0 x3 x4 (tq 24 2)) (p1Eq c a1 ha1 a4 ha4 a5 ha5 a15 a19 x0 x3 x4 (tq 28 2)) (ld_1_2 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_2 a12 ha12 x11))

theorem y_1_2_1 : (k0_pay696 (kernelRun0_A.sl.r_425 c a1 ha1 a4 ha4 a5 ha5 a15 a19 x0 x3 x4) (kernelRun0_A.sl.r_465 c a1 ha1 a4 ha4 a5 ha5 a15 a19 x0 x3 x4) (kernelRun0_A.sl.r_466 c a12 ha12 x11) (kernelRun0_A.sl.r_467 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_468 c a1 ha1 a4 ha4 a5 ha5 a11 ha11 a15 a19 x0 x3 x4 x10) : FVec Ideal S128x128 .bf16) = stepY x10 k0_pay8 (projT (unorm (xhalf x0 1) x3) (wtile x4)) (stepSt x10 (projT (unorm (xhalf x0 0) x3) (wtile x4)) (stile (k0_pay13 (F := Ideal)))) (nwt x11 2) 2 1 :=
  (Cert.BridgeA.out_1_2_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y1_eq x10 k0_pay8 (projT (unorm (xhalf x0 1) x3) (wtile x4)) (stepSt x10 (projT (unorm (xhalf x0 0) x3) (wtile x4)) (stile (k0_pay13 (F := Ideal)))) (nwt x11 2) 2 _ _ _ _ _ _ _ _ (hgEq a11 ha11 x10) (lvEq a25) (p1Eq c a1 ha1 a4 ha4 a5 ha5 a15 a19 x0 x3 x4 (tq 16 2)) (p1Eq c a1 ha1 a4 ha4 a5 ha5 a15 a19 x0 x3 x4 (tq 20 2)) (p1Eq c a1 ha1 a4 ha4 a5 ha5 a15 a19 x0 x3 x4 (tq 24 2)) (p1Eq c a1 ha1 a4 ha4 a5 ha5 a15 a19 x0 x3 x4 (tq 28 2)) (ld_1_2 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_2 a12 ha12 x11))

theorem ld_1_3 : (a24.view.readCov (kernelRun0_A.sl.HS10_8 (F := Ideal) c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (Rect.unit (s := S4x128x256) ![3, 0, 0] S1x128x256.size inb_S4x128x256_S1x128x256_3_0_0).toLoadRect) = (stepSt x10 (projT (unorm (xhalf x0 0) x3) (wtile x4)) (stile (k0_pay13 (F := Ideal)))) 3 :=
  (st_skip a24.view 3 2 (by decide) _ _).trans ((st_skip a24.view 3 1 (by decide) _ _).trans ((st_skip a24.view 3 0 (by decide) _ _).trans ((st_hit a24.view 3 _ _).trans (st_0_3 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0))))

theorem st_1_3 : (k0_pay765 (kernelRun0_A.sl.r_475 c a1 ha1 a4 ha4 a5 ha5 a11 ha11 a15 a19 x0 x3 x4 x10) (kernelRun0_A.sl.r_513 c a1 ha1 a4 ha4 a5 ha5 a11 ha11 a15 a19 x0 x3 x4 x10) (kernelRun0_A.sl.r_514 c a1 ha1 a4 ha4 a5 ha5 a11 ha11 a15 a19 x0 x3 x4 x10) (kernelRun0_A.sl.r_515 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_516 c a1 ha1 a4 ha4 a5 ha5 a15 a19 x0 x3 x4) : Vec Ideal S1x128x256 .f32) = stepSt x10 (projT (unorm (xhalf x0 1) x3) (wtile x4)) (stepSt x10 (projT (unorm (xhalf x0 0) x3) (wtile x4)) (stile (k0_pay13 (F := Ideal)))) 3 :=
  (Cert.BridgeA.state_1_3 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10).trans (stStep_eq x10 (projT (unorm (xhalf x0 1) x3) (wtile x4)) (stepSt x10 (projT (unorm (xhalf x0 0) x3) (wtile x4)) (stile (k0_pay13 (F := Ideal)))) 3 _ _ _ _ (hgEq a11 ha11 x10) (p1Eq c a1 ha1 a4 ha4 a5 ha5 a15 a19 x0 x3 x4 (tq 20 3)) (p1Eq c a1 ha1 a4 ha4 a5 ha5 a15 a19 x0 x3 x4 (tq 24 3)) (ld_1_3 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0))

theorem y_1_3_0 : (k0_pay770 (kernelRun0_A.sl.r_523 c a1 ha1 a4 ha4 a5 ha5 a15 a19 x0 x3 x4) (kernelRun0_A.sl.r_524 c a12 ha12 x11) (kernelRun0_A.sl.r_525 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_526 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) : FVec Ideal S128x128 .bf16) = stepY x10 k0_pay8 (projT (unorm (xhalf x0 1) x3) (wtile x4)) (stepSt x10 (projT (unorm (xhalf x0 0) x3) (wtile x4)) (stile (k0_pay13 (F := Ideal)))) (nwt x11 3) 3 0 :=
  (Cert.BridgeA.out_1_3_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y0_eq x10 k0_pay8 (projT (unorm (xhalf x0 1) x3) (wtile x4)) (stepSt x10 (projT (unorm (xhalf x0 0) x3) (wtile x4)) (stile (k0_pay13 (F := Ideal)))) (nwt x11 3) 3 _ _ _ _ _ _ _ _ (hgEq a11 ha11 x10) (lvEq a25) (p1Eq c a1 ha1 a4 ha4 a5 ha5 a15 a19 x0 x3 x4 (tq 16 3)) (p1Eq c a1 ha1 a4 ha4 a5 ha5 a15 a19 x0 x3 x4 (tq 20 3)) (p1Eq c a1 ha1 a4 ha4 a5 ha5 a15 a19 x0 x3 x4 (tq 24 3)) (p1Eq c a1 ha1 a4 ha4 a5 ha5 a15 a19 x0 x3 x4 (tq 28 3)) (ld_1_3 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_3 a12 ha12 x11))

theorem y_1_3_1 : (k0_pay771 (kernelRun0_A.sl.r_471 c a1 ha1 a4 ha4 a5 ha5 a15 a19 x0 x3 x4) (kernelRun0_A.sl.r_517 c a1 ha1 a4 ha4 a5 ha5 a11 ha11 a15 a19 x0 x3 x4 x10) (kernelRun0_A.sl.r_522 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10) (kernelRun0_A.sl.r_523 c a1 ha1 a4 ha4 a5 ha5 a15 a19 x0 x3 x4) (kernelRun0_A.sl.r_524 c a12 ha12 x11) : FVec Ideal S128x128 .bf16) = stepY x10 k0_pay8 (projT (unorm (xhalf x0 1) x3) (wtile x4)) (stepSt x10 (projT (unorm (xhalf x0 0) x3) (wtile x4)) (stile (k0_pay13 (F := Ideal)))) (nwt x11 3) 3 1 :=
  (Cert.BridgeA.out_1_3_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 x0 x3 x4 x10 x11).trans (y1_eq x10 k0_pay8 (projT (unorm (xhalf x0 1) x3) (wtile x4)) (stepSt x10 (projT (unorm (xhalf x0 0) x3) (wtile x4)) (stile (k0_pay13 (F := Ideal)))) (nwt x11 3) 3 _ _ _ _ _ _ _ _ (hgEq a11 ha11 x10) (lvEq a25) (p1Eq c a1 ha1 a4 ha4 a5 ha5 a15 a19 x0 x3 x4 (tq 16 3)) (p1Eq c a1 ha1 a4 ha4 a5 ha5 a15 a19 x0 x3 x4 (tq 20 3)) (p1Eq c a1 ha1 a4 ha4 a5 ha5 a15 a19 x0 x3 x4 (tq 24 3)) (p1Eq c a1 ha1 a4 ha4 a5 ha5 a15 a19 x0 x3 x4 (tq 28 3)) (ld_1_3 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (nwEq_3 a12 ha12 x11))

theorem u629 (x : Vec Ideal S128x2048 .f32) (w : Vec Ideal S1x2048 .f32) : k0_pay629 (k0_pay628 x w) = unorm x w := rfl

theorem s0 : sout0_A_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 = glue (projT (unorm x1 x3) (wtile x4)) := by
  have h : sout0_A_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 = View.canon (kernelRun0_A c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11).2.1 := View.read_writes_junk_eq_canon _ _
  rw [h]
  have h2 : projT (a18.view.readCov (kernelRun0_A.sl.HS4_2 (F := Ideal) c a1 ha1 a2 ha2 a4 ha4 x0 x1 x3) (Rect.unit (s := S128x2048) ![0, 0] S128x2048.size inb_S128x2048_S128x2048_0_0).toLoadRect) (fun k => View.readAt (Elt Ideal) a5.view (wRect k).toLoadRect (ha5.unread x4)) = projT (unorm x1 x3) (wtile x4) := by rw [u2Eq, wEq]
  exact (canon_tl_append (projT (a18.view.readCov (kernelRun0_A.sl.HS4_2 (F := Ideal) c a1 ha1 a2 ha2 a4 ha4 x0 x1 x3) (Rect.unit (s := S128x2048) ![0, 0] S128x2048.size inb_S128x2048_S128x2048_0_0).toLoadRect) (fun k => View.readAt (Elt Ideal) a5.view (wRect k).toLoadRect (ha5.unread x4))) _).trans (congrArg glue h2)

theorem s5 : sout0_A_5 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 = unorm x2 x3 := by
  have h : sout0_A_5 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 = View.canon (kernelRun0_A c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11).2.2.2.1 := View.read_writes_junk_eq_canon _ _
  have e : (kernelRun0_A c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11).2.2.2.1 = (⟨Rect.unit (s := S128x2048) ![0, 0] S128x2048.size inb_S128x2048_S128x2048_0_0, k0_pay629 (k0_pay628 (View.readAt (Elt Ideal) a3.view (Rect.unit (s := S128x2048) ![0, 0] S128x2048.size inb_S128x2048_S128x2048_0_0).toLoadRect (ha3.unread x2)) (View.readAt (Elt Ideal) a4.view (Rect.unit (s := S1x2048) ![0, 0] S1x2048.size inb_S1x2048_S1x2048_0_0).toLoadRect (ha4.unread x3)))⟩ :: (kernelRun0_A.sl.HS5_1 (F := Ideal) c a1 ha1 a4 ha4 x0 x3) : List (View.Piece (Elt Ideal) S128x2048 .bf16)) := rfl
  rw [h, e]
  refine (View.canon_cons_unit_zero (Val := Elt Ideal) (S := S128x2048) (e := .bf16) o2 inb_S128x2048_S128x2048_0_0 (k0_pay629 (k0_pay628 (View.readAt (Elt Ideal) a3.view (Rect.unit (s := S128x2048) ![0, 0] S128x2048.size inb_S128x2048_S128x2048_0_0).toLoadRect (ha3.unread x2)) (View.readAt (Elt Ideal) a4.view (Rect.unit (s := S1x2048) ![0, 0] S1x2048.size inb_S1x2048_S1x2048_0_0).toLoadRect (ha4.unread x3)))) (kernelRun0_A.sl.HS5_1 (F := Ideal) c a1 ha1 a4 ha4 x0 x3)).trans ?_
  rw [rd_all a3 ha3 x2 o2, rd_all a4 ha4 x3 o2]
  exact u629 x2 x3

theorem s10 : sout0_A_10 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 = sglue (stepSt x10 (projT (unorm (xhalf x0 1) x3) (wtile x4)) (stepSt x10 (projT (unorm (xhalf x0 0) x3) (wtile x4)) (stile (k0_pay13 (F := Ideal))))) := by
  have h : sout0_A_10 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 = View.canon (kernelRun0_A c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11).2.2.2.2.2.2.2.2.1 := View.read_writes_junk_eq_canon _ _
  rw [h]
  exact canon_st4 _ _ _ _ _ _ (st_1_3 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (st_1_2 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (st_1_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0) (st_1_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 hc0)

theorem s11 : sout0_A_11 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 = k0_pay8 := by
  have h : sout0_A_11 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 = View.canon (kernelRun0_A c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11).2.2.2.2.2.2.2.2.2.1 := View.read_writes_junk_eq_canon _ _
  rw [h]
  exact View.canon_unit_zero (Val := Elt Ideal) (e := .i32) (S := S128x256) o2 inb_S128x256_S128x256_0_0 _

theorem out12 (ch : Fin 2) (hp : Fin 4) (j : Fin 2) (t x : Fin 128) :
    out0_A_12 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 (ix2 (n0 := 256) (n1 := 2048) ⟨128 * ch.val + t.val, by omega⟩ ⟨1024 + 256 * hp.val + 128 * j.val + x.val, by omega⟩)
      = stepY x10 k0_pay8 (![(projT (unorm (xhalf x0 0) x3) (wtile x4)), (projT (unorm (xhalf x0 1) x3) (wtile x4))] ch) (![(stile (k0_pay13 (F := Ideal))), (stepSt x10 (projT (unorm (xhalf x0 0) x3) (wtile x4)) (stile (k0_pay13 (F := Ideal))))] ch) (nwt x11 hp) hp j (ix2 t x) := by
  have h : out0_A_12 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 = View.canon (kernelRun0_A c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11).1 := View.read_writes_junk_eq_canon _ _
  rw [h]
  exact canon_yl' _ _ _ _ _ _ _ _ _ _ _ _ _ _ _ _ _ _ _ _ _ _ _ _ (fun ch hp j => stepY x10 k0_pay8 (![(projT (unorm (xhalf x0 0) x3) (wtile x4)), (projT (unorm (xhalf x0 1) x3) (wtile x4))] ch) (![(stile (k0_pay13 (F := Ideal))), (stepSt x10 (projT (unorm (xhalf x0 0) x3) (wtile x4)) (stile (k0_pay13 (F := Ideal))))] ch) (nwt x11 hp) hp j) (y_0_0_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_0_0_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_0_1_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_0_1_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_0_2_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_0_2_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_0_3_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_0_3_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_1_0_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_1_0_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_1_1_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_1_1_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_1_2_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_1_2_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_1_3_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) (y_1_3_1 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 x0 x3 x4 x10 x11 hc0) ch hp j t x

end Cert.MemA
-- ==== Proof.GridA.lean ====
/- What the first point leaves. -/
module

public import proofs.«01_k».proof.Proof.GridStep
public import proofs.«01_k».proof.Proof.MemA

@[expose] public section

set_option maxRecDepth 16384
set_option maxHeartbeats 4000000

noncomputable section

namespace Cert.Grid

open Idealize.ShloMosaic hiding ix1 ix2 ix3 ix4
open Idealize.ShloMosaic.ValueIdx Idealize.ShloMosaic.TcCoe Idealize.SL.Sem Cert.KernelIdeal Cert.KernelIdeal.Gen Cert.Pair Cert.Tiles Cert.Reads

variable {m : (ℓ : Loc nD τ sig) → Buf (Elt Ideal) ℓ} {c : Dev nD} {D : Nums}
  (hD : Holds (m ((c : Thread nD τ).loc main_arg0)) (m ((c : Thread nD τ).loc main_arg1)) (m ((c : Thread nD τ).loc main_arg2))
    (m ((c : Thread nD τ).loc main_arg8)) (m ((c : Thread nD τ).loc main_arg9)) D)
include hD

theorem left_A (t : Fin cfg0.N) (h0 : t.val % 128 = 0) (h1 : t.val % 64 = 0) : LeftAt (m := m) (c := c) D t.val t.isLt := by
  have hlt := tlt t
  have hP0 : IsT (projT (unorm (xhalf (iblk m c 0 t) 0) (iblk m c 3 t)) (wtile (iblk m c 4 t))) fun r k => pr D (256 * t.val + r) k := by
    have a := proj_blk hD t (u_half hD t 0)
    rwa [show 128 * (0 : Fin 2).val = 256 * t.val by show 128 * 0 = _; omega] at a
  have hP1 : IsT (projT (unorm (xhalf (iblk m c 0 t) 1) (iblk m c 3 t)) (wtile (iblk m c 4 t))) fun r k => pr D (256 * t.val + 128 + r) k := by
    have a := proj_blk hD t (u_half hD t 1)
    rwa [show 128 * (1 : Fin 2).val = 256 * t.val + 128 by show 128 * 1 = _; omega] at a
  have hS0 : IsS ((stile (k0_pay13 (F := Ideal)))) (stJ (sq D (t.val / 64)) D.H (256 * (t.val % 64))) := by
    rw [show 256 * (t.val % 64) = 0 by omega]
    exact zero_state _ _
  have hLV : LvOK (k0_pay8) := levels_ok
  have e1 := Cert.MemA.s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) ((hcond0_1 t).mpr h1)
  have e5 := Cert.MemA.s5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) ((hcond0_1 t).mpr h1)
  have e10 := Cert.MemA.s10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) ((hcond0_1 t).mpr h1)
  have ey := Cert.MemA.out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) ((hcond0_1 t).mpr h1)
  have key := mk_left hD t hP0 hP1 hS0 hLV e1 e5 e10 (Cert.MemA.s11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) ((hcond0_1 t).mpr h1)) ey
  unfold LeftAt
  rw [outsAt0_A m c t h0 h1]
  dsimp only
  exact key

end Cert.Grid
-- ==== Proof.BridgeB.lean ====
/- What the pair of gated heads stores at a point of case B of the grid, chunk by chunk: each printed payload is the
   pair written once, over what the point loads. -/
module

public import proofs.«01_k».proof.Proof.PairOps
public import proofs.«01_k».proof.Proof.Gen.KernelIdeal.Frame.RunB

@[expose] public section

set_option maxRecDepth 16384

noncomputable section

namespace Cert.BridgeB

open Idealize.ShloMosaic Idealize.SL.Sem Cert.KernelIdeal Cert.KernelIdeal.Gen Cert.Pair

variable (c : Dev nD) (i : grid0.Coords)
  (a1 : Memref sig .tc .vmem S256x2048 .f32) (ha1 : a1.IsWhole)
  (a2 : Memref sig .tc .vmem S128x2048 .f32) (ha2 : a2.IsWhole)
  (a3 : Memref sig .tc .vmem S128x2048 .f32) (ha3 : a3.IsWhole)
  (a4 : Memref sig .tc .vmem S1x2048 .f32) (ha4 : a4.IsWhole)
  (a5 : Memref sig .tc .vmem S32x2048x256 .bf16) (ha5 : a5.IsWhole)
  (a6 : Memref sig .tc .vmem S16x2048 .bf16) (ha6 : a6.IsWhole)
  (a7 : Memref sig .tc .vmem S4x1024 .f32) (ha7 : a7.IsWhole)
  (a8 : Memref sig .tc .vmem S1x1024 .f32) (ha8 : a8.IsWhole)
  (a9 : Memref sig .tc .vmem S16x128 .f32) (ha9 : a9.IsWhole)
  (a10 : Memref sig .tc .vmem S1x1024 .f32) (ha10 : a10.IsWhole)
  (a11 : Memref sig .tc .vmem S2x1024 .f32) (ha11 : a11.IsWhole)
  (a12 : Memref sig .tc .vmem S1x1024 .f32) (ha12 : a12.IsWhole)
  (a13 : Memref sig .tc .vmem S256x2048 .bf16) (ha13 : a13.IsWhole)
  (a14 : Memref sig .tc .vmem S32x128x256 .f32) (ha14 : a14.IsWhole)
  (a15 : Memref sig .tc .vmem S32x128x256 .f32) (ha15 : a15.IsWhole)
  (a16 : Memref sig .tc .vmem S16x128 .f32) (ha16 : a16.IsWhole)
  (a17 : Memref sig .tc .vmem S16x128 .f32) (ha17 : a17.IsWhole)
  (a18 : Memref sig .tc .vmem S128x2048 .bf16) (ha18 : a18.IsWhole)
  (a19 : Memref sig .tc .vmem S128x2048 .bf16) (ha19 : a19.IsWhole)
  (a20 : Memref sig .tc .vmem S8x1024 .f32) (ha20 : a20.IsWhole)
  (a21 : Memref sig .tc .vmem S4x128x256 .f32) (ha21 : a21.IsWhole)
  (a22 : Memref sig .tc .vmem S4x8x128 .f32) (ha22 : a22.IsWhole)
  (a23 : Memref sig .tc .vmem S8x128 .f32) (ha23 : a23.IsWhole)
  (a24 : Memref sig .tc .vmem S4x128x256 .f32) (ha24 : a24.IsWhole)
  (a25 : Memref sig .tc .vmem S128x256 .i32) (ha25 : a25.IsWhole)
  (x0 : Vec Ideal S256x2048 .f32)
  (x1 : Vec Ideal S128x2048 .f32)
  (x2 : Vec Ideal S128x2048 .f32)
  (x3 : Vec Ideal S1x2048 .f32)
  (x4 : Vec Ideal S32x2048x256 .bf16)
  (x5 : Vec Ideal S16x2048 .bf16)
  (x6 : Vec Ideal S4x1024 .f32)
  (x7 : Vec Ideal S1x1024 .f32)
  (x8 : Vec Ideal S16x128 .f32)
  (x9 : Vec Ideal S1x1024 .f32)
  (x10 : Vec Ideal S2x1024 .f32)
  (x11 : Vec Ideal S1x1024 .f32)
  (xs0 : Vec Ideal S32x128x256 .f32)
  (xs2 : Vec Ideal S16x128 .f32)
  (xs5 : Vec Ideal S128x2048 .bf16)
  (xs6 : Vec Ideal S8x1024 .f32)
  (xs7 : Vec Ideal S4x128x256 .f32)
  (xs8 : Vec Ideal S4x8x128 .f32)
  (xs9 : Vec Ideal S8x128 .f32)
  (xs10 : Vec Ideal S4x128x256 .f32)
  (xs11 : Vec Ideal S128x256 .i32)

theorem state_0_0 : (k0_pay108 (kernelRun0_B.sl.r_57 c a11 ha11 a14 ha14 x10 xs0) (kernelRun0_B.sl.r_58 c a24 ha24 xs10) (kernelRun0_B.sl.r_61 c a11 ha11 a14 ha14 x10 xs0) (kernelRun0_B.sl.r_62 c a11 ha11 a14 ha14 x10 xs0) (kernelRun0_B.sl.r_63 c a14 ha14 xs0) : Vec Ideal S1x128x256 .f32) = stStore (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (shapeCast S128x256 (View.readAt (Elt Ideal) a14.view (Rect.unit (s := S32x128x256) ![20, 0, 0] S1x128x256.size inb_S32x128x256_S1x128x256_20_0_0).toLoadRect (ha14.unread xs0)) shapeCasts_S1x128x256_S128x256) (shapeCast S128x256 (View.readAt (Elt Ideal) a14.view (Rect.unit (s := S32x128x256) ![24, 0, 0] S1x128x256.size inb_S32x128x256_S1x128x256_24_0_0).toLoadRect (ha14.unread xs0)) shapeCasts_S1x128x256_S128x256) (shapeCast S128x256 (View.readAt (Elt Ideal) a24.view (Rect.unit (s := S4x128x256) ![0, 0, 0] S1x128x256.size inb_S4x128x256_S1x128x256_0_0_0).toLoadRect (ha24.unread xs10)) shapeCasts_S1x128x256_S128x256) := rfl

theorem out_0_0_0 : (k0_pay113 (kernelRun0_B.sl.r_66 c a11 ha11 a12 ha12 a14 ha14 a24 ha24 a25 ha25 x10 x11 xs0 xs10 xs11) (kernelRun0_B.sl.r_67 c a14 ha14 xs0) : FVec Ideal S128x128 .bf16) = yStore0 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![16, 0, 0] S1x128x256.size inb_S32x128x256_S1x128x256_16_0_0).toLoadRect (ha14.unread xs0)) shapeCasts_S1x128x256_S128x256) (shapeCast S128x256 (View.readAt (Elt Ideal) a14.view (Rect.unit (s := S32x128x256) ![20, 0, 0] S1x128x256.size inb_S32x128x256_S1x128x256_20_0_0).toLoadRect (ha14.unread xs0)) shapeCasts_S1x128x256_S128x256) (shapeCast S128x256 (View.readAt (Elt Ideal) a14.view (Rect.unit (s := S32x128x256) ![24, 0, 0] S1x128x256.size inb_S32x128x256_S1x128x256_24_0_0).toLoadRect (ha14.unread xs0)) shapeCasts_S1x128x256_S128x256) (shapeCast S128x256 (View.readAt (Elt Ideal) a14.view (Rect.unit (s := S32x128x256) ![28, 0, 0] S1x128x256.size inb_S32x128x256_S1x128x256_28_0_0).toLoadRect (ha14.unread xs0)) shapeCasts_S1x128x256_S128x256) (shapeCast S128x256 (View.readAt (Elt Ideal) a24.view (Rect.unit (s := S4x128x256) ![0, 0, 0] S1x128x256.size inb_S4x128x256_S1x128x256_0_0_0).toLoadRect (ha24.unread xs10)) shapeCasts_S1x128x256_S128x256) (View.readAt (Elt Ideal) a12.view (Rect.unit (s := S1x1024) ![0, 0] S1x256.size inb_S1x1024_S1x256_0_0).toLoadRect (ha12.unread x11)) := rfl

theorem out_0_0_1 : (k0_pay114 (kernelRun0_B.sl.r_20 c a14 ha14 xs0) (kernelRun0_B.sl.r_59 c a11 ha11 a14 ha14 x10 xs0) (kernelRun0_B.sl.r_60 c a11 ha11 a14 ha14 a24 ha24 a25 ha25 x10 xs0 xs10 xs11) (kernelRun0_B.sl.r_64 c a14 ha14 xs0) (kernelRun0_B.sl.r_65 c a12 ha12 x11) : FVec Ideal S128x128 .bf16) = yStore1 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![16, 0, 0] S1x128x256.size inb_S32x128x256_S1x128x256_16_0_0).toLoadRect (ha14.unread xs0)) shapeCasts_S1x128x256_S128x256) (shapeCast S128x256 (View.readAt (Elt Ideal) a14.view (Rect.unit (s := S32x128x256) ![20, 0, 0] S1x128x256.size inb_S32x128x256_S1x128x256_20_0_0).toLoadRect (ha14.unread xs0)) shapeCasts_S1x128x256_S128x256) (shapeCast S128x256 (View.readAt (Elt Ideal) a14.view (Rect.unit (s := S32x128x256) ![24, 0, 0] S1x128x256.size inb_S32x128x256_S1x128x256_24_0_0).toLoadRect (ha14.unread xs0)) shapeCasts_S1x128x256_S128x256) (shapeCast S128x256 (View.readAt (Elt Ideal) a14.view (Rect.unit (s := S32x128x256) ![28, 0, 0] S1x128x256.size inb_S32x128x256_S1x128x256_28_0_0).toLoadRect (ha14.unread xs0)) shapeCasts_S1x128x256_S128x256) (shapeCast S128x256 (View.readAt (Elt Ideal) a24.view (Rect.unit (s := S4x128x256) ![0, 0, 0] S1x128x256.size inb_S4x128x256_S1x128x256_0_0_0).toLoadRect (ha24.unread xs10)) shapeCasts_S1x128x256_S128x256) (View.readAt (Elt Ideal) a12.view (Rect.unit (s := S1x1024) ![0, 0] S1x256.size inb_S1x1024_S1x256_0_0).toLoadRect (ha12.unread x11)) := rfl

theorem state_0_1 : (k0_pay181 (kernelRun0_B.sl.r_74 c a11 ha11 a14 ha14 x10 xs0) (kernelRun0_B.sl.r_112 c a11 ha11 a14 ha14 x10 xs0) (kernelRun0_B.sl.r_113 c a11 ha11 a14 ha14 x10 xs0) (kernelRun0_B.sl.r_114 c a24 ha24 xs10) (kernelRun0_B.sl.r_115 c a14 ha14 xs0) : Vec Ideal S1x128x256 .f32) = stStore (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (shapeCast S128x256 (View.readAt (Elt Ideal) a14.view (Rect.unit (s := S32x128x256) ![21, 0, 0] S1x128x256.size inb_S32x128x256_S1x128x256_21_0_0).toLoadRect (ha14.unread xs0)) shapeCasts_S1x128x256_S128x256) (shapeCast S128x256 (View.readAt (Elt Ideal) a14.view (Rect.unit (s := S32x128x256) ![25, 0, 0] S1x128x256.size inb_S32x128x256_S1x128x256_25_0_0).toLoadRect (ha14.unread xs0)) shapeCasts_S1x128x256_S128x256) (shapeCast S128x256 (View.readAt (Elt Ideal) a24.view (Rect.unit (s := S4x128x256) ![1, 0, 0] S1x128x256.size inb_S4x128x256_S1x128x256_1_0_0).toLoadRect (ha24.unread xs10)) shapeCasts_S1x128x256_S128x256) := rfl

theorem out_0_1_0 : (k0_pay186 (kernelRun0_B.sl.r_70 c a14 ha14 xs0) (kernelRun0_B.sl.r_119 c a14 ha14 xs0) (kernelRun0_B.sl.r_120 c a12 ha12 x11) (kernelRun0_B.sl.r_121 c a11 ha11 a14 ha14 a24 ha24 a25 ha25 x10 xs0 xs10 xs11) (kernelRun0_B.sl.r_122 c a11 ha11 a14 ha14 x10 xs0) : FVec Ideal S128x128 .bf16) = yStore0 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![17, 0, 0] S1x128x256.size inb_S32x128x256_S1x128x256_17_0_0).toLoadRect (ha14.unread xs0)) shapeCasts_S1x128x256_S128x256) (shapeCast S128x256 (View.readAt (Elt Ideal) a14.view (Rect.unit (s := S32x128x256) ![21, 0, 0] S1x128x256.size inb_S32x128x256_S1x128x256_21_0_0).toLoadRect (ha14.unread xs0)) shapeCasts_S1x128x256_S128x256) (shapeCast S128x256 (View.readAt (Elt Ideal) a14.view (Rect.unit (s := S32x128x256) ![25, 0, 0] S1x128x256.size inb_S32x128x256_S1x128x256_25_0_0).toLoadRect (ha14.unread xs0)) shapeCasts_S1x128x256_S128x256) (shapeCast S128x256 (View.readAt (Elt Ideal) a14.view (Rect.unit (s := S32x128x256) ![29, 0, 0] S1x128x256.size inb_S32x128x256_S1x128x256_29_0_0).toLoadRect (ha14.unread xs0)) shapeCasts_S1x128x256_S128x256) (shapeCast S128x256 (View.readAt (Elt Ideal) a24.view (Rect.unit (s := S4x128x256) ![1, 0, 0] S1x128x256.size inb_S4x128x256_S1x128x256_1_0_0).toLoadRect (ha24.unread xs10)) shapeCasts_S1x128x256_S128x256) (View.readAt (Elt Ideal) a12.view (Rect.unit (s := S1x1024) ![0, 256] S1x256.size inb_S1x1024_S1x256_0_256).toLoadRect (ha12.unread x11)) := rfl

theorem out_0_1_1 : (kernelRun0_B.sl.r_123 c a11 ha11 a12 ha12 a14 ha14 a24 ha24 a25 ha25 x10 x11 xs0 xs10 xs11 : FVec Ideal S128x128 .bf16) = yStore1 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![17, 0, 0] S1x128x256.size inb_S32x128x256_S1x128x256_17_0_0).toLoadRect (ha14.unread xs0)) shapeCasts_S1x128x256_S128x256) (shapeCast S128x256 (View.readAt (Elt Ideal) a14.view (Rect.unit (s := S32x128x256) ![21, 0, 0] S1x128x256.size inb_S32x128x256_S1x128x256_21_0_0).toLoadRect (ha14.unread xs0)) shapeCasts_S1x128x256_S128x256) (shapeCast S128x256 (View.readAt (Elt Ideal) a14.view (Rect.unit (s := S32x128x256) ![25, 0, 0] S1x128x256.size inb_S32x128x256_S1x128x256_25_0_0).toLoadRect (ha14.unread xs0)) shapeCasts_S1x128x256_S128x256) (shapeCast S128x256 (View.readAt (Elt Ideal) a14.view (Rect.unit (s := S32x128x256) ![29, 0, 0] S1x128x256.size inb_S32x128x256_S1x128x256_29_0_0).toLoadRect (ha14.unread xs0)) shapeCasts_S1x128x256_S128x256) (shapeCast S128x256 (View.readAt (Elt Ideal) a24.view (Rect.unit (s := S4x128x256) ![1, 0, 0] S1x128x256.size inb_S4x128x256_S1x128x256_1_0_0).toLoadRect (ha24.unread xs10)) shapeCasts_S1x128x256_S128x256) (View.readAt (Elt Ideal) a12.view (Rect.unit (s := S1x1024) ![0, 256] S1x256.size inb_S1x1024_S1x256_0_256).toLoadRect (ha12.unread x11)) := rfl

theorem state_0_2 : (k0_pay259 (kernelRun0_B.sl.r_130 c a11 ha11 a14 ha14 x10 xs0) (kernelRun0_B.sl.r_170 c a11 ha11 a14 ha14 x10 xs0) (kernelRun0_B.sl.r_171 c a11 ha11 a14 ha14 x10 xs0) (kernelRun0_B.sl.r_172 c a24 ha24 xs10) (kernelRun0_B.sl.r_173 c a14 ha14 xs0) : Vec Ideal S1x128x256 .f32) = stStore (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (shapeCast S128x256 (View.readAt (Elt Ideal) a14.view (Rect.unit (s := S32x128x256) ![22, 0, 0] S1x128x256.size inb_S32x128x256_S1x128x256_22_0_0).toLoadRect (ha14.unread xs0)) shapeCasts_S1x128x256_S128x256) (shapeCast S128x256 (View.readAt (Elt Ideal) a14.view (Rect.unit (s := S32x128x256) ![26, 0, 0] S1x128x256.size inb_S32x128x256_S1x128x256_26_0_0).toLoadRect (ha14.unread xs0)) shapeCasts_S1x128x256_S128x256) (shapeCast S128x256 (View.readAt (Elt Ideal) a24.view (Rect.unit (s := S4x128x256) ![2, 0, 0] S1x128x256.size inb_S4x128x256_S1x128x256_2_0_0).toLoadRect (ha24.unread xs10)) shapeCasts_S1x128x256_S128x256) := rfl

theorem out_0_2_0 : (k0_pay264 (kernelRun0_B.sl.r_180 c a14 ha14 xs0) (kernelRun0_B.sl.r_181 c a12 ha12 x11) (kernelRun0_B.sl.r_182 c a11 ha11 a14 ha14 a24 ha24 a25 ha25 x10 xs0 xs10 xs11) (kernelRun0_B.sl.r_183 c a11 ha11 a14 ha14 a24 ha24 a25 ha25 x10 xs0 xs10 xs11) : FVec Ideal S128x128 .bf16) = yStore0 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![18, 0, 0] S1x128x256.size inb_S32x128x256_S1x128x256_18_0_0).toLoadRect (ha14.unread xs0)) shapeCasts_S1x128x256_S128x256) (shapeCast S128x256 (View.readAt (Elt Ideal) a14.view (Rect.unit (s := S32x128x256) ![22, 0, 0] S1x128x256.size inb_S32x128x256_S1x128x256_22_0_0).toLoadRect (ha14.unread xs0)) shapeCasts_S1x128x256_S128x256) (shapeCast S128x256 (View.readAt (Elt Ideal) a14.view (Rect.unit (s := S32x128x256) ![26, 0, 0] S1x128x256.size inb_S32x128x256_S1x128x256_26_0_0).toLoadRect (ha14.unread xs0)) shapeCasts_S1x128x256_S128x256) (shapeCast S128x256 (View.readAt (Elt Ideal) a14.view (Rect.unit (s := S32x128x256) ![30, 0, 0] S1x128x256.size inb_S32x128x256_S1x128x256_30_0_0).toLoadRect (ha14.unread xs0)) shapeCasts_S1x128x256_S128x256) (shapeCast S128x256 (View.readAt (Elt Ideal) a24.view (Rect.unit (s := S4x128x256) ![2, 0, 0] S1x128x256.size inb_S4x128x256_S1x128x256_2_0_0).toLoadRect (ha24.unread xs10)) shapeCasts_S1x128x256_S128x256) (View.readAt (Elt Ideal) a12.view (Rect.unit (s := S1x1024) ![0, 512] S1x256.size inb_S1x1024_S1x256_0_512).toLoadRect (ha12.unread x11)) := rfl

theorem out_0_2_1 : (k0_pay265 (kernelRun0_B.sl.r_126 c a14 ha14 xs0) (kernelRun0_B.sl.r_174 c a11 ha11 a14 ha14 x10 xs0) (kernelRun0_B.sl.r_179 c a11 ha11 a14 ha14 a24 ha24 a25 ha25 x10 xs0 xs10 xs11) (kernelRun0_B.sl.r_180 c a14 ha14 xs0) (kernelRun0_B.sl.r_181 c a12 ha12 x11) : FVec Ideal S128x128 .bf16) = yStore1 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![18, 0, 0] S1x128x256.size inb_S32x128x256_S1x128x256_18_0_0).toLoadRect (ha14.unread xs0)) shapeCasts_S1x128x256_S128x256) (shapeCast S128x256 (View.readAt (Elt Ideal) a14.view (Rect.unit (s := S32x128x256) ![22, 0, 0] S1x128x256.size inb_S32x128x256_S1x128x256_22_0_0).toLoadRect (ha14.unread xs0)) shapeCasts_S1x128x256_S128x256) (shapeCast S128x256 (View.readAt (Elt Ideal) a14.view (Rect.unit (s := S32x128x256) ![26, 0, 0] S1x128x256.size inb_S32x128x256_S1x128x256_26_0_0).toLoadRect (ha14.unread xs0)) shapeCasts_S1x128x256_S128x256) (shapeCast S128x256 (View.readAt (Elt Ideal) a14.view (Rect.unit (s := S32x128x256) ![30, 0, 0] S1x128x256.size inb_S32x128x256_S1x128x256_30_0_0).toLoadRect (ha14.unread xs0)) shapeCasts_S1x128x256_S128x256) (shapeCast S128x256 (View.readAt (Elt Ideal) a24.view (Rect.unit (s := S4x128x256) ![2, 0, 0] S1x128x256.size inb_S4x128x256_S1x128x256_2_0_0).toLoadRect (ha24.unread xs10)) shapeCasts_S1x128x256_S128x256) (View.readAt (Elt Ideal) a12.view (Rect.unit (s := S1x1024) ![0, 512] S1x256.size inb_S1x1024_S1x256_0_512).toLoadRect (ha12.unread x11)) := rfl

theorem state_0_3 : (k0_pay332 (kernelRun0_B.sl.r_186 c a14 ha14 xs0) (kernelRun0_B.sl.r_187 c a11 ha11 a14 ha14 x10 xs0) (kernelRun0_B.sl.r_225 c a11 ha11 a14 ha14 x10 xs0) (kernelRun0_B.sl.r_226 c a11 ha11 a14 ha14 x10 xs0) (kernelRun0_B.sl.v2251 c a24 ha24 xs10) : Vec Ideal S1x128x256 .f32) = stStore (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (shapeCast S128x256 (View.readAt (Elt Ideal) a14.view (Rect.unit (s := S32x128x256) ![23, 0, 0] S1x128x256.size inb_S32x128x256_S1x128x256_23_0_0).toLoadRect (ha14.unread xs0)) shapeCasts_S1x128x256_S128x256) (shapeCast S128x256 (View.readAt (Elt Ideal) a14.view (Rect.unit (s := S32x128x256) ![27, 0, 0] S1x128x256.size inb_S32x128x256_S1x128x256_27_0_0).toLoadRect (ha14.unread xs0)) shapeCasts_S1x128x256_S128x256) (shapeCast S128x256 (View.readAt (Elt Ideal) a24.view (Rect.unit (s := S4x128x256) ![3, 0, 0] S1x128x256.size inb_S4x128x256_S1x128x256_3_0_0).toLoadRect (ha24.unread xs10)) shapeCasts_S1x128x256_S128x256) := rfl

theorem out_0_3_0 : (k0_pay337 (kernelRun0_B.sl.r_186 c a14 ha14 xs0) (kernelRun0_B.sl.r_227 c a11 ha11 a14 ha14 x10 xs0) (kernelRun0_B.sl.r_228 c a11 ha11 a14 ha14 a24 ha24 a25 ha25 x10 xs0 xs10 xs11) (kernelRun0_B.sl.r_229 c a14 ha14 xs0) k0_pay334 (View.readAt (Elt Ideal) a12.view (Rect.unit (s := S1x1024) ![0, 768] S1x256.size inb_S1x1024_S1x256_0_768).toLoadRect (ha12.unread x11)) : FVec Ideal S128x128 .bf16) = yStore0 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![19, 0, 0] S1x128x256.size inb_S32x128x256_S1x128x256_19_0_0).toLoadRect (ha14.unread xs0)) shapeCasts_S1x128x256_S128x256) (shapeCast S128x256 (View.readAt (Elt Ideal) a14.view (Rect.unit (s := S32x128x256) ![23, 0, 0] S1x128x256.size inb_S32x128x256_S1x128x256_23_0_0).toLoadRect (ha14.unread xs0)) shapeCasts_S1x128x256_S128x256) (shapeCast S128x256 (View.readAt (Elt Ideal) a14.view (Rect.unit (s := S32x128x256) ![27, 0, 0] S1x128x256.size inb_S32x128x256_S1x128x256_27_0_0).toLoadRect (ha14.unread xs0)) shapeCasts_S1x128x256_S128x256) (shapeCast S128x256 (View.readAt (Elt Ideal) a14.view (Rect.unit (s := S32x128x256) ![31, 0, 0] S1x128x256.size inb_S32x128x256_S1x128x256_31_0_0).toLoadRect (ha14.unread xs0)) shapeCasts_S1x128x256_S128x256) (shapeCast S128x256 (View.readAt (Elt Ideal) a24.view (Rect.unit (s := S4x128x256) ![3, 0, 0] S1x128x256.size inb_S4x128x256_S1x128x256_3_0_0).toLoadRect (ha24.unread xs10)) shapeCasts_S1x128x256_S128x256) (View.readAt (Elt Ideal) a12.view (Rect.unit (s := S1x1024) ![0, 768] S1x256.size inb_S1x1024_S1x256_0_768).toLoadRect (ha12.unread x11)) := rfl

theorem out_0_3_1 : (k0_pay341 (kernelRun0_B.sl.r_230 c a14 ha14 xs0) (kernelRun0_B.sl.r_231 c a12 ha12 x11) (kernelRun0_B.sl.r_232 c a11 ha11 a14 ha14 a24 ha24 a25 ha25 x10 xs0 xs10 xs11) (kernelRun0_B.sl.r_233 c a11 ha11 a14 ha14 a24 ha24 a25 ha25 x10 xs0 xs10 xs11) k0_pay340 : FVec Ideal S128x128 .bf16) = yStore1 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![19, 0, 0] S1x128x256.size inb_S32x128x256_S1x128x256_19_0_0).toLoadRect (ha14.unread xs0)) shapeCasts_S1x128x256_S128x256) (shapeCast S128x256 (View.readAt (Elt Ideal) a14.view (Rect.unit (s := S32x128x256) ![23, 0, 0] S1x128x256.size inb_S32x128x256_S1x128x256_23_0_0).toLoadRect (ha14.unread xs0)) shapeCasts_S1x128x256_S128x256) (shapeCast S128x256 (View.readAt (Elt Ideal) a14.view (Rect.unit (s := S32x128x256) ![27, 0, 0] S1x128x256.size inb_S32x128x256_S1x128x256_27_0_0).toLoadRect (ha14.unread xs0)) shapeCasts_S1x128x256_S128x256) (shapeCast S128x256 (View.readAt (Elt Ideal) a14.view (Rect.unit (s := S32x128x256) ![31, 0, 0] S1x128x256.size inb_S32x128x256_S1x128x256_31_0_0).toLoadRect (ha14.unread xs0)) shapeCasts_S1x128x256_S128x256) (shapeCast S128x256 (View.readAt (Elt Ideal) a24.view (Rect.unit (s := S4x128x256) ![3, 0, 0] S1x128x256.size inb_S4x128x256_S1x128x256_3_0_0).toLoadRect (ha24.unread xs10)) shapeCasts_S1x128x256_S128x256) (View.readAt (Elt Ideal) a12.view (Rect.unit (s := S1x1024) ![0, 768] S1x256.size inb_S1x1024_S1x256_0_768).toLoadRect (ha12.unread x11)) := rfl

theorem state_1_0 : (k0_pay542 (kernelRun0_B.sl.r_322 c a5 ha5 a15 a19 ha19 x4 xs5) (kernelRun0_B.sl.r_323 c a5 ha5 a11 ha11 a15 a19 ha19 x4 x10 xs5) (kernelRun0_B.sl.r_362 c a5 ha5 a11 ha11 a15 a19 ha19 x4 x10 xs5) (kernelRun0_B.sl.r_363 c a5 ha5 a11 ha11 a15 a19 ha19 x4 x10 xs5) (kernelRun0_B.sl.v3536 c a11 ha11 a14 ha14 a24 ha24 x10 xs0 xs10) : Vec Ideal S1x128x256 .f32) = stStore (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (shapeCast S128x256 (a15.view.readCov (kernelRun0_B.sl.HS1_32 (F := Ideal) c a5 ha5 a19 ha19 x4 xs5) (Rect.unit (s := S32x128x256) ![20, 0, 0] S1x128x256.size inb_S32x128x256_S1x128x256_20_0_0).toLoadRect) shapeCasts_S1x128x256_S128x256) (shapeCast S128x256 (a15.view.readCov (kernelRun0_B.sl.HS1_32 (F := Ideal) c a5 ha5 a19 ha19 x4 xs5) (Rect.unit (s := S32x128x256) ![24, 0, 0] S1x128x256.size inb_S32x128x256_S1x128x256_24_0_0).toLoadRect) shapeCasts_S1x128x256_S128x256) (shapeCast S128x256 (a24.view.readCov (kernelRun0_B.sl.HS10_4 (F := Ideal) c a11 ha11 a14 ha14 a24 ha24 x10 xs0 xs10) (Rect.unit (s := S4x128x256) ![0, 0, 0] S1x128x256.size inb_S4x128x256_S1x128x256_0_0_0).toLoadRect) shapeCasts_S1x128x256_S128x256) := rfl

theorem out_1_0_0 : (k0_pay547 (kernelRun0_B.sl.r_322 c a5 ha5 a15 a19 ha19 x4 xs5) (kernelRun0_B.sl.r_364 c a5 ha5 a11 ha11 a15 a19 ha19 x4 x10 xs5) (kernelRun0_B.sl.r_365 c a5 ha5 a11 ha11 a14 ha14 a15 a19 ha19 a24 ha24 a25 ha25 x4 x10 xs0 xs5 xs10 xs11) (kernelRun0_B.sl.r_366 c a5 ha5 a15 a19 ha19 x4 xs5) (kernelRun0_B.sl.r_367 c a5 ha5 a15 a19 ha19 x4 xs5) kernelRun0_B.sl.cst_157 (View.readAt (Elt Ideal) a12.view (Rect.unit (s := S1x1024) ![0, 0] S1x256.size inb_S1x1024_S1x256_0_0).toLoadRect (ha12.unread x11)) : FVec Ideal S128x128 .bf16) = yStore0 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (View.readAt (Elt Ideal) a25.view (Rect.unit (s := S128x256) ![0, 0] S128x256.size inb_S128x256_S128x256_0_0).toLoadRect (ha25.unread xs11)) (shapeCast S128x256 (a15.view.readCov (kernelRun0_B.sl.HS1_32 (F := Ideal) c a5 ha5 a19 ha19 x4 xs5) (Rect.unit (s := S32x128x256) ![16, 0, 0] S1x128x256.size inb_S32x128x256_S1x128x256_16_0_0).toLoadRect) shapeCasts_S1x128x256_S128x256) (shapeCast S128x256 (a15.view.readCov (kernelRun0_B.sl.HS1_32 (F := Ideal) c a5 ha5 a19 ha19 x4 xs5) (Rect.unit (s := S32x128x256) ![20, 0, 0] S1x128x256.size inb_S32x128x256_S1x128x256_20_0_0).toLoadRect) shapeCasts_S1x128x256_S128x256) (shapeCast S128x256 (a15.view.readCov (kernelRun0_B.sl.HS1_32 (F := Ideal) c a5 ha5 a19 ha19 x4 xs5) (Rect.unit (s := S32x128x256) ![24, 0, 0] S1x128x256.size inb_S32x128x256_S1x128x256_24_0_0).toLoadRect) shapeCasts_S1x128x256_S128x256) (shapeCast S128x256 (a15.view.readCov (kernelRun0_B.sl.HS1_32 (F := Ideal) c a5 ha5 a19 ha19 x4 xs5) (Rect.unit (s := S32x128x256) ![28, 0, 0] S1x128x256.size inb_S32x128x256_S1x128x256_28_0_0).toLoadRect) shapeCasts_S1x128x256_S128x256) (shapeCast S128x256 (a24.view.readCov (kernelRun0_B.sl.HS10_4 (F := Ideal) c a11 ha11 a14 ha14 a24 ha24 x10 xs0 xs10) (Rect.unit (s := S4x128x256) ![0, 0, 0] S1x128x256.size inb_S4x128x256_S1x128x256_0_0_0).toLoadRect) shapeCasts_S1x128x256_S128x256) (View.readAt (Elt Ideal) a12.view (Rect.unit (s := S1x1024) ![0, 0] S1x256.size inb_S1x1024_S1x256_0_0).toLoadRect (ha12.unread x11)) := rfl

theorem out_1_0_1 : (k0_pay551 (kernelRun0_B.sl.r_368 c a5 ha5 a15 a19 ha19 x4 xs5) (kernelRun0_B.sl.r_369 c a12 ha12 x11) (kernelRun0_B.sl.r_370 c a5 ha5 a11 ha11 a14 ha14 a15 a19 ha19 a24 ha24 a25 ha25 x4 x10 xs0 xs5 xs10 xs11) (kernelRun0_B.sl.r_371 c a5 ha5 a11 ha11 a14 ha14 a15 a19 ha19 a24 ha24 a25 ha25 x4 x10 xs0 xs5 xs10 xs11) k0_pay550 : FVec Ideal S128x128 .bf16) = yStore1 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (View.readAt (Elt Ideal) a25.view (Rect.unit (s := S128x256) ![0, 0] S128x256.size inb_S128x256_S128x256_0_0).toLoadRect (ha25.unread xs11)) (shapeCast S128x256 (a15.view.readCov (kernelRun0_B.sl.HS1_32 (F := Ideal) c a5 ha5 a19 ha19 x4 xs5) (Rect.unit (s := S32x128x256) ![16, 0, 0] S1x128x256.size inb_S32x128x256_S1x128x256_16_0_0).toLoadRect) shapeCasts_S1x128x256_S128x256) (shapeCast S128x256 (a15.view.readCov (kernelRun0_B.sl.HS1_32 (F := Ideal) c a5 ha5 a19 ha19 x4 xs5) (Rect.unit (s := S32x128x256) ![20, 0, 0] S1x128x256.size inb_S32x128x256_S1x128x256_20_0_0).toLoadRect) shapeCasts_S1x128x256_S128x256) (shapeCast S128x256 (a15.view.readCov (kernelRun0_B.sl.HS1_32 (F := Ideal) c a5 ha5 a19 ha19 x4 xs5) (Rect.unit (s := S32x128x256) ![24, 0, 0] S1x128x256.size inb_S32x128x256_S1x128x256_24_0_0).toLoadRect) shapeCasts_S1x128x256_S128x256) (shapeCast S128x256 (a15.view.readCov (kernelRun0_B.sl.HS1_32 (F := Ideal) c a5 ha5 a19 ha19 x4 xs5) (Rect.unit (s := S32x128x256) ![28, 0, 0] S1x128x256.size inb_S32x128x256_S1x128x256_28_0_0).toLoadRect) shapeCasts_S1x128x256_S128x256) (shapeCast S128x256 (a24.view.readCov (kernelRun0_B.sl.HS10_4 (F := Ideal) c a11 ha11 a14 ha14 a24 ha24 x10 xs0 xs10) (Rect.unit (s := S4x128x256) ![0, 0, 0] S1x128x256.size inb_S4x128x256_S1x128x256_0_0_0).toLoadRect) shapeCasts_S1x128x256_S128x256) (View.readAt (Elt Ideal) a12.view (Rect.unit (s := S1x1024) ![0, 0] S1x256.size inb_S1x1024_S1x256_0_0).toLoadRect (ha12.unread x11)) := rfl

theorem state_1_1 : (k0_pay622 (kernelRun0_B.sl.r_412 c a5 ha5 a11 ha11 a15 a19 ha19 x4 x10 xs5) (kernelRun0_B.sl.r_413 c a5 ha5 a11 ha11 a14 ha14 a15 a19 ha19 a24 ha24 x4 x10 xs0 xs5 xs10) (kernelRun0_B.sl.r_416 c a5 ha5 a11 ha11 a15 a19 ha19 x4 x10 xs5) (kernelRun0_B.sl.r_417 c a5 ha5 a15 a19 ha19 x4 xs5) (kernelRun0_B.sl.r_418 c a5 ha5 a11 ha11 a15 a19 ha19 x4 x10 xs5) : Vec Ideal S1x128x256 .f32) = stStore (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (shapeCast S128x256 (a15.view.readCov (kernelRun0_B.sl.HS1_32 (F := Ideal) c a5 ha5 a19 ha19 x4 xs5) (Rect.unit (s := S32x128x256) ![21, 0, 0] S1x128x256.size inb_S32x128x256_S1x128x256_21_0_0).toLoadRect) shapeCasts_S1x128x256_S128x256) (shapeCast S128x256 (a15.view.readCov (kernelRun0_B.sl.HS1_32 (F := Ideal) c a5 ha5 a19 ha19 x4 xs5) (Rect.unit (s := S32x128x256) ![25, 0, 0] S1x128x256.size inb_S32x128x256_S1x128x256_25_0_0).toLoadRect) shapeCasts_S1x128x256_S128x256) (shapeCast S128x256 (a24.view.readCov (kernelRun0_B.sl.HS10_5 (F := Ideal) c a5 ha5 a11 ha11 a14 ha14 a15 a19 ha19 a24 ha24 x4 x10 xs0 xs5 xs10) (Rect.unit (s := S4x128x256) ![1, 0, 0] S1x128x256.size inb_S4x128x256_S1x128x256_1_0_0).toLoadRect) shapeCasts_S1x128x256_S128x256) := rfl

theorem out_1_1_0 : (k0_pay626 (kernelRun0_B.sl.r_421 c a5 ha5 a11 ha11 a12 ha12 a14 ha14 a15 a19 ha19 a24 ha24 a25 ha25 x4 x10 x11 xs0 xs5 xs10 xs11) : FVec Ideal S128x128 .bf16) = yStore0 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (View.readAt (Elt Ideal) a25.view (Rect.unit (s := S128x256) ![0, 0] S128x256.size inb_S128x256_S128x256_0_0).toLoadRect (ha25.unread xs11)) (shapeCast S128x256 (a15.view.readCov (kernelRun0_B.sl.HS1_32 (F := Ideal) c a5 ha5 a19 ha19 x4 xs5) (Rect.unit (s := S32x128x256) ![17, 0, 0] S1x128x256.size inb_S32x128x256_S1x128x256_17_0_0).toLoadRect) shapeCasts_S1x128x256_S128x256) (shapeCast S128x256 (a15.view.readCov (kernelRun0_B.sl.HS1_32 (F := Ideal) c a5 ha5 a19 ha19 x4 xs5) (Rect.unit (s := S32x128x256) ![21, 0, 0] S1x128x256.size inb_S32x128x256_S1x128x256_21_0_0).toLoadRect) shapeCasts_S1x128x256_S128x256) (shapeCast S128x256 (a15.view.readCov (kernelRun0_B.sl.HS1_32 (F := Ideal) c a5 ha5 a19 ha19 x4 xs5) (Rect.unit (s := S32x128x256) ![25, 0, 0] S1x128x256.size inb_S32x128x256_S1x128x256_25_0_0).toLoadRect) shapeCasts_S1x128x256_S128x256) (shapeCast S128x256 (a15.view.readCov (kernelRun0_B.sl.HS1_32 (F := Ideal) c a5 ha5 a19 ha19 x4 xs5) (Rect.unit (s := S32x128x256) ![29, 0, 0] S1x128x256.size inb_S32x128x256_S1x128x256_29_0_0).toLoadRect) shapeCasts_S1x128x256_S128x256) (shapeCast S128x256 (a24.view.readCov (kernelRun0_B.sl.HS10_5 (F := Ideal) c a5 ha5 a11 ha11 a14 ha14 a15 a19 ha19 a24 ha24 x4 x10 xs0 xs5 xs10) (Rect.unit (s := S4x128x256) ![1, 0, 0] S1x128x256.size inb_S4x128x256_S1x128x256_1_0_0).toLoadRect) shapeCasts_S1x128x256_S128x256) (View.readAt (Elt Ideal) a12.view (Rect.unit (s := S1x1024) ![0, 256] S1x256.size inb_S1x1024_S1x256_0_256).toLoadRect (ha12.unread x11)) := rfl

theorem out_1_1_1 : (k0_pay627 (kernelRun0_B.sl.r_374 c a5 ha5 a15 a19 ha19 x4 xs5) (kernelRun0_B.sl.r_414 c a5 ha5 a11 ha11 a15 a19 ha19 x4 x10 xs5) (kernelRun0_B.sl.r_415 c a5 ha5 a11 ha11 a14 ha14 a15 a19 ha19 a24 ha24 a25 ha25 x4 x10 xs0 xs5 xs10 xs11) (kernelRun0_B.sl.r_419 c a5 ha5 a15 a19 ha19 x4 xs5) (kernelRun0_B.sl.r_420 c a12 ha12 x11) : FVec Ideal S128x128 .bf16) = yStore1 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (View.readAt (Elt Ideal) a25.view (Rect.unit (s := S128x256) ![0, 0] S128x256.size inb_S128x256_S128x256_0_0).toLoadRect (ha25.unread xs11)) (shapeCast S128x256 (a15.view.readCov (kernelRun0_B.sl.HS1_32 (F := Ideal) c a5 ha5 a19 ha19 x4 xs5) (Rect.unit (s := S32x128x256) ![17, 0, 0] S1x128x256.size inb_S32x128x256_S1x128x256_17_0_0).toLoadRect) shapeCasts_S1x128x256_S128x256) (shapeCast S128x256 (a15.view.readCov (kernelRun0_B.sl.HS1_32 (F := Ideal) c a5 ha5 a19 ha19 x4 xs5) (Rect.unit (s := S32x128x256) ![21, 0, 0] S1x128x256.size inb_S32x128x256_S1x128x256_21_0_0).toLoadRect) shapeCasts_S1x128x256_S128x256) (shapeCast S128x256 (a15.view.readCov (kernelRun0_B.sl.HS1_32 (F := Ideal) c a5 ha5 a19 ha19 x4 xs5) (Rect.unit (s := S32x128x256) ![25, 0, 0] S1x128x256.size inb_S32x128x256_S1x128x256_25_0_0).toLoadRect) shapeCasts_S1x128x256_S128x256) (shapeCast S128x256 (a15.view.readCov (kernelRun0_B.sl.HS1_32 (F := Ideal) c a5 ha5 a19 ha19 x4 xs5) (Rect.unit (s := S32x128x256) ![29, 0, 0] S1x128x256.size inb_S32x128x256_S1x128x256_29_0_0).toLoadRect) shapeCasts_S1x128x256_S128x256) (shapeCast S128x256 (a24.view.readCov (kernelRun0_B.sl.HS10_5 (F := Ideal) c a5 ha5 a11 ha11 a14 ha14 a15 a19 ha19 a24 ha24 x4 x10 xs0 xs5 xs10) (Rect.unit (s := S4x128x256) ![1, 0, 0] S1x128x256.size inb_S4x128x256_S1x128x256_1_0_0).toLoadRect) shapeCasts_S1x128x256_S128x256) (View.readAt (Elt Ideal) a12.view (Rect.unit (s := S1x1024) ![0, 256] S1x256.size inb_S1x1024_S1x256_0_256).toLoadRect (ha12.unread x11)) := rfl

theorem state_1_2 : (k0_pay690 (kernelRun0_B.sl.r_463 c a5 ha5 a11 ha11 a14 ha14 a15 a19 ha19 a24 ha24 x4 x10 xs0 xs5 xs10) : Vec Ideal S1x128x256 .f32) = stStore (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (shapeCast S128x256 (a15.view.readCov (kernelRun0_B.sl.HS1_32 (F := Ideal) c a5 ha5 a19 ha19 x4 xs5) (Rect.unit (s := S32x128x256) ![22, 0, 0] S1x128x256.size inb_S32x128x256_S1x128x256_22_0_0).toLoadRect) shapeCasts_S1x128x256_S128x256) (shapeCast S128x256 (a15.view.readCov (kernelRun0_B.sl.HS1_32 (F := Ideal) c a5 ha5 a19 ha19 x4 xs5) (Rect.unit (s := S32x128x256) ![26, 0, 0] S1x128x256.size inb_S32x128x256_S1x128x256_26_0_0).toLoadRect) shapeCasts_S1x128x256_S128x256) (shapeCast S128x256 (a24.view.readCov (kernelRun0_B.sl.HS10_6 (F := Ideal) c a5 ha5 a11 ha11 a14 ha14 a15 a19 ha19 a24 ha24 x4 x10 xs0 xs5 xs10) (Rect.unit (s := S4x128x256) ![2, 0, 0] S1x128x256.size inb_S4x128x256_S1x128x256_2_0_0).toLoadRect) shapeCasts_S1x128x256_S128x256) := rfl

theorem out_1_2_0 : (k0_pay693 (kernelRun0_B.sl.r_424 c a5 ha5 a15 a19 ha19 x4 xs5) (kernelRun0_B.sl.r_461 c a5 ha5 a11 ha11 a15 a19 ha19 x4 x10 xs5) (kernelRun0_B.sl.r_462 c a5 ha5 a11 ha11 a14 ha14 a15 a19 ha19 a24 ha24 a25 ha25 x4 x10 xs0 xs5 xs10 xs11) (kernelRun0_B.sl.v4631 c a5 ha5 a15 a19 ha19 x4 xs5) (View.readAt (Elt Ideal) a12.view (Rect.unit (s := S1x1024) ![0, 512] S1x256.size inb_S1x1024_S1x256_0_512).toLoadRect (ha12.unread x11)) : FVec Ideal S128x128 .bf16) = yStore0 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (View.readAt (Elt Ideal) a25.view (Rect.unit (s := S128x256) ![0, 0] S128x256.size inb_S128x256_S128x256_0_0).toLoadRect (ha25.unread xs11)) (shapeCast S128x256 (a15.view.readCov (kernelRun0_B.sl.HS1_32 (F := Ideal) c a5 ha5 a19 ha19 x4 xs5) (Rect.unit (s := S32x128x256) ![18, 0, 0] S1x128x256.size inb_S32x128x256_S1x128x256_18_0_0).toLoadRect) shapeCasts_S1x128x256_S128x256) (shapeCast S128x256 (a15.view.readCov (kernelRun0_B.sl.HS1_32 (F := Ideal) c a5 ha5 a19 ha19 x4 xs5) (Rect.unit (s := S32x128x256) ![22, 0, 0] S1x128x256.size inb_S32x128x256_S1x128x256_22_0_0).toLoadRect) shapeCasts_S1x128x256_S128x256) (shapeCast S128x256 (a15.view.readCov (kernelRun0_B.sl.HS1_32 (F := Ideal) c a5 ha5 a19 ha19 x4 xs5) (Rect.unit (s := S32x128x256) ![26, 0, 0] S1x128x256.size inb_S32x128x256_S1x128x256_26_0_0).toLoadRect) shapeCasts_S1x128x256_S128x256) (shapeCast S128x256 (a15.view.readCov (kernelRun0_B.sl.HS1_32 (F := Ideal) c a5 ha5 a19 ha19 x4 xs5) (Rect.unit (s := S32x128x256) ![30, 0, 0] S1x128x256.size inb_S32x128x256_S1x128x256_30_0_0).toLoadRect) shapeCasts_S1x128x256_S128x256) (shapeCast S128x256 (a24.view.readCov (kernelRun0_B.sl.HS10_6 (F := Ideal) c a5 ha5 a11 ha11 a14 ha14 a15 a19 ha19 a24 ha24 x4 x10 xs0 xs5 xs10) (Rect.unit (s := S4x128x256) ![2, 0, 0] S1x128x256.size inb_S4x128x256_S1x128x256_2_0_0).toLoadRect) shapeCasts_S1x128x256_S128x256) (View.readAt (Elt Ideal) a12.view (Rect.unit (s := S1x1024) ![0, 512] S1x256.size inb_S1x1024_S1x256_0_512).toLoadRect (ha12.unread x11)) := rfl

theorem out_1_2_1 : (k0_pay696 (kernelRun0_B.sl.r_424 c a5 ha5 a15 a19 ha19 x4 xs5) (kernelRun0_B.sl.r_464 c a5 ha5 a15 a19 ha19 x4 xs5) (kernelRun0_B.sl.r_465 c a12 ha12 x11) (kernelRun0_B.sl.r_466 c a5 ha5 a11 ha11 a14 ha14 a15 a19 ha19 a24 ha24 a25 ha25 x4 x10 xs0 xs5 xs10 xs11) (kernelRun0_B.sl.r_467 c a5 ha5 a11 ha11 a15 a19 ha19 x4 x10 xs5) : FVec Ideal S128x128 .bf16) = yStore1 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (View.readAt (Elt Ideal) a25.view (Rect.unit (s := S128x256) ![0, 0] S128x256.size inb_S128x256_S128x256_0_0).toLoadRect (ha25.unread xs11)) (shapeCast S128x256 (a15.view.readCov (kernelRun0_B.sl.HS1_32 (F := Ideal) c a5 ha5 a19 ha19 x4 xs5) (Rect.unit (s := S32x128x256) ![18, 0, 0] S1x128x256.size inb_S32x128x256_S1x128x256_18_0_0).toLoadRect) shapeCasts_S1x128x256_S128x256) (shapeCast S128x256 (a15.view.readCov (kernelRun0_B.sl.HS1_32 (F := Ideal) c a5 ha5 a19 ha19 x4 xs5) (Rect.unit (s := S32x128x256) ![22, 0, 0] S1x128x256.size inb_S32x128x256_S1x128x256_22_0_0).toLoadRect) shapeCasts_S1x128x256_S128x256) (shapeCast S128x256 (a15.view.readCov (kernelRun0_B.sl.HS1_32 (F := Ideal) c a5 ha5 a19 ha19 x4 xs5) (Rect.unit (s := S32x128x256) ![26, 0, 0] S1x128x256.size inb_S32x128x256_S1x128x256_26_0_0).toLoadRect) shapeCasts_S1x128x256_S128x256) (shapeCast S128x256 (a15.view.readCov (kernelRun0_B.sl.HS1_32 (F := Ideal) c a5 ha5 a19 ha19 x4 xs5) (Rect.unit (s := S32x128x256) ![30, 0, 0] S1x128x256.size inb_S32x128x256_S1x128x256_30_0_0).toLoadRect) shapeCasts_S1x128x256_S128x256) (shapeCast S128x256 (a24.view.readCov (kernelRun0_B.sl.HS10_6 (F := Ideal) c a5 ha5 a11 ha11 a14 ha14 a15 a19 ha19 a24 ha24 x4 x10 xs0 xs5 xs10) (Rect.unit (s := S4x128x256) ![2, 0, 0] S1x128x256.size inb_S4x128x256_S1x128x256_2_0_0).toLoadRect) shapeCasts_S1x128x256_S128x256) (View.readAt (Elt Ideal) a12.view (Rect.unit (s := S1x1024) ![0, 512] S1x256.size inb_S1x1024_S1x256_0_512).toLoadRect (ha12.unread x11)) := rfl

theorem state_1_3 : (k0_pay765 (kernelRun0_B.sl.r_474 c a5 ha5 a11 ha11 a15 a19 ha19 x4 x10 xs5) (kernelRun0_B.sl.r_512 c a5 ha5 a11 ha11 a15 a19 ha19 x4 x10 xs5) (kernelRun0_B.sl.r_513 c a5 ha5 a11 ha11 a15 a19 ha19 x4 x10 xs5) (kernelRun0_B.sl.r_514 c a5 ha5 a11 ha11 a14 ha14 a15 a19 ha19 a24 ha24 x4 x10 xs0 xs5 xs10) (kernelRun0_B.sl.r_515 c a5 ha5 a15 a19 ha19 x4 xs5) : Vec Ideal S1x128x256 .f32) = stStore (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (shapeCast S128x256 (a15.view.readCov (kernelRun0_B.sl.HS1_32 (F := Ideal) c a5 ha5 a19 ha19 x4 xs5) (Rect.unit (s := S32x128x256) ![23, 0, 0] S1x128x256.size inb_S32x128x256_S1x128x256_23_0_0).toLoadRect) shapeCasts_S1x128x256_S128x256) (shapeCast S128x256 (a15.view.readCov (kernelRun0_B.sl.HS1_32 (F := Ideal) c a5 ha5 a19 ha19 x4 xs5) (Rect.unit (s := S32x128x256) ![27, 0, 0] S1x128x256.size inb_S32x128x256_S1x128x256_27_0_0).toLoadRect) shapeCasts_S1x128x256_S128x256) (shapeCast S128x256 (a24.view.readCov (kernelRun0_B.sl.HS10_7 (F := Ideal) c a5 ha5 a11 ha11 a14 ha14 a15 a19 ha19 a24 ha24 x4 x10 xs0 xs5 xs10) (Rect.unit (s := S4x128x256) ![3, 0, 0] S1x128x256.size inb_S4x128x256_S1x128x256_3_0_0).toLoadRect) shapeCasts_S1x128x256_S128x256) := rfl

theorem out_1_3_0 : (k0_pay770 (kernelRun0_B.sl.r_522 c a5 ha5 a15 a19 ha19 x4 xs5) (kernelRun0_B.sl.r_523 c a12 ha12 x11) (kernelRun0_B.sl.r_524 c a5 ha5 a11 ha11 a14 ha14 a15 a19 ha19 a24 ha24 a25 ha25 x4 x10 xs0 xs5 xs10 xs11) (kernelRun0_B.sl.r_525 c a5 ha5 a11 ha11 a14 ha14 a15 a19 ha19 a24 ha24 a25 ha25 x4 x10 xs0 xs5 xs10 xs11) : FVec Ideal S128x128 .bf16) = yStore0 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (View.readAt (Elt Ideal) a25.view (Rect.unit (s := S128x256) ![0, 0] S128x256.size inb_S128x256_S128x256_0_0).toLoadRect (ha25.unread xs11)) (shapeCast S128x256 (a15.view.readCov (kernelRun0_B.sl.HS1_32 (F := Ideal) c a5 ha5 a19 ha19 x4 xs5) (Rect.unit (s := S32x128x256) ![19, 0, 0] S1x128x256.size inb_S32x128x256_S1x128x256_19_0_0).toLoadRect) shapeCasts_S1x128x256_S128x256) (shapeCast S128x256 (a15.view.readCov (kernelRun0_B.sl.HS1_32 (F := Ideal) c a5 ha5 a19 ha19 x4 xs5) (Rect.unit (s := S32x128x256) ![23, 0, 0] S1x128x256.size inb_S32x128x256_S1x128x256_23_0_0).toLoadRect) shapeCasts_S1x128x256_S128x256) (shapeCast S128x256 (a15.view.readCov (kernelRun0_B.sl.HS1_32 (F := Ideal) c a5 ha5 a19 ha19 x4 xs5) (Rect.unit (s := S32x128x256) ![27, 0, 0] S1x128x256.size inb_S32x128x256_S1x128x256_27_0_0).toLoadRect) shapeCasts_S1x128x256_S128x256) (shapeCast S128x256 (a15.view.readCov (kernelRun0_B.sl.HS1_32 (F := Ideal) c a5 ha5 a19 ha19 x4 xs5) (Rect.unit (s := S32x128x256) ![31, 0, 0] S1x128x256.size inb_S32x128x256_S1x128x256_31_0_0).toLoadRect) shapeCasts_S1x128x256_S128x256) (shapeCast S128x256 (a24.view.readCov (kernelRun0_B.sl.HS10_7 (F := Ideal) c a5 ha5 a11 ha11 a14 ha14 a15 a19 ha19 a24 ha24 x4 x10 xs0 xs5 xs10) (Rect.unit (s := S4x128x256) ![3, 0, 0] S1x128x256.size inb_S4x128x256_S1x128x256_3_0_0).toLoadRect) shapeCasts_S1x128x256_S128x256) (View.readAt (Elt Ideal) a12.view (Rect.unit (s := S1x1024) ![0, 768] S1x256.size inb_S1x1024_S1x256_0_768).toLoadRect (ha12.unread x11)) := rfl

theorem out_1_3_1 : (k0_pay771 (kernelRun0_B.sl.r_470 c a5 ha5 a15 a19 ha19 x4 xs5) (kernelRun0_B.sl.r_516 c a5 ha5 a11 ha11 a15 a19 ha19 x4 x10 xs5) (kernelRun0_B.sl.r_521 c a5 ha5 a11 ha11 a14 ha14 a15 a19 ha19 a24 ha24 a25 ha25 x4 x10 xs0 xs5 xs10 xs11) (kernelRun0_B.sl.r_522 c a5 ha5 a15 a19 ha19 x4 xs5) (kernelRun0_B.sl.r_523 c a12 ha12 x11) : FVec Ideal S128x128 .bf16) = yStore1 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (View.readAt (Elt Ideal) a25.view (Rect.unit (s := S128x256) ![0, 0] S128x256.size inb_S128x256_S128x256_0_0).toLoadRect (ha25.unread xs11)) (shapeCast S128x256 (a15.view.readCov (kernelRun0_B.sl.HS1_32 (F := Ideal) c a5 ha5 a19 ha19 x4 xs5) (Rect.unit (s := S32x128x256) ![19, 0, 0] S1x128x256.size inb_S32x128x256_S1x128x256_19_0_0).toLoadRect) shapeCasts_S1x128x256_S128x256) (shapeCast S128x256 (a15.view.readCov (kernelRun0_B.sl.HS1_32 (F := Ideal) c a5 ha5 a19 ha19 x4 xs5) (Rect.unit (s := S32x128x256) ![23, 0, 0] S1x128x256.size inb_S32x128x256_S1x128x256_23_0_0).toLoadRect) shapeCasts_S1x128x256_S128x256) (shapeCast S128x256 (a15.view.readCov (kernelRun0_B.sl.HS1_32 (F := Ideal) c a5 ha5 a19 ha19 x4 xs5) (Rect.unit (s := S32x128x256) ![27, 0, 0] S1x128x256.size inb_S32x128x256_S1x128x256_27_0_0).toLoadRect) shapeCasts_S1x128x256_S128x256) (shapeCast S128x256 (a15.view.readCov (kernelRun0_B.sl.HS1_32 (F := Ideal) c a5 ha5 a19 ha19 x4 xs5) (Rect.unit (s := S32x128x256) ![31, 0, 0] S1x128x256.size inb_S32x128x256_S1x128x256_31_0_0).toLoadRect) shapeCasts_S1x128x256_S128x256) (shapeCast S128x256 (a24.view.readCov (kernelRun0_B.sl.HS10_7 (F := Ideal) c a5 ha5 a11 ha11 a14 ha14 a15 a19 ha19 a24 ha24 x4 x10 xs0 xs5 xs10) (Rect.unit (s := S4x128x256) ![3, 0, 0] S1x128x256.size inb_S4x128x256_S1x128x256_3_0_0).toLoadRect) shapeCasts_S1x128x256_S128x256) (View.readAt (Elt Ideal) a12.view (Rect.unit (s := S1x1024) ![0, 768] S1x256.size inb_S1x1024_S1x256_0_768).toLoadRect (ha12.unread x11)) := rfl

end Cert.BridgeB
-- ==== Proof.MemB.lean ====
/- What a point of case B of the grid leaves in the scratch buffers it carries, and the columns of the output its gated
   heads store, over what it loads. -/
module

public import proofs.«01_k».proof.Proof.BridgeB
public import proofs.«01_k».proof.Proof.Tiles
public import proofs.«01_k».proof.Proof.Gen.KernelIdeal.Frame
public import proofs.«01_k».proof.Proof.Gen.KernelIdeal.Frame.RunB

@[expose] public section

set_option maxRecDepth 16384

noncomputable section

namespace Cert.MemB

open Idealize.ShloMosaic Idealize.ShloMosaic.ValueIdx Cert.Tiles Idealize.SL.Sem Cert.KernelIdeal Cert.KernelIdeal.Gen Cert.Pair

variable (c : Dev nD) (i : grid0.Coords)
  (a1 : Memref sig .tc .vmem S256x2048 .f32) (ha1 : a1.IsWhole)
  (a2 : Memref sig .tc .vmem S128x2048 .f32) (ha2 : a2.IsWhole)
  (a3 : Memref sig .tc .vmem S128x2048 .f32) (ha3 : a3.IsWhole)
  (a4 : Memref sig .tc .vmem S1x2048 .f32) (ha4 : a4.IsWhole)
  (a5 : Memref sig .tc .vmem S32x2048x256 .bf16) (ha5 : a5.IsWhole)
  (a6 : Memref sig .tc .vmem S16x2048 .bf16) (ha6 : a6.IsWhole)
  (a7 : Memref sig .tc .vmem S4x1024 .f32) (ha7 : a7.IsWhole)
  (a8 : Memref sig .tc .vmem S1x1024 .f32) (ha8 : a8.IsWhole)
  (a9 : Memref sig .tc .vmem S16x128 .f32) (ha9 : a9.IsWhole)
  (a10 : Memref sig .tc .vmem S1x1024 .f32) (ha10 : a10.IsWhole)
  (a11 : Memref sig .tc .vmem S2x1024 .f32) (ha11 : a11.IsWhole)
  (a12 : Memref sig .tc .vmem S1x1024 .f32) (ha12 : a12.IsWhole)
  (a13 : Memref sig .tc .vmem S256x2048 .bf16) (ha13 : a13.IsWhole)
  (a14 : Memref sig .tc .vmem S32x128x256 .f32) (ha14 : a14.IsWhole)
  (a15 : Memref sig .tc .vmem S32x128x256 .f32) (ha15 : a15.IsWhole)
  (a16 : Memref sig .tc .vmem S16x128 .f32) (ha16 : a16.IsWhole)
  (a17 : Memref sig .tc .vmem S16x128 .f32) (ha17 : a17.IsWhole)
  (a18 : Memref sig .tc .vmem S128x2048 .bf16) (ha18 : a18.IsWhole)
  (a19 : Memref sig .tc .vmem S128x2048 .bf16) (ha19 : a19.IsWhole)
  (a20 : Memref sig .tc .vmem S8x1024 .f32) (ha20 : a20.IsWhole)
  (a21 : Memref sig .tc .vmem S4x128x256 .f32) (ha21 : a21.IsWhole)
  (a22 : Memref sig .tc .vmem S4x8x128 .f32) (ha22 : a22.IsWhole)
  (a23 : Memref sig .tc .vmem S8x128 .f32) (ha23 : a23.IsWhole)
  (a24 : Memref sig .tc .vmem S4x128x256 .f32) (ha24 : a24.IsWhole)
  (a25 : Memref sig .tc .vmem S128x256 .i32) (ha25 : a25.IsWhole)
  (x0 : Vec Ideal S256x2048 .f32)
  (x1 : Vec Ideal S128x2048 .f32)
  (x2 : Vec Ideal S128x2048 .f32)
  (x3 : Vec Ideal S1x2048 .f32)
  (x4 : Vec Ideal S32x2048x256 .bf16)
  (x5 : Vec Ideal S16x2048 .bf16)
  (x6 : Vec Ideal S4x1024 .f32)
  (x7 : Vec Ideal S1x1024 .f32)
  (x8 : Vec Ideal S16x128 .f32)
  (x9 : Vec Ideal S1x1024 .f32)
  (x10 : Vec Ideal S2x1024 .f32)
  (x11 : Vec Ideal S1x1024 .f32)
  (xs0 : Vec Ideal S32x128x256 .f32)
  (xs2 : Vec Ideal S16x128 .f32)
  (xs5 : Vec Ideal S128x2048 .bf16)
  (xs6 : Vec Ideal S8x1024 .f32)
  (xs7 : Vec Ideal S4x128x256 .f32)
  (xs8 : Vec Ideal S4x8x128 .f32)
  (xs9 : Vec Ideal S8x128 .f32)
  (xs10 : Vec Ideal S4x128x256 .f32)
  (xs11 : Vec Ideal S128x256 .i32)
  (hc0 : ¬cond0_0 i) (hc1 : ¬cond0_1 i)

theorem wEq : (fun k => View.readAt (Elt Ideal) a5.view (wRect k).toLoadRect (ha5.unread x4)) = wtile x4 := rd_w a5 ha5 x4

theorem u1Eq : (View.readAt (Elt Ideal) a19.view (Rect.unit (s := S128x2048) ![0, 0] S128x2048.size inb_S128x2048_S128x2048_0_0).toLoadRect (ha19.unread xs5)) = xs5 := rd_all a19 ha19 xs5 o2 _

theorem u2Eq : (a18.view.readCov (kernelRun0_B.sl.HS4_1 (F := Ideal) c a2 ha2 a4 ha4 x1 x3) (Rect.unit (s := S128x2048) ![0, 0] S128x2048.size inb_S128x2048_S128x2048_0_0).toLoadRect) = unorm x1 x3 := by
  refine (View.readCov_unit_zero (Val := Elt Ideal) a18.view o2 inb_S128x2048_S128x2048_0_0 (unorm (View.readAt (Elt Ideal) a2.view (Rect.unit (s := S128x2048) ![0, 0] S128x2048.size inb_S128x2048_S128x2048_0_0).toLoadRect (ha2.unread x1)) (View.readAt (Elt Ideal) a4.view (Rect.unit (s := S1x2048) ![0, 0] S1x2048.size inb_S1x2048_S1x2048_0_0).toLoadRect (ha4.unread x3)))).trans ?_
  rw [rd_all a2 ha2 x1 o2, rd_all a4 ha4 x3 o2]

theorem p1Eq (k : Fin 32) : a15.view.readCov (kernelRun0_B.sl.HS1_32 (F := Ideal) c a5 ha5 a19 ha19 x4 xs5) (tileRect k).toLoadRect = (projT xs5 (wtile x4)) k := by
  have h : (kernelRun0_B.sl.HS1_32 (F := Ideal) c a5 ha5 a19 ha19 x4 xs5) = tl (projT (View.readAt (Elt Ideal) a19.view (Rect.unit (s := S128x2048) ![0, 0] S128x2048.size inb_S128x2048_S128x2048_0_0).toLoadRect (ha19.unread xs5)) (fun k => View.readAt (Elt Ideal) a5.view (wRect k).toLoadRect (ha5.unread x4))) := rfl
  rw [h, tl_read, wEq, u1Eq]

theorem p0Eq (k : Fin 32) : View.readAt (Elt Ideal) a14.view (tileRect k).toLoadRect (ha14.unread xs0) = (tile xs0) k := congrFun (rd_tile a14 ha14 xs0) k

theorem hgEq : View.readAt (Elt Ideal) a11.view (Rect.unit (s := S2x1024) ![0, 0] S2x1024.size inb_S2x1024_S2x1024_0_0).toLoadRect (ha11.unread x10) = x10 := rd_all a11 ha11 x10 o2 _

theorem nwEq_0 : (View.readAt (Elt Ideal) a12.view (Rect.unit (s := S1x1024) ![0, 0] S1x256.size inb_S1x1024_S1x256_0_0).toLoadRect (ha12.unread x11)) = nwt x11 0 := congrFun (rd_nw x11 a12 ha12) 0

theorem nwEq_1 : (View.readAt (Elt Ideal) a12.view (Rect.unit (s := S1x1024) ![0, 256] S1x256.size inb_S1x1024_S1x256_0_256).toLoadRect (ha12.unread x11)) = nwt x11 1 := congrFun (rd_nw x11 a12 ha12) 1

theorem nwEq_2 : (View.readAt (Elt Ideal) a12.view (Rect.unit (s := S1x1024) ![0, 512] S1x256.size inb_S1x1024_S1x256_0_512).toLoadRect (ha12.unread x11)) = nwt x11 2 := congrFun (rd_nw x11 a12 ha12) 2

theorem nwEq_3 : (View.readAt (Elt Ideal) a12.view (Rect.unit (s := S1x1024) ![0, 768] S1x256.size inb_S1x1024_S1x256_0_768).toLoadRect (ha12.unread x11)) = nwt x11 3 := congrFun (rd_nw x11 a12 ha12) 3

theorem lvEq : (View.readAt (Elt Ideal) a25.view (Rect.unit (s := S128x256) ![0, 0] S128x256.size inb_S128x256_S128x256_0_0).toLoadRect (ha25.unread xs11)) = xs11 := rd_all a25 ha25 xs11 o2 _

theorem ld_0_0 : (View.readAt (Elt Ideal) a24.view (Rect.unit (s := S4x128x256) ![0, 0, 0] S1x128x256.size inb_S4x128x256_S1x128x256_0_0_0).toLoadRect (ha24.unread xs10)) = (stile xs10) 0 :=
  congrFun (rd_st a24 ha24 xs10) 0

theorem st_0_0 : (k0_pay108 (kernelRun0_B.sl.r_57 c a11 ha11 a14 ha14 x10 xs0) (kernelRun0_B.sl.r_58 c a24 ha24 xs10) (kernelRun0_B.sl.r_61 c a11 ha11 a14 ha14 x10 xs0) (kernelRun0_B.sl.r_62 c a11 ha11 a14 ha14 x10 xs0) (kernelRun0_B.sl.r_63 c a14 ha14 xs0) : Vec Ideal S1x128x256 .f32) = stepSt x10 (tile xs0) (stile xs10) 0 :=
  (Cert.BridgeB.state_0_0 c a11 ha11 a14 ha14 a24 ha24 x10 xs0 xs10).trans (stStep_eq x10 (tile xs0) (stile xs10) 0 _ _ _ _ (hgEq a11 ha11 x10) (p0Eq a14 ha14 xs0 (tq 20 0)) (p0Eq a14 ha14 xs0 (tq 24 0)) (ld_0_0 a24 ha24 xs10))

theorem y_0_0_0 : (k0_pay113 (kernelRun0_B.sl.r_66 c a11 ha11 a12 ha12 a14 ha14 a24 ha24 a25 ha25 x10 x11 xs0 xs10 xs11) (kernelRun0_B.sl.r_67 c a14 ha14 xs0) : FVec Ideal S128x128 .bf16) = stepY x10 xs11 (tile xs0) (stile xs10) (nwt x11 0) 0 0 :=
  (Cert.BridgeB.out_0_0_0 c a11 ha11 a12 ha12 a14 ha14 a24 ha24 a25 ha25 x10 x11 xs0 xs10 xs11).trans (y0_eq x10 xs11 (tile xs0) (stile xs10) (nwt x11 0) 0 _ _ _ _ _ _ _ _ (hgEq a11 ha11 x10) (lvEq a25 ha25 xs11) (p0Eq a14 ha14 xs0 (tq 16 0)) (p0Eq a14 ha14 xs0 (tq 20 0)) (p0Eq a14 ha14 xs0 (tq 24 0)) (p0Eq a14 ha14 xs0 (tq 28 0)) (ld_0_0 a24 ha24 xs10) (nwEq_0 a12 ha12 x11))

theorem y_0_0_1 : (k0_pay114 (kernelRun0_B.sl.r_20 c a14 ha14 xs0) (kernelRun0_B.sl.r_59 c a11 ha11 a14 ha14 x10 xs0) (kernelRun0_B.sl.r_60 c a11 ha11 a14 ha14 a24 ha24 a25 ha25 x10 xs0 xs10 xs11) (kernelRun0_B.sl.r_64 c a14 ha14 xs0) (kernelRun0_B.sl.r_65 c a12 ha12 x11) : FVec Ideal S128x128 .bf16) = stepY x10 xs11 (tile xs0) (stile xs10) (nwt x11 0) 0 1 :=
  (Cert.BridgeB.out_0_0_1 c a11 ha11 a12 ha12 a14 ha14 a24 ha24 a25 ha25 x10 x11 xs0 xs10 xs11).trans (y1_eq x10 xs11 (tile xs0) (stile xs10) (nwt x11 0) 0 _ _ _ _ _ _ _ _ (hgEq a11 ha11 x10) (lvEq a25 ha25 xs11) (p0Eq a14 ha14 xs0 (tq 16 0)) (p0Eq a14 ha14 xs0 (tq 20 0)) (p0Eq a14 ha14 xs0 (tq 24 0)) (p0Eq a14 ha14 xs0 (tq 28 0)) (ld_0_0 a24 ha24 xs10) (nwEq_0 a12 ha12 x11))

theorem ld_0_1 : (View.readAt (Elt Ideal) a24.view (Rect.unit (s := S4x128x256) ![1, 0, 0] S1x128x256.size inb_S4x128x256_S1x128x256_1_0_0).toLoadRect (ha24.unread xs10)) = (stile xs10) 1 :=
  congrFun (rd_st a24 ha24 xs10) 1

theorem st_0_1 : (k0_pay181 (kernelRun0_B.sl.r_74 c a11 ha11 a14 ha14 x10 xs0) (kernelRun0_B.sl.r_112 c a11 ha11 a14 ha14 x10 xs0) (kernelRun0_B.sl.r_113 c a11 ha11 a14 ha14 x10 xs0) (kernelRun0_B.sl.r_114 c a24 ha24 xs10) (kernelRun0_B.sl.r_115 c a14 ha14 xs0) : Vec Ideal S1x128x256 .f32) = stepSt x10 (tile xs0) (stile xs10) 1 :=
  (Cert.BridgeB.state_0_1 c a11 ha11 a14 ha14 a24 ha24 x10 xs0 xs10).trans (stStep_eq x10 (tile xs0) (stile xs10) 1 _ _ _ _ (hgEq a11 ha11 x10) (p0Eq a14 ha14 xs0 (tq 20 1)) (p0Eq a14 ha14 xs0 (tq 24 1)) (ld_0_1 a24 ha24 xs10))

theorem y_0_1_0 : (k0_pay186 (kernelRun0_B.sl.r_70 c a14 ha14 xs0) (kernelRun0_B.sl.r_119 c a14 ha14 xs0) (kernelRun0_B.sl.r_120 c a12 ha12 x11) (kernelRun0_B.sl.r_121 c a11 ha11 a14 ha14 a24 ha24 a25 ha25 x10 xs0 xs10 xs11) (kernelRun0_B.sl.r_122 c a11 ha11 a14 ha14 x10 xs0) : FVec Ideal S128x128 .bf16) = stepY x10 xs11 (tile xs0) (stile xs10) (nwt x11 1) 1 0 :=
  (Cert.BridgeB.out_0_1_0 c a11 ha11 a12 ha12 a14 ha14 a24 ha24 a25 ha25 x10 x11 xs0 xs10 xs11).trans (y0_eq x10 xs11 (tile xs0) (stile xs10) (nwt x11 1) 1 _ _ _ _ _ _ _ _ (hgEq a11 ha11 x10) (lvEq a25 ha25 xs11) (p0Eq a14 ha14 xs0 (tq 16 1)) (p0Eq a14 ha14 xs0 (tq 20 1)) (p0Eq a14 ha14 xs0 (tq 24 1)) (p0Eq a14 ha14 xs0 (tq 28 1)) (ld_0_1 a24 ha24 xs10) (nwEq_1 a12 ha12 x11))

theorem y_0_1_1 : (kernelRun0_B.sl.r_123 c a11 ha11 a12 ha12 a14 ha14 a24 ha24 a25 ha25 x10 x11 xs0 xs10 xs11 : FVec Ideal S128x128 .bf16) = stepY x10 xs11 (tile xs0) (stile xs10) (nwt x11 1) 1 1 :=
  (Cert.BridgeB.out_0_1_1 c a11 ha11 a12 ha12 a14 ha14 a24 ha24 a25 ha25 x10 x11 xs0 xs10 xs11).trans (y1_eq x10 xs11 (tile xs0) (stile xs10) (nwt x11 1) 1 _ _ _ _ _ _ _ _ (hgEq a11 ha11 x10) (lvEq a25 ha25 xs11) (p0Eq a14 ha14 xs0 (tq 16 1)) (p0Eq a14 ha14 xs0 (tq 20 1)) (p0Eq a14 ha14 xs0 (tq 24 1)) (p0Eq a14 ha14 xs0 (tq 28 1)) (ld_0_1 a24 ha24 xs10) (nwEq_1 a12 ha12 x11))

theorem ld_0_2 : (View.readAt (Elt Ideal) a24.view (Rect.unit (s := S4x128x256) ![2, 0, 0] S1x128x256.size inb_S4x128x256_S1x128x256_2_0_0).toLoadRect (ha24.unread xs10)) = (stile xs10) 2 :=
  congrFun (rd_st a24 ha24 xs10) 2

theorem st_0_2 : (k0_pay259 (kernelRun0_B.sl.r_130 c a11 ha11 a14 ha14 x10 xs0) (kernelRun0_B.sl.r_170 c a11 ha11 a14 ha14 x10 xs0) (kernelRun0_B.sl.r_171 c a11 ha11 a14 ha14 x10 xs0) (kernelRun0_B.sl.r_172 c a24 ha24 xs10) (kernelRun0_B.sl.r_173 c a14 ha14 xs0) : Vec Ideal S1x128x256 .f32) = stepSt x10 (tile xs0) (stile xs10) 2 :=
  (Cert.BridgeB.state_0_2 c a11 ha11 a14 ha14 a24 ha24 x10 xs0 xs10).trans (stStep_eq x10 (tile xs0) (stile xs10) 2 _ _ _ _ (hgEq a11 ha11 x10) (p0Eq a14 ha14 xs0 (tq 20 2)) (p0Eq a14 ha14 xs0 (tq 24 2)) (ld_0_2 a24 ha24 xs10))

theorem y_0_2_0 : (k0_pay264 (kernelRun0_B.sl.r_180 c a14 ha14 xs0) (kernelRun0_B.sl.r_181 c a12 ha12 x11) (kernelRun0_B.sl.r_182 c a11 ha11 a14 ha14 a24 ha24 a25 ha25 x10 xs0 xs10 xs11) (kernelRun0_B.sl.r_183 c a11 ha11 a14 ha14 a24 ha24 a25 ha25 x10 xs0 xs10 xs11) : FVec Ideal S128x128 .bf16) = stepY x10 xs11 (tile xs0) (stile xs10) (nwt x11 2) 2 0 :=
  (Cert.BridgeB.out_0_2_0 c a11 ha11 a12 ha12 a14 ha14 a24 ha24 a25 ha25 x10 x11 xs0 xs10 xs11).trans (y0_eq x10 xs11 (tile xs0) (stile xs10) (nwt x11 2) 2 _ _ _ _ _ _ _ _ (hgEq a11 ha11 x10) (lvEq a25 ha25 xs11) (p0Eq a14 ha14 xs0 (tq 16 2)) (p0Eq a14 ha14 xs0 (tq 20 2)) (p0Eq a14 ha14 xs0 (tq 24 2)) (p0Eq a14 ha14 xs0 (tq 28 2)) (ld_0_2 a24 ha24 xs10) (nwEq_2 a12 ha12 x11))

theorem y_0_2_1 : (k0_pay265 (kernelRun0_B.sl.r_126 c a14 ha14 xs0) (kernelRun0_B.sl.r_174 c a11 ha11 a14 ha14 x10 xs0) (kernelRun0_B.sl.r_179 c a11 ha11 a14 ha14 a24 ha24 a25 ha25 x10 xs0 xs10 xs11) (kernelRun0_B.sl.r_180 c a14 ha14 xs0) (kernelRun0_B.sl.r_181 c a12 ha12 x11) : FVec Ideal S128x128 .bf16) = stepY x10 xs11 (tile xs0) (stile xs10) (nwt x11 2) 2 1 :=
  (Cert.BridgeB.out_0_2_1 c a11 ha11 a12 ha12 a14 ha14 a24 ha24 a25 ha25 x10 x11 xs0 xs10 xs11).trans (y1_eq x10 xs11 (tile xs0) (stile xs10) (nwt x11 2) 2 _ _ _ _ _ _ _ _ (hgEq a11 ha11 x10) (lvEq a25 ha25 xs11) (p0Eq a14 ha14 xs0 (tq 16 2)) (p0Eq a14 ha14 xs0 (tq 20 2)) (p0Eq a14 ha14 xs0 (tq 24 2)) (p0Eq a14 ha14 xs0 (tq 28 2)) (ld_0_2 a24 ha24 xs10) (nwEq_2 a12 ha12 x11))

theorem ld_0_3 : (View.readAt (Elt Ideal) a24.view (Rect.unit (s := S4x128x256) ![3, 0, 0] S1x128x256.size inb_S4x128x256_S1x128x256_3_0_0).toLoadRect (ha24.unread xs10)) = (stile xs10) 3 :=
  congrFun (rd_st a24 ha24 xs10) 3

theorem st_0_3 : (k0_pay332 (kernelRun0_B.sl.r_186 c a14 ha14 xs0) (kernelRun0_B.sl.r_187 c a11 ha11 a14 ha14 x10 xs0) (kernelRun0_B.sl.r_225 c a11 ha11 a14 ha14 x10 xs0) (kernelRun0_B.sl.r_226 c a11 ha11 a14 ha14 x10 xs0) (kernelRun0_B.sl.v2251 c a24 ha24 xs10) : Vec Ideal S1x128x256 .f32) = stepSt x10 (tile xs0) (stile xs10) 3 :=
  (Cert.BridgeB.state_0_3 c a11 ha11 a14 ha14 a24 ha24 x10 xs0 xs10).trans (stStep_eq x10 (tile xs0) (stile xs10) 3 _ _ _ _ (hgEq a11 ha11 x10) (p0Eq a14 ha14 xs0 (tq 20 3)) (p0Eq a14 ha14 xs0 (tq 24 3)) (ld_0_3 a24 ha24 xs10))

theorem y_0_3_0 : (k0_pay337 (kernelRun0_B.sl.r_186 c a14 ha14 xs0) (kernelRun0_B.sl.r_227 c a11 ha11 a14 ha14 x10 xs0) (kernelRun0_B.sl.r_228 c a11 ha11 a14 ha14 a24 ha24 a25 ha25 x10 xs0 xs10 xs11) (kernelRun0_B.sl.r_229 c a14 ha14 xs0) k0_pay334 (View.readAt (Elt Ideal) a12.view (Rect.unit (s := S1x1024) ![0, 768] S1x256.size inb_S1x1024_S1x256_0_768).toLoadRect (ha12.unread x11)) : FVec Ideal S128x128 .bf16) = stepY x10 xs11 (tile xs0) (stile xs10) (nwt x11 3) 3 0 :=
  (Cert.BridgeB.out_0_3_0 c a11 ha11 a12 ha12 a14 ha14 a24 ha24 a25 ha25 x10 x11 xs0 xs10 xs11).trans (y0_eq x10 xs11 (tile xs0) (stile xs10) (nwt x11 3) 3 _ _ _ _ _ _ _ _ (hgEq a11 ha11 x10) (lvEq a25 ha25 xs11) (p0Eq a14 ha14 xs0 (tq 16 3)) (p0Eq a14 ha14 xs0 (tq 20 3)) (p0Eq a14 ha14 xs0 (tq 24 3)) (p0Eq a14 ha14 xs0 (tq 28 3)) (ld_0_3 a24 ha24 xs10) (nwEq_3 a12 ha12 x11))

theorem y_0_3_1 : (k0_pay341 (kernelRun0_B.sl.r_230 c a14 ha14 xs0) (kernelRun0_B.sl.r_231 c a12 ha12 x11) (kernelRun0_B.sl.r_232 c a11 ha11 a14 ha14 a24 ha24 a25 ha25 x10 xs0 xs10 xs11) (kernelRun0_B.sl.r_233 c a11 ha11 a14 ha14 a24 ha24 a25 ha25 x10 xs0 xs10 xs11) k0_pay340 : FVec Ideal S128x128 .bf16) = stepY x10 xs11 (tile xs0) (stile xs10) (nwt x11 3) 3 1 :=
  (Cert.BridgeB.out_0_3_1 c a11 ha11 a12 ha12 a14 ha14 a24 ha24 a25 ha25 x10 x11 xs0 xs10 xs11).trans (y1_eq x10 xs11 (tile xs0) (stile xs10) (nwt x11 3) 3 _ _ _ _ _ _ _ _ (hgEq a11 ha11 x10) (lvEq a25 ha25 xs11) (p0Eq a14 ha14 xs0 (tq 16 3)) (p0Eq a14 ha14 xs0 (tq 20 3)) (p0Eq a14 ha14 xs0 (tq 24 3)) (p0Eq a14 ha14 xs0 (tq 28 3)) (ld_0_3 a24 ha24 xs10) (nwEq_3 a12 ha12 x11))

theorem ld_1_0 : (a24.view.readCov (kernelRun0_B.sl.HS10_4 (F := Ideal) c a11 ha11 a14 ha14 a24 ha24 x10 xs0 xs10) (Rect.unit (s := S4x128x256) ![0, 0, 0] S1x128x256.size inb_S4x128x256_S1x128x256_0_0_0).toLoadRect) = (stepSt x10 (tile xs0) (stile xs10)) 0 :=
  (st_skip a24.view 0 3 (by decide) _ _).trans ((st_skip a24.view 0 2 (by decide) _ _).trans ((st_skip a24.view 0 1 (by decide) _ _).trans ((st_hit a24.view 0 _ _).trans (st_0_0 c a11 ha11 a14 ha14 a24 ha24 x10 xs0 xs10))))

theorem st_1_0 : (k0_pay542 (kernelRun0_B.sl.r_322 c a5 ha5 a15 a19 ha19 x4 xs5) (kernelRun0_B.sl.r_323 c a5 ha5 a11 ha11 a15 a19 ha19 x4 x10 xs5) (kernelRun0_B.sl.r_362 c a5 ha5 a11 ha11 a15 a19 ha19 x4 x10 xs5) (kernelRun0_B.sl.r_363 c a5 ha5 a11 ha11 a15 a19 ha19 x4 x10 xs5) (kernelRun0_B.sl.v3536 c a11 ha11 a14 ha14 a24 ha24 x10 xs0 xs10) : Vec Ideal S1x128x256 .f32) = stepSt x10 (projT xs5 (wtile x4)) (stepSt x10 (tile xs0) (stile xs10)) 0 :=
  (Cert.BridgeB.state_1_0 c a5 ha5 a11 ha11 a14 ha14 a15 a19 ha19 a24 ha24 x4 x10 xs0 xs5 xs10).trans (stStep_eq x10 (projT xs5 (wtile x4)) (stepSt x10 (tile xs0) (stile xs10)) 0 _ _ _ _ (hgEq a11 ha11 x10) (p1Eq c a5 ha5 a15 a19 ha19 x4 xs5 (tq 20 0)) (p1Eq c a5 ha5 a15 a19 ha19 x4 xs5 (tq 24 0)) (ld_1_0 c a11 ha11 a14 ha14 a24 ha24 x10 xs0 xs10))

theorem y_1_0_0 : (k0_pay547 (kernelRun0_B.sl.r_322 c a5 ha5 a15 a19 ha19 x4 xs5) (kernelRun0_B.sl.r_364 c a5 ha5 a11 ha11 a15 a19 ha19 x4 x10 xs5) (kernelRun0_B.sl.r_365 c a5 ha5 a11 ha11 a14 ha14 a15 a19 ha19 a24 ha24 a25 ha25 x4 x10 xs0 xs5 xs10 xs11) (kernelRun0_B.sl.r_366 c a5 ha5 a15 a19 ha19 x4 xs5) (kernelRun0_B.sl.r_367 c a5 ha5 a15 a19 ha19 x4 xs5) kernelRun0_B.sl.cst_157 (View.readAt (Elt Ideal) a12.view (Rect.unit (s := S1x1024) ![0, 0] S1x256.size inb_S1x1024_S1x256_0_0).toLoadRect (ha12.unread x11)) : FVec Ideal S128x128 .bf16) = stepY x10 xs11 (projT xs5 (wtile x4)) (stepSt x10 (tile xs0) (stile xs10)) (nwt x11 0) 0 0 :=
  (Cert.BridgeB.out_1_0_0 c a5 ha5 a11 ha11 a12 ha12 a14 ha14 a15 a19 ha19 a24 ha24 a25 ha25 x4 x10 x11 xs0 xs5 xs10 xs11).trans (y0_eq x10 xs11 (projT xs5 (wtile x4)) (stepSt x10 (tile xs0) (stile xs10)) (nwt x11 0) 0 _ _ _ _ _ _ _ _ (hgEq a11 ha11 x10) (lvEq a25 ha25 xs11) (p1Eq c a5 ha5 a15 a19 ha19 x4 xs5 (tq 16 0)) (p1Eq c a5 ha5 a15 a19 ha19 x4 xs5 (tq 20 0)) (p1Eq c a5 ha5 a15 a19 ha19 x4 xs5 (tq 24 0)) (p1Eq c a5 ha5 a15 a19 ha19 x4 xs5 (tq 28 0)) (ld_1_0 c a11 ha11 a14 ha14 a24 ha24 x10 xs0 xs10) (nwEq_0 a12 ha12 x11))

theorem y_1_0_1 : (k0_pay551 (kernelRun0_B.sl.r_368 c a5 ha5 a15 a19 ha19 x4 xs5) (kernelRun0_B.sl.r_369 c a12 ha12 x11) (kernelRun0_B.sl.r_370 c a5 ha5 a11 ha11 a14 ha14 a15 a19 ha19 a24 ha24 a25 ha25 x4 x10 xs0 xs5 xs10 xs11) (kernelRun0_B.sl.r_371 c a5 ha5 a11 ha11 a14 ha14 a15 a19 ha19 a24 ha24 a25 ha25 x4 x10 xs0 xs5 xs10 xs11) k0_pay550 : FVec Ideal S128x128 .bf16) = stepY x10 xs11 (projT xs5 (wtile x4)) (stepSt x10 (tile xs0) (stile xs10)) (nwt x11 0) 0 1 :=
  (Cert.BridgeB.out_1_0_1 c a5 ha5 a11 ha11 a12 ha12 a14 ha14 a15 a19 ha19 a24 ha24 a25 ha25 x4 x10 x11 xs0 xs5 xs10 xs11).trans (y1_eq x10 xs11 (projT xs5 (wtile x4)) (stepSt x10 (tile xs0) (stile xs10)) (nwt x11 0) 0 _ _ _ _ _ _ _ _ (hgEq a11 ha11 x10) (lvEq a25 ha25 xs11) (p1Eq c a5 ha5 a15 a19 ha19 x4 xs5 (tq 16 0)) (p1Eq c a5 ha5 a15 a19 ha19 x4 xs5 (tq 20 0)) (p1Eq c a5 ha5 a15 a19 ha19 x4 xs5 (tq 24 0)) (p1Eq c a5 ha5 a15 a19 ha19 x4 xs5 (tq 28 0)) (ld_1_0 c a11 ha11 a14 ha14 a24 ha24 x10 xs0 xs10) (nwEq_0 a12 ha12 x11))

theorem ld_1_1 : (a24.view.readCov (kernelRun0_B.sl.HS10_5 (F := Ideal) c a5 ha5 a11 ha11 a14 ha14 a15 a19 ha19 a24 ha24 x4 x10 xs0 xs5 xs10) (Rect.unit (s := S4x128x256) ![1, 0, 0] S1x128x256.size inb_S4x128x256_S1x128x256_1_0_0).toLoadRect) = (stepSt x10 (tile xs0) (stile xs10)) 1 :=
  (st_skip a24.view 1 0 (by decide) _ _).trans ((st_skip a24.view 1 3 (by decide) _ _).trans ((st_skip a24.view 1 2 (by decide) _ _).trans ((st_hit a24.view 1 _ _).trans (st_0_1 c a11 ha11 a14 ha14 a24 ha24 x10 xs0 xs10))))

theorem st_1_1 : (k0_pay622 (kernelRun0_B.sl.r_412 c a5 ha5 a11 ha11 a15 a19 ha19 x4 x10 xs5) (kernelRun0_B.sl.r_413 c a5 ha5 a11 ha11 a14 ha14 a15 a19 ha19 a24 ha24 x4 x10 xs0 xs5 xs10) (kernelRun0_B.sl.r_416 c a5 ha5 a11 ha11 a15 a19 ha19 x4 x10 xs5) (kernelRun0_B.sl.r_417 c a5 ha5 a15 a19 ha19 x4 xs5) (kernelRun0_B.sl.r_418 c a5 ha5 a11 ha11 a15 a19 ha19 x4 x10 xs5) : Vec Ideal S1x128x256 .f32) = stepSt x10 (projT xs5 (wtile x4)) (stepSt x10 (tile xs0) (stile xs10)) 1 :=
  (Cert.BridgeB.state_1_1 c a5 ha5 a11 ha11 a14 ha14 a15 a19 ha19 a24 ha24 x4 x10 xs0 xs5 xs10).trans (stStep_eq x10 (projT xs5 (wtile x4)) (stepSt x10 (tile xs0) (stile xs10)) 1 _ _ _ _ (hgEq a11 ha11 x10) (p1Eq c a5 ha5 a15 a19 ha19 x4 xs5 (tq 20 1)) (p1Eq c a5 ha5 a15 a19 ha19 x4 xs5 (tq 24 1)) (ld_1_1 c a5 ha5 a11 ha11 a14 ha14 a15 a19 ha19 a24 ha24 x4 x10 xs0 xs5 xs10))

theorem y_1_1_0 : (k0_pay626 (kernelRun0_B.sl.r_421 c a5 ha5 a11 ha11 a12 ha12 a14 ha14 a15 a19 ha19 a24 ha24 a25 ha25 x4 x10 x11 xs0 xs5 xs10 xs11) : FVec Ideal S128x128 .bf16) = stepY x10 xs11 (projT xs5 (wtile x4)) (stepSt x10 (tile xs0) (stile xs10)) (nwt x11 1) 1 0 :=
  (Cert.BridgeB.out_1_1_0 c a5 ha5 a11 ha11 a12 ha12 a14 ha14 a15 a19 ha19 a24 ha24 a25 ha25 x4 x10 x11 xs0 xs5 xs10 xs11).trans (y0_eq x10 xs11 (projT xs5 (wtile x4)) (stepSt x10 (tile xs0) (stile xs10)) (nwt x11 1) 1 _ _ _ _ _ _ _ _ (hgEq a11 ha11 x10) (lvEq a25 ha25 xs11) (p1Eq c a5 ha5 a15 a19 ha19 x4 xs5 (tq 16 1)) (p1Eq c a5 ha5 a15 a19 ha19 x4 xs5 (tq 20 1)) (p1Eq c a5 ha5 a15 a19 ha19 x4 xs5 (tq 24 1)) (p1Eq c a5 ha5 a15 a19 ha19 x4 xs5 (tq 28 1)) (ld_1_1 c a5 ha5 a11 ha11 a14 ha14 a15 a19 ha19 a24 ha24 x4 x10 xs0 xs5 xs10) (nwEq_1 a12 ha12 x11))

theorem y_1_1_1 : (k0_pay627 (kernelRun0_B.sl.r_374 c a5 ha5 a15 a19 ha19 x4 xs5) (kernelRun0_B.sl.r_414 c a5 ha5 a11 ha11 a15 a19 ha19 x4 x10 xs5) (kernelRun0_B.sl.r_415 c a5 ha5 a11 ha11 a14 ha14 a15 a19 ha19 a24 ha24 a25 ha25 x4 x10 xs0 xs5 xs10 xs11) (kernelRun0_B.sl.r_419 c a5 ha5 a15 a19 ha19 x4 xs5) (kernelRun0_B.sl.r_420 c a12 ha12 x11) : FVec Ideal S128x128 .bf16) = stepY x10 xs11 (projT xs5 (wtile x4)) (stepSt x10 (tile xs0) (stile xs10)) (nwt x11 1) 1 1 :=
  (Cert.BridgeB.out_1_1_1 c a5 ha5 a11 ha11 a12 ha12 a14 ha14 a15 a19 ha19 a24 ha24 a25 ha25 x4 x10 x11 xs0 xs5 xs10 xs11).trans (y1_eq x10 xs11 (projT xs5 (wtile x4)) (stepSt x10 (tile xs0) (stile xs10)) (nwt x11 1) 1 _ _ _ _ _ _ _ _ (hgEq a11 ha11 x10) (lvEq a25 ha25 xs11) (p1Eq c a5 ha5 a15 a19 ha19 x4 xs5 (tq 16 1)) (p1Eq c a5 ha5 a15 a19 ha19 x4 xs5 (tq 20 1)) (p1Eq c a5 ha5 a15 a19 ha19 x4 xs5 (tq 24 1)) (p1Eq c a5 ha5 a15 a19 ha19 x4 xs5 (tq 28 1)) (ld_1_1 c a5 ha5 a11 ha11 a14 ha14 a15 a19 ha19 a24 ha24 x4 x10 xs0 xs5 xs10) (nwEq_1 a12 ha12 x11))

theorem ld_1_2 : (a24.view.readCov (kernelRun0_B.sl.HS10_6 (F := Ideal) c a5 ha5 a11 ha11 a14 ha14 a15 a19 ha19 a24 ha24 x4 x10 xs0 xs5 xs10) (Rect.unit (s := S4x128x256) ![2, 0, 0] S1x128x256.size inb_S4x128x256_S1x128x256_2_0_0).toLoadRect) = (stepSt x10 (tile xs0) (stile xs10)) 2 :=
  (st_skip a24.view 2 1 (by decide) _ _).trans ((st_skip a24.view 2 0 (by decide) _ _).trans ((st_skip a24.view 2 3 (by decide) _ _).trans ((st_hit a24.view 2 _ _).trans (st_0_2 c a11 ha11 a14 ha14 a24 ha24 x10 xs0 xs10))))

theorem st_1_2 : (k0_pay690 (kernelRun0_B.sl.r_463 c a5 ha5 a11 ha11 a14 ha14 a15 a19 ha19 a24 ha24 x4 x10 xs0 xs5 xs10) : Vec Ideal S1x128x256 .f32) = stepSt x10 (projT xs5 (wtile x4)) (stepSt x10 (tile xs0) (stile xs10)) 2 :=
  (Cert.BridgeB.state_1_2 c a5 ha5 a11 ha11 a14 ha14 a15 a19 ha19 a24 ha24 x4 x10 xs0 xs5 xs10).trans (stStep_eq x10 (projT xs5 (wtile x4)) (stepSt x10 (tile xs0) (stile xs10)) 2 _ _ _ _ (hgEq a11 ha11 x10) (p1Eq c a5 ha5 a15 a19 ha19 x4 xs5 (tq 20 2)) (p1Eq c a5 ha5 a15 a19 ha19 x4 xs5 (tq 24 2)) (ld_1_2 c a5 ha5 a11 ha11 a14 ha14 a15 a19 ha19 a24 ha24 x4 x10 xs0 xs5 xs10))

theorem y_1_2_0 : (k0_pay693 (kernelRun0_B.sl.r_424 c a5 ha5 a15 a19 ha19 x4 xs5) (kernelRun0_B.sl.r_461 c a5 ha5 a11 ha11 a15 a19 ha19 x4 x10 xs5) (kernelRun0_B.sl.r_462 c a5 ha5 a11 ha11 a14 ha14 a15 a19 ha19 a24 ha24 a25 ha25 x4 x10 xs0 xs5 xs10 xs11) (kernelRun0_B.sl.v4631 c a5 ha5 a15 a19 ha19 x4 xs5) (View.readAt (Elt Ideal) a12.view (Rect.unit (s := S1x1024) ![0, 512] S1x256.size inb_S1x1024_S1x256_0_512).toLoadRect (ha12.unread x11)) : FVec Ideal S128x128 .bf16) = stepY x10 xs11 (projT xs5 (wtile x4)) (stepSt x10 (tile xs0) (stile xs10)) (nwt x11 2) 2 0 :=
  (Cert.BridgeB.out_1_2_0 c a5 ha5 a11 ha11 a12 ha12 a14 ha14 a15 a19 ha19 a24 ha24 a25 ha25 x4 x10 x11 xs0 xs5 xs10 xs11).trans (y0_eq x10 xs11 (projT xs5 (wtile x4)) (stepSt x10 (tile xs0) (stile xs10)) (nwt x11 2) 2 _ _ _ _ _ _ _ _ (hgEq a11 ha11 x10) (lvEq a25 ha25 xs11) (p1Eq c a5 ha5 a15 a19 ha19 x4 xs5 (tq 16 2)) (p1Eq c a5 ha5 a15 a19 ha19 x4 xs5 (tq 20 2)) (p1Eq c a5 ha5 a15 a19 ha19 x4 xs5 (tq 24 2)) (p1Eq c a5 ha5 a15 a19 ha19 x4 xs5 (tq 28 2)) (ld_1_2 c a5 ha5 a11 ha11 a14 ha14 a15 a19 ha19 a24 ha24 x4 x10 xs0 xs5 xs10) (nwEq_2 a12 ha12 x11))

theorem y_1_2_1 : (k0_pay696 (kernelRun0_B.sl.r_424 c a5 ha5 a15 a19 ha19 x4 xs5) (kernelRun0_B.sl.r_464 c a5 ha5 a15 a19 ha19 x4 xs5) (kernelRun0_B.sl.r_465 c a12 ha12 x11) (kernelRun0_B.sl.r_466 c a5 ha5 a11 ha11 a14 ha14 a15 a19 ha19 a24 ha24 a25 ha25 x4 x10 xs0 xs5 xs10 xs11) (kernelRun0_B.sl.r_467 c a5 ha5 a11 ha11 a15 a19 ha19 x4 x10 xs5) : FVec Ideal S128x128 .bf16) = stepY x10 xs11 (projT xs5 (wtile x4)) (stepSt x10 (tile xs0) (stile xs10)) (nwt x11 2) 2 1 :=
  (Cert.BridgeB.out_1_2_1 c a5 ha5 a11 ha11 a12 ha12 a14 ha14 a15 a19 ha19 a24 ha24 a25 ha25 x4 x10 x11 xs0 xs5 xs10 xs11).trans (y1_eq x10 xs11 (projT xs5 (wtile x4)) (stepSt x10 (tile xs0) (stile xs10)) (nwt x11 2) 2 _ _ _ _ _ _ _ _ (hgEq a11 ha11 x10) (lvEq a25 ha25 xs11) (p1Eq c a5 ha5 a15 a19 ha19 x4 xs5 (tq 16 2)) (p1Eq c a5 ha5 a15 a19 ha19 x4 xs5 (tq 20 2)) (p1Eq c a5 ha5 a15 a19 ha19 x4 xs5 (tq 24 2)) (p1Eq c a5 ha5 a15 a19 ha19 x4 xs5 (tq 28 2)) (ld_1_2 c a5 ha5 a11 ha11 a14 ha14 a15 a19 ha19 a24 ha24 x4 x10 xs0 xs5 xs10) (nwEq_2 a12 ha12 x11))

theorem ld_1_3 : (a24.view.readCov (kernelRun0_B.sl.HS10_7 (F := Ideal) c a5 ha5 a11 ha11 a14 ha14 a15 a19 ha19 a24 ha24 x4 x10 xs0 xs5 xs10) (Rect.unit (s := S4x128x256) ![3, 0, 0] S1x128x256.size inb_S4x128x256_S1x128x256_3_0_0).toLoadRect) = (stepSt x10 (tile xs0) (stile xs10)) 3 :=
  (st_skip a24.view 3 2 (by decide) _ _).trans ((st_skip a24.view 3 1 (by decide) _ _).trans ((st_skip a24.view 3 0 (by decide) _ _).trans ((st_hit a24.view 3 _ _).trans (st_0_3 c a11 ha11 a14 ha14 a24 ha24 x10 xs0 xs10))))

theorem st_1_3 : (k0_pay765 (kernelRun0_B.sl.r_474 c a5 ha5 a11 ha11 a15 a19 ha19 x4 x10 xs5) (kernelRun0_B.sl.r_512 c a5 ha5 a11 ha11 a15 a19 ha19 x4 x10 xs5) (kernelRun0_B.sl.r_513 c a5 ha5 a11 ha11 a15 a19 ha19 x4 x10 xs5) (kernelRun0_B.sl.r_514 c a5 ha5 a11 ha11 a14 ha14 a15 a19 ha19 a24 ha24 x4 x10 xs0 xs5 xs10) (kernelRun0_B.sl.r_515 c a5 ha5 a15 a19 ha19 x4 xs5) : Vec Ideal S1x128x256 .f32) = stepSt x10 (projT xs5 (wtile x4)) (stepSt x10 (tile xs0) (stile xs10)) 3 :=
  (Cert.BridgeB.state_1_3 c a5 ha5 a11 ha11 a14 ha14 a15 a19 ha19 a24 ha24 x4 x10 xs0 xs5 xs10).trans (stStep_eq x10 (projT xs5 (wtile x4)) (stepSt x10 (tile xs0) (stile xs10)) 3 _ _ _ _ (hgEq a11 ha11 x10) (p1Eq c a5 ha5 a15 a19 ha19 x4 xs5 (tq 20 3)) (p1Eq c a5 ha5 a15 a19 ha19 x4 xs5 (tq 24 3)) (ld_1_3 c a5 ha5 a11 ha11 a14 ha14 a15 a19 ha19 a24 ha24 x4 x10 xs0 xs5 xs10))

theorem y_1_3_0 : (k0_pay770 (kernelRun0_B.sl.r_522 c a5 ha5 a15 a19 ha19 x4 xs5) (kernelRun0_B.sl.r_523 c a12 ha12 x11) (kernelRun0_B.sl.r_524 c a5 ha5 a11 ha11 a14 ha14 a15 a19 ha19 a24 ha24 a25 ha25 x4 x10 xs0 xs5 xs10 xs11) (kernelRun0_B.sl.r_525 c a5 ha5 a11 ha11 a14 ha14 a15 a19 ha19 a24 ha24 a25 ha25 x4 x10 xs0 xs5 xs10 xs11) : FVec Ideal S128x128 .bf16) = stepY x10 xs11 (projT xs5 (wtile x4)) (stepSt x10 (tile xs0) (stile xs10)) (nwt x11 3) 3 0 :=
  (Cert.BridgeB.out_1_3_0 c a5 ha5 a11 ha11 a12 ha12 a14 ha14 a15 a19 ha19 a24 ha24 a25 ha25 x4 x10 x11 xs0 xs5 xs10 xs11).trans (y0_eq x10 xs11 (projT xs5 (wtile x4)) (stepSt x10 (tile xs0) (stile xs10)) (nwt x11 3) 3 _ _ _ _ _ _ _ _ (hgEq a11 ha11 x10) (lvEq a25 ha25 xs11) (p1Eq c a5 ha5 a15 a19 ha19 x4 xs5 (tq 16 3)) (p1Eq c a5 ha5 a15 a19 ha19 x4 xs5 (tq 20 3)) (p1Eq c a5 ha5 a15 a19 ha19 x4 xs5 (tq 24 3)) (p1Eq c a5 ha5 a15 a19 ha19 x4 xs5 (tq 28 3)) (ld_1_3 c a5 ha5 a11 ha11 a14 ha14 a15 a19 ha19 a24 ha24 x4 x10 xs0 xs5 xs10) (nwEq_3 a12 ha12 x11))

theorem y_1_3_1 : (k0_pay771 (kernelRun0_B.sl.r_470 c a5 ha5 a15 a19 ha19 x4 xs5) (kernelRun0_B.sl.r_516 c a5 ha5 a11 ha11 a15 a19 ha19 x4 x10 xs5) (kernelRun0_B.sl.r_521 c a5 ha5 a11 ha11 a14 ha14 a15 a19 ha19 a24 ha24 a25 ha25 x4 x10 xs0 xs5 xs10 xs11) (kernelRun0_B.sl.r_522 c a5 ha5 a15 a19 ha19 x4 xs5) (kernelRun0_B.sl.r_523 c a12 ha12 x11) : FVec Ideal S128x128 .bf16) = stepY x10 xs11 (projT xs5 (wtile x4)) (stepSt x10 (tile xs0) (stile xs10)) (nwt x11 3) 3 1 :=
  (Cert.BridgeB.out_1_3_1 c a5 ha5 a11 ha11 a12 ha12 a14 ha14 a15 a19 ha19 a24 ha24 a25 ha25 x4 x10 x11 xs0 xs5 xs10 xs11).trans (y1_eq x10 xs11 (projT xs5 (wtile x4)) (stepSt x10 (tile xs0) (stile xs10)) (nwt x11 3) 3 _ _ _ _ _ _ _ _ (hgEq a11 ha11 x10) (lvEq a25 ha25 xs11) (p1Eq c a5 ha5 a15 a19 ha19 x4 xs5 (tq 16 3)) (p1Eq c a5 ha5 a15 a19 ha19 x4 xs5 (tq 20 3)) (p1Eq c a5 ha5 a15 a19 ha19 x4 xs5 (tq 24 3)) (p1Eq c a5 ha5 a15 a19 ha19 x4 xs5 (tq 28 3)) (ld_1_3 c a5 ha5 a11 ha11 a14 ha14 a15 a19 ha19 a24 ha24 x4 x10 xs0 xs5 xs10) (nwEq_3 a12 ha12 x11))

theorem u629 (x : Vec Ideal S128x2048 .f32) (w : Vec Ideal S1x2048 .f32) : k0_pay629 (k0_pay628 x w) = unorm x w := rfl

theorem s0 : sout0_B_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11 = glue (projT (unorm x1 x3) (wtile x4)) := by
  have h : sout0_B_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11 = View.canon (kernelRun0_B c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11).2.1 := View.read_writes_junk_eq_canon _ _
  rw [h]
  have h2 : projT (a18.view.readCov (kernelRun0_B.sl.HS4_1 (F := Ideal) c a2 ha2 a4 ha4 x1 x3) (Rect.unit (s := S128x2048) ![0, 0] S128x2048.size inb_S128x2048_S128x2048_0_0).toLoadRect) (fun k => View.readAt (Elt Ideal) a5.view (wRect k).toLoadRect (ha5.unread x4)) = projT (unorm x1 x3) (wtile x4) := by rw [u2Eq, wEq]
  exact (canon_tl (projT (a18.view.readCov (kernelRun0_B.sl.HS4_1 (F := Ideal) c a2 ha2 a4 ha4 x1 x3) (Rect.unit (s := S128x2048) ![0, 0] S128x2048.size inb_S128x2048_S128x2048_0_0).toLoadRect) (fun k => View.readAt (Elt Ideal) a5.view (wRect k).toLoadRect (ha5.unread x4)))).trans (congrArg glue h2)

theorem s5 : sout0_B_5 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11 = unorm x2 x3 := by
  have h : sout0_B_5 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11 = View.canon (kernelRun0_B c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11).2.2.2.1 := View.read_writes_junk_eq_canon _ _
  have e : (kernelRun0_B c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11).2.2.2.1 = ([⟨Rect.unit (s := S128x2048) ![0, 0] S128x2048.size inb_S128x2048_S128x2048_0_0, k0_pay629 (k0_pay628 (View.readAt (Elt Ideal) a3.view (Rect.unit (s := S128x2048) ![0, 0] S128x2048.size inb_S128x2048_S128x2048_0_0).toLoadRect (ha3.unread x2)) (View.readAt (Elt Ideal) a4.view (Rect.unit (s := S1x2048) ![0, 0] S1x2048.size inb_S1x2048_S1x2048_0_0).toLoadRect (ha4.unread x3)))⟩] : List (View.Piece (Elt Ideal) S128x2048 .bf16)) := rfl
  rw [h, e]
  refine (View.canon_unit_zero (Val := Elt Ideal) (e := .bf16) (S := S128x2048) o2 inb_S128x2048_S128x2048_0_0 (k0_pay629 (k0_pay628 (View.readAt (Elt Ideal) a3.view (Rect.unit (s := S128x2048) ![0, 0] S128x2048.size inb_S128x2048_S128x2048_0_0).toLoadRect (ha3.unread x2)) (View.readAt (Elt Ideal) a4.view (Rect.unit (s := S1x2048) ![0, 0] S1x2048.size inb_S1x2048_S1x2048_0_0).toLoadRect (ha4.unread x3))))).trans ?_
  rw [rd_all a3 ha3 x2 o2, rd_all a4 ha4 x3 o2]
  exact u629 x2 x3

theorem s10 : sout0_B_10 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11 = sglue (stepSt x10 (projT xs5 (wtile x4)) (stepSt x10 (tile xs0) (stile xs10))) := by
  have h : sout0_B_10 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11 = View.canon (kernelRun0_B c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11).2.2.2.2.2.2.2.2.1 := View.read_writes_junk_eq_canon _ _
  rw [h]
  exact canon_st4 _ _ _ _ _ _ (st_1_3 c a5 ha5 a11 ha11 a14 ha14 a15 a19 ha19 a24 ha24 x4 x10 xs0 xs5 xs10) (st_1_2 c a5 ha5 a11 ha11 a14 ha14 a15 a19 ha19 a24 ha24 x4 x10 xs0 xs5 xs10) (st_1_1 c a5 ha5 a11 ha11 a14 ha14 a15 a19 ha19 a24 ha24 x4 x10 xs0 xs5 xs10) (st_1_0 c a5 ha5 a11 ha11 a14 ha14 a15 a19 ha19 a24 ha24 x4 x10 xs0 xs5 xs10)

theorem out12 (ch : Fin 2) (hp : Fin 4) (j : Fin 2) (t x : Fin 128) :
    out0_B_12 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11 (ix2 (n0 := 256) (n1 := 2048) ⟨128 * ch.val + t.val, by omega⟩ ⟨1024 + 256 * hp.val + 128 * j.val + x.val, by omega⟩)
      = stepY x10 xs11 (![(tile xs0), (projT xs5 (wtile x4))] ch) (![(stile xs10), (stepSt x10 (tile xs0) (stile xs10))] ch) (nwt x11 hp) hp j (ix2 t x) := by
  have h : out0_B_12 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11 = View.canon (kernelRun0_B c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs6 xs7 xs8 xs9 xs10 xs11).1 := View.read_writes_junk_eq_canon _ _
  rw [h]
  exact canon_yl' _ _ _ _ _ _ _ _ _ _ _ _ _ _ _ _ _ _ _ _ _ _ _ _ (fun ch hp j => stepY x10 xs11 (![(tile xs0), (projT xs5 (wtile x4))] ch) (![(stile xs10), (stepSt x10 (tile xs0) (stile xs10))] ch) (nwt x11 hp) hp j) (y_0_0_0 c a11 ha11 a12 ha12 a14 ha14 a24 ha24 a25 ha25 x10 x11 xs0 xs10 xs11) (y_0_0_1 c a11 ha11 a12 ha12 a14 ha14 a24 ha24 a25 ha25 x10 x11 xs0 xs10 xs11) (y_0_1_0 c a11 ha11 a12 ha12 a14 ha14 a24 ha24 a25 ha25 x10 x11 xs0 xs10 xs11) (y_0_1_1 c a11 ha11 a12 ha12 a14 ha14 a24 ha24 a25 ha25 x10 x11 xs0 xs10 xs11) (y_0_2_0 c a11 ha11 a12 ha12 a14 ha14 a24 ha24 a25 ha25 x10 x11 xs0 xs10 xs11) (y_0_2_1 c a11 ha11 a12 ha12 a14 ha14 a24 ha24 a25 ha25 x10 x11 xs0 xs10 xs11) (y_0_3_0 c a11 ha11 a12 ha12 a14 ha14 a24 ha24 a25 ha25 x10 x11 xs0 xs10 xs11) (y_0_3_1 c a11 ha11 a12 ha12 a14 ha14 a24 ha24 a25 ha25 x10 x11 xs0 xs10 xs11) (y_1_0_0 c a5 ha5 a11 ha11 a12 ha12 a14 ha14 a15 a19 ha19 a24 ha24 a25 ha25 x4 x10 x11 xs0 xs5 xs10 xs11) (y_1_0_1 c a5 ha5 a11 ha11 a12 ha12 a14 ha14 a15 a19 ha19 a24 ha24 a25 ha25 x4 x10 x11 xs0 xs5 xs10 xs11) (y_1_1_0 c a5 ha5 a11 ha11 a12 ha12 a14 ha14 a15 a19 ha19 a24 ha24 a25 ha25 x4 x10 x11 xs0 xs5 xs10 xs11) (y_1_1_1 c a5 ha5 a11 ha11 a12 ha12 a14 ha14 a15 a19 ha19 a24 ha24 a25 ha25 x4 x10 x11 xs0 xs5 xs10 xs11) (y_1_2_0 c a5 ha5 a11 ha11 a12 ha12 a14 ha14 a15 a19 ha19 a24 ha24 a25 ha25 x4 x10 x11 xs0 xs5 xs10 xs11) (y_1_2_1 c a5 ha5 a11 ha11 a12 ha12 a14 ha14 a15 a19 ha19 a24 ha24 a25 ha25 x4 x10 x11 xs0 xs5 xs10 xs11) (y_1_3_0 c a5 ha5 a11 ha11 a12 ha12 a14 ha14 a15 a19 ha19 a24 ha24 a25 ha25 x4 x10 x11 xs0 xs5 xs10 xs11) (y_1_3_1 c a5 ha5 a11 ha11 a12 ha12 a14 ha14 a15 a19 ha19 a24 ha24 a25 ha25 x4 x10 x11 xs0 xs5 xs10 xs11) ch hp j t x

end Cert.MemB
-- ==== Proof.GridB.lean ====
/- What a point inside a sequence leaves. -/
module

public import proofs.«01_k».proof.Proof.GridStep
public import proofs.«01_k».proof.Proof.MemB

@[expose] public section

set_option maxRecDepth 16384
set_option maxHeartbeats 4000000

noncomputable section

namespace Cert.Grid

open Idealize.ShloMosaic hiding ix1 ix2 ix3 ix4
open Idealize.ShloMosaic.ValueIdx Idealize.ShloMosaic.TcCoe Idealize.SL.Sem Cert.KernelIdeal Cert.KernelIdeal.Gen Cert.Pair Cert.Tiles Cert.Reads

variable {m : (ℓ : Loc nD τ sig) → Buf (Elt Ideal) ℓ} {c : Dev nD} {D : Nums}
  (hD : Holds (m ((c : Thread nD τ).loc main_arg0)) (m ((c : Thread nD τ).loc main_arg1)) (m ((c : Thread nD τ).loc main_arg2))
    (m ((c : Thread nD τ).loc main_arg8)) (m ((c : Thread nD τ).loc main_arg9)) D)
include hD

theorem left_B (t : Fin cfg0.N) (h0 : ¬t.val % 128 = 0) (h1 : ¬t.val % 64 = 0)
    (hp : LeftAt (m := m) (c := c) D (t.val - 1) (Nat.lt_of_le_of_lt (Nat.sub_le _ _) t.isLt)) : LeftAt (m := m) (c := c) D t.val t.isLt := by
  have hlt := tlt t
  have hP0 : IsT (tile (outsAt0 m c (t.val - 1) (Nat.lt_of_le_of_lt (Nat.sub_le _ _) t.isLt)).2.1) fun r k => pr D (256 * t.val + r) k := by
    have a := hp.p
    rwa [show 128 * min (2 * (t.val - 1) + 2) 255 = 256 * t.val by omega] at a
  have hP1 : IsT (projT (outsAt0 m c (t.val - 1) (Nat.lt_of_le_of_lt (Nat.sub_le _ _) t.isLt)).2.2.2.1 (wtile (iblk m c 4 t))) fun r k => pr D (256 * t.val + 128 + r) k := by
    have a := hp.u
    rw [show 128 * min (2 * (t.val - 1) + 3) 255 = 256 * t.val + 128 by omega] at a
    exact proj_blk hD t a
  have hS0 : IsS (stile (outsAt0 m c (t.val - 1) (Nat.lt_of_le_of_lt (Nat.sub_le _ _) t.isLt)).2.2.2.2.2.2.2.2.1) (stJ (sq D (t.val / 64)) D.H (256 * (t.val % 64))) := by
    have a := hp.s
    rwa [show (t.val - 1) / 64 = t.val / 64 by omega, show 256 * ((t.val - 1) % 64) + 256 = 256 * (t.val % 64) by omega] at a
  have hLV : LvOK ((outsAt0 m c (t.val - 1) (Nat.lt_of_le_of_lt (Nat.sub_le _ _) t.isLt)).2.2.2.2.2.2.2.2.2) := hp.l
  have e1 := Cert.MemB.s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (fun h => h0 ((hcond0_0 t).mp h)) (fun h => h1 ((hcond0_1 t).mp h))
  have e5 := Cert.MemB.s5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (fun h => h0 ((hcond0_0 t).mp h)) (fun h => h1 ((hcond0_1 t).mp h))
  have e10 := Cert.MemB.s10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (fun h => h0 ((hcond0_0 t).mp h)) (fun h => h1 ((hcond0_1 t).mp h))
  have ey := Cert.MemB.out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (fun h => h0 ((hcond0_0 t).mp h)) (fun h => h1 ((hcond0_1 t).mp h))
  have key := mk_left hD t hP0 hP1 hS0 hLV e1 e5 e10 rfl ey
  unfold LeftAt
  rw [outsAt0_B m c t h0 h1]
  dsimp only
  exact key

end Cert.Grid
-- ==== Proof.BridgeC.lean ====
/- What the pair of gated heads stores at a point of case C of the grid, chunk by chunk: each printed payload is the
   pair written once, over what the point loads. -/
module

public import proofs.«01_k».proof.Proof.PairOps
public import proofs.«01_k».proof.Proof.Gen.KernelIdeal.Frame.RunC

@[expose] public section

set_option maxRecDepth 16384

noncomputable section

namespace Cert.BridgeC

open Idealize.ShloMosaic Idealize.SL.Sem Cert.KernelIdeal Cert.KernelIdeal.Gen Cert.Pair

variable (c : Dev nD) (i : grid0.Coords)
  (a1 : Memref sig .tc .vmem S256x2048 .f32) (ha1 : a1.IsWhole)
  (a2 : Memref sig .tc .vmem S128x2048 .f32) (ha2 : a2.IsWhole)
  (a3 : Memref sig .tc .vmem S128x2048 .f32) (ha3 : a3.IsWhole)
  (a4 : Memref sig .tc .vmem S1x2048 .f32) (ha4 : a4.IsWhole)
  (a5 : Memref sig .tc .vmem S32x2048x256 .bf16) (ha5 : a5.IsWhole)
  (a6 : Memref sig .tc .vmem S16x2048 .bf16) (ha6 : a6.IsWhole)
  (a7 : Memref sig .tc .vmem S4x1024 .f32) (ha7 : a7.IsWhole)
  (a8 : Memref sig .tc .vmem S1x1024 .f32) (ha8 : a8.IsWhole)
  (a9 : Memref sig .tc .vmem S16x128 .f32) (ha9 : a9.IsWhole)
  (a10 : Memref sig .tc .vmem S1x1024 .f32) (ha10 : a10.IsWhole)
  (a11 : Memref sig .tc .vmem S2x1024 .f32) (ha11 : a11.IsWhole)
  (a12 : Memref sig .tc .vmem S1x1024 .f32) (ha12 : a12.IsWhole)
  (a13 : Memref sig .tc .vmem S256x2048 .bf16) (ha13 : a13.IsWhole)
  (a14 : Memref sig .tc .vmem S32x128x256 .f32) (ha14 : a14.IsWhole)
  (a15 : Memref sig .tc .vmem S32x128x256 .f32) (ha15 : a15.IsWhole)
  (a16 : Memref sig .tc .vmem S16x128 .f32) (ha16 : a16.IsWhole)
  (a17 : Memref sig .tc .vmem S16x128 .f32) (ha17 : a17.IsWhole)
  (a18 : Memref sig .tc .vmem S128x2048 .bf16) (ha18 : a18.IsWhole)
  (a19 : Memref sig .tc .vmem S128x2048 .bf16) (ha19 : a19.IsWhole)
  (a20 : Memref sig .tc .vmem S8x1024 .f32) (ha20 : a20.IsWhole)
  (a21 : Memref sig .tc .vmem S4x128x256 .f32) (ha21 : a21.IsWhole)
  (a22 : Memref sig .tc .vmem S4x8x128 .f32) (ha22 : a22.IsWhole)
  (a23 : Memref sig .tc .vmem S8x128 .f32) (ha23 : a23.IsWhole)
  (a24 : Memref sig .tc .vmem S4x128x256 .f32) (ha24 : a24.IsWhole)
  (a25 : Memref sig .tc .vmem S128x256 .i32) (ha25 : a25.IsWhole)
  (x0 : Vec Ideal S256x2048 .f32)
  (x1 : Vec Ideal S128x2048 .f32)
  (x2 : Vec Ideal S128x2048 .f32)
  (x3 : Vec Ideal S1x2048 .f32)
  (x4 : Vec Ideal S32x2048x256 .bf16)
  (x5 : Vec Ideal S16x2048 .bf16)
  (x6 : Vec Ideal S4x1024 .f32)
  (x7 : Vec Ideal S1x1024 .f32)
  (x8 : Vec Ideal S16x128 .f32)
  (x9 : Vec Ideal S1x1024 .f32)
  (x10 : Vec Ideal S2x1024 .f32)
  (x11 : Vec Ideal S1x1024 .f32)
  (xs0 : Vec Ideal S32x128x256 .f32)
  (xs2 : Vec Ideal S16x128 .f32)
  (xs5 : Vec Ideal S128x2048 .bf16)
  (xs6 : Vec Ideal S8x1024 .f32)
  (xs7 : Vec Ideal S4x128x256 .f32)
  (xs8 : Vec Ideal S4x8x128 .f32)
  (xs9 : Vec Ideal S8x128 .f32)
  (xs10 : Vec Ideal S4x128x256 .f32)
  (xs11 : Vec Ideal S128x256 .i32)

theorem state_0_0 : (k0_pay108 (kernelRun0_C.sl.r_57 c a11 ha11 a14 ha14 x10 xs0) (kernelRun0_C.sl.r_58 c a24) (kernelRun0_C.sl.r_61 c a11 ha11 a14 ha14 x10 xs0) (kernelRun0_C.sl.r_62 c a11 ha11 a14 ha14 x10 xs0) (kernelRun0_C.sl.r_63 c a14 ha14 xs0) : Vec Ideal S1x128x256 .f32) = stStore (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (shapeCast S128x256 (View.readAt (Elt Ideal) a14.view (Rect.unit (s := S32x128x256) ![20, 0, 0] S1x128x256.size inb_S32x128x256_S1x128x256_20_0_0).toLoadRect (ha14.unread xs0)) shapeCasts_S1x128x256_S128x256) (shapeCast S128x256 (View.readAt (Elt Ideal) a14.view (Rect.unit (s := S32x128x256) ![24, 0, 0] S1x128x256.size inb_S32x128x256_S1x128x256_24_0_0).toLoadRect (ha14.unread xs0)) shapeCasts_S1x128x256_S128x256) (shapeCast S128x256 (a24.view.readCov (kernelRun0_C.sl.HS10_1 (F := Ideal) ) (Rect.unit (s := S4x128x256) ![0, 0, 0] S1x128x256.size inb_S4x128x256_S1x128x256_0_0_0).toLoadRect) shapeCasts_S1x128x256_S128x256) := rfl

theorem out_0_0_0 : (k0_pay113 (kernelRun0_C.sl.r_66 c a11 ha11 a12 ha12 a14 ha14 a24 a25 ha25 x10 x11 xs0 xs11) (kernelRun0_C.sl.r_67 c a14 ha14 xs0) : FVec Ideal S128x128 .bf16) = yStore0 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![16, 0, 0] S1x128x256.size inb_S32x128x256_S1x128x256_16_0_0).toLoadRect (ha14.unread xs0)) shapeCasts_S1x128x256_S128x256) (shapeCast S128x256 (View.readAt (Elt Ideal) a14.view (Rect.unit (s := S32x128x256) ![20, 0, 0] S1x128x256.size inb_S32x128x256_S1x128x256_20_0_0).toLoadRect (ha14.unread xs0)) shapeCasts_S1x128x256_S128x256) (shapeCast S128x256 (View.readAt (Elt Ideal) a14.view (Rect.unit (s := S32x128x256) ![24, 0, 0] S1x128x256.size inb_S32x128x256_S1x128x256_24_0_0).toLoadRect (ha14.unread xs0)) shapeCasts_S1x128x256_S128x256) (shapeCast S128x256 (View.readAt (Elt Ideal) a14.view (Rect.unit (s := S32x128x256) ![28, 0, 0] S1x128x256.size inb_S32x128x256_S1x128x256_28_0_0).toLoadRect (ha14.unread xs0)) shapeCasts_S1x128x256_S128x256) (shapeCast S128x256 (a24.view.readCov (kernelRun0_C.sl.HS10_1 (F := Ideal) ) (Rect.unit (s := S4x128x256) ![0, 0, 0] S1x128x256.size inb_S4x128x256_S1x128x256_0_0_0).toLoadRect) shapeCasts_S1x128x256_S128x256) (View.readAt (Elt Ideal) a12.view (Rect.unit (s := S1x1024) ![0, 0] S1x256.size inb_S1x1024_S1x256_0_0).toLoadRect (ha12.unread x11)) := rfl

theorem out_0_0_1 : (k0_pay114 (kernelRun0_C.sl.r_20 c a14 ha14 xs0) (kernelRun0_C.sl.r_59 c a11 ha11 a14 ha14 x10 xs0) (kernelRun0_C.sl.r_60 c a11 ha11 a14 ha14 a24 a25 ha25 x10 xs0 xs11) (kernelRun0_C.sl.r_64 c a14 ha14 xs0) (kernelRun0_C.sl.r_65 c a12 ha12 x11) : FVec Ideal S128x128 .bf16) = yStore1 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![16, 0, 0] S1x128x256.size inb_S32x128x256_S1x128x256_16_0_0).toLoadRect (ha14.unread xs0)) shapeCasts_S1x128x256_S128x256) (shapeCast S128x256 (View.readAt (Elt Ideal) a14.view (Rect.unit (s := S32x128x256) ![20, 0, 0] S1x128x256.size inb_S32x128x256_S1x128x256_20_0_0).toLoadRect (ha14.unread xs0)) shapeCasts_S1x128x256_S128x256) (shapeCast S128x256 (View.readAt (Elt Ideal) a14.view (Rect.unit (s := S32x128x256) ![24, 0, 0] S1x128x256.size inb_S32x128x256_S1x128x256_24_0_0).toLoadRect (ha14.unread xs0)) shapeCasts_S1x128x256_S128x256) (shapeCast S128x256 (View.readAt (Elt Ideal) a14.view (Rect.unit (s := S32x128x256) ![28, 0, 0] S1x128x256.size inb_S32x128x256_S1x128x256_28_0_0).toLoadRect (ha14.unread xs0)) shapeCasts_S1x128x256_S128x256) (shapeCast S128x256 (a24.view.readCov (kernelRun0_C.sl.HS10_1 (F := Ideal) ) (Rect.unit (s := S4x128x256) ![0, 0, 0] S1x128x256.size inb_S4x128x256_S1x128x256_0_0_0).toLoadRect) shapeCasts_S1x128x256_S128x256) (View.readAt (Elt Ideal) a12.view (Rect.unit (s := S1x1024) ![0, 0] S1x256.size inb_S1x1024_S1x256_0_0).toLoadRect (ha12.unread x11)) := rfl

theorem state_0_1 : (k0_pay181 (kernelRun0_C.sl.r_74 c a11 ha11 a14 ha14 x10 xs0) (kernelRun0_C.sl.r_112 c a11 ha11 a14 ha14 x10 xs0) (kernelRun0_C.sl.r_113 c a11 ha11 a14 ha14 x10 xs0) (kernelRun0_C.sl.r_114 c a11 ha11 a14 ha14 a24 x10 xs0) (kernelRun0_C.sl.r_115 c a14 ha14 xs0) : Vec Ideal S1x128x256 .f32) = stStore (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (shapeCast S128x256 (View.readAt (Elt Ideal) a14.view (Rect.unit (s := S32x128x256) ![21, 0, 0] S1x128x256.size inb_S32x128x256_S1x128x256_21_0_0).toLoadRect (ha14.unread xs0)) shapeCasts_S1x128x256_S128x256) (shapeCast S128x256 (View.readAt (Elt Ideal) a14.view (Rect.unit (s := S32x128x256) ![25, 0, 0] S1x128x256.size inb_S32x128x256_S1x128x256_25_0_0).toLoadRect (ha14.unread xs0)) shapeCasts_S1x128x256_S128x256) (shapeCast S128x256 (a24.view.readCov (kernelRun0_C.sl.HS10_2 (F := Ideal) c a11 ha11 a14 ha14 a24 x10 xs0) (Rect.unit (s := S4x128x256) ![1, 0, 0] S1x128x256.size inb_S4x128x256_S1x128x256_1_0_0).toLoadRect) shapeCasts_S1x128x256_S128x256) := rfl

theorem out_0_1_0 : (k0_pay186 (kernelRun0_C.sl.r_70 c a14 ha14 xs0) (kernelRun0_C.sl.r_119 c a14 ha14 xs0) (kernelRun0_C.sl.r_120 c a12 ha12 x11) (kernelRun0_C.sl.r_121 c a11 ha11 a14 ha14 a24 a25 ha25 x10 xs0 xs11) (kernelRun0_C.sl.r_122 c a11 ha11 a14 ha14 x10 xs0) : FVec Ideal S128x128 .bf16) = yStore0 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![17, 0, 0] S1x128x256.size inb_S32x128x256_S1x128x256_17_0_0).toLoadRect (ha14.unread xs0)) shapeCasts_S1x128x256_S128x256) (shapeCast S128x256 (View.readAt (Elt Ideal) a14.view (Rect.unit (s := S32x128x256) ![21, 0, 0] S1x128x256.size inb_S32x128x256_S1x128x256_21_0_0).toLoadRect (ha14.unread xs0)) shapeCasts_S1x128x256_S128x256) (shapeCast S128x256 (View.readAt (Elt Ideal) a14.view (Rect.unit (s := S32x128x256) ![25, 0, 0] S1x128x256.size inb_S32x128x256_S1x128x256_25_0_0).toLoadRect (ha14.unread xs0)) shapeCasts_S1x128x256_S128x256) (shapeCast S128x256 (View.readAt (Elt Ideal) a14.view (Rect.unit (s := S32x128x256) ![29, 0, 0] S1x128x256.size inb_S32x128x256_S1x128x256_29_0_0).toLoadRect (ha14.unread xs0)) shapeCasts_S1x128x256_S128x256) (shapeCast S128x256 (a24.view.readCov (kernelRun0_C.sl.HS10_2 (F := Ideal) c a11 ha11 a14 ha14 a24 x10 xs0) (Rect.unit (s := S4x128x256) ![1, 0, 0] S1x128x256.size inb_S4x128x256_S1x128x256_1_0_0).toLoadRect) shapeCasts_S1x128x256_S128x256) (View.readAt (Elt Ideal) a12.view (Rect.unit (s := S1x1024) ![0, 256] S1x256.size inb_S1x1024_S1x256_0_256).toLoadRect (ha12.unread x11)) := rfl

theorem out_0_1_1 : (kernelRun0_C.sl.r_123 c a11 ha11 a12 ha12 a14 ha14 a24 a25 ha25 x10 x11 xs0 xs11 : FVec Ideal S128x128 .bf16) = yStore1 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![17, 0, 0] S1x128x256.size inb_S32x128x256_S1x128x256_17_0_0).toLoadRect (ha14.unread xs0)) shapeCasts_S1x128x256_S128x256) (shapeCast S128x256 (View.readAt (Elt Ideal) a14.view (Rect.unit (s := S32x128x256) ![21, 0, 0] S1x128x256.size inb_S32x128x256_S1x128x256_21_0_0).toLoadRect (ha14.unread xs0)) shapeCasts_S1x128x256_S128x256) (shapeCast S128x256 (View.readAt (Elt Ideal) a14.view (Rect.unit (s := S32x128x256) ![25, 0, 0] S1x128x256.size inb_S32x128x256_S1x128x256_25_0_0).toLoadRect (ha14.unread xs0)) shapeCasts_S1x128x256_S128x256) (shapeCast S128x256 (View.readAt (Elt Ideal) a14.view (Rect.unit (s := S32x128x256) ![29, 0, 0] S1x128x256.size inb_S32x128x256_S1x128x256_29_0_0).toLoadRect (ha14.unread xs0)) shapeCasts_S1x128x256_S128x256) (shapeCast S128x256 (a24.view.readCov (kernelRun0_C.sl.HS10_2 (F := Ideal) c a11 ha11 a14 ha14 a24 x10 xs0) (Rect.unit (s := S4x128x256) ![1, 0, 0] S1x128x256.size inb_S4x128x256_S1x128x256_1_0_0).toLoadRect) shapeCasts_S1x128x256_S128x256) (View.readAt (Elt Ideal) a12.view (Rect.unit (s := S1x1024) ![0, 256] S1x256.size inb_S1x1024_S1x256_0_256).toLoadRect (ha12.unread x11)) := rfl

theorem state_0_2 : (k0_pay259 (kernelRun0_C.sl.r_130 c a11 ha11 a14 ha14 x10 xs0) (kernelRun0_C.sl.r_170 c a11 ha11 a14 ha14 x10 xs0) (kernelRun0_C.sl.r_171 c a11 ha11 a14 ha14 x10 xs0) (kernelRun0_C.sl.r_172 c a11 ha11 a14 ha14 a24 x10 xs0) (kernelRun0_C.sl.r_173 c a14 ha14 xs0) : Vec Ideal S1x128x256 .f32) = stStore (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (shapeCast S128x256 (View.readAt (Elt Ideal) a14.view (Rect.unit (s := S32x128x256) ![22, 0, 0] S1x128x256.size inb_S32x128x256_S1x128x256_22_0_0).toLoadRect (ha14.unread xs0)) shapeCasts_S1x128x256_S128x256) (shapeCast S128x256 (View.readAt (Elt Ideal) a14.view (Rect.unit (s := S32x128x256) ![26, 0, 0] S1x128x256.size inb_S32x128x256_S1x128x256_26_0_0).toLoadRect (ha14.unread xs0)) shapeCasts_S1x128x256_S128x256) (shapeCast S128x256 (a24.view.readCov (kernelRun0_C.sl.HS10_3 (F := Ideal) c a11 ha11 a14 ha14 a24 x10 xs0) (Rect.unit (s := S4x128x256) ![2, 0, 0] S1x128x256.size inb_S4x128x256_S1x128x256_2_0_0).toLoadRect) shapeCasts_S1x128x256_S128x256) := rfl

theorem out_0_2_0 : (k0_pay264 (kernelRun0_C.sl.r_180 c a14 ha14 xs0) (kernelRun0_C.sl.r_181 c a12 ha12 x11) (kernelRun0_C.sl.r_182 c a11 ha11 a14 ha14 a24 a25 ha25 x10 xs0 xs11) (kernelRun0_C.sl.r_183 c a11 ha11 a14 ha14 a24 a25 ha25 x10 xs0 xs11) : FVec Ideal S128x128 .bf16) = yStore0 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![18, 0, 0] S1x128x256.size inb_S32x128x256_S1x128x256_18_0_0).toLoadRect (ha14.unread xs0)) shapeCasts_S1x128x256_S128x256) (shapeCast S128x256 (View.readAt (Elt Ideal) a14.view (Rect.unit (s := S32x128x256) ![22, 0, 0] S1x128x256.size inb_S32x128x256_S1x128x256_22_0_0).toLoadRect (ha14.unread xs0)) shapeCasts_S1x128x256_S128x256) (shapeCast S128x256 (View.readAt (Elt Ideal) a14.view (Rect.unit (s := S32x128x256) ![26, 0, 0] S1x128x256.size inb_S32x128x256_S1x128x256_26_0_0).toLoadRect (ha14.unread xs0)) shapeCasts_S1x128x256_S128x256) (shapeCast S128x256 (View.readAt (Elt Ideal) a14.view (Rect.unit (s := S32x128x256) ![30, 0, 0] S1x128x256.size inb_S32x128x256_S1x128x256_30_0_0).toLoadRect (ha14.unread xs0)) shapeCasts_S1x128x256_S128x256) (shapeCast S128x256 (a24.view.readCov (kernelRun0_C.sl.HS10_3 (F := Ideal) c a11 ha11 a14 ha14 a24 x10 xs0) (Rect.unit (s := S4x128x256) ![2, 0, 0] S1x128x256.size inb_S4x128x256_S1x128x256_2_0_0).toLoadRect) shapeCasts_S1x128x256_S128x256) (View.readAt (Elt Ideal) a12.view (Rect.unit (s := S1x1024) ![0, 512] S1x256.size inb_S1x1024_S1x256_0_512).toLoadRect (ha12.unread x11)) := rfl

theorem out_0_2_1 : (k0_pay265 (kernelRun0_C.sl.r_126 c a14 ha14 xs0) (kernelRun0_C.sl.r_174 c a11 ha11 a14 ha14 x10 xs0) (kernelRun0_C.sl.r_179 c a11 ha11 a14 ha14 a24 a25 ha25 x10 xs0 xs11) (kernelRun0_C.sl.r_180 c a14 ha14 xs0) (kernelRun0_C.sl.r_181 c a12 ha12 x11) : FVec Ideal S128x128 .bf16) = yStore1 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![18, 0, 0] S1x128x256.size inb_S32x128x256_S1x128x256_18_0_0).toLoadRect (ha14.unread xs0)) shapeCasts_S1x128x256_S128x256) (shapeCast S128x256 (View.readAt (Elt Ideal) a14.view (Rect.unit (s := S32x128x256) ![22, 0, 0] S1x128x256.size inb_S32x128x256_S1x128x256_22_0_0).toLoadRect (ha14.unread xs0)) shapeCasts_S1x128x256_S128x256) (shapeCast S128x256 (View.readAt (Elt Ideal) a14.view (Rect.unit (s := S32x128x256) ![26, 0, 0] S1x128x256.size inb_S32x128x256_S1x128x256_26_0_0).toLoadRect (ha14.unread xs0)) shapeCasts_S1x128x256_S128x256) (shapeCast S128x256 (View.readAt (Elt Ideal) a14.view (Rect.unit (s := S32x128x256) ![30, 0, 0] S1x128x256.size inb_S32x128x256_S1x128x256_30_0_0).toLoadRect (ha14.unread xs0)) shapeCasts_S1x128x256_S128x256) (shapeCast S128x256 (a24.view.readCov (kernelRun0_C.sl.HS10_3 (F := Ideal) c a11 ha11 a14 ha14 a24 x10 xs0) (Rect.unit (s := S4x128x256) ![2, 0, 0] S1x128x256.size inb_S4x128x256_S1x128x256_2_0_0).toLoadRect) shapeCasts_S1x128x256_S128x256) (View.readAt (Elt Ideal) a12.view (Rect.unit (s := S1x1024) ![0, 512] S1x256.size inb_S1x1024_S1x256_0_512).toLoadRect (ha12.unread x11)) := rfl

theorem state_0_3 : (k0_pay332 (kernelRun0_C.sl.r_186 c a14 ha14 xs0) (kernelRun0_C.sl.r_187 c a11 ha11 a14 ha14 x10 xs0) (kernelRun0_C.sl.r_225 c a11 ha11 a14 ha14 x10 xs0) (kernelRun0_C.sl.r_226 c a11 ha11 a14 ha14 x10 xs0) (kernelRun0_C.sl.v2251 c a11 ha11 a14 ha14 a24 x10 xs0) : Vec Ideal S1x128x256 .f32) = stStore (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (shapeCast S128x256 (View.readAt (Elt Ideal) a14.view (Rect.unit (s := S32x128x256) ![23, 0, 0] S1x128x256.size inb_S32x128x256_S1x128x256_23_0_0).toLoadRect (ha14.unread xs0)) shapeCasts_S1x128x256_S128x256) (shapeCast S128x256 (View.readAt (Elt Ideal) a14.view (Rect.unit (s := S32x128x256) ![27, 0, 0] S1x128x256.size inb_S32x128x256_S1x128x256_27_0_0).toLoadRect (ha14.unread xs0)) shapeCasts_S1x128x256_S128x256) (shapeCast S128x256 (a24.view.readCov (kernelRun0_C.sl.HS10_4 (F := Ideal) c a11 ha11 a14 ha14 a24 x10 xs0) (Rect.unit (s := S4x128x256) ![3, 0, 0] S1x128x256.size inb_S4x128x256_S1x128x256_3_0_0).toLoadRect) shapeCasts_S1x128x256_S128x256) := rfl

theorem out_0_3_0 : (k0_pay337 (kernelRun0_C.sl.r_186 c a14 ha14 xs0) (kernelRun0_C.sl.r_227 c a11 ha11 a14 ha14 x10 xs0) (kernelRun0_C.sl.r_228 c a11 ha11 a14 ha14 a24 a25 ha25 x10 xs0 xs11) (kernelRun0_C.sl.r_229 c a14 ha14 xs0) k0_pay334 (View.readAt (Elt Ideal) a12.view (Rect.unit (s := S1x1024) ![0, 768] S1x256.size inb_S1x1024_S1x256_0_768).toLoadRect (ha12.unread x11)) : FVec Ideal S128x128 .bf16) = yStore0 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![19, 0, 0] S1x128x256.size inb_S32x128x256_S1x128x256_19_0_0).toLoadRect (ha14.unread xs0)) shapeCasts_S1x128x256_S128x256) (shapeCast S128x256 (View.readAt (Elt Ideal) a14.view (Rect.unit (s := S32x128x256) ![23, 0, 0] S1x128x256.size inb_S32x128x256_S1x128x256_23_0_0).toLoadRect (ha14.unread xs0)) shapeCasts_S1x128x256_S128x256) (shapeCast S128x256 (View.readAt (Elt Ideal) a14.view (Rect.unit (s := S32x128x256) ![27, 0, 0] S1x128x256.size inb_S32x128x256_S1x128x256_27_0_0).toLoadRect (ha14.unread xs0)) shapeCasts_S1x128x256_S128x256) (shapeCast S128x256 (View.readAt (Elt Ideal) a14.view (Rect.unit (s := S32x128x256) ![31, 0, 0] S1x128x256.size inb_S32x128x256_S1x128x256_31_0_0).toLoadRect (ha14.unread xs0)) shapeCasts_S1x128x256_S128x256) (shapeCast S128x256 (a24.view.readCov (kernelRun0_C.sl.HS10_4 (F := Ideal) c a11 ha11 a14 ha14 a24 x10 xs0) (Rect.unit (s := S4x128x256) ![3, 0, 0] S1x128x256.size inb_S4x128x256_S1x128x256_3_0_0).toLoadRect) shapeCasts_S1x128x256_S128x256) (View.readAt (Elt Ideal) a12.view (Rect.unit (s := S1x1024) ![0, 768] S1x256.size inb_S1x1024_S1x256_0_768).toLoadRect (ha12.unread x11)) := rfl

theorem out_0_3_1 : (k0_pay341 (kernelRun0_C.sl.r_230 c a14 ha14 xs0) (kernelRun0_C.sl.r_231 c a12 ha12 x11) (kernelRun0_C.sl.r_232 c a11 ha11 a14 ha14 a24 a25 ha25 x10 xs0 xs11) (kernelRun0_C.sl.r_233 c a11 ha11 a14 ha14 a24 a25 ha25 x10 xs0 xs11) k0_pay340 : FVec Ideal S128x128 .bf16) = yStore1 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (View.readAt (Elt Ideal) a25.view (Rect.unit (s := S128x256) ![0, 0] S128x256.size inb_S128x256_S128x256_0_0).toLoadRect (ha25.unread xs11)) (shapeCast S128x256 (View.readAt (Elt Ideal) a14.view (Rect.unit (s := S32x128x256) ![19, 0, 0] S1x128x256.size inb_S32x128x256_S1x128x256_19_0_0).toLoadRect (ha14.unread xs0)) shapeCasts_S1x128x256_S128x256) (shapeCast S128x256 (View.readAt (Elt Ideal) a14.view (Rect.unit (s := S32x128x256) ![23, 0, 0] S1x128x256.size inb_S32x128x256_S1x128x256_23_0_0).toLoadRect (ha14.unread xs0)) shapeCasts_S1x128x256_S128x256) (shapeCast S128x256 (View.readAt (Elt Ideal) a14.view (Rect.unit (s := S32x128x256) ![27, 0, 0] S1x128x256.size inb_S32x128x256_S1x128x256_27_0_0).toLoadRect (ha14.unread xs0)) shapeCasts_S1x128x256_S128x256) (shapeCast S128x256 (View.readAt (Elt Ideal) a14.view (Rect.unit (s := S32x128x256) ![31, 0, 0] S1x128x256.size inb_S32x128x256_S1x128x256_31_0_0).toLoadRect (ha14.unread xs0)) shapeCasts_S1x128x256_S128x256) (shapeCast S128x256 (a24.view.readCov (kernelRun0_C.sl.HS10_4 (F := Ideal) c a11 ha11 a14 ha14 a24 x10 xs0) (Rect.unit (s := S4x128x256) ![3, 0, 0] S1x128x256.size inb_S4x128x256_S1x128x256_3_0_0).toLoadRect) shapeCasts_S1x128x256_S128x256) (View.readAt (Elt Ideal) a12.view (Rect.unit (s := S1x1024) ![0, 768] S1x256.size inb_S1x1024_S1x256_0_768).toLoadRect (ha12.unread x11)) := rfl

theorem state_1_0 : (k0_pay542 (kernelRun0_C.sl.r_322 c a5 ha5 a15 a19 ha19 x4 xs5) (kernelRun0_C.sl.r_323 c a5 ha5 a11 ha11 a15 a19 ha19 x4 x10 xs5) (kernelRun0_C.sl.r_362 c a5 ha5 a11 ha11 a15 a19 ha19 x4 x10 xs5) (kernelRun0_C.sl.r_363 c a5 ha5 a11 ha11 a15 a19 ha19 x4 x10 xs5) (kernelRun0_C.sl.v3536 c a11 ha11 a14 ha14 a24 x10 xs0) : Vec Ideal S1x128x256 .f32) = stStore (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (shapeCast S128x256 (a15.view.readCov (kernelRun0_C.sl.HS1_32 (F := Ideal) c a5 ha5 a19 ha19 x4 xs5) (Rect.unit (s := S32x128x256) ![20, 0, 0] S1x128x256.size inb_S32x128x256_S1x128x256_20_0_0).toLoadRect) shapeCasts_S1x128x256_S128x256) (shapeCast S128x256 (a15.view.readCov (kernelRun0_C.sl.HS1_32 (F := Ideal) c a5 ha5 a19 ha19 x4 xs5) (Rect.unit (s := S32x128x256) ![24, 0, 0] S1x128x256.size inb_S32x128x256_S1x128x256_24_0_0).toLoadRect) shapeCasts_S1x128x256_S128x256) (shapeCast S128x256 (a24.view.readCov (kernelRun0_C.sl.HS10_5 (F := Ideal) c a11 ha11 a14 ha14 a24 x10 xs0) (Rect.unit (s := S4x128x256) ![0, 0, 0] S1x128x256.size inb_S4x128x256_S1x128x256_0_0_0).toLoadRect) shapeCasts_S1x128x256_S128x256) := rfl

theorem out_1_0_0 : (k0_pay547 (kernelRun0_C.sl.r_322 c a5 ha5 a15 a19 ha19 x4 xs5) (kernelRun0_C.sl.r_364 c a5 ha5 a11 ha11 a15 a19 ha19 x4 x10 xs5) (kernelRun0_C.sl.r_365 c a5 ha5 a11 ha11 a14 ha14 a15 a19 ha19 a24 a25 ha25 x4 x10 xs0 xs5 xs11) (kernelRun0_C.sl.r_366 c a5 ha5 a15 a19 ha19 x4 xs5) (kernelRun0_C.sl.r_367 c a5 ha5 a15 a19 ha19 x4 xs5) kernelRun0_C.sl.cst_157 (View.readAt (Elt Ideal) a12.view (Rect.unit (s := S1x1024) ![0, 0] S1x256.size inb_S1x1024_S1x256_0_0).toLoadRect (ha12.unread x11)) : FVec Ideal S128x128 .bf16) = yStore0 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (View.readAt (Elt Ideal) a25.view (Rect.unit (s := S128x256) ![0, 0] S128x256.size inb_S128x256_S128x256_0_0).toLoadRect (ha25.unread xs11)) (shapeCast S128x256 (a15.view.readCov (kernelRun0_C.sl.HS1_32 (F := Ideal) c a5 ha5 a19 ha19 x4 xs5) (Rect.unit (s := S32x128x256) ![16, 0, 0] S1x128x256.size inb_S32x128x256_S1x128x256_16_0_0).toLoadRect) shapeCasts_S1x128x256_S128x256) (shapeCast S128x256 (a15.view.readCov (kernelRun0_C.sl.HS1_32 (F := Ideal) c a5 ha5 a19 ha19 x4 xs5) (Rect.unit (s := S32x128x256) ![20, 0, 0] S1x128x256.size inb_S32x128x256_S1x128x256_20_0_0).toLoadRect) shapeCasts_S1x128x256_S128x256) (shapeCast S128x256 (a15.view.readCov (kernelRun0_C.sl.HS1_32 (F := Ideal) c a5 ha5 a19 ha19 x4 xs5) (Rect.unit (s := S32x128x256) ![24, 0, 0] S1x128x256.size inb_S32x128x256_S1x128x256_24_0_0).toLoadRect) shapeCasts_S1x128x256_S128x256) (shapeCast S128x256 (a15.view.readCov (kernelRun0_C.sl.HS1_32 (F := Ideal) c a5 ha5 a19 ha19 x4 xs5) (Rect.unit (s := S32x128x256) ![28, 0, 0] S1x128x256.size inb_S32x128x256_S1x128x256_28_0_0).toLoadRect) shapeCasts_S1x128x256_S128x256) (shapeCast S128x256 (a24.view.readCov (kernelRun0_C.sl.HS10_5 (F := Ideal) c a11 ha11 a14 ha14 a24 x10 xs0) (Rect.unit (s := S4x128x256) ![0, 0, 0] S1x128x256.size inb_S4x128x256_S1x128x256_0_0_0).toLoadRect) shapeCasts_S1x128x256_S128x256) (View.readAt (Elt Ideal) a12.view (Rect.unit (s := S1x1024) ![0, 0] S1x256.size inb_S1x1024_S1x256_0_0).toLoadRect (ha12.unread x11)) := rfl

theorem out_1_0_1 : (k0_pay551 (kernelRun0_C.sl.r_368 c a5 ha5 a15 a19 ha19 x4 xs5) (kernelRun0_C.sl.r_369 c a12 ha12 x11) (kernelRun0_C.sl.r_370 c a5 ha5 a11 ha11 a14 ha14 a15 a19 ha19 a24 a25 ha25 x4 x10 xs0 xs5 xs11) (kernelRun0_C.sl.r_371 c a5 ha5 a11 ha11 a14 ha14 a15 a19 ha19 a24 a25 ha25 x4 x10 xs0 xs5 xs11) k0_pay550 : FVec Ideal S128x128 .bf16) = yStore1 (extractStridedSlice S1x256 ![0, 0] (lbAll (View.readAt (Elt Ideal) a11.view (Rect.unit (s := S2x1024) ![0, 0] S2x1024.size inb_S2x1024_S2x1024_0_0).toLoadRect (ha11.unread x10))) slices_S1x1024_o0_0_S1x256) (View.readAt (Elt Ideal) a25.view (Rect.unit (s := S128x256) ![0, 0] S128x256.size inb_S128x256_S128x256_0_0).toLoadRect (ha25.unread xs11)) (shapeCast S128x256 (a15.view.readCov (kernelRun0_C.sl.HS1_32 (F := Ideal) c a5 ha5 a19 ha19 x4 xs5) (Rect.unit (s := S32x128x256) ![16, 0, 0] S1x128x256.size inb_S32x128x256_S1x128x256_16_0_0).toLoadRect) shapeCasts_S1x128x256_S128x256) (shapeCast S128x256 (a15.view.readCov (kernelRun0_C.sl.HS1_32 (F := Ideal) c a5 ha5 a19 ha19 x4 xs5) (Rect.unit (s := S32x128x256) ![20, 0, 0] S1x128x256.size inb_S32x128x256_S1x128x256_20_0_0).toLoadRect) shapeCasts_S1x128x256_S128x256) (shapeCast S128x256 (a15.view.readCov (kernelRun0_C.sl.HS1_32 (F := Ideal) c a5 ha5 a19 ha19 x4 xs5) (Rect.unit (s := S32x128x256) ![24, 0, 0] S1x128x256.size inb_S32x128x256_S1x128x256_24_0_0).toLoadRect) shapeCasts_S1x128x256_S128x256) (shapeCast S128x256 (a15.view.readCov (kernelRun0_C.sl.HS1_32 (F := Ideal) c a5 ha5 a19 ha19 x4 xs5) (Rect.unit (s := S32x128x256) ![28, 0, 0] S1x128x256.size inb_S32x128x256_S1x128x256_28_0_0).toLoadRect) shapeCasts_S1x128x256_S128x256) (shapeCast S128x256 (a24.view.readCov (kernelRun0_C.sl.HS10_5 (F := Ideal) c a11 ha11 a14 ha14 a24 x10 xs0) (Rect.unit (s := S4x128x256) ![0, 0, 0] S1x128x256.size inb_S4x128x256_S1x128x256_0_0_0).toLoadRect) shapeCasts_S1x128x256_S128x256) (View.readAt (Elt Ideal) a12.view (Rect.unit (s := S1x1024) ![0, 0] S1x256.size inb_S1x1024_S1x256_0_0).toLoadRect (ha12.unread x11)) := rfl

theorem state_1_1 : (k0_pay622 (kernelRun0_C.sl.r_412 c a5 ha5 a11 ha11 a15 a19 ha19 x4 x10 xs5) (kernelRun0_C.sl.r_413 c a5 ha5 a11 ha11 a14 ha14 a15 a19 ha19 a24 x4 x10 xs0 xs5) (kernelRun0_C.sl.r_416 c a5 ha5 a11 ha11 a15 a19 ha19 x4 x10 xs5) (kernelRun0_C.sl.r_417 c a5 ha5 a15 a19 ha19 x4 xs5) (kernelRun0_C.sl.r_418 c a5 ha5 a11 ha11 a15 a19 ha19 x4 x10 xs5) : Vec Ideal S1x128x256 .f32) = stStore (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (shapeCast S128x256 (a15.view.readCov (kernelRun0_C.sl.HS1_32 (F := Ideal) c a5 ha5 a19 ha19 x4 xs5) (Rect.unit (s := S32x128x256) ![21, 0, 0] S1x128x256.size inb_S32x128x256_S1x128x256_21_0_0).toLoadRect) shapeCasts_S1x128x256_S128x256) (shapeCast S128x256 (a15.view.readCov (kernelRun0_C.sl.HS1_32 (F := Ideal) c a5 ha5 a19 ha19 x4 xs5) (Rect.unit (s := S32x128x256) ![25, 0, 0] S1x128x256.size inb_S32x128x256_S1x128x256_25_0_0).toLoadRect) shapeCasts_S1x128x256_S128x256) (shapeCast S128x256 (a24.view.readCov (kernelRun0_C.sl.HS10_6 (F := Ideal) c a5 ha5 a11 ha11 a14 ha14 a15 a19 ha19 a24 x4 x10 xs0 xs5) (Rect.unit (s := S4x128x256) ![1, 0, 0] S1x128x256.size inb_S4x128x256_S1x128x256_1_0_0).toLoadRect) shapeCasts_S1x128x256_S128x256) := rfl

theorem out_1_1_0 : (k0_pay626 (kernelRun0_C.sl.r_421 c a5 ha5 a11 ha11 a12 ha12 a14 ha14 a15 a19 ha19 a24 a25 ha25 x4 x10 x11 xs0 xs5 xs11) : FVec Ideal S128x128 .bf16) = yStore0 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (View.readAt (Elt Ideal) a25.view (Rect.unit (s := S128x256) ![0, 0] S128x256.size inb_S128x256_S128x256_0_0).toLoadRect (ha25.unread xs11)) (shapeCast S128x256 (a15.view.readCov (kernelRun0_C.sl.HS1_32 (F := Ideal) c a5 ha5 a19 ha19 x4 xs5) (Rect.unit (s := S32x128x256) ![17, 0, 0] S1x128x256.size inb_S32x128x256_S1x128x256_17_0_0).toLoadRect) shapeCasts_S1x128x256_S128x256) (shapeCast S128x256 (a15.view.readCov (kernelRun0_C.sl.HS1_32 (F := Ideal) c a5 ha5 a19 ha19 x4 xs5) (Rect.unit (s := S32x128x256) ![21, 0, 0] S1x128x256.size inb_S32x128x256_S1x128x256_21_0_0).toLoadRect) shapeCasts_S1x128x256_S128x256) (shapeCast S128x256 (a15.view.readCov (kernelRun0_C.sl.HS1_32 (F := Ideal) c a5 ha5 a19 ha19 x4 xs5) (Rect.unit (s := S32x128x256) ![25, 0, 0] S1x128x256.size inb_S32x128x256_S1x128x256_25_0_0).toLoadRect) shapeCasts_S1x128x256_S128x256) (shapeCast S128x256 (a15.view.readCov (kernelRun0_C.sl.HS1_32 (F := Ideal) c a5 ha5 a19 ha19 x4 xs5) (Rect.unit (s := S32x128x256) ![29, 0, 0] S1x128x256.size inb_S32x128x256_S1x128x256_29_0_0).toLoadRect) shapeCasts_S1x128x256_S128x256) (shapeCast S128x256 (a24.view.readCov (kernelRun0_C.sl.HS10_6 (F := Ideal) c a5 ha5 a11 ha11 a14 ha14 a15 a19 ha19 a24 x4 x10 xs0 xs5) (Rect.unit (s := S4x128x256) ![1, 0, 0] S1x128x256.size inb_S4x128x256_S1x128x256_1_0_0).toLoadRect) shapeCasts_S1x128x256_S128x256) (View.readAt (Elt Ideal) a12.view (Rect.unit (s := S1x1024) ![0, 256] S1x256.size inb_S1x1024_S1x256_0_256).toLoadRect (ha12.unread x11)) := rfl

theorem out_1_1_1 : (k0_pay627 (kernelRun0_C.sl.r_374 c a5 ha5 a15 a19 ha19 x4 xs5) (kernelRun0_C.sl.r_414 c a5 ha5 a11 ha11 a15 a19 ha19 x4 x10 xs5) (kernelRun0_C.sl.r_415 c a5 ha5 a11 ha11 a14 ha14 a15 a19 ha19 a24 a25 ha25 x4 x10 xs0 xs5 xs11) (kernelRun0_C.sl.r_419 c a5 ha5 a15 a19 ha19 x4 xs5) (kernelRun0_C.sl.r_420 c a12 ha12 x11) : FVec Ideal S128x128 .bf16) = yStore1 (extractStridedSlice S1x256 ![0, 256] (lbAll (View.readAt (Elt Ideal) a11.view (Rect.unit (s := S2x1024) ![0, 0] S2x1024.size inb_S2x1024_S2x1024_0_0).toLoadRect (ha11.unread x10))) slices_S1x1024_o0_256_S1x256) (View.readAt (Elt Ideal) a25.view (Rect.unit (s := S128x256) ![0, 0] S128x256.size inb_S128x256_S128x256_0_0).toLoadRect (ha25.unread xs11)) (shapeCast S128x256 (a15.view.readCov (kernelRun0_C.sl.HS1_32 (F := Ideal) c a5 ha5 a19 ha19 x4 xs5) (Rect.unit (s := S32x128x256) ![17, 0, 0] S1x128x256.size inb_S32x128x256_S1x128x256_17_0_0).toLoadRect) shapeCasts_S1x128x256_S128x256) (shapeCast S128x256 (a15.view.readCov (kernelRun0_C.sl.HS1_32 (F := Ideal) c a5 ha5 a19 ha19 x4 xs5) (Rect.unit (s := S32x128x256) ![21, 0, 0] S1x128x256.size inb_S32x128x256_S1x128x256_21_0_0).toLoadRect) shapeCasts_S1x128x256_S128x256) (shapeCast S128x256 (a15.view.readCov (kernelRun0_C.sl.HS1_32 (F := Ideal) c a5 ha5 a19 ha19 x4 xs5) (Rect.unit (s := S32x128x256) ![25, 0, 0] S1x128x256.size inb_S32x128x256_S1x128x256_25_0_0).toLoadRect) shapeCasts_S1x128x256_S128x256) (shapeCast S128x256 (a15.view.readCov (kernelRun0_C.sl.HS1_32 (F := Ideal) c a5 ha5 a19 ha19 x4 xs5) (Rect.unit (s := S32x128x256) ![29, 0, 0] S1x128x256.size inb_S32x128x256_S1x128x256_29_0_0).toLoadRect) shapeCasts_S1x128x256_S128x256) (shapeCast S128x256 (a24.view.readCov (kernelRun0_C.sl.HS10_6 (F := Ideal) c a5 ha5 a11 ha11 a14 ha14 a15 a19 ha19 a24 x4 x10 xs0 xs5) (Rect.unit (s := S4x128x256) ![1, 0, 0] S1x128x256.size inb_S4x128x256_S1x128x256_1_0_0).toLoadRect) shapeCasts_S1x128x256_S128x256) (View.readAt (Elt Ideal) a12.view (Rect.unit (s := S1x1024) ![0, 256] S1x256.size inb_S1x1024_S1x256_0_256).toLoadRect (ha12.unread x11)) := rfl

theorem state_1_2 : (k0_pay690 (kernelRun0_C.sl.r_463 c a5 ha5 a11 ha11 a14 ha14 a15 a19 ha19 a24 x4 x10 xs0 xs5) : Vec Ideal S1x128x256 .f32) = stStore (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (shapeCast S128x256 (a15.view.readCov (kernelRun0_C.sl.HS1_32 (F := Ideal) c a5 ha5 a19 ha19 x4 xs5) (Rect.unit (s := S32x128x256) ![22, 0, 0] S1x128x256.size inb_S32x128x256_S1x128x256_22_0_0).toLoadRect) shapeCasts_S1x128x256_S128x256) (shapeCast S128x256 (a15.view.readCov (kernelRun0_C.sl.HS1_32 (F := Ideal) c a5 ha5 a19 ha19 x4 xs5) (Rect.unit (s := S32x128x256) ![26, 0, 0] S1x128x256.size inb_S32x128x256_S1x128x256_26_0_0).toLoadRect) shapeCasts_S1x128x256_S128x256) (shapeCast S128x256 (a24.view.readCov (kernelRun0_C.sl.HS10_7 (F := Ideal) c a5 ha5 a11 ha11 a14 ha14 a15 a19 ha19 a24 x4 x10 xs0 xs5) (Rect.unit (s := S4x128x256) ![2, 0, 0] S1x128x256.size inb_S4x128x256_S1x128x256_2_0_0).toLoadRect) shapeCasts_S1x128x256_S128x256) := rfl

theorem out_1_2_0 : (k0_pay693 (kernelRun0_C.sl.r_424 c a5 ha5 a15 a19 ha19 x4 xs5) (kernelRun0_C.sl.r_461 c a5 ha5 a11 ha11 a15 a19 ha19 x4 x10 xs5) (kernelRun0_C.sl.r_462 c a5 ha5 a11 ha11 a14 ha14 a15 a19 ha19 a24 a25 ha25 x4 x10 xs0 xs5 xs11) (kernelRun0_C.sl.v4631 c a5 ha5 a15 a19 ha19 x4 xs5) (View.readAt (Elt Ideal) a12.view (Rect.unit (s := S1x1024) ![0, 512] S1x256.size inb_S1x1024_S1x256_0_512).toLoadRect (ha12.unread x11)) : FVec Ideal S128x128 .bf16) = yStore0 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (View.readAt (Elt Ideal) a25.view (Rect.unit (s := S128x256) ![0, 0] S128x256.size inb_S128x256_S128x256_0_0).toLoadRect (ha25.unread xs11)) (shapeCast S128x256 (a15.view.readCov (kernelRun0_C.sl.HS1_32 (F := Ideal) c a5 ha5 a19 ha19 x4 xs5) (Rect.unit (s := S32x128x256) ![18, 0, 0] S1x128x256.size inb_S32x128x256_S1x128x256_18_0_0).toLoadRect) shapeCasts_S1x128x256_S128x256) (shapeCast S128x256 (a15.view.readCov (kernelRun0_C.sl.HS1_32 (F := Ideal) c a5 ha5 a19 ha19 x4 xs5) (Rect.unit (s := S32x128x256) ![22, 0, 0] S1x128x256.size inb_S32x128x256_S1x128x256_22_0_0).toLoadRect) shapeCasts_S1x128x256_S128x256) (shapeCast S128x256 (a15.view.readCov (kernelRun0_C.sl.HS1_32 (F := Ideal) c a5 ha5 a19 ha19 x4 xs5) (Rect.unit (s := S32x128x256) ![26, 0, 0] S1x128x256.size inb_S32x128x256_S1x128x256_26_0_0).toLoadRect) shapeCasts_S1x128x256_S128x256) (shapeCast S128x256 (a15.view.readCov (kernelRun0_C.sl.HS1_32 (F := Ideal) c a5 ha5 a19 ha19 x4 xs5) (Rect.unit (s := S32x128x256) ![30, 0, 0] S1x128x256.size inb_S32x128x256_S1x128x256_30_0_0).toLoadRect) shapeCasts_S1x128x256_S128x256) (shapeCast S128x256 (a24.view.readCov (kernelRun0_C.sl.HS10_7 (F := Ideal) c a5 ha5 a11 ha11 a14 ha14 a15 a19 ha19 a24 x4 x10 xs0 xs5) (Rect.unit (s := S4x128x256) ![2, 0, 0] S1x128x256.size inb_S4x128x256_S1x128x256_2_0_0).toLoadRect) shapeCasts_S1x128x256_S128x256) (View.readAt (Elt Ideal) a12.view (Rect.unit (s := S1x1024) ![0, 512] S1x256.size inb_S1x1024_S1x256_0_512).toLoadRect (ha12.unread x11)) := rfl

theorem out_1_2_1 : (k0_pay696 (kernelRun0_C.sl.r_424 c a5 ha5 a15 a19 ha19 x4 xs5) (kernelRun0_C.sl.r_464 c a5 ha5 a15 a19 ha19 x4 xs5) (kernelRun0_C.sl.r_465 c a12 ha12 x11) (kernelRun0_C.sl.r_466 c a5 ha5 a11 ha11 a14 ha14 a15 a19 ha19 a24 a25 ha25 x4 x10 xs0 xs5 xs11) (kernelRun0_C.sl.r_467 c a5 ha5 a11 ha11 a15 a19 ha19 x4 x10 xs5) : FVec Ideal S128x128 .bf16) = yStore1 (extractStridedSlice S1x256 ![0, 512] (lbAll (View.readAt (Elt Ideal) a11.view (Rect.unit (s := S2x1024) ![0, 0] S2x1024.size inb_S2x1024_S2x1024_0_0).toLoadRect (ha11.unread x10))) slices_S1x1024_o0_512_S1x256) (View.readAt (Elt Ideal) a25.view (Rect.unit (s := S128x256) ![0, 0] S128x256.size inb_S128x256_S128x256_0_0).toLoadRect (ha25.unread xs11)) (shapeCast S128x256 (a15.view.readCov (kernelRun0_C.sl.HS1_32 (F := Ideal) c a5 ha5 a19 ha19 x4 xs5) (Rect.unit (s := S32x128x256) ![18, 0, 0] S1x128x256.size inb_S32x128x256_S1x128x256_18_0_0).toLoadRect) shapeCasts_S1x128x256_S128x256) (shapeCast S128x256 (a15.view.readCov (kernelRun0_C.sl.HS1_32 (F := Ideal) c a5 ha5 a19 ha19 x4 xs5) (Rect.unit (s := S32x128x256) ![22, 0, 0] S1x128x256.size inb_S32x128x256_S1x128x256_22_0_0).toLoadRect) shapeCasts_S1x128x256_S128x256) (shapeCast S128x256 (a15.view.readCov (kernelRun0_C.sl.HS1_32 (F := Ideal) c a5 ha5 a19 ha19 x4 xs5) (Rect.unit (s := S32x128x256) ![26, 0, 0] S1x128x256.size inb_S32x128x256_S1x128x256_26_0_0).toLoadRect) shapeCasts_S1x128x256_S128x256) (shapeCast S128x256 (a15.view.readCov (kernelRun0_C.sl.HS1_32 (F := Ideal) c a5 ha5 a19 ha19 x4 xs5) (Rect.unit (s := S32x128x256) ![30, 0, 0] S1x128x256.size inb_S32x128x256_S1x128x256_30_0_0).toLoadRect) shapeCasts_S1x128x256_S128x256) (shapeCast S128x256 (a24.view.readCov (kernelRun0_C.sl.HS10_7 (F := Ideal) c a5 ha5 a11 ha11 a14 ha14 a15 a19 ha19 a24 x4 x10 xs0 xs5) (Rect.unit (s := S4x128x256) ![2, 0, 0] S1x128x256.size inb_S4x128x256_S1x128x256_2_0_0).toLoadRect) shapeCasts_S1x128x256_S128x256) (View.readAt (Elt Ideal) a12.view (Rect.unit (s := S1x1024) ![0, 512] S1x256.size inb_S1x1024_S1x256_0_512).toLoadRect (ha12.unread x11)) := rfl

theorem state_1_3 : (k0_pay765 (kernelRun0_C.sl.r_474 c a5 ha5 a11 ha11 a15 a19 ha19 x4 x10 xs5) (kernelRun0_C.sl.r_512 c a5 ha5 a11 ha11 a15 a19 ha19 x4 x10 xs5) (kernelRun0_C.sl.r_513 c a5 ha5 a11 ha11 a15 a19 ha19 x4 x10 xs5) (kernelRun0_C.sl.r_514 c a5 ha5 a11 ha11 a14 ha14 a15 a19 ha19 a24 x4 x10 xs0 xs5) (kernelRun0_C.sl.r_515 c a5 ha5 a15 a19 ha19 x4 xs5) : Vec Ideal S1x128x256 .f32) = stStore (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (shapeCast S128x256 (a15.view.readCov (kernelRun0_C.sl.HS1_32 (F := Ideal) c a5 ha5 a19 ha19 x4 xs5) (Rect.unit (s := S32x128x256) ![23, 0, 0] S1x128x256.size inb_S32x128x256_S1x128x256_23_0_0).toLoadRect) shapeCasts_S1x128x256_S128x256) (shapeCast S128x256 (a15.view.readCov (kernelRun0_C.sl.HS1_32 (F := Ideal) c a5 ha5 a19 ha19 x4 xs5) (Rect.unit (s := S32x128x256) ![27, 0, 0] S1x128x256.size inb_S32x128x256_S1x128x256_27_0_0).toLoadRect) shapeCasts_S1x128x256_S128x256) (shapeCast S128x256 (a24.view.readCov (kernelRun0_C.sl.HS10_8 (F := Ideal) c a5 ha5 a11 ha11 a14 ha14 a15 a19 ha19 a24 x4 x10 xs0 xs5) (Rect.unit (s := S4x128x256) ![3, 0, 0] S1x128x256.size inb_S4x128x256_S1x128x256_3_0_0).toLoadRect) shapeCasts_S1x128x256_S128x256) := rfl

theorem out_1_3_0 : (k0_pay770 (kernelRun0_C.sl.r_522 c a5 ha5 a15 a19 ha19 x4 xs5) (kernelRun0_C.sl.r_523 c a12 ha12 x11) (kernelRun0_C.sl.r_524 c a5 ha5 a11 ha11 a14 ha14 a15 a19 ha19 a24 a25 ha25 x4 x10 xs0 xs5 xs11) (kernelRun0_C.sl.r_525 c a5 ha5 a11 ha11 a14 ha14 a15 a19 ha19 a24 a25 ha25 x4 x10 xs0 xs5 xs11) : FVec Ideal S128x128 .bf16) = yStore0 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (View.readAt (Elt Ideal) a25.view (Rect.unit (s := S128x256) ![0, 0] S128x256.size inb_S128x256_S128x256_0_0).toLoadRect (ha25.unread xs11)) (shapeCast S128x256 (a15.view.readCov (kernelRun0_C.sl.HS1_32 (F := Ideal) c a5 ha5 a19 ha19 x4 xs5) (Rect.unit (s := S32x128x256) ![19, 0, 0] S1x128x256.size inb_S32x128x256_S1x128x256_19_0_0).toLoadRect) shapeCasts_S1x128x256_S128x256) (shapeCast S128x256 (a15.view.readCov (kernelRun0_C.sl.HS1_32 (F := Ideal) c a5 ha5 a19 ha19 x4 xs5) (Rect.unit (s := S32x128x256) ![23, 0, 0] S1x128x256.size inb_S32x128x256_S1x128x256_23_0_0).toLoadRect) shapeCasts_S1x128x256_S128x256) (shapeCast S128x256 (a15.view.readCov (kernelRun0_C.sl.HS1_32 (F := Ideal) c a5 ha5 a19 ha19 x4 xs5) (Rect.unit (s := S32x128x256) ![27, 0, 0] S1x128x256.size inb_S32x128x256_S1x128x256_27_0_0).toLoadRect) shapeCasts_S1x128x256_S128x256) (shapeCast S128x256 (a15.view.readCov (kernelRun0_C.sl.HS1_32 (F := Ideal) c a5 ha5 a19 ha19 x4 xs5) (Rect.unit (s := S32x128x256) ![31, 0, 0] S1x128x256.size inb_S32x128x256_S1x128x256_31_0_0).toLoadRect) shapeCasts_S1x128x256_S128x256) (shapeCast S128x256 (a24.view.readCov (kernelRun0_C.sl.HS10_8 (F := Ideal) c a5 ha5 a11 ha11 a14 ha14 a15 a19 ha19 a24 x4 x10 xs0 xs5) (Rect.unit (s := S4x128x256) ![3, 0, 0] S1x128x256.size inb_S4x128x256_S1x128x256_3_0_0).toLoadRect) shapeCasts_S1x128x256_S128x256) (View.readAt (Elt Ideal) a12.view (Rect.unit (s := S1x1024) ![0, 768] S1x256.size inb_S1x1024_S1x256_0_768).toLoadRect (ha12.unread x11)) := rfl

theorem out_1_3_1 : (k0_pay771 (kernelRun0_C.sl.r_470 c a5 ha5 a15 a19 ha19 x4 xs5) (kernelRun0_C.sl.r_516 c a5 ha5 a11 ha11 a15 a19 ha19 x4 x10 xs5) (kernelRun0_C.sl.r_521 c a5 ha5 a11 ha11 a14 ha14 a15 a19 ha19 a24 a25 ha25 x4 x10 xs0 xs5 xs11) (kernelRun0_C.sl.r_522 c a5 ha5 a15 a19 ha19 x4 xs5) (kernelRun0_C.sl.r_523 c a12 ha12 x11) : FVec Ideal S128x128 .bf16) = yStore1 (extractStridedSlice S1x256 ![0, 768] (lbAll (View.readAt (Elt Ideal) a11.view (Rect.unit (s := S2x1024) ![0, 0] S2x1024.size inb_S2x1024_S2x1024_0_0).toLoadRect (ha11.unread x10))) slices_S1x1024_o0_768_S1x256) (View.readAt (Elt Ideal) a25.view (Rect.unit (s := S128x256) ![0, 0] S128x256.size inb_S128x256_S128x256_0_0).toLoadRect (ha25.unread xs11)) (shapeCast S128x256 (a15.view.readCov (kernelRun0_C.sl.HS1_32 (F := Ideal) c a5 ha5 a19 ha19 x4 xs5) (Rect.unit (s := S32x128x256) ![19, 0, 0] S1x128x256.size inb_S32x128x256_S1x128x256_19_0_0).toLoadRect) shapeCasts_S1x128x256_S128x256) (shapeCast S128x256 (a15.view.readCov (kernelRun0_C.sl.HS1_32 (F := Ideal) c a5 ha5 a19 ha19 x4 xs5) (Rect.unit (s := S32x128x256) ![23, 0, 0] S1x128x256.size inb_S32x128x256_S1x128x256_23_0_0).toLoadRect) shapeCasts_S1x128x256_S128x256) (shapeCast S128x256 (a15.view.readCov (kernelRun0_C.sl.HS1_32 (F := Ideal) c a5 ha5 a19 ha19 x4 xs5) (Rect.unit (s := S32x128x256) ![27, 0, 0] S1x128x256.size inb_S32x128x256_S1x128x256_27_0_0).toLoadRect) shapeCasts_S1x128x256_S128x256) (shapeCast S128x256 (a15.view.readCov (kernelRun0_C.sl.HS1_32 (F := Ideal) c a5 ha5 a19 ha19 x4 xs5) (Rect.unit (s := S32x128x256) ![31, 0, 0] S1x128x256.size inb_S32x128x256_S1x128x256_31_0_0).toLoadRect) shapeCasts_S1x128x256_S128x256) (shapeCast S128x256 (a24.view.readCov (kernelRun0_C.sl.HS10_8 (F := Ideal) c a5 ha5 a11 ha11 a14 ha14 a15 a19 ha19 a24 x4 x10 xs0 xs5) (Rect.unit (s := S4x128x256) ![3, 0, 0] S1x128x256.size inb_S4x128x256_S1x128x256_3_0_0).toLoadRect) shapeCasts_S1x128x256_S128x256) (View.readAt (Elt Ideal) a12.view (Rect.unit (s := S1x1024) ![0, 768] S1x256.size inb_S1x1024_S1x256_0_768).toLoadRect (ha12.unread x11)) := rfl

end Cert.BridgeC
-- ==== Proof.MemC.lean ====
/- What a point of case C of the grid leaves in the scratch buffers it carries, and the columns of the output its gated
   heads store, over what it loads. -/
module

public import proofs.«01_k».proof.Proof.BridgeC
public import proofs.«01_k».proof.Proof.Tiles
public import proofs.«01_k».proof.Proof.Gen.KernelIdeal.Frame
public import proofs.«01_k».proof.Proof.Gen.KernelIdeal.Frame.RunC

@[expose] public section

set_option maxRecDepth 16384

noncomputable section

namespace Cert.MemC

open Idealize.ShloMosaic Idealize.ShloMosaic.ValueIdx Cert.Tiles Idealize.SL.Sem Cert.KernelIdeal Cert.KernelIdeal.Gen Cert.Pair

variable (c : Dev nD) (i : grid0.Coords)
  (a1 : Memref sig .tc .vmem S256x2048 .f32) (ha1 : a1.IsWhole)
  (a2 : Memref sig .tc .vmem S128x2048 .f32) (ha2 : a2.IsWhole)
  (a3 : Memref sig .tc .vmem S128x2048 .f32) (ha3 : a3.IsWhole)
  (a4 : Memref sig .tc .vmem S1x2048 .f32) (ha4 : a4.IsWhole)
  (a5 : Memref sig .tc .vmem S32x2048x256 .bf16) (ha5 : a5.IsWhole)
  (a6 : Memref sig .tc .vmem S16x2048 .bf16) (ha6 : a6.IsWhole)
  (a7 : Memref sig .tc .vmem S4x1024 .f32) (ha7 : a7.IsWhole)
  (a8 : Memref sig .tc .vmem S1x1024 .f32) (ha8 : a8.IsWhole)
  (a9 : Memref sig .tc .vmem S16x128 .f32) (ha9 : a9.IsWhole)
  (a10 : Memref sig .tc .vmem S1x1024 .f32) (ha10 : a10.IsWhole)
  (a11 : Memref sig .tc .vmem S2x1024 .f32) (ha11 : a11.IsWhole)
  (a12 : Memref sig .tc .vmem S1x1024 .f32) (ha12 : a12.IsWhole)
  (a13 : Memref sig .tc .vmem S256x2048 .bf16) (ha13 : a13.IsWhole)
  (a14 : Memref sig .tc .vmem S32x128x256 .f32) (ha14 : a14.IsWhole)
  (a15 : Memref sig .tc .vmem S32x128x256 .f32) (ha15 : a15.IsWhole)
  (a16 : Memref sig .tc .vmem S16x128 .f32) (ha16 : a16.IsWhole)
  (a17 : Memref sig .tc .vmem S16x128 .f32) (ha17 : a17.IsWhole)
  (a18 : Memref sig .tc .vmem S128x2048 .bf16) (ha18 : a18.IsWhole)
  (a19 : Memref sig .tc .vmem S128x2048 .bf16) (ha19 : a19.IsWhole)
  (a20 : Memref sig .tc .vmem S8x1024 .f32) (ha20 : a20.IsWhole)
  (a21 : Memref sig .tc .vmem S4x128x256 .f32) (ha21 : a21.IsWhole)
  (a22 : Memref sig .tc .vmem S4x8x128 .f32) (ha22 : a22.IsWhole)
  (a23 : Memref sig .tc .vmem S8x128 .f32) (ha23 : a23.IsWhole)
  (a24 : Memref sig .tc .vmem S4x128x256 .f32) (ha24 : a24.IsWhole)
  (a25 : Memref sig .tc .vmem S128x256 .i32) (ha25 : a25.IsWhole)
  (x0 : Vec Ideal S256x2048 .f32)
  (x1 : Vec Ideal S128x2048 .f32)
  (x2 : Vec Ideal S128x2048 .f32)
  (x3 : Vec Ideal S1x2048 .f32)
  (x4 : Vec Ideal S32x2048x256 .bf16)
  (x5 : Vec Ideal S16x2048 .bf16)
  (x6 : Vec Ideal S4x1024 .f32)
  (x7 : Vec Ideal S1x1024 .f32)
  (x8 : Vec Ideal S16x128 .f32)
  (x9 : Vec Ideal S1x1024 .f32)
  (x10 : Vec Ideal S2x1024 .f32)
  (x11 : Vec Ideal S1x1024 .f32)
  (xs0 : Vec Ideal S32x128x256 .f32)
  (xs2 : Vec Ideal S16x128 .f32)
  (xs5 : Vec Ideal S128x2048 .bf16)
  (xs6 : Vec Ideal S8x1024 .f32)
  (xs7 : Vec Ideal S4x128x256 .f32)
  (xs8 : Vec Ideal S4x8x128 .f32)
  (xs9 : Vec Ideal S8x128 .f32)
  (xs10 : Vec Ideal S4x128x256 .f32)
  (xs11 : Vec Ideal S128x256 .i32)
  (hc0 : ¬cond0_0 i) (hc1 : cond0_1 i)

theorem wEq : (fun k => View.readAt (Elt Ideal) a5.view (wRect k).toLoadRect (ha5.unread x4)) = wtile x4 := rd_w a5 ha5 x4

theorem u1Eq : (View.readAt (Elt Ideal) a19.view (Rect.unit (s := S128x2048) ![0, 0] S128x2048.size inb_S128x2048_S128x2048_0_0).toLoadRect (ha19.unread xs5)) = xs5 := rd_all a19 ha19 xs5 o2 _

theorem u2Eq : (a18.view.readCov (kernelRun0_C.sl.HS4_1 (F := Ideal) c a2 ha2 a4 ha4 x1 x3) (Rect.unit (s := S128x2048) ![0, 0] S128x2048.size inb_S128x2048_S128x2048_0_0).toLoadRect) = unorm x1 x3 := by
  refine (View.readCov_unit_zero (Val := Elt Ideal) a18.view o2 inb_S128x2048_S128x2048_0_0 (unorm (View.readAt (Elt Ideal) a2.view (Rect.unit (s := S128x2048) ![0, 0] S128x2048.size inb_S128x2048_S128x2048_0_0).toLoadRect (ha2.unread x1)) (View.readAt (Elt Ideal) a4.view (Rect.unit (s := S1x2048) ![0, 0] S1x2048.size inb_S1x2048_S1x2048_0_0).toLoadRect (ha4.unread x3)))).trans ?_
  rw [rd_all a2 ha2 x1 o2, rd_all a4 ha4 x3 o2]

theorem p1Eq (k : Fin 32) : a15.view.readCov (kernelRun0_C.sl.HS1_32 (F := Ideal) c a5 ha5 a19 ha19 x4 xs5) (tileRect k).toLoadRect = (projT xs5 (wtile x4)) k := by
  have h : (kernelRun0_C.sl.HS1_32 (F := Ideal) c a5 ha5 a19 ha19 x4 xs5) = tl (projT (View.readAt (Elt Ideal) a19.view (Rect.unit (s := S128x2048) ![0, 0] S128x2048.size inb_S128x2048_S128x2048_0_0).toLoadRect (ha19.unread xs5)) (fun k => View.readAt (Elt Ideal) a5.view (wRect k).toLoadRect (ha5.unread x4))) := rfl
  rw [h, tl_read, wEq, u1Eq]

theorem p0Eq (k : Fin 32) : View.readAt (Elt Ideal) a14.view (tileRect k).toLoadRect (ha14.unread xs0) = (tile xs0) k := congrFun (rd_tile a14 ha14 xs0) k

theorem hgEq : View.readAt (Elt Ideal) a11.view (Rect.unit (s := S2x1024) ![0, 0] S2x1024.size inb_S2x1024_S2x1024_0_0).toLoadRect (ha11.unread x10) = x10 := rd_all a11 ha11 x10 o2 _

theorem nwEq_0 : (View.readAt (Elt Ideal) a12.view (Rect.unit (s := S1x1024) ![0, 0] S1x256.size inb_S1x1024_S1x256_0_0).toLoadRect (ha12.unread x11)) = nwt x11 0 := congrFun (rd_nw x11 a12 ha12) 0

theorem nwEq_1 : (View.readAt (Elt Ideal) a12.view (Rect.unit (s := S1x1024) ![0, 256] S1x256.size inb_S1x1024_S1x256_0_256).toLoadRect (ha12.unread x11)) = nwt x11 1 := congrFun (rd_nw x11 a12 ha12) 1

theorem nwEq_2 : (View.readAt (Elt Ideal) a12.view (Rect.unit (s := S1x1024) ![0, 512] S1x256.size inb_S1x1024_S1x256_0_512).toLoadRect (ha12.unread x11)) = nwt x11 2 := congrFun (rd_nw x11 a12 ha12) 2

theorem nwEq_3 : (View.readAt (Elt Ideal) a12.view (Rect.unit (s := S1x1024) ![0, 768] S1x256.size inb_S1x1024_S1x256_0_768).toLoadRect (ha12.unread x11)) = nwt x11 3 := congrFun (rd_nw x11 a12 ha12) 3

theorem lvEq : (View.readAt (Elt Ideal) a25.view (Rect.unit (s := S128x256) ![0, 0] S128x256.size inb_S128x256_S128x256_0_0).toLoadRect (ha25.unread xs11)) = xs11 := rd_all a25 ha25 xs11 o2 _

theorem ld_0_0 : (a24.view.readCov (kernelRun0_C.sl.HS10_1 (F := Ideal) ) (Rect.unit (s := S4x128x256) ![0, 0, 0] S1x128x256.size inb_S4x128x256_S1x128x256_0_0_0).toLoadRect) = (stile (k0_pay13 (F := Ideal))) 0 :=
  st_zero a24.view 0 _ _

theorem st_0_0 : (k0_pay108 (kernelRun0_C.sl.r_57 c a11 ha11 a14 ha14 x10 xs0) (kernelRun0_C.sl.r_58 c a24) (kernelRun0_C.sl.r_61 c a11 ha11 a14 ha14 x10 xs0) (kernelRun0_C.sl.r_62 c a11 ha11 a14 ha14 x10 xs0) (kernelRun0_C.sl.r_63 c a14 ha14 xs0) : Vec Ideal S1x128x256 .f32) = stepSt x10 (tile xs0) (stile (k0_pay13 (F := Ideal))) 0 :=
  (Cert.BridgeC.state_0_0 c a11 ha11 a14 ha14 a24 x10 xs0).trans (stStep_eq x10 (tile xs0) (stile (k0_pay13 (F := Ideal))) 0 _ _ _ _ (hgEq a11 ha11 x10) (p0Eq a14 ha14 xs0 (tq 20 0)) (p0Eq a14 ha14 xs0 (tq 24 0)) (ld_0_0 a24))

theorem y_0_0_0 : (k0_pay113 (kernelRun0_C.sl.r_66 c a11 ha11 a12 ha12 a14 ha14 a24 a25 ha25 x10 x11 xs0 xs11) (kernelRun0_C.sl.r_67 c a14 ha14 xs0) : FVec Ideal S128x128 .bf16) = stepY x10 xs11 (tile xs0) (stile (k0_pay13 (F := Ideal))) (nwt x11 0) 0 0 :=
  (Cert.BridgeC.out_0_0_0 c a11 ha11 a12 ha12 a14 ha14 a24 a25 ha25 x10 x11 xs0 xs11).trans (y0_eq x10 xs11 (tile xs0) (stile (k0_pay13 (F := Ideal))) (nwt x11 0) 0 _ _ _ _ _ _ _ _ (hgEq a11 ha11 x10) (lvEq a25 ha25 xs11) (p0Eq a14 ha14 xs0 (tq 16 0)) (p0Eq a14 ha14 xs0 (tq 20 0)) (p0Eq a14 ha14 xs0 (tq 24 0)) (p0Eq a14 ha14 xs0 (tq 28 0)) (ld_0_0 a24) (nwEq_0 a12 ha12 x11))

theorem y_0_0_1 : (k0_pay114 (kernelRun0_C.sl.r_20 c a14 ha14 xs0) (kernelRun0_C.sl.r_59 c a11 ha11 a14 ha14 x10 xs0) (kernelRun0_C.sl.r_60 c a11 ha11 a14 ha14 a24 a25 ha25 x10 xs0 xs11) (kernelRun0_C.sl.r_64 c a14 ha14 xs0) (kernelRun0_C.sl.r_65 c a12 ha12 x11) : FVec Ideal S128x128 .bf16) = stepY x10 xs11 (tile xs0) (stile (k0_pay13 (F := Ideal))) (nwt x11 0) 0 1 :=
  (Cert.BridgeC.out_0_0_1 c a11 ha11 a12 ha12 a14 ha14 a24 a25 ha25 x10 x11 xs0 xs11).trans (y1_eq x10 xs11 (tile xs0) (stile (k0_pay13 (F := Ideal))) (nwt x11 0) 0 _ _ _ _ _ _ _ _ (hgEq a11 ha11 x10) (lvEq a25 ha25 xs11) (p0Eq a14 ha14 xs0 (tq 16 0)) (p0Eq a14 ha14 xs0 (tq 20 0)) (p0Eq a14 ha14 xs0 (tq 24 0)) (p0Eq a14 ha14 xs0 (tq 28 0)) (ld_0_0 a24) (nwEq_0 a12 ha12 x11))

theorem ld_0_1 : (a24.view.readCov (kernelRun0_C.sl.HS10_2 (F := Ideal) c a11 ha11 a14 ha14 a24 x10 xs0) (Rect.unit (s := S4x128x256) ![1, 0, 0] S1x128x256.size inb_S4x128x256_S1x128x256_1_0_0).toLoadRect) = (stile (k0_pay13 (F := Ideal))) 1 :=
  (st_skip a24.view 1 0 (by decide) _ _).trans (st_zero a24.view 1 _ _)

theorem st_0_1 : (k0_pay181 (kernelRun0_C.sl.r_74 c a11 ha11 a14 ha14 x10 xs0) (kernelRun0_C.sl.r_112 c a11 ha11 a14 ha14 x10 xs0) (kernelRun0_C.sl.r_113 c a11 ha11 a14 ha14 x10 xs0) (kernelRun0_C.sl.r_114 c a11 ha11 a14 ha14 a24 x10 xs0) (kernelRun0_C.sl.r_115 c a14 ha14 xs0) : Vec Ideal S1x128x256 .f32) = stepSt x10 (tile xs0) (stile (k0_pay13 (F := Ideal))) 1 :=
  (Cert.BridgeC.state_0_1 c a11 ha11 a14 ha14 a24 x10 xs0).trans (stStep_eq x10 (tile xs0) (stile (k0_pay13 (F := Ideal))) 1 _ _ _ _ (hgEq a11 ha11 x10) (p0Eq a14 ha14 xs0 (tq 20 1)) (p0Eq a14 ha14 xs0 (tq 24 1)) (ld_0_1 c a11 ha11 a14 ha14 a24 x10 xs0))

theorem y_0_1_0 : (k0_pay186 (kernelRun0_C.sl.r_70 c a14 ha14 xs0) (kernelRun0_C.sl.r_119 c a14 ha14 xs0) (kernelRun0_C.sl.r_120 c a12 ha12 x11) (kernelRun0_C.sl.r_121 c a11 ha11 a14 ha14 a24 a25 ha25 x10 xs0 xs11) (kernelRun0_C.sl.r_122 c a11 ha11 a14 ha14 x10 xs0) : FVec Ideal S128x128 .bf16) = stepY x10 xs11 (tile xs0) (stile (k0_pay13 (F := Ideal))) (nwt x11 1) 1 0 :=
  (Cert.BridgeC.out_0_1_0 c a11 ha11 a12 ha12 a14 ha14 a24 a25 ha25 x10 x11 xs0 xs11).trans (y0_eq x10 xs11 (tile xs0) (stile (k0_pay13 (F := Ideal))) (nwt x11 1) 1 _ _ _ _ _ _ _ _ (hgEq a11 ha11 x10) (lvEq a25 ha25 xs11) (p0Eq a14 ha14 xs0 (tq 16 1)) (p0Eq a14 ha14 xs0 (tq 20 1)) (p0Eq a14 ha14 xs0 (tq 24 1)) (p0Eq a14 ha14 xs0 (tq 28 1)) (ld_0_1 c a11 ha11 a14 ha14 a24 x10 xs0) (nwEq_1 a12 ha12 x11))

theorem y_0_1_1 : (kernelRun0_C.sl.r_123 c a11 ha11 a12 ha12 a14 ha14 a24 a25 ha25 x10 x11 xs0 xs11 : FVec Ideal S128x128 .bf16) = stepY x10 xs11 (tile xs0) (stile (k0_pay13 (F := Ideal))) (nwt x11 1) 1 1 :=
  (Cert.BridgeC.out_0_1_1 c a11 ha11 a12 ha12 a14 ha14 a24 a25 ha25 x10 x11 xs0 xs11).trans (y1_eq x10 xs11 (tile xs0) (stile (k0_pay13 (F := Ideal))) (nwt x11 1) 1 _ _ _ _ _ _ _ _ (hgEq a11 ha11 x10) (lvEq a25 ha25 xs11) (p0Eq a14 ha14 xs0 (tq 16 1)) (p0Eq a14 ha14 xs0 (tq 20 1)) (p0Eq a14 ha14 xs0 (tq 24 1)) (p0Eq a14 ha14 xs0 (tq 28 1)) (ld_0_1 c a11 ha11 a14 ha14 a24 x10 xs0) (nwEq_1 a12 ha12 x11))

theorem ld_0_2 : (a24.view.readCov (kernelRun0_C.sl.HS10_3 (F := Ideal) c a11 ha11 a14 ha14 a24 x10 xs0) (Rect.unit (s := S4x128x256) ![2, 0, 0] S1x128x256.size inb_S4x128x256_S1x128x256_2_0_0).toLoadRect) = (stile (k0_pay13 (F := Ideal))) 2 :=
  (st_skip a24.view 2 1 (by decide) _ _).trans ((st_skip a24.view 2 0 (by decide) _ _).trans (st_zero a24.view 2 _ _))

theorem st_0_2 : (k0_pay259 (kernelRun0_C.sl.r_130 c a11 ha11 a14 ha14 x10 xs0) (kernelRun0_C.sl.r_170 c a11 ha11 a14 ha14 x10 xs0) (kernelRun0_C.sl.r_171 c a11 ha11 a14 ha14 x10 xs0) (kernelRun0_C.sl.r_172 c a11 ha11 a14 ha14 a24 x10 xs0) (kernelRun0_C.sl.r_173 c a14 ha14 xs0) : Vec Ideal S1x128x256 .f32) = stepSt x10 (tile xs0) (stile (k0_pay13 (F := Ideal))) 2 :=
  (Cert.BridgeC.state_0_2 c a11 ha11 a14 ha14 a24 x10 xs0).trans (stStep_eq x10 (tile xs0) (stile (k0_pay13 (F := Ideal))) 2 _ _ _ _ (hgEq a11 ha11 x10) (p0Eq a14 ha14 xs0 (tq 20 2)) (p0Eq a14 ha14 xs0 (tq 24 2)) (ld_0_2 c a11 ha11 a14 ha14 a24 x10 xs0))

theorem y_0_2_0 : (k0_pay264 (kernelRun0_C.sl.r_180 c a14 ha14 xs0) (kernelRun0_C.sl.r_181 c a12 ha12 x11) (kernelRun0_C.sl.r_182 c a11 ha11 a14 ha14 a24 a25 ha25 x10 xs0 xs11) (kernelRun0_C.sl.r_183 c a11 ha11 a14 ha14 a24 a25 ha25 x10 xs0 xs11) : FVec Ideal S128x128 .bf16) = stepY x10 xs11 (tile xs0) (stile (k0_pay13 (F := Ideal))) (nwt x11 2) 2 0 :=
  (Cert.BridgeC.out_0_2_0 c a11 ha11 a12 ha12 a14 ha14 a24 a25 ha25 x10 x11 xs0 xs11).trans (y0_eq x10 xs11 (tile xs0) (stile (k0_pay13 (F := Ideal))) (nwt x11 2) 2 _ _ _ _ _ _ _ _ (hgEq a11 ha11 x10) (lvEq a25 ha25 xs11) (p0Eq a14 ha14 xs0 (tq 16 2)) (p0Eq a14 ha14 xs0 (tq 20 2)) (p0Eq a14 ha14 xs0 (tq 24 2)) (p0Eq a14 ha14 xs0 (tq 28 2)) (ld_0_2 c a11 ha11 a14 ha14 a24 x10 xs0) (nwEq_2 a12 ha12 x11))

theorem y_0_2_1 : (k0_pay265 (kernelRun0_C.sl.r_126 c a14 ha14 xs0) (kernelRun0_C.sl.r_174 c a11 ha11 a14 ha14 x10 xs0) (kernelRun0_C.sl.r_179 c a11 ha11 a14 ha14 a24 a25 ha25 x10 xs0 xs11) (kernelRun0_C.sl.r_180 c a14 ha14 xs0) (kernelRun0_C.sl.r_181 c a12 ha12 x11) : FVec Ideal S128x128 .bf16) = stepY x10 xs11 (tile xs0) (stile (k0_pay13 (F := Ideal))) (nwt x11 2) 2 1 :=
  (Cert.BridgeC.out_0_2_1 c a11 ha11 a12 ha12 a14 ha14 a24 a25 ha25 x10 x11 xs0 xs11).trans (y1_eq x10 xs11 (tile xs0) (stile (k0_pay13 (F := Ideal))) (nwt x11 2) 2 _ _ _ _ _ _ _ _ (hgEq a11 ha11 x10) (lvEq a25 ha25 xs11) (p0Eq a14 ha14 xs0 (tq 16 2)) (p0Eq a14 ha14 xs0 (tq 20 2)) (p0Eq a14 ha14 xs0 (tq 24 2)) (p0Eq a14 ha14 xs0 (tq 28 2)) (ld_0_2 c a11 ha11 a14 ha14 a24 x10 xs0) (nwEq_2 a12 ha12 x11))

theorem ld_0_3 : (a24.view.readCov (kernelRun0_C.sl.HS10_4 (F := Ideal) c a11 ha11 a14 ha14 a24 x10 xs0) (Rect.unit (s := S4x128x256) ![3, 0, 0] S1x128x256.size inb_S4x128x256_S1x128x256_3_0_0).toLoadRect) = (stile (k0_pay13 (F := Ideal))) 3 :=
  (st_skip a24.view 3 2 (by decide) _ _).trans ((st_skip a24.view 3 1 (by decide) _ _).trans ((st_skip a24.view 3 0 (by decide) _ _).trans (st_zero a24.view 3 _ _)))

theorem st_0_3 : (k0_pay332 (kernelRun0_C.sl.r_186 c a14 ha14 xs0) (kernelRun0_C.sl.r_187 c a11 ha11 a14 ha14 x10 xs0) (kernelRun0_C.sl.r_225 c a11 ha11 a14 ha14 x10 xs0) (kernelRun0_C.sl.r_226 c a11 ha11 a14 ha14 x10 xs0) (kernelRun0_C.sl.v2251 c a11 ha11 a14 ha14 a24 x10 xs0) : Vec Ideal S1x128x256 .f32) = stepSt x10 (tile xs0) (stile (k0_pay13 (F := Ideal))) 3 :=
  (Cert.BridgeC.state_0_3 c a11 ha11 a14 ha14 a24 x10 xs0).trans (stStep_eq x10 (tile xs0) (stile (k0_pay13 (F := Ideal))) 3 _ _ _ _ (hgEq a11 ha11 x10) (p0Eq a14 ha14 xs0 (tq 20 3)) (p0Eq a14 ha14 xs0 (tq 24 3)) (ld_0_3 c a11 ha11 a14 ha14 a24 x10 xs0))

theorem y_0_3_0 : (k0_pay337 (kernelRun0_C.sl.r_186 c a14 ha14 xs0) (kernelRun0_C.sl.r_227 c a11 ha11 a14 ha14 x10 xs0) (kernelRun0_C.sl.r_228 c a11 ha11 a14 ha14 a24 a25 ha25 x10 xs0 xs11) (kernelRun0_C.sl.r_229 c a14 ha14 xs0) k0_pay334 (View.readAt (Elt Ideal) a12.view (Rect.unit (s := S1x1024) ![0, 768] S1x256.size inb_S1x1024_S1x256_0_768).toLoadRect (ha12.unread x11)) : FVec Ideal S128x128 .bf16) = stepY x10 xs11 (tile xs0) (stile (k0_pay13 (F := Ideal))) (nwt x11 3) 3 0 :=
  (Cert.BridgeC.out_0_3_0 c a11 ha11 a12 ha12 a14 ha14 a24 a25 ha25 x10 x11 xs0 xs11).trans (y0_eq x10 xs11 (tile xs0) (stile (k0_pay13 (F := Ideal))) (nwt x11 3) 3 _ _ _ _ _ _ _ _ (hgEq a11 ha11 x10) (lvEq a25 ha25 xs11) (p0Eq a14 ha14 xs0 (tq 16 3)) (p0Eq a14 ha14 xs0 (tq 20 3)) (p0Eq a14 ha14 xs0 (tq 24 3)) (p0Eq a14 ha14 xs0 (tq 28 3)) (ld_0_3 c a11 ha11 a14 ha14 a24 x10 xs0) (nwEq_3 a12 ha12 x11))

theorem y_0_3_1 : (k0_pay341 (kernelRun0_C.sl.r_230 c a14 ha14 xs0) (kernelRun0_C.sl.r_231 c a12 ha12 x11) (kernelRun0_C.sl.r_232 c a11 ha11 a14 ha14 a24 a25 ha25 x10 xs0 xs11) (kernelRun0_C.sl.r_233 c a11 ha11 a14 ha14 a24 a25 ha25 x10 xs0 xs11) k0_pay340 : FVec Ideal S128x128 .bf16) = stepY x10 xs11 (tile xs0) (stile (k0_pay13 (F := Ideal))) (nwt x11 3) 3 1 :=
  (Cert.BridgeC.out_0_3_1 c a11 ha11 a12 ha12 a14 ha14 a24 a25 ha25 x10 x11 xs0 xs11).trans (y1_eq x10 xs11 (tile xs0) (stile (k0_pay13 (F := Ideal))) (nwt x11 3) 3 _ _ _ _ _ _ _ _ (hgEq a11 ha11 x10) (lvEq a25 ha25 xs11) (p0Eq a14 ha14 xs0 (tq 16 3)) (p0Eq a14 ha14 xs0 (tq 20 3)) (p0Eq a14 ha14 xs0 (tq 24 3)) (p0Eq a14 ha14 xs0 (tq 28 3)) (ld_0_3 c a11 ha11 a14 ha14 a24 x10 xs0) (nwEq_3 a12 ha12 x11))

theorem ld_1_0 : (a24.view.readCov (kernelRun0_C.sl.HS10_5 (F := Ideal) c a11 ha11 a14 ha14 a24 x10 xs0) (Rect.unit (s := S4x128x256) ![0, 0, 0] S1x128x256.size inb_S4x128x256_S1x128x256_0_0_0).toLoadRect) = (stepSt x10 (tile xs0) (stile (k0_pay13 (F := Ideal)))) 0 :=
  (st_skip a24.view 0 3 (by decide) _ _).trans ((st_skip a24.view 0 2 (by decide) _ _).trans ((st_skip a24.view 0 1 (by decide) _ _).trans ((st_hit a24.view 0 _ _).trans (st_0_0 c a11 ha11 a14 ha14 a24 x10 xs0))))

theorem st_1_0 : (k0_pay542 (kernelRun0_C.sl.r_322 c a5 ha5 a15 a19 ha19 x4 xs5) (kernelRun0_C.sl.r_323 c a5 ha5 a11 ha11 a15 a19 ha19 x4 x10 xs5) (kernelRun0_C.sl.r_362 c a5 ha5 a11 ha11 a15 a19 ha19 x4 x10 xs5) (kernelRun0_C.sl.r_363 c a5 ha5 a11 ha11 a15 a19 ha19 x4 x10 xs5) (kernelRun0_C.sl.v3536 c a11 ha11 a14 ha14 a24 x10 xs0) : Vec Ideal S1x128x256 .f32) = stepSt x10 (projT xs5 (wtile x4)) (stepSt x10 (tile xs0) (stile (k0_pay13 (F := Ideal)))) 0 :=
  (Cert.BridgeC.state_1_0 c a5 ha5 a11 ha11 a14 ha14 a15 a19 ha19 a24 x4 x10 xs0 xs5).trans (stStep_eq x10 (projT xs5 (wtile x4)) (stepSt x10 (tile xs0) (stile (k0_pay13 (F := Ideal)))) 0 _ _ _ _ (hgEq a11 ha11 x10) (p1Eq c a5 ha5 a15 a19 ha19 x4 xs5 (tq 20 0)) (p1Eq c a5 ha5 a15 a19 ha19 x4 xs5 (tq 24 0)) (ld_1_0 c a11 ha11 a14 ha14 a24 x10 xs0))

theorem y_1_0_0 : (k0_pay547 (kernelRun0_C.sl.r_322 c a5 ha5 a15 a19 ha19 x4 xs5) (kernelRun0_C.sl.r_364 c a5 ha5 a11 ha11 a15 a19 ha19 x4 x10 xs5) (kernelRun0_C.sl.r_365 c a5 ha5 a11 ha11 a14 ha14 a15 a19 ha19 a24 a25 ha25 x4 x10 xs0 xs5 xs11) (kernelRun0_C.sl.r_366 c a5 ha5 a15 a19 ha19 x4 xs5) (kernelRun0_C.sl.r_367 c a5 ha5 a15 a19 ha19 x4 xs5) kernelRun0_C.sl.cst_157 (View.readAt (Elt Ideal) a12.view (Rect.unit (s := S1x1024) ![0, 0] S1x256.size inb_S1x1024_S1x256_0_0).toLoadRect (ha12.unread x11)) : FVec Ideal S128x128 .bf16) = stepY x10 xs11 (projT xs5 (wtile x4)) (stepSt x10 (tile xs0) (stile (k0_pay13 (F := Ideal)))) (nwt x11 0) 0 0 :=
  (Cert.BridgeC.out_1_0_0 c a5 ha5 a11 ha11 a12 ha12 a14 ha14 a15 a19 ha19 a24 a25 ha25 x4 x10 x11 xs0 xs5 xs11).trans (y0_eq x10 xs11 (projT xs5 (wtile x4)) (stepSt x10 (tile xs0) (stile (k0_pay13 (F := Ideal)))) (nwt x11 0) 0 _ _ _ _ _ _ _ _ (hgEq a11 ha11 x10) (lvEq a25 ha25 xs11) (p1Eq c a5 ha5 a15 a19 ha19 x4 xs5 (tq 16 0)) (p1Eq c a5 ha5 a15 a19 ha19 x4 xs5 (tq 20 0)) (p1Eq c a5 ha5 a15 a19 ha19 x4 xs5 (tq 24 0)) (p1Eq c a5 ha5 a15 a19 ha19 x4 xs5 (tq 28 0)) (ld_1_0 c a11 ha11 a14 ha14 a24 x10 xs0) (nwEq_0 a12 ha12 x11))

theorem y_1_0_1 : (k0_pay551 (kernelRun0_C.sl.r_368 c a5 ha5 a15 a19 ha19 x4 xs5) (kernelRun0_C.sl.r_369 c a12 ha12 x11) (kernelRun0_C.sl.r_370 c a5 ha5 a11 ha11 a14 ha14 a15 a19 ha19 a24 a25 ha25 x4 x10 xs0 xs5 xs11) (kernelRun0_C.sl.r_371 c a5 ha5 a11 ha11 a14 ha14 a15 a19 ha19 a24 a25 ha25 x4 x10 xs0 xs5 xs11) k0_pay550 : FVec Ideal S128x128 .bf16) = stepY x10 xs11 (projT xs5 (wtile x4)) (stepSt x10 (tile xs0) (stile (k0_pay13 (F := Ideal)))) (nwt x11 0) 0 1 :=
  (Cert.BridgeC.out_1_0_1 c a5 ha5 a11 ha11 a12 ha12 a14 ha14 a15 a19 ha19 a24 a25 ha25 x4 x10 x11 xs0 xs5 xs11).trans (y1_eq x10 xs11 (projT xs5 (wtile x4)) (stepSt x10 (tile xs0) (stile (k0_pay13 (F := Ideal)))) (nwt x11 0) 0 _ _ _ _ _ _ _ _ (hgEq a11 ha11 x10) (lvEq a25 ha25 xs11) (p1Eq c a5 ha5 a15 a19 ha19 x4 xs5 (tq 16 0)) (p1Eq c a5 ha5 a15 a19 ha19 x4 xs5 (tq 20 0)) (p1Eq c a5 ha5 a15 a19 ha19 x4 xs5 (tq 24 0)) (p1Eq c a5 ha5 a15 a19 ha19 x4 xs5 (tq 28 0)) (ld_1_0 c a11 ha11 a14 ha14 a24 x10 xs0) (nwEq_0 a12 ha12 x11))

theorem ld_1_1 : (a24.view.readCov (kernelRun0_C.sl.HS10_6 (F := Ideal) c a5 ha5 a11 ha11 a14 ha14 a15 a19 ha19 a24 x4 x10 xs0 xs5) (Rect.unit (s := S4x128x256) ![1, 0, 0] S1x128x256.size inb_S4x128x256_S1x128x256_1_0_0).toLoadRect) = (stepSt x10 (tile xs0) (stile (k0_pay13 (F := Ideal)))) 1 :=
  (st_skip a24.view 1 0 (by decide) _ _).trans ((st_skip a24.view 1 3 (by decide) _ _).trans ((st_skip a24.view 1 2 (by decide) _ _).trans ((st_hit a24.view 1 _ _).trans (st_0_1 c a11 ha11 a14 ha14 a24 x10 xs0))))

theorem st_1_1 : (k0_pay622 (kernelRun0_C.sl.r_412 c a5 ha5 a11 ha11 a15 a19 ha19 x4 x10 xs5) (kernelRun0_C.sl.r_413 c a5 ha5 a11 ha11 a14 ha14 a15 a19 ha19 a24 x4 x10 xs0 xs5) (kernelRun0_C.sl.r_416 c a5 ha5 a11 ha11 a15 a19 ha19 x4 x10 xs5) (kernelRun0_C.sl.r_417 c a5 ha5 a15 a19 ha19 x4 xs5) (kernelRun0_C.sl.r_418 c a5 ha5 a11 ha11 a15 a19 ha19 x4 x10 xs5) : Vec Ideal S1x128x256 .f32) = stepSt x10 (projT xs5 (wtile x4)) (stepSt x10 (tile xs0) (stile (k0_pay13 (F := Ideal)))) 1 :=
  (Cert.BridgeC.state_1_1 c a5 ha5 a11 ha11 a14 ha14 a15 a19 ha19 a24 x4 x10 xs0 xs5).trans (stStep_eq x10 (projT xs5 (wtile x4)) (stepSt x10 (tile xs0) (stile (k0_pay13 (F := Ideal)))) 1 _ _ _ _ (hgEq a11 ha11 x10) (p1Eq c a5 ha5 a15 a19 ha19 x4 xs5 (tq 20 1)) (p1Eq c a5 ha5 a15 a19 ha19 x4 xs5 (tq 24 1)) (ld_1_1 c a5 ha5 a11 ha11 a14 ha14 a15 a19 ha19 a24 x4 x10 xs0 xs5))

theorem y_1_1_0 : (k0_pay626 (kernelRun0_C.sl.r_421 c a5 ha5 a11 ha11 a12 ha12 a14 ha14 a15 a19 ha19 a24 a25 ha25 x4 x10 x11 xs0 xs5 xs11) : FVec Ideal S128x128 .bf16) = stepY x10 xs11 (projT xs5 (wtile x4)) (stepSt x10 (tile xs0) (stile (k0_pay13 (F := Ideal)))) (nwt x11 1) 1 0 :=
  (Cert.BridgeC.out_1_1_0 c a5 ha5 a11 ha11 a12 ha12 a14 ha14 a15 a19 ha19 a24 a25 ha25 x4 x10 x11 xs0 xs5 xs11).trans (y0_eq x10 xs11 (projT xs5 (wtile x4)) (stepSt x10 (tile xs0) (stile (k0_pay13 (F := Ideal)))) (nwt x11 1) 1 _ _ _ _ _ _ _ _ (hgEq a11 ha11 x10) (lvEq a25 ha25 xs11) (p1Eq c a5 ha5 a15 a19 ha19 x4 xs5 (tq 16 1)) (p1Eq c a5 ha5 a15 a19 ha19 x4 xs5 (tq 20 1)) (p1Eq c a5 ha5 a15 a19 ha19 x4 xs5 (tq 24 1)) (p1Eq c a5 ha5 a15 a19 ha19 x4 xs5 (tq 28 1)) (ld_1_1 c a5 ha5 a11 ha11 a14 ha14 a15 a19 ha19 a24 x4 x10 xs0 xs5) (nwEq_1 a12 ha12 x11))

theorem y_1_1_1 : (k0_pay627 (kernelRun0_C.sl.r_374 c a5 ha5 a15 a19 ha19 x4 xs5) (kernelRun0_C.sl.r_414 c a5 ha5 a11 ha11 a15 a19 ha19 x4 x10 xs5) (kernelRun0_C.sl.r_415 c a5 ha5 a11 ha11 a14 ha14 a15 a19 ha19 a24 a25 ha25 x4 x10 xs0 xs5 xs11) (kernelRun0_C.sl.r_419 c a5 ha5 a15 a19 ha19 x4 xs5) (kernelRun0_C.sl.r_420 c a12 ha12 x11) : FVec Ideal S128x128 .bf16) = stepY x10 xs11 (projT xs5 (wtile x4)) (stepSt x10 (tile xs0) (stile (k0_pay13 (F := Ideal)))) (nwt x11 1) 1 1 :=
  (Cert.BridgeC.out_1_1_1 c a5 ha5 a11 ha11 a12 ha12 a14 ha14 a15 a19 ha19 a24 a25 ha25 x4 x10 x11 xs0 xs5 xs11).trans (y1_eq x10 xs11 (projT xs5 (wtile x4)) (stepSt x10 (tile xs0) (stile (k0_pay13 (F := Ideal)))) (nwt x11 1) 1 _ _ _ _ _ _ _ _ (hgEq a11 ha11 x10) (lvEq a25 ha25 xs11) (p1Eq c a5 ha5 a15 a19 ha19 x4 xs5 (tq 16 1)) (p1Eq c a5 ha5 a15 a19 ha19 x4 xs5 (tq 20 1)) (p1Eq c a5 ha5 a15 a19 ha19 x4 xs5 (tq 24 1)) (p1Eq c a5 ha5 a15 a19 ha19 x4 xs5 (tq 28 1)) (ld_1_1 c a5 ha5 a11 ha11 a14 ha14 a15 a19 ha19 a24 x4 x10 xs0 xs5) (nwEq_1 a12 ha12 x11))

theorem ld_1_2 : (a24.view.readCov (kernelRun0_C.sl.HS10_7 (F := Ideal) c a5 ha5 a11 ha11 a14 ha14 a15 a19 ha19 a24 x4 x10 xs0 xs5) (Rect.unit (s := S4x128x256) ![2, 0, 0] S1x128x256.size inb_S4x128x256_S1x128x256_2_0_0).toLoadRect) = (stepSt x10 (tile xs0) (stile (k0_pay13 (F := Ideal)))) 2 :=
  (st_skip a24.view 2 1 (by decide) _ _).trans ((st_skip a24.view 2 0 (by decide) _ _).trans ((st_skip a24.view 2 3 (by decide) _ _).trans ((st_hit a24.view 2 _ _).trans (st_0_2 c a11 ha11 a14 ha14 a24 x10 xs0))))

theorem st_1_2 : (k0_pay690 (kernelRun0_C.sl.r_463 c a5 ha5 a11 ha11 a14 ha14 a15 a19 ha19 a24 x4 x10 xs0 xs5) : Vec Ideal S1x128x256 .f32) = stepSt x10 (projT xs5 (wtile x4)) (stepSt x10 (tile xs0) (stile (k0_pay13 (F := Ideal)))) 2 :=
  (Cert.BridgeC.state_1_2 c a5 ha5 a11 ha11 a14 ha14 a15 a19 ha19 a24 x4 x10 xs0 xs5).trans (stStep_eq x10 (projT xs5 (wtile x4)) (stepSt x10 (tile xs0) (stile (k0_pay13 (F := Ideal)))) 2 _ _ _ _ (hgEq a11 ha11 x10) (p1Eq c a5 ha5 a15 a19 ha19 x4 xs5 (tq 20 2)) (p1Eq c a5 ha5 a15 a19 ha19 x4 xs5 (tq 24 2)) (ld_1_2 c a5 ha5 a11 ha11 a14 ha14 a15 a19 ha19 a24 x4 x10 xs0 xs5))

theorem y_1_2_0 : (k0_pay693 (kernelRun0_C.sl.r_424 c a5 ha5 a15 a19 ha19 x4 xs5) (kernelRun0_C.sl.r_461 c a5 ha5 a11 ha11 a15 a19 ha19 x4 x10 xs5) (kernelRun0_C.sl.r_462 c a5 ha5 a11 ha11 a14 ha14 a15 a19 ha19 a24 a25 ha25 x4 x10 xs0 xs5 xs11) (kernelRun0_C.sl.v4631 c a5 ha5 a15 a19 ha19 x4 xs5) (View.readAt (Elt Ideal) a12.view (Rect.unit (s := S1x1024) ![0, 512] S1x256.size inb_S1x1024_S1x256_0_512).toLoadRect (ha12.unread x11)) : FVec Ideal S128x128 .bf16) = stepY x10 xs11 (projT xs5 (wtile x4)) (stepSt x10 (tile xs0) (stile (k0_pay13 (F := Ideal)))) (nwt x11 2) 2 0 :=
  (Cert.BridgeC.out_1_2_0 c a5 ha5 a11 ha11 a12 ha12 a14 ha14 a15 a19 ha19 a24 a25 ha25 x4 x10 x11 xs0 xs5 xs11).trans (y0_eq x10 xs11 (projT xs5 (wtile x4)) (stepSt x10 (tile xs0) (stile (k0_pay13 (F := Ideal)))) (nwt x11 2) 2 _ _ _ _ _ _ _ _ (hgEq a11 ha11 x10) (lvEq a25 ha25 xs11) (p1Eq c a5 ha5 a15 a19 ha19 x4 xs5 (tq 16 2)) (p1Eq c a5 ha5 a15 a19 ha19 x4 xs5 (tq 20 2)) (p1Eq c a5 ha5 a15 a19 ha19 x4 xs5 (tq 24 2)) (p1Eq c a5 ha5 a15 a19 ha19 x4 xs5 (tq 28 2)) (ld_1_2 c a5 ha5 a11 ha11 a14 ha14 a15 a19 ha19 a24 x4 x10 xs0 xs5) (nwEq_2 a12 ha12 x11))

theorem y_1_2_1 : (k0_pay696 (kernelRun0_C.sl.r_424 c a5 ha5 a15 a19 ha19 x4 xs5) (kernelRun0_C.sl.r_464 c a5 ha5 a15 a19 ha19 x4 xs5) (kernelRun0_C.sl.r_465 c a12 ha12 x11) (kernelRun0_C.sl.r_466 c a5 ha5 a11 ha11 a14 ha14 a15 a19 ha19 a24 a25 ha25 x4 x10 xs0 xs5 xs11) (kernelRun0_C.sl.r_467 c a5 ha5 a11 ha11 a15 a19 ha19 x4 x10 xs5) : FVec Ideal S128x128 .bf16) = stepY x10 xs11 (projT xs5 (wtile x4)) (stepSt x10 (tile xs0) (stile (k0_pay13 (F := Ideal)))) (nwt x11 2) 2 1 :=
  (Cert.BridgeC.out_1_2_1 c a5 ha5 a11 ha11 a12 ha12 a14 ha14 a15 a19 ha19 a24 a25 ha25 x4 x10 x11 xs0 xs5 xs11).trans (y1_eq x10 xs11 (projT xs5 (wtile x4)) (stepSt x10 (tile xs0) (stile (k0_pay13 (F := Ideal)))) (nwt x11 2) 2 _ _ _ _ _ _ _ _ (hgEq a11 ha11 x10) (lvEq a25 ha25 xs11) (p1Eq c a5 ha5 a15 a19 ha19 x4 xs5 (tq 16 2)) (p1Eq c a5 ha5 a15 a19 ha19 x4 xs5 (tq 20 2)) (p1Eq c a5 ha5 a15 a19 ha19 x4 xs5 (tq 24 2)) (p1Eq c a5 ha5 a15 a19 ha19 x4 xs5 (tq 28 2)) (ld_1_2 c a5 ha5 a11 ha11 a14 ha14 a15 a19 ha19 a24 x4 x10 xs0 xs5) (nwEq_2 a12 ha12 x11))

theorem ld_1_3 : (a24.view.readCov (kernelRun0_C.sl.HS10_8 (F := Ideal) c a5 ha5 a11 ha11 a14 ha14 a15 a19 ha19 a24 x4 x10 xs0 xs5) (Rect.unit (s := S4x128x256) ![3, 0, 0] S1x128x256.size inb_S4x128x256_S1x128x256_3_0_0).toLoadRect) = (stepSt x10 (tile xs0) (stile (k0_pay13 (F := Ideal)))) 3 :=
  (st_skip a24.view 3 2 (by decide) _ _).trans ((st_skip a24.view 3 1 (by decide) _ _).trans ((st_skip a24.view 3 0 (by decide) _ _).trans ((st_hit a24.view 3 _ _).trans (st_0_3 c a11 ha11 a14 ha14 a24 x10 xs0))))

theorem st_1_3 : (k0_pay765 (kernelRun0_C.sl.r_474 c a5 ha5 a11 ha11 a15 a19 ha19 x4 x10 xs5) (kernelRun0_C.sl.r_512 c a5 ha5 a11 ha11 a15 a19 ha19 x4 x10 xs5) (kernelRun0_C.sl.r_513 c a5 ha5 a11 ha11 a15 a19 ha19 x4 x10 xs5) (kernelRun0_C.sl.r_514 c a5 ha5 a11 ha11 a14 ha14 a15 a19 ha19 a24 x4 x10 xs0 xs5) (kernelRun0_C.sl.r_515 c a5 ha5 a15 a19 ha19 x4 xs5) : Vec Ideal S1x128x256 .f32) = stepSt x10 (projT xs5 (wtile x4)) (stepSt x10 (tile xs0) (stile (k0_pay13 (F := Ideal)))) 3 :=
  (Cert.BridgeC.state_1_3 c a5 ha5 a11 ha11 a14 ha14 a15 a19 ha19 a24 x4 x10 xs0 xs5).trans (stStep_eq x10 (projT xs5 (wtile x4)) (stepSt x10 (tile xs0) (stile (k0_pay13 (F := Ideal)))) 3 _ _ _ _ (hgEq a11 ha11 x10) (p1Eq c a5 ha5 a15 a19 ha19 x4 xs5 (tq 20 3)) (p1Eq c a5 ha5 a15 a19 ha19 x4 xs5 (tq 24 3)) (ld_1_3 c a5 ha5 a11 ha11 a14 ha14 a15 a19 ha19 a24 x4 x10 xs0 xs5))

theorem y_1_3_0 : (k0_pay770 (kernelRun0_C.sl.r_522 c a5 ha5 a15 a19 ha19 x4 xs5) (kernelRun0_C.sl.r_523 c a12 ha12 x11) (kernelRun0_C.sl.r_524 c a5 ha5 a11 ha11 a14 ha14 a15 a19 ha19 a24 a25 ha25 x4 x10 xs0 xs5 xs11) (kernelRun0_C.sl.r_525 c a5 ha5 a11 ha11 a14 ha14 a15 a19 ha19 a24 a25 ha25 x4 x10 xs0 xs5 xs11) : FVec Ideal S128x128 .bf16) = stepY x10 xs11 (projT xs5 (wtile x4)) (stepSt x10 (tile xs0) (stile (k0_pay13 (F := Ideal)))) (nwt x11 3) 3 0 :=
  (Cert.BridgeC.out_1_3_0 c a5 ha5 a11 ha11 a12 ha12 a14 ha14 a15 a19 ha19 a24 a25 ha25 x4 x10 x11 xs0 xs5 xs11).trans (y0_eq x10 xs11 (projT xs5 (wtile x4)) (stepSt x10 (tile xs0) (stile (k0_pay13 (F := Ideal)))) (nwt x11 3) 3 _ _ _ _ _ _ _ _ (hgEq a11 ha11 x10) (lvEq a25 ha25 xs11) (p1Eq c a5 ha5 a15 a19 ha19 x4 xs5 (tq 16 3)) (p1Eq c a5 ha5 a15 a19 ha19 x4 xs5 (tq 20 3)) (p1Eq c a5 ha5 a15 a19 ha19 x4 xs5 (tq 24 3)) (p1Eq c a5 ha5 a15 a19 ha19 x4 xs5 (tq 28 3)) (ld_1_3 c a5 ha5 a11 ha11 a14 ha14 a15 a19 ha19 a24 x4 x10 xs0 xs5) (nwEq_3 a12 ha12 x11))

theorem y_1_3_1 : (k0_pay771 (kernelRun0_C.sl.r_470 c a5 ha5 a15 a19 ha19 x4 xs5) (kernelRun0_C.sl.r_516 c a5 ha5 a11 ha11 a15 a19 ha19 x4 x10 xs5) (kernelRun0_C.sl.r_521 c a5 ha5 a11 ha11 a14 ha14 a15 a19 ha19 a24 a25 ha25 x4 x10 xs0 xs5 xs11) (kernelRun0_C.sl.r_522 c a5 ha5 a15 a19 ha19 x4 xs5) (kernelRun0_C.sl.r_523 c a12 ha12 x11) : FVec Ideal S128x128 .bf16) = stepY x10 xs11 (projT xs5 (wtile x4)) (stepSt x10 (tile xs0) (stile (k0_pay13 (F := Ideal)))) (nwt x11 3) 3 1 :=
  (Cert.BridgeC.out_1_3_1 c a5 ha5 a11 ha11 a12 ha12 a14 ha14 a15 a19 ha19 a24 a25 ha25 x4 x10 x11 xs0 xs5 xs11).trans (y1_eq x10 xs11 (projT xs5 (wtile x4)) (stepSt x10 (tile xs0) (stile (k0_pay13 (F := Ideal)))) (nwt x11 3) 3 _ _ _ _ _ _ _ _ (hgEq a11 ha11 x10) (lvEq a25 ha25 xs11) (p1Eq c a5 ha5 a15 a19 ha19 x4 xs5 (tq 16 3)) (p1Eq c a5 ha5 a15 a19 ha19 x4 xs5 (tq 20 3)) (p1Eq c a5 ha5 a15 a19 ha19 x4 xs5 (tq 24 3)) (p1Eq c a5 ha5 a15 a19 ha19 x4 xs5 (tq 28 3)) (ld_1_3 c a5 ha5 a11 ha11 a14 ha14 a15 a19 ha19 a24 x4 x10 xs0 xs5) (nwEq_3 a12 ha12 x11))

theorem u629 (x : Vec Ideal S128x2048 .f32) (w : Vec Ideal S1x2048 .f32) : k0_pay629 (k0_pay628 x w) = unorm x w := rfl

theorem s0 : sout0_C_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11 = glue (projT (unorm x1 x3) (wtile x4)) := by
  have h : sout0_C_0 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11 = View.canon (kernelRun0_C c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11).2.1 := View.read_writes_junk_eq_canon _ _
  rw [h]
  have h2 : projT (a18.view.readCov (kernelRun0_C.sl.HS4_1 (F := Ideal) c a2 ha2 a4 ha4 x1 x3) (Rect.unit (s := S128x2048) ![0, 0] S128x2048.size inb_S128x2048_S128x2048_0_0).toLoadRect) (fun k => View.readAt (Elt Ideal) a5.view (wRect k).toLoadRect (ha5.unread x4)) = projT (unorm x1 x3) (wtile x4) := by rw [u2Eq, wEq]
  exact (canon_tl (projT (a18.view.readCov (kernelRun0_C.sl.HS4_1 (F := Ideal) c a2 ha2 a4 ha4 x1 x3) (Rect.unit (s := S128x2048) ![0, 0] S128x2048.size inb_S128x2048_S128x2048_0_0).toLoadRect) (fun k => View.readAt (Elt Ideal) a5.view (wRect k).toLoadRect (ha5.unread x4)))).trans (congrArg glue h2)

theorem s5 : sout0_C_5 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11 = unorm x2 x3 := by
  have h : sout0_C_5 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11 = View.canon (kernelRun0_C c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11).2.2.2.1 := View.read_writes_junk_eq_canon _ _
  have e : (kernelRun0_C c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11).2.2.2.1 = ([⟨Rect.unit (s := S128x2048) ![0, 0] S128x2048.size inb_S128x2048_S128x2048_0_0, k0_pay629 (k0_pay628 (View.readAt (Elt Ideal) a3.view (Rect.unit (s := S128x2048) ![0, 0] S128x2048.size inb_S128x2048_S128x2048_0_0).toLoadRect (ha3.unread x2)) (View.readAt (Elt Ideal) a4.view (Rect.unit (s := S1x2048) ![0, 0] S1x2048.size inb_S1x2048_S1x2048_0_0).toLoadRect (ha4.unread x3)))⟩] : List (View.Piece (Elt Ideal) S128x2048 .bf16)) := rfl
  rw [h, e]
  refine (View.canon_unit_zero (Val := Elt Ideal) (e := .bf16) (S := S128x2048) o2 inb_S128x2048_S128x2048_0_0 (k0_pay629 (k0_pay628 (View.readAt (Elt Ideal) a3.view (Rect.unit (s := S128x2048) ![0, 0] S128x2048.size inb_S128x2048_S128x2048_0_0).toLoadRect (ha3.unread x2)) (View.readAt (Elt Ideal) a4.view (Rect.unit (s := S1x2048) ![0, 0] S1x2048.size inb_S1x2048_S1x2048_0_0).toLoadRect (ha4.unread x3))))).trans ?_
  rw [rd_all a3 ha3 x2 o2, rd_all a4 ha4 x3 o2]
  exact u629 x2 x3

theorem s10 : sout0_C_10 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11 = sglue (stepSt x10 (projT xs5 (wtile x4)) (stepSt x10 (tile xs0) (stile (k0_pay13 (F := Ideal))))) := by
  have h : sout0_C_10 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11 = View.canon (kernelRun0_C c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11).2.2.2.2.2.2.2.2.1 := View.read_writes_junk_eq_canon _ _
  rw [h]
  exact canon_st4 _ _ _ _ _ _ (st_1_3 c a5 ha5 a11 ha11 a14 ha14 a15 a19 ha19 a24 x4 x10 xs0 xs5) (st_1_2 c a5 ha5 a11 ha11 a14 ha14 a15 a19 ha19 a24 x4 x10 xs0 xs5) (st_1_1 c a5 ha5 a11 ha11 a14 ha14 a15 a19 ha19 a24 x4 x10 xs0 xs5) (st_1_0 c a5 ha5 a11 ha11 a14 ha14 a15 a19 ha19 a24 x4 x10 xs0 xs5)

theorem out12 (ch : Fin 2) (hp : Fin 4) (j : Fin 2) (t x : Fin 128) :
    out0_C_12 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11 (ix2 (n0 := 256) (n1 := 2048) ⟨128 * ch.val + t.val, by omega⟩ ⟨1024 + 256 * hp.val + 128 * j.val + x.val, by omega⟩)
      = stepY x10 xs11 (![(tile xs0), (projT xs5 (wtile x4))] ch) (![(stile (k0_pay13 (F := Ideal))), (stepSt x10 (tile xs0) (stile (k0_pay13 (F := Ideal))))] ch) (nwt x11 hp) hp j (ix2 t x) := by
  have h : out0_C_12 c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11 = View.canon (kernelRun0_C c i a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25 hc0 hc1 x0 x1 x2 x3 x4 x5 x6 x7 x8 x9 x10 x11 xs0 xs2 xs5 xs11).1 := View.read_writes_junk_eq_canon _ _
  rw [h]
  exact canon_yl' _ _ _ _ _ _ _ _ _ _ _ _ _ _ _ _ _ _ _ _ _ _ _ _ (fun ch hp j => stepY x10 xs11 (![(tile xs0), (projT xs5 (wtile x4))] ch) (![(stile (k0_pay13 (F := Ideal))), (stepSt x10 (tile xs0) (stile (k0_pay13 (F := Ideal))))] ch) (nwt x11 hp) hp j) (y_0_0_0 c a11 ha11 a12 ha12 a14 ha14 a24 a25 ha25 x10 x11 xs0 xs11) (y_0_0_1 c a11 ha11 a12 ha12 a14 ha14 a24 a25 ha25 x10 x11 xs0 xs11) (y_0_1_0 c a11 ha11 a12 ha12 a14 ha14 a24 a25 ha25 x10 x11 xs0 xs11) (y_0_1_1 c a11 ha11 a12 ha12 a14 ha14 a24 a25 ha25 x10 x11 xs0 xs11) (y_0_2_0 c a11 ha11 a12 ha12 a14 ha14 a24 a25 ha25 x10 x11 xs0 xs11) (y_0_2_1 c a11 ha11 a12 ha12 a14 ha14 a24 a25 ha25 x10 x11 xs0 xs11) (y_0_3_0 c a11 ha11 a12 ha12 a14 ha14 a24 a25 ha25 x10 x11 xs0 xs11) (y_0_3_1 c a11 ha11 a12 ha12 a14 ha14 a24 a25 ha25 x10 x11 xs0 xs11) (y_1_0_0 c a5 ha5 a11 ha11 a12 ha12 a14 ha14 a15 a19 ha19 a24 a25 ha25 x4 x10 x11 xs0 xs5 xs11) (y_1_0_1 c a5 ha5 a11 ha11 a12 ha12 a14 ha14 a15 a19 ha19 a24 a25 ha25 x4 x10 x11 xs0 xs5 xs11) (y_1_1_0 c a5 ha5 a11 ha11 a12 ha12 a14 ha14 a15 a19 ha19 a24 a25 ha25 x4 x10 x11 xs0 xs5 xs11) (y_1_1_1 c a5 ha5 a11 ha11 a12 ha12 a14 ha14 a15 a19 ha19 a24 a25 ha25 x4 x10 x11 xs0 xs5 xs11) (y_1_2_0 c a5 ha5 a11 ha11 a12 ha12 a14 ha14 a15 a19 ha19 a24 a25 ha25 x4 x10 x11 xs0 xs5 xs11) (y_1_2_1 c a5 ha5 a11 ha11 a12 ha12 a14 ha14 a15 a19 ha19 a24 a25 ha25 x4 x10 x11 xs0 xs5 xs11) (y_1_3_0 c a5 ha5 a11 ha11 a12 ha12 a14 ha14 a15 a19 ha19 a24 a25 ha25 x4 x10 x11 xs0 xs5 xs11) (y_1_3_1 c a5 ha5 a11 ha11 a12 ha12 a14 ha14 a15 a19 ha19 a24 a25 ha25 x4 x10 x11 xs0 xs5 xs11) ch hp j t x

end Cert.MemC
-- ==== Proof.GridC.lean ====
/- What the second sequence's first point leaves. -/
module

public import proofs.«01_k».proof.Proof.GridStep
public import proofs.«01_k».proof.Proof.MemC

@[expose] public section

set_option maxRecDepth 16384
set_option maxHeartbeats 4000000

noncomputable section

namespace Cert.Grid

open Idealize.ShloMosaic hiding ix1 ix2 ix3 ix4
open Idealize.ShloMosaic.ValueIdx Idealize.ShloMosaic.TcCoe Idealize.SL.Sem Cert.KernelIdeal Cert.KernelIdeal.Gen Cert.Pair Cert.Tiles Cert.Reads

variable {m : (ℓ : Loc nD τ sig) → Buf (Elt Ideal) ℓ} {c : Dev nD} {D : Nums}
  (hD : Holds (m ((c : Thread nD τ).loc main_arg0)) (m ((c : Thread nD τ).loc main_arg1)) (m ((c : Thread nD τ).loc main_arg2))
    (m ((c : Thread nD τ).loc main_arg8)) (m ((c : Thread nD τ).loc main_arg9)) D)
include hD

theorem left_C (t : Fin cfg0.N) (h0 : ¬t.val % 128 = 0) (h1 : t.val % 64 = 0)
    (hp : LeftAt (m := m) (c := c) D (t.val - 1) (Nat.lt_of_le_of_lt (Nat.sub_le _ _) t.isLt)) : LeftAt (m := m) (c := c) D t.val t.isLt := by
  have hlt := tlt t
  have hP0 : IsT (tile (outsAt0 m c (t.val - 1) (Nat.lt_of_le_of_lt (Nat.sub_le _ _) t.isLt)).2.1) fun r k => pr D (256 * t.val + r) k := by
    have a := hp.p
    rwa [show 128 * min (2 * (t.val - 1) + 2) 255 = 256 * t.val by omega] at a
  have hP1 : IsT (projT (outsAt0 m c (t.val - 1) (Nat.lt_of_le_of_lt (Nat.sub_le _ _) t.isLt)).2.2.2.1 (wtile (iblk m c 4 t))) fun r k => pr D (256 * t.val + 128 + r) k := by
    have a := hp.u
    rw [show 128 * min (2 * (t.val - 1) + 3) 255 = 256 * t.val + 128 by omega] at a
    exact proj_blk hD t a
  have hS0 : IsS ((stile (k0_pay13 (F := Ideal)))) (stJ (sq D (t.val / 64)) D.H (256 * (t.val % 64))) := by
    rw [show 256 * (t.val % 64) = 0 by omega]
    exact zero_state _ _
  have hLV : LvOK ((outsAt0 m c (t.val - 1) (Nat.lt_of_le_of_lt (Nat.sub_le _ _) t.isLt)).2.2.2.2.2.2.2.2.2) := hp.l
  have e1 := Cert.MemC.s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2 (fun h => h0 ((hcond0_0 t).mp h)) ((hcond0_1 t).mpr h1)
  have e5 := Cert.MemC.s5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2 (fun h => h0 ((hcond0_0 t).mp h)) ((hcond0_1 t).mpr h1)
  have e10 := Cert.MemC.s10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2 (fun h => h0 ((hcond0_0 t).mp h)) ((hcond0_1 t).mpr h1)
  have ey := Cert.MemC.out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.2 (fun h => h0 ((hcond0_0 t).mp h)) ((hcond0_1 t).mpr h1)
  have key := mk_left hD t hP0 hP1 hS0 hLV e1 e5 e10 rfl ey
  unfold LeftAt
  rw [outsAt0_C m c t h0 h1]
  dsimp only
  exact key

end Cert.Grid
-- ==== Proof.Blocks.lean ====
/- What each grid point writes back to the output, the output array after the run block by block, and the run with that array
   named and the arguments unchanged. The lines follow the generated text. -/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output window 12's array: the run's contents for that window after the body (`Gen.outsAt0`: its component 0), read through the window's block. -/
theorem flushed12 (c : Dev nD) (t : Fin cfg0.N) :
    (dats m 0 c).flushed 12 t = (cfg0.win 12).cut (grid0.coords t) ((outsAt0 m c t.val t.isLt).1) := by
  show (cfg0.win 12).cut (grid0.coords t) ((dats m 0 c).after 12 t) = _
  rw [after0_12]

/-- The index map sends distinct grid points to distinct block indices (decided over the 128 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- Block `t` of the final array, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S32768x2048.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v27) = (dats m 0 c).arrAt 12 cfg0.N :=
  (h c).1 12

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 10 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 10).trans (((dats m 0 c).arrAt_in 10 rfl _).trans ((A_eq m c 10).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run named — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v27) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Value
-- ==== Proof.Grid.lean ====
/- The run over the grid, for finite arguments, and the output array's columns of head group B after it. -/
module

public import proofs.«01_k».proof.Proof.GridA
public import proofs.«01_k».proof.Proof.GridB
public import proofs.«01_k».proof.Proof.GridC
public import proofs.«01_k».proof.Proof.Blocks

@[expose] public section

set_option maxRecDepth 16384
set_option maxHeartbeats 4000000

noncomputable section

namespace Cert.Grid

open Idealize.ShloMosaic hiding ix1 ix2 ix3 ix4
open Idealize.ShloMosaic.ValueIdx Idealize.ShloMosaic.TcCoe Idealize.SL.Sem Cert.KernelIdeal Cert.KernelIdeal.Gen Cert.Pair Cert.Tiles Cert.Reads

variable {m : (ℓ : Loc nD τ sig) → Buf (Elt Ideal) ℓ} {c : Dev nD} {D : Nums}
  (hD : Holds (m ((c : Thread nD τ).loc main_arg0)) (m ((c : Thread nD τ).loc main_arg1)) (m ((c : Thread nD τ).loc main_arg2))
    (m ((c : Thread nD τ).loc main_arg8)) (m ((c : Thread nD τ).loc main_arg9)) D)
include hD

/-- Every point. -/
theorem left (n : ℕ) (h : n < cfg0.N) : LeftAt (m := m) (c := c) D n h := by
  induction n with
  | zero => exact left_A hD ⟨0, h⟩ rfl rfl
  | succ n ih =>
    have hp := ih (Nat.lt_of_succ_lt h)
    have hlt : n + 1 < 128 := h
    have h0 : ¬(n + 1) % 128 = 0 := by omega
    by_cases h1 : (n + 1) % 64 = 0
    · exact left_C hD ⟨n + 1, h⟩ h0 h1 hp
    · exact left_B hD ⟨n + 1, h⟩ h0 h1 hp

/-- The output array's columns of head group B. -/
theorem out_eq (T : Fin 32768) (hp : Fin 4) (j : Fin 2) (x : Fin 128) :
    ((dats m 0 c).arrAt 12 cfg0.N : S32768x2048.Idx → EReal) (ix2 T ⟨1024 + 256 * hp.val + 128 * j.val + x.val, by omega⟩)
      = ((yJ (sq D (T.val / 16384)) D.H D.G (T.val % 16384) hp.val (128 * j.val + x.val) : ℝ) : EReal) := by
  have hN : T.val / 256 < cfg0.N := by show T.val / 256 < 128; omega
  have hb := congrFun (Cert.KernelIdeal.Value.blocks12 m c ⟨T.val / 256, hN⟩ ((by decide +kernel : ∀ t : Fin grid0.N, win0_12.flush t = true) _))
    (ix2 (n0 := 256) (n1 := 2048) ⟨T.val % 256, by omega⟩ ⟨1024 + 256 * hp.val + 128 * j.val + x.val, by omega⟩)
  rw [Cert.KernelIdeal.Value.flushed12] at hb
  have hl := (left hD (T.val / 256) hN).y ⟨T.val % 256 / 128, by omega⟩ hp j ⟨T.val % 128, by omega⟩ x
  have e1 : T.val / 256 / 64 = T.val / 16384 := by omega
  have e2 : 256 * (T.val / 256 % 64) + (128 * (T.val % 256 / 128) + T.val % 128) = T.val % 16384 := by omega
  dsimp only at hl
  rw [e1, e2] at hl
  refine Eq.trans ?_ (hb.trans (Eq.trans ?_ hl))
  · blk_ext [index12]
    show T.val = T.val / 256 * 256 + T.val % 256
    omega
  · blk_ext []
    all_goals first | rfl | (show T.val % 256 = 128 * (T.val % 256 / 128) + T.val % 128; omega)

end Cert.Grid
-- ==== Proof.RefSteps.lean ====
/- The reference's run stated over its step: at a valuation that holds a state, every value of one trip is the step
   module's, so one trip keeps holding with `step` applied, and the results are the fields of `step` iterated from
   `init`. The lines follow the generated text; the two lemmas on the carried values are closed up to unfolding. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v73_7) = s.main_v73_7
  f_8 : V0 (Proc.devRef .tc main_v73_8) = s.main_v73_8
  f_0 : V0 (Proc.devRef .tc main_v73_0) = s.main_v73_0
  f_1 : V0 (Proc.devRef .tc main_v73_1) = s.main_v73_1
  f_2 : V0 (Proc.devRef .tc main_v73_2) = s.main_v73_2
  f_3 : V0 (Proc.devRef .tc main_v73_3) = s.main_v73_3
  f_4 : V0 (Proc.devRef .tc main_v73_4) = s.main_v73_4
  f_5 : V0 (Proc.devRef .tc main_v73_5) = s.main_v73_5
  n_6 : V0 (Proc.devRef .tc main_v73_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x2x8x128 (V0 (Proc.devRef .tc main_v73_0)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (shapeCast S2x8x128 (Host.dynamicSlice S1x2x8x128 (V0 (Proc.devRef .tc main_v73_0)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128 : (Proc.devRef .tc main_while0b_v80 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x2x8x128 (V0 (Proc.devRef .tc main_v73_1)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (shapeCast S2x8x128 (Host.dynamicSlice S1x2x8x128 (V0 (Proc.devRef .tc main_v73_1)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128 : (Proc.devRef .tc main_while0b_v81 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x2x8x128 (V0 (Proc.devRef .tc main_v73_2)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128 : (Proc.devRef .tc main_while0b_call2_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (shapeCast S2x8x128 (Host.dynamicSlice S1x2x8x128 (V0 (Proc.devRef .tc main_v73_2)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128 : (Proc.devRef .tc main_while0b_v82 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call3_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x2x8x128 (V0 (Proc.devRef .tc main_v73_3)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128 : (Proc.devRef .tc main_while0b_call3_v0 : DevRef τ sig).ty.Contents (Elt F)) = Cert.ReferenceIdeal.Step.b18 j s := by
  unfold Cert.ReferenceIdeal.Step.b18
  rw [← al_15 h, ← al_16 h, ← al_17 h, h.f_3, h.n_6]
  try rfl
set_option maxRecDepth 8192 in
theorem al_19 (h : Holds V0 s j) : (shapeCast S2x8x128 (Host.dynamicSlice S1x2x8x128 (V0 (Proc.devRef .tc main_v73_3)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128 : (Proc.devRef .tc main_while0b_v83 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constantI S_ 32 0#32 : (Proc.devRef .tc main_while0b_call4_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_0 : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call4_c_1 : DevRef τ sig).ty.Contents (Elt F)) = Cert.ReferenceIdeal.Step.b22 j s := by
  unfold Cert.ReferenceIdeal.Step.b22
  rfl
set_option maxRecDepth 8192 in
theorem al_23 (h : Holds V0 s j) : (Host.dynamicSlice S1x2x8x128 (V0 (Proc.devRef .tc main_v73_4)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128 : (Proc.devRef .tc main_while0b_call4_v0 : DevRef τ sig).ty.Contents (Elt F)) = Cert.ReferenceIdeal.Step.b23 j s := by
  unfold Cert.ReferenceIdeal.Step.b23
  rw [← al_20 h, ← al_21 h, ← al_22 h, h.f_4, h.n_6]
  try rfl
set_option maxRecDepth 8192 in
theorem al_24 (h : Holds V0 s j) : (res_main_while0b_v84 V0 : (Proc.devRef .tc main_while0b_v84 : DevRef τ sig).ty.Contents (Elt F)) = Cert.ReferenceIdeal.Step.b24 j s := by
  unfold res_main_while0b_v84 Cert.ReferenceIdeal.Step.b24
  rw [← al_23 h]
  try rfl
set_option maxRecDepth 8192 in
theorem al_25 (h : Holds V0 s j) : (broadcastInDim S2x8x128x1 ![0, 1, 2] bcast_S2x8x128_S2x8x128x1_0_1_2 (shapeCast S2x8x128 (Host.dynamicSlice S1x2x8x128 (V0 (Proc.devRef .tc main_v73_2)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128) : (Proc.devRef .tc main_while0b_v85 : DevRef τ sig).ty.Contents (Elt F)) = Cert.ReferenceIdeal.Step.b25 j s := by
  unfold Cert.ReferenceIdeal.Step.b25
  rw [← al_14 h]
  try rfl
set_option maxRecDepth 8192 in
theorem al_26 (h : Holds V0 s j) : (broadcastInDim S2x8x128x128 ![0, 1, 2, 3] bcast_S2x8x128x1_S2x8x128x128_0_1_2_3 (broadcastInDim S2x8x128x1 ![0, 1, 2] bcast_S2x8x128_S2x8x128x1_0_1_2 (shapeCast S2x8x128 (Host.dynamicSlice S1x2x8x128 (V0 (Proc.devRef .tc main_v73_2)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128)) : (Proc.devRef .tc main_while0b_v86 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (mulf (broadcastInDim S2x8x128x128 ![0, 1, 2, 3] bcast_S2x8x128x1_S2x8x128x128_0_1_2_3 (broadcastInDim S2x8x128x1 ![0, 1, 2] bcast_S2x8x128_S2x8x128x1_0_1_2 (shapeCast S2x8x128 (Host.dynamicSlice S1x2x8x128 (V0 (Proc.devRef .tc main_v73_2)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128))) (V0 (Proc.devRef .tc main_v73_7)) : (Proc.devRef .tc main_while0b_v87 : DevRef τ sig).ty.Contents (Elt F)) = Cert.ReferenceIdeal.Step.b27 j s := by
  unfold Cert.ReferenceIdeal.Step.b27
  rw [← al_26 h, h.f_7]
  try rfl
set_option maxRecDepth 8192 in
theorem al_28 (h : Holds V0 s j) : (broadcastInDim S2x8x128x1 ![0, 1, 2] bcast_S2x8x128_S2x8x128x1_0_1_2 (shapeCast S2x8x128 (Host.dynamicSlice S1x2x8x128 (V0 (Proc.devRef .tc main_v73_1)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128) : (Proc.devRef .tc main_while0b_v88 : DevRef τ sig).ty.Contents (Elt F)) = Cert.ReferenceIdeal.Step.b28 j s := by
  unfold Cert.ReferenceIdeal.Step.b28
  rw [← al_9 h]
  try rfl
set_option maxRecDepth 8192 in
theorem al_29 (h : Holds V0 s j) : (broadcastInDim S2x8x1x128 ![0, 1, 3] bcast_S2x8x128_S2x8x1x128_0_1_3 (shapeCast S2x8x128 (Host.dynamicSlice S1x2x8x128 (V0 (Proc.devRef .tc main_v73_3)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128) : (Proc.devRef .tc main_while0b_v89 : DevRef τ sig).ty.Contents (Elt F)) = Cert.ReferenceIdeal.Step.b29 j s := by
  unfold Cert.ReferenceIdeal.Step.b29
  rw [← al_19 h]
  try rfl
set_option maxRecDepth 8192 in
theorem al_30 (h : Holds V0 s j) : (broadcastInDim S2x8x128x128 ![0, 1, 2, 3] bcast_S2x8x128x1_S2x8x128x128_0_1_2_3 (broadcastInDim S2x8x128x1 ![0, 1, 2] bcast_S2x8x128_S2x8x128x1_0_1_2 (shapeCast S2x8x128 (Host.dynamicSlice S1x2x8x128 (V0 (Proc.devRef .tc main_v73_1)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128)) : (Proc.devRef .tc main_while0b_v90 : DevRef τ sig).ty.Contents (Elt F)) = Cert.ReferenceIdeal.Step.b30 j s := by
  unfold Cert.ReferenceIdeal.Step.b30
  rw [← al_28 h]
  try rfl
set_option maxRecDepth 8192 in
theorem al_31 (h : Holds V0 s j) : (broadcastInDim S2x8x128x128 ![0, 1, 2, 3] bcast_S2x8x1x128_S2x8x128x128_0_1_2_3 (broadcastInDim S2x8x1x128 ![0, 1, 3] bcast_S2x8x128_S2x8x1x128_0_1_3 (shapeCast S2x8x128 (Host.dynamicSlice S1x2x8x128 (V0 (Proc.devRef .tc main_v73_3)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128)) : (Proc.devRef .tc main_while0b_v91 : DevRef τ sig).ty.Contents (Elt F)) = Cert.ReferenceIdeal.Step.b31 j s := by
  unfold Cert.ReferenceIdeal.Step.b31
  rw [← al_29 h]
  try rfl
set_option maxRecDepth 8192 in
theorem al_32 (h : Holds V0 s j) : (mulf (broadcastInDim S2x8x128x128 ![0, 1, 2, 3] bcast_S2x8x128x1_S2x8x128x128_0_1_2_3 (broadcastInDim S2x8x128x1 ![0, 1, 2] bcast_S2x8x128_S2x8x128x1_0_1_2 (shapeCast S2x8x128 (Host.dynamicSlice S1x2x8x128 (V0 (Proc.devRef .tc main_v73_1)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128))) (broadcastInDim S2x8x128x128 ![0, 1, 2, 3] bcast_S2x8x1x128_S2x8x128x128_0_1_2_3 (broadcastInDim S2x8x1x128 ![0, 1, 3] bcast_S2x8x128_S2x8x1x128_0_1_3 (shapeCast S2x8x128 (Host.dynamicSlice S1x2x8x128 (V0 (Proc.devRef .tc main_v73_3)) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) sliceFits_S16384x2x8x128_S1x2x8x128) shapeCasts_S1x2x8x128_S2x8x128))) : (Proc.devRef .tc main_while0b_v92 : DevRef τ sig).ty.Contents (Elt F)) = Cert.ReferenceIdeal.Step.b32 j s := by
  unfold Cert.ReferenceIdeal.Step.b32
  rw [← al_30 h, ← al_31 h]
  try rfl
set_option maxRecDepth 8192 in
theorem al_33 (h : Holds V0 s j) : (res_main_while0b_v93 V0 : (Proc.devRef .tc main_while0b_v93 : DevRef τ sig).ty.Contents (Elt F)) = Cert.ReferenceIdeal.Step.b33 j s := by
  unfold res_main_while0b_v93 Cert.ReferenceIdeal.Step.b33
  rw [← al_27 h, ← al_32 h]
  try rfl
set_option maxRecDepth 8192 in
theorem al_34 (h : Holds V0 s j) : (res_main_while0b_v94 V0 : (Proc.devRef .tc main_while0b_v94 : DevRef τ sig).ty.Contents (Elt F)) = Cert.ReferenceIdeal.Step.b34 j s := by
  unfold res_main_while0b_v94 Cert.ReferenceIdeal.Step.b34
  rw [← al_4 h, ← al_33 h]
  try rfl
set_option maxRecDepth 8192 in
theorem al_35 (h : Holds V0 s j) : (mulf (res_main_while0b_v94 V0) (res_main_while0b_v94 V0) : (Proc.devRef .tc main_while0b_v95 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (constant S_ .f32 0x00000000#32 : (Proc.devRef .tc main_while0b_cst_22 : DevRef τ sig).ty.Contents (Elt F)) = Cert.ReferenceIdeal.Step.b36 j s := by
  unfold Cert.ReferenceIdeal.Step.b36
  rfl
set_option maxRecDepth 8192 in
theorem al_37 (h : Holds V0 s j) : (Host.reduceAdd (mulf (res_main_while0b_v94 V0) (res_main_while0b_v94 V0)) (constant S_ .f32 0x00000000#32) reducesTo_S2x8x128_S2x8_d2 h_S_ : (Proc.devRef .tc main_while0b_v96 : DevRef τ sig).ty.Contents (Elt F)) = Cert.ReferenceIdeal.Step.b37 j s := by
  unfold Cert.ReferenceIdeal.Step.b37
  rw [← al_35 h, ← al_36 h]
  try rfl
set_option maxRecDepth 8192 in
theorem al_38 (h : Holds V0 s j) : (broadcastInDim S2x8x1 ![0, 1] bcast_S2x8_S2x8x1_0_1 (Host.reduceAdd (mulf (res_main_while0b_v94 V0) (res_main_while0b_v94 V0)) (constant S_ .f32 0x00000000#32) reducesTo_S2x8x128_S2x8_d2 h_S_) : (Proc.devRef .tc main_while0b_v97 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (constant S_ .f32 0x43000000#32 : (Proc.devRef .tc main_while0b_cst_23 : DevRef τ sig).ty.Contents (Elt F)) = Cert.ReferenceIdeal.Step.b39 j s := by
  unfold Cert.ReferenceIdeal.Step.b39
  rfl
set_option maxRecDepth 8192 in
theorem al_40 (h : Holds V0 s j) : (broadcastInDim S2x8x1 ![] bcast_S_S2x8x1 (constant S_ .f32 0x43000000#32) : (Proc.devRef .tc main_while0b_v98 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (Host.divf (broadcastInDim S2x8x1 ![0, 1] bcast_S2x8_S2x8x1_0_1 (Host.reduceAdd (mulf (res_main_while0b_v94 V0) (res_main_while0b_v94 V0)) (constant S_ .f32 0x00000000#32) reducesTo_S2x8x128_S2x8_d2 h_S_)) (broadcastInDim S2x8x1 ![] bcast_S_S2x8x1 (constant S_ .f32 0x43000000#32)) : (Proc.devRef .tc main_while0b_v99 : DevRef τ sig).ty.Contents (Elt F)) = Cert.ReferenceIdeal.Step.b41 j s := by
  unfold Cert.ReferenceIdeal.Step.b41
  rw [← al_38 h, ← al_40 h]
  try rfl
set_option maxRecDepth 8192 in
theorem al_42 (h : Holds V0 s j) : (constant S_ .f32 0x358637BD#32 : (Proc.devRef .tc main_while0b_cst_24 : DevRef τ sig).ty.Contents (Elt F)) = Cert.ReferenceIdeal.Step.b42 j s := by
  unfold Cert.ReferenceIdeal.Step.b42
  rfl
set_option maxRecDepth 8192 in
theorem al_43 (h : Holds V0 s j) : (broadcastInDim S2x8x1 ![] bcast_S_S2x8x1 (constant S_ .f32 0x358637BD#32) : (Proc.devRef .tc main_while0b_v100 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (addf (Host.divf (broadcastInDim S2x8x1 ![0, 1] bcast_S2x8_S2x8x1_0_1 (Host.reduceAdd (mulf (res_main_while0b_v94 V0) (res_main_while0b_v94 V0)) (constant S_ .f32 0x00000000#32) reducesTo_S2x8x128_S2x8_d2 h_S_)) (broadcastInDim S2x8x1 ![] bcast_S_S2x8x1 (constant S_ .f32 0x43000000#32))) (broadcastInDim S2x8x1 ![] bcast_S_S2x8x1 (constant S_ .f32 0x358637BD#32)) : (Proc.devRef .tc main_while0b_v101 : DevRef τ sig).ty.Contents (Elt F)) = Cert.ReferenceIdeal.Step.b44 j s := by
  unfold Cert.ReferenceIdeal.Step.b44
  rw [← al_41 h, ← al_43 h]
  try rfl
set_option maxRecDepth 8192 in
theorem al_45 (h : Holds V0 s j) : (Host.rsqrt (addf (Host.divf (broadcastInDim S2x8x1 ![0, 1] bcast_S2x8_S2x8x1_0_1 (Host.reduceAdd (mulf (res_main_while0b_v94 V0) (res_main_while0b_v94 V0)) (constant S_ .f32 0x00000000#32) reducesTo_S2x8x128_S2x8_d2 h_S_)) (broadcastInDim S2x8x1 ![] bcast_S_S2x8x1 (constant S_ .f32 0x43000000#32))) (broadcastInDim S2x8x1 ![] bcast_S_S2x8x1 (constant S_ .f32 0x358637BD#32))) : (Proc.devRef .tc main_while0b_v102 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (broadcastInDim S2x8x128 ![0, 1, 2] bcast_S2x8x1_S2x8x128_0_1_2 (Host.rsqrt (addf (Host.divf (broadcastInDim S2x8x1 ![0, 1] bcast_S2x8_S2x8x1_0_1 (Host.reduceAdd (mulf (res_main_while0b_v94 V0) (res_main_while0b_v94 V0)) (constant S_ .f32 0x00000000#32) reducesTo_S2x8x128_S2x8_d2 h_S_)) (broadcastInDim S2x8x1 ![] bcast_S_S2x8x1 (constant S_ .f32 0x43000000#32))) (broadcastInDim S2x8x1 ![] bcast_S_S2x8x1 (constant S_ .f32 0x358637BD#32)))) : (Proc.devRef .tc main_while0b_v103 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (mulf (res_main_while0b_v94 V0) (broadcastInDim S2x8x128 ![0, 1, 2] bcast_S2x8x1_S2x8x128_0_1_2 (Host.rsqrt (addf (Host.divf (broadcastInDim S2x8x1 ![0, 1] bcast_S2x8_S2x8x1_0_1 (Host.reduceAdd (mulf (res_main_while0b_v94 V0) (res_main_while0b_v94 V0)) (constant S_ .f32 0x00000000#32) reducesTo_S2x8x128_S2x8_d2 h_S_)) (broadcastInDim S2x8x1 ![] bcast_S_S2x8x1 (constant S_ .f32 0x43000000#32))) (broadcastInDim S2x8x1 ![] bcast_S_S2x8x1 (constant S_ .f32 0x358637BD#32))))) : (Proc.devRef .tc main_while0b_v104 : DevRef τ sig).ty.Contents (Elt F)) = Cert.ReferenceIdeal.Step.b47 j s := by
  unfold Cert.ReferenceIdeal.Step.b47
  rw [← al_34 h, ← al_46 h]
  try rfl
set_option maxRecDepth 8192 in
theorem al_48 (h : Holds V0 s j) : (broadcastInDim S1x8x128 ![1, 2] bcast_S8x128_S1x8x128_1_2 (V0 (Proc.devRef .tc main_v73_5)) : (Proc.devRef .tc main_while0b_v105 : DevRef τ sig).ty.Contents (Elt F)) = Cert.ReferenceIdeal.Step.b48 j s := by
  unfold Cert.ReferenceIdeal.Step.b48
  rw [h.f_5]
  try rfl
set_option maxRecDepth 8192 in
theorem al_49 (h : Holds V0 s j) : (broadcastInDim S2x8x128 ![0, 1, 2] bcast_S1x8x128_S2x8x128_0_1_2 (broadcastInDim S1x8x128 ![1, 2] bcast_S8x128_S1x8x128_1_2 (V0 (Proc.devRef .tc main_v73_5))) : (Proc.devRef .tc main_while0b_v106 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (mulf (mulf (res_main_while0b_v94 V0) (broadcastInDim S2x8x128 ![0, 1, 2] bcast_S2x8x1_S2x8x128_0_1_2 (Host.rsqrt (addf (Host.divf (broadcastInDim S2x8x1 ![0, 1] bcast_S2x8_S2x8x1_0_1 (Host.reduceAdd (mulf (res_main_while0b_v94 V0) (res_main_while0b_v94 V0)) (constant S_ .f32 0x00000000#32) reducesTo_S2x8x128_S2x8_d2 h_S_)) (broadcastInDim S2x8x1 ![] bcast_S_S2x8x1 (constant S_ .f32 0x43000000#32))) (broadcastInDim S2x8x1 ![] bcast_S_S2x8x1 (constant S_ .f32 0x358637BD#32)))))) (broadcastInDim S2x8x128 ![0, 1, 2] bcast_S1x8x128_S2x8x128_0_1_2 (broadcastInDim S1x8x128 ![1, 2] bcast_S8x128_S1x8x128_1_2 (V0 (Proc.devRef .tc main_v73_5)))) : (Proc.devRef .tc main_while0b_v107 : DevRef τ sig).ty.Contents (Elt F)) = Cert.ReferenceIdeal.Step.b50 j s := by
  unfold Cert.ReferenceIdeal.Step.b50
  rw [← al_47 h, ← al_49 h]
  try rfl
set_option maxRecDepth 8192 in
theorem al_51 (h : Holds V0 s j) : (Host.negf (res_main_while0b_v84 V0) : (Proc.devRef .tc main_while0b_call5_v0 : DevRef τ sig).ty.Contents (Elt F)) = Cert.ReferenceIdeal.Step.b51 j s := by
  unfold Cert.ReferenceIdeal.Step.b51
  rw [← al_24 h]
  try rfl
set_option maxRecDepth 8192 in
theorem al_52 (h : Holds V0 s j) : (Host.exp (Host.negf (res_main_while0b_v84 V0)) : (Proc.devRef .tc main_while0b_call5_v1 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (constant S_ .f32 0x3F800000#32 : (Proc.devRef .tc main_while0b_call5_cst : DevRef τ sig).ty.Contents (Elt F)) = Cert.ReferenceIdeal.Step.b53 j s := by
  unfold Cert.ReferenceIdeal.Step.b53
  rfl
set_option maxRecDepth 8192 in
theorem al_54 (h : Holds V0 s j) : (broadcastInDim S2x8x128 ![] bcast_S_S2x8x128 (constant S_ .f32 0x3F800000#32) : (Proc.devRef .tc main_while0b_call5_v2 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (addf (broadcastInDim S2x8x128 ![] bcast_S_S2x8x128 (constant S_ .f32 0x3F800000#32)) (Host.exp (Host.negf (res_main_while0b_v84 V0))) : (Proc.devRef .tc main_while0b_call5_v3 : DevRef τ sig).ty.Contents (Elt F)) = Cert.ReferenceIdeal.Step.b55 j s := by
  unfold Cert.ReferenceIdeal.Step.b55
  rw [← al_54 h, ← al_52 h]
  try rfl
set_option maxRecDepth 8192 in
theorem al_56 (h : Holds V0 s j) : (constant S_ .f32 0x3F800000#32 : (Proc.devRef .tc main_while0b_call5_cst_0 : DevRef τ sig).ty.Contents (Elt F)) = Cert.ReferenceIdeal.Step.b56 j s := by
  unfold Cert.ReferenceIdeal.Step.b56
  rfl
set_option maxRecDepth 8192 in
theorem al_57 (h : Holds V0 s j) : (broadcastInDim S2x8x128 ![] bcast_S_S2x8x128 (constant S_ .f32 0x3F800000#32) : (Proc.devRef .tc main_while0b_call5_v4 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (Host.divf (broadcastInDim S2x8x128 ![] bcast_S_S2x8x128 (constant S_ .f32 0x3F800000#32)) (addf (broadcastInDim S2x8x128 ![] bcast_S_S2x8x128 (constant S_ .f32 0x3F800000#32)) (Host.exp (Host.negf (res_main_while0b_v84 V0)))) : (Proc.devRef .tc main_while0b_call5_v5 : DevRef τ sig).ty.Contents (Elt F)) = Cert.ReferenceIdeal.Step.b58 j s := by
  unfold Cert.ReferenceIdeal.Step.b58
  rw [← al_57 h, ← al_55 h]
  try rfl
set_option maxRecDepth 8192 in
theorem al_59 (h : Holds V0 s j) : (mulf (res_main_while0b_v84 V0) (Host.divf (broadcastInDim S2x8x128 ![] bcast_S_S2x8x128 (constant S_ .f32 0x3F800000#32)) (addf (broadcastInDim S2x8x128 ![] bcast_S_S2x8x128 (constant S_ .f32 0x3F800000#32)) (Host.exp (Host.negf (res_main_while0b_v84 V0))))) : (Proc.devRef .tc main_while0b_v108 : DevRef τ sig).ty.Contents (Elt F)) = Cert.ReferenceIdeal.Step.b59 j s := by
  unfold Cert.ReferenceIdeal.Step.b59
  rw [← al_24 h, ← al_58 h]
  try rfl
set_option maxRecDepth 8192 in
theorem al_60 (h : Holds V0 s j) : (mulf (mulf (mulf (res_main_while0b_v94 V0) (broadcastInDim S2x8x128 ![0, 1, 2] bcast_S2x8x1_S2x8x128_0_1_2 (Host.rsqrt (addf (Host.divf (broadcastInDim S2x8x1 ![0, 1] bcast_S2x8_S2x8x1_0_1 (Host.reduceAdd (mulf (res_main_while0b_v94 V0) (res_main_while0b_v94 V0)) (constant S_ .f32 0x00000000#32) reducesTo_S2x8x128_S2x8_d2 h_S_)) (broadcastInDim S2x8x1 ![] bcast_S_S2x8x1 (constant S_ .f32 0x43000000#32))) (broadcastInDim S2x8x1 ![] bcast_S_S2x8x1 (constant S_ .f32 0x358637BD#32)))))) (broadcastInDim S2x8x128 ![0, 1, 2] bcast_S1x8x128_S2x8x128_0_1_2 (broadcastInDim S1x8x128 ![1, 2] bcast_S8x128_S1x8x128_1_2 (V0 (Proc.devRef .tc main_v73_5))))) (mulf (res_main_while0b_v84 V0) (Host.divf (broadcastInDim S2x8x128 ![] bcast_S_S2x8x128 (constant S_ .f32 0x3F800000#32)) (addf (broadcastInDim S2x8x128 ![] bcast_S_S2x8x128 (constant S_ .f32 0x3F800000#32)) (Host.exp (Host.negf (res_main_while0b_v84 V0)))))) : (Proc.devRef .tc main_while0b_v109 : DevRef τ sig).ty.Contents (Elt F)) = Cert.ReferenceIdeal.Step.b60 j s := by
  unfold Cert.ReferenceIdeal.Step.b60
  rw [← al_50 h, ← al_59 h]
  try rfl
set_option maxRecDepth 8192 in
theorem al_61 (h : Holds V0 s j) : (broadcastInDim S1x2x8x128 ![1, 2, 3] bcast_S2x8x128_S1x2x8x128_1_2_3 (mulf (mulf (mulf (res_main_while0b_v94 V0) (broadcastInDim S2x8x128 ![0, 1, 2] bcast_S2x8x1_S2x8x128_0_1_2 (Host.rsqrt (addf (Host.divf (broadcastInDim S2x8x1 ![0, 1] bcast_S2x8_S2x8x1_0_1 (Host.reduceAdd (mulf (res_main_while0b_v94 V0) (res_main_while0b_v94 V0)) (constant S_ .f32 0x00000000#32) reducesTo_S2x8x128_S2x8_d2 h_S_)) (broadcastInDim S2x8x1 ![] bcast_S_S2x8x1 (constant S_ .f32 0x43000000#32))) (broadcastInDim S2x8x1 ![] bcast_S_S2x8x1 (constant S_ .f32 0x358637BD#32)))))) (broadcastInDim S2x8x128 ![0, 1, 2] bcast_S1x8x128_S2x8x128_0_1_2 (broadcastInDim S1x8x128 ![1, 2] bcast_S8x128_S1x8x128_1_2 (V0 (Proc.devRef .tc main_v73_5))))) (mulf (res_main_while0b_v84 V0) (Host.divf (broadcastInDim S2x8x128 ![] bcast_S_S2x8x128 (constant S_ .f32 0x3F800000#32)) (addf (broadcastInDim S2x8x128 ![] bcast_S_S2x8x128 (constant S_ .f32 0x3F800000#32)) (Host.exp (Host.negf (res_main_while0b_v84 V0))))))) : (Proc.devRef .tc main_while0b_call6_v0 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (constantI S_ 32 0#32 : (Proc.devRef .tc main_while0b_call6_c : DevRef τ sig).ty.Contents (Elt F)) = Cert.ReferenceIdeal.Step.b62 j s := by
  unfold Cert.ReferenceIdeal.Step.b62
  rfl
set_option maxRecDepth 8192 in
theorem al_63 (h : Holds V0 s j) : (constantI S_ 32 0#32 : (Proc.devRef .tc main_while0b_call6_c_0 : DevRef τ sig).ty.Contents (Elt F)) = Cert.ReferenceIdeal.Step.b63 j s := by
  unfold Cert.ReferenceIdeal.Step.b63
  rfl
set_option maxRecDepth 8192 in
theorem al_64 (h : Holds V0 s j) : (constantI S_ 32 0#32 : (Proc.devRef .tc main_while0b_call6_c_1 : DevRef τ sig).ty.Contents (Elt F)) = Cert.ReferenceIdeal.Step.b64 j s := by
  unfold Cert.ReferenceIdeal.Step.b64
  rfl
set_option maxRecDepth 8192 in
theorem al_65 (h : Holds V0 s j) : (Host.dynamicUpdateSlice (V0 (Proc.devRef .tc main_v73_8)) (broadcastInDim S1x2x8x128 ![1, 2, 3] bcast_S2x8x128_S1x2x8x128_1_2_3 (mulf (mulf (mulf (res_main_while0b_v94 V0) (broadcastInDim S2x8x128 ![0, 1, 2] bcast_S2x8x1_S2x8x128_0_1_2 (Host.rsqrt (addf (Host.divf (broadcastInDim S2x8x1 ![0, 1] bcast_S2x8_S2x8x1_0_1 (Host.reduceAdd (mulf (res_main_while0b_v94 V0) (res_main_while0b_v94 V0)) (constant S_ .f32 0x00000000#32) reducesTo_S2x8x128_S2x8_d2 h_S_)) (broadcastInDim S2x8x1 ![] bcast_S_S2x8x1 (constant S_ .f32 0x43000000#32))) (broadcastInDim S2x8x1 ![] bcast_S_S2x8x1 (constant S_ .f32 0x358637BD#32)))))) (broadcastInDim S2x8x128 ![0, 1, 2] bcast_S1x8x128_S2x8x128_0_1_2 (broadcastInDim S1x8x128 ![1, 2] bcast_S8x128_S1x8x128_1_2 (V0 (Proc.devRef .tc main_v73_5))))) (mulf (res_main_while0b_v84 V0) (Host.divf (broadcastInDim S2x8x128 ![] bcast_S_S2x8x128 (constant S_ .f32 0x3F800000#32)) (addf (broadcastInDim S2x8x128 ![] bcast_S_S2x8x128 (constant S_ .f32 0x3F800000#32)) (Host.exp (Host.negf (res_main_while0b_v84 V0)))))))) (fun k => (((![V0 (Proc.devRef .tc main_v73_6), constantI S_ 32 0#32, constantI S_ 32 0#32, constantI S_ 32 0#32] : Fin 4 → (⟨S_, .i32⟩ : BufTy).Contents (Elt F))) k (Shape.Idx.first h_S_)).toInt) updateFits_S16384x2x8x128_S1x2x8x128 : (Proc.devRef .tc main_while0b_v110 : DevRef τ sig).ty.Contents (Elt F)) = Cert.ReferenceIdeal.Step.b65 j s := by
  unfold Cert.ReferenceIdeal.Step.b65
  rw [← al_61 h, ← al_62 h, ← al_63 h, ← al_64 h, h.f_8, h.n_6]
  try rfl

/-! One trip's step of the carried values is `step`, field by field; a counter steps to the next number. -/

theorem step_7 (h : Holds V0 s j) : step_main_v73_7 V0 = (step j s).main_v73_7 := by
  unfold step_main_v73_7 Cert.ReferenceIdeal.Step.step
  exact al_33 h
theorem step_8 (h : Holds V0 s j) : step_main_v73_8 V0 = (step j s).main_v73_8 := by
  unfold step_main_v73_8 Cert.ReferenceIdeal.Step.step
  exact al_65 h
theorem step_6 (h : Holds V0 s j) : step_main_v73_6 V0 = constantI S_ 32 (BitVec.ofNat 32 (j + 1)) := by
  unfold step_main_v73_6
  rw [h.n_6]
  funext i
  show BitVec.ofNat 32 j + 1#32 = BitVec.ofNat 32 (j + 1)
  simp only [BitVec.ofNat_add]

set_option maxRecDepth 8192 in
theorem out_main_v79_holds (h : Holds V0 s j) : out_main_v79 V0 = Cert.ReferenceIdeal.Step.R_main_v79 s := by
  unfold out_main_v79 Cert.ReferenceIdeal.Step.R_main_v79
  rw [h.f_8]
  try rfl

/-- One trip keeps the valuation holding: `step` of the state, the same set-up values, the next number. -/
theorem holds_step (h : Holds V0 s j) : Holds (STEP V0) (step j s) (j + 1) where
  f_7 := (STEP_main_v73_7 V0).trans (step_7 h)
  f_8 := (STEP_main_v73_8 V0).trans (step_8 h)
  n_6 := (STEP_main_v73_6 V0).trans (step_6 h)
  f_0 := (STEP_main_v73_0 V0).trans h.f_0
  f_1 := (STEP_main_v73_1 V0).trans h.f_1
  f_2 := (STEP_main_v73_2 V0).trans h.f_2
  f_3 := (STEP_main_v73_3 V0).trans h.f_3
  f_4 := (STEP_main_v73_4 V0).trans h.f_4
  f_5 := (STEP_main_v73_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 16384 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v79) = Cert.ReferenceIdeal.Step.R_main_v79 (it c 16384)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m c (it c) (h0 c) (hs c) 16384
    ⟨(h c).1.trans (out_main_v79_holds hk), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.ReferenceIdeal.StepRun

end
-- ==== Proof.RefVal.lean ====
/- The reference read at an index, for finite arguments: its normalised tokens, their projection, the gates, one token of
   the recurrence, and by induction on the tokens the value it returns. -/
module

public import proofs.«01_k».proof.Proof.Gen.ReferenceIdeal.Step
public import proofs.«01_k».proof.Proof.GridStep
public import Idealize.ShloMosaic.Lib.Pointwise
public import Idealize.ShloMosaic.Lib.DynamicIndex
public import Idealize.ShloMosaic.Lib.WordCmp

@[expose] public section

set_option maxRecDepth 16384

noncomputable section

namespace Cert.RefVal

open Idealize.ShloMosaic Cert.ReferenceIdeal Cert.ReferenceIdeal.Gen Cert.ReferenceIdeal.Step
open Cert.Reads (Nums Holds)
open Cert.Grid (un pr sq)
open Cert.Pair (sg sg_coe rt rt_coe eps eps_coe n128 n2048 div_real coe_sum lbR fold2 keyR decR cj lj nj stJ yJ oR)

theorem sgn (x : ℝ) : Ideal.div 1 (1 + Ideal.exp (-(x : EReal))) = ((sg x : ℝ) : EReal) := by
  have h := sg_coe x
  rw [EReal.coe_one, zero_sub] at h
  exact h

theorem bot32 : Ideal.ofBits FTy.f32 4286578688#32 = (⊥ : EReal) := by
  simp [Ideal.ofBits, Ideal.ieee]

theorem sum_range {n : ℕ} (g : Fin n → EReal) (f : ℕ → ℝ) (h : ∀ i : Fin n, g i = ((f i.val : ℝ) : EReal)) :
    ∑ i, g i = ((∑ i ∈ Finset.range n, f i : ℝ) : EReal) := by
  rw [← Fin.sum_univ_eq_sum_range, coe_sum]
  exact Finset.sum_congr rfl fun i _ => h i

section
variable {a0 : S2x16384x2048.Idx → EReal} {a1 : S1x2048.Idx → EReal} {a2 : S1x2048x8200.Idx → EReal} {a8 : S2x1024.Idx → EReal}
  {a9 : S1x1024.Idx → EReal} {D : Nums} (hA : Holds a0 a1 a2 a8 a9 D)
include hA

theorem x_at (b : Fin 2) (t : Fin 16384) (d : Fin 2048) : a0 (ix3 b t d) = ((D.X (16384 * b.val + t.val) d.val : ℝ) : EReal) := by
  rw [ix3_eq_valueIdx]; exact hA.x b t d
theorem n_at (d : Fin 2048) : a1 (ix2 0 d) = ((D.N d.val : ℝ) : EReal) := by
  rw [ix2_eq_valueIdx]; exact hA.n 0 d
theorem w_at (d : Fin 2048) (k : Fin 8200) : a2 (ix3 0 d k) = ((D.W d.val k.val : ℝ) : EReal) := by
  rw [ix3_eq_valueIdx]; exact hA.w d k
theorem h_at (l : Fin 2) (d : Fin 1024) : a8 (ix2 l d) = ((D.H l.val d.val : ℝ) : EReal) := by
  rw [ix2_eq_valueIdx]; exact hA.h l d
theorem g_at (d : Fin 1024) : a9 (ix2 0 d) = ((D.G d.val : ℝ) : EReal) := by
  rw [ix2_eq_valueIdx]; exact hA.g 0 d

theorem v26_at (b : Fin 2) (t : Fin 16384) (d : Fin 2048) :
    (A_main_v26 (F := Ideal) a0 a1 a2 a8 a9 : S2x16384x2048.Idx → EReal) (ix3 b t d) = ((un D (16384 * b.val + t.val) d.val : ℝ) : EReal) := by
  pointwise [A_main_v26, A_main_v25, A_main_v24, A_main_v23, A_main_v22, A_main_v21, A_main_v20, A_main_v18, A_main_v16, A_main_v15, A_main_v14, A_main_v13, K_main_v17, K_main_v19, K_main_cst_2, K_main_cst_3, K_main_cst_4]
  rw [x_at hA, n_at hA, sum_range _ (fun i => D.X (16384 * b.val + t.val) i * D.X (16384 * b.val + t.val) i)
      (fun i => by rw [x_at hA, ← EReal.coe_mul]),
    show Ideal.ofBits FTy.f32 1157627904#32 = ((2048 : ℝ) : EReal) from n2048,
    show Ideal.ofBits FTy.f32 897988541#32 = ((eps : ℝ) : EReal) from eps_coe,
    rt_coe (by norm_num) (Finset.sum_nonneg fun i _ => mul_self_nonneg _), ← EReal.coe_mul, ← EReal.coe_mul]
  rfl

/-- A projected column, numbered as in the weight: a column after the gates of the other half of the heads is eight to the
    left in the kernel's own numbering. -/
theorem v28_at (b : Fin 2) (t : Fin 16384) (k : Fin 8200) (hk : 4104 ≤ k.val) :
    (A_main_v28 (F := Ideal) a0 a1 a2 a8 a9 : S2x16384x8200.Idx → EReal) (ix3 b t k) = ((sq D b.val t.val (k.val - 8) : ℝ) : EReal) := by
  pointwise [A_main_v28, A_main_v27]
  refine sum_range _ (fun d => un D (16384 * b.val + t.val) d * D.M d (k.val - 8)) fun d => ?_
  rw [v26_at hA, w_at hA, ← EReal.coe_mul]
  have h1 : D.M d.val (k.val - 8) = D.W d.val k.val := by
    unfold Nums.M
    rw [if_neg (by omega)]
    congr 1; omega
  rw [h1]

theorem v12_at (d : Fin 1024) : (A_main_v12 (F := Ideal) a0 a1 a2 a8 a9 : S1024.Idx → EReal) (ix1 d) = ((lbR D.H d.val : ℝ) : EReal) := by
  pointwise [A_main_v12,A_main_v11,A_main_v10,A_main_v9,A_main_v8,A_main_v7,A_main_v6,A_main_v5,A_main_v4,A_main_v3,A_main_v2,A_main_v0,K_main_cst,K_main_cst_0,K_main_cst_1,K_main_v1]
  have hm : max (Ideal.ofBits FTy.f32 4286578688#32)
      (Finset.fold max (Ideal.ofBits FTy.f32 4286578688#32) (fun x => a8 (ix2 x d)) Finset.univ)
      = ((max (D.H 0 d.val) (D.H 1 d.val) : ℝ) : EReal) := by
    rw [bot32, max_bot_left, fold2, h_at hA, h_at hA]
    exact (EReal.coe_strictMono.monotone.map_max).symm
  rw [hm, Fin.sum_univ_two, h_at hA, h_at hA, ← EReal.coe_sub, ← EReal.coe_sub, Ideal.exp_coe, Ideal.exp_coe, ← EReal.coe_add]
  refine (div_real (by positivity)).trans ?_
  rfl

/-! What the loop is handed. -/

theorem v66_at (t : Fin 16384) (b : Fin 2) (h : Fin 8) (x : Fin 128) :
    (A_main_v66 (F := Ideal) a0 a1 a2 a8 a9 : S16384x2x8x128.Idx → EReal) (ix4 t b h x)
      = ((cj (sq D b.val) 16 (h.val / 2) t.val (128 * (h.val % 2) + x.val) : ℝ) : EReal) := by
  pointwise [A_main_v66, A_main_v61, A_main_v29]
  rw [v28_at hA _ _ _ (by simp only []; omega)]
  refine congrArg (fun k => ((sq D b.val t.val k : ℝ) : EReal)) ?_
  simp only []; omega

theorem v69_at (t : Fin 16384) (b : Fin 2) (h : Fin 8) (x : Fin 128) :
    (A_main_v69 (F := Ideal) a0 a1 a2 a8 a9 : S16384x2x8x128.Idx → EReal) (ix4 t b h x)
      = ((cj (sq D b.val) 24 (h.val / 2) t.val (128 * (h.val % 2) + x.val) : ℝ) : EReal) := by
  pointwise [A_main_v69, A_main_v62, A_main_v31]
  rw [v28_at hA _ _ _ (by simp only []; omega)]
  refine congrArg (fun k => ((sq D b.val t.val k : ℝ) : EReal)) ?_
  simp only []; omega

theorem v70_at (t : Fin 16384) (b : Fin 2) (h : Fin 8) (x : Fin 128) :
    (A_main_v70 (F := Ideal) a0 a1 a2 a8 a9 : S16384x2x8x128.Idx → EReal) (ix4 t b h x)
      = ((cj (sq D b.val) 28 (h.val / 2) t.val (128 * (h.val % 2) + x.val) : ℝ) : EReal) := by
  pointwise [A_main_v70, A_main_v63, A_main_v32]
  rw [v28_at hA _ _ _ (by simp only []; omega)]
  refine congrArg (fun k => ((sq D b.val t.val k : ℝ) : EReal)) ?_
  simp only []; omega

theorem v65_at (h : Fin 8) (x : Fin 128) :
    (A_main_v65 (F := Ideal) a0 a1 a2 a8 a9 : S8x128.Idx → EReal) (ix2 h x)
      = ((nj D.G (h.val / 2) (128 * (h.val % 2) + x.val) : ℝ) : EReal) := by
  pointwise [A_main_v65, A_main_v64]
  rw [g_at hA]
  refine congrArg (fun k => ((D.G k : ℝ) : EReal)) ?_
  simp only []; omega

/-- The raw forget gate. -/
theorem raw_at (b : Fin 2) (t : Fin 16384) (h : Fin 8) (x : Fin 128) (hk : 5128 + (h.val * 128 + x.val) < 8200) :
    (A_main_v28 (F := Ideal) a0 a1 a2 a8 a9 : S2x16384x8200.Idx → EReal) (ix3 b t ⟨5128 + (h.val * 128 + x.val), hk⟩)
      = ((cj (sq D b.val) 20 (h.val / 2) t.val (128 * (h.val % 2) + x.val) : ℝ) : EReal) := by
  rw [v28_at hA _ _ _ (by simp only []; omega)]
  refine congrArg (fun k => ((sq D b.val t.val k : ℝ) : EReal)) ?_
  simp only []; omega

theorem low_at (h : Fin 8) (x : Fin 128) (hk : h.val * 128 + x.val < 1024) :
    (A_main_v12 (F := Ideal) a0 a1 a2 a8 a9 : S1024.Idx → EReal) (ix1 ⟨h.val * 128 + x.val, hk⟩)
      = ((lj D.H (h.val / 2) (128 * (h.val % 2) + x.val) : ℝ) : EReal) := by
  rw [v12_at hA]
  refine congrArg (fun k => ((lbR D.H k : ℝ) : EReal)) ?_
  simp only []; omega

theorem v68_at (t : Fin 16384) (b : Fin 2) (h : Fin 8) (x : Fin 128) :
    (A_main_v68 (F := Ideal) a0 a1 a2 a8 a9 : S16384x2x8x128.Idx → EReal) (ix4 t b h x)
      = ((decR (lj D.H (h.val / 2)) (cj (sq D b.val) 20 (h.val / 2)) t.val (128 * (h.val % 2) + x.val) : ℝ) : EReal) := by
  pointwise [A_main_v68,A_main_v47,A_main_v46,A_main_v45,A_main_v44,A_main_v43,A_main_v42,A_main_v41,A_main_v40,A_main_v38,A_main_v36,A_main_v35,A_main_v34,A_main_v30,K_main_v33,K_main_v37,K_main_v39,K_main_cst_5,K_main_cst_6,K_main_cst_7]
  rw [low_at hA, raw_at hA, sgn, ← EReal.coe_one, ← EReal.coe_sub, ← EReal.coe_mul, ← EReal.coe_add]
  rfl

theorem v67_at (t : Fin 16384) (b : Fin 2) (h : Fin 8) (x : Fin 128) :
    (A_main_v67 (F := Ideal) a0 a1 a2 a8 a9 : S16384x2x8x128.Idx → EReal) (ix4 t b h x)
      = ((keyR (lj D.H (h.val / 2)) (cj (sq D b.val) 20 (h.val / 2)) t.val (128 * (h.val % 2) + x.val) : ℝ) : EReal) := by
  pointwise [A_main_v67,A_main_v60,A_main_v59,A_main_v58,A_main_v57,A_main_v56,A_main_v54,A_main_v52,A_main_v51,A_main_v50,A_main_v49,A_main_v30,K_main_v48,K_main_v53,K_main_v55,K_main_cst_8,K_main_cst_9,K_main_cst_10]
  rw [low_at hA, raw_at hA, ← EReal.coe_neg, sgn, ← EReal.coe_one, ← EReal.coe_sub, ← EReal.coe_mul]
  rfl
end

/-! One token. -/

/-- What the loop carries unchanged. -/
structure Fixed (D : Nums) (s : State Ideal) : Prop where
  q : ∀ (t : Fin 16384) (b : Fin 2) (h : Fin 8) (x : Fin 128), (s.main_v73_0 : S16384x2x8x128.Idx → EReal) (ix4 t b h x)
    = ((cj (sq D b.val) 16 (h.val / 2) t.val (128 * (h.val % 2) + x.val) : ℝ) : EReal)
  k : ∀ (t : Fin 16384) (b : Fin 2) (h : Fin 8) (x : Fin 128), (s.main_v73_1 : S16384x2x8x128.Idx → EReal) (ix4 t b h x)
    = ((keyR (lj D.H (h.val / 2)) (cj (sq D b.val) 20 (h.val / 2)) t.val (128 * (h.val % 2) + x.val) : ℝ) : EReal)
  f : ∀ (t : Fin 16384) (b : Fin 2) (h : Fin 8) (x : Fin 128), (s.main_v73_2 : S16384x2x8x128.Idx → EReal) (ix4 t b h x)
    = ((decR (lj D.H (h.val / 2)) (cj (sq D b.val) 20 (h.val / 2)) t.val (128 * (h.val % 2) + x.val) : ℝ) : EReal)
  v : ∀ (t : Fin 16384) (b : Fin 2) (h : Fin 8) (x : Fin 128), (s.main_v73_3 : S16384x2x8x128.Idx → EReal) (ix4 t b h x)
    = ((cj (sq D b.val) 24 (h.val / 2) t.val (128 * (h.val % 2) + x.val) : ℝ) : EReal)
  g : ∀ (t : Fin 16384) (b : Fin 2) (h : Fin 8) (x : Fin 128), (s.main_v73_4 : S16384x2x8x128.Idx → EReal) (ix4 t b h x)
    = ((cj (sq D b.val) 28 (h.val / 2) t.val (128 * (h.val % 2) + x.val) : ℝ) : EReal)
  w : ∀ (h : Fin 8) (x : Fin 128), (s.main_v73_5 : S8x128.Idx → EReal) (ix2 h x)
    = ((nj D.G (h.val / 2) (128 * (h.val % 2) + x.val) : ℝ) : EReal)

/-- What the loop has built after `n` tokens: the state, and the tokens stored. -/
structure Built (D : Nums) (n : ℕ) (s : State Ideal) : Prop where
  st : ∀ (b : Fin 2) (h : Fin 8) (e x : Fin 128), (s.main_v73_7 : S2x8x128x128.Idx → EReal) (ix4 b h e x)
    = ((stJ (sq D b.val) D.H n (h.val / 2) x.val (128 * (h.val % 2) + e.val) : ℝ) : EReal)
  y : ∀ (t : Fin 16384) (b : Fin 2) (h : Fin 8) (x : Fin 128), t.val < n → (s.main_v73_8 : S16384x2x8x128.Idx → EReal) (ix4 t b h x)
    = ((yJ (sq D b.val) D.H D.G t.val (h.val / 2) (128 * (h.val % 2) + x.val) : ℝ) : EReal)

theorem fits (j : Fin 16384) : S16384x2x8x128.Slices ![j.val, 0, 0, 0] S1x2x8x128 :=
  ⟨rfl, fun a => by
    match a with
    | ⟨0, _⟩ => show j.val + 1 ≤ 16384; omega
    | ⟨1, _⟩ => exact Nat.le_refl 2
    | ⟨2, _⟩ => exact Nat.le_refl 8
    | ⟨3, _⟩ => exact Nat.le_refl 128⟩

theorem word (j : Fin 16384) : (BitVec.ofNat 32 j.val).toInt = (j.val : Int) := by
  have := j.isLt
  rw [BitVec.toInt_eq_toNat_of_lt (by rw [BitVec.toNat_ofNat]; omega), BitVec.toNat_ofNat]
  congr 1; omega

theorem starts (j : Fin 16384) (k : Fin 4) : ((![(constantI S_ 32 (BitVec.ofNat 32 j.val) : S_.Idx → BitVec 32), constantI S_ 32 0#32, constantI S_ 32 0#32,
    constantI S_ 32 0#32] : Fin 4 → (S_.Idx → BitVec 32)) k (Shape.Idx.first h_S_)).toInt = ((![j.val, 0, 0, 0] : Fin 4 → ℕ) k : Int) := by
  match k with
  | ⟨0, _⟩ => exact word j
  | ⟨1, _⟩ => rfl
  | ⟨2, _⟩ => rfl
  | ⟨3, _⟩ => rfl

theorem slice_at (X : S16384x2x8x128.Idx → EReal) (j : Fin 16384) (b : Fin 2) (h : Fin 8) (x : Fin 128) :
    (shapeCast S2x8x128 (Host.dynamicSlice S1x2x8x128 X (fun k => ((![(constantI S_ 32 (BitVec.ofNat 32 j.val) : S_.Idx → BitVec 32), constantI S_ 32 0#32, constantI S_ 32 0#32,
      constantI S_ 32 0#32] : Fin 4 → (S_.Idx → BitVec 32)) k (Shape.Idx.first h_S_)).toInt) sliceFits_S16384x2x8x128_S1x2x8x128) shapeCasts_S1x2x8x128_S2x8x128 : S2x8x128.Idx → EReal) (ix3 b h x)
      = X (ix4 j b h x) := by
  rw [Host.dynamicSlice_eq_extractStridedSlice S1x2x8x128 X _ ![j.val, 0, 0, 0] _ (fits j) (starts j)]
  pointwise []

theorem b4_at (j : Fin 16384) (s : State Ideal) (b : Fin 2) (h : Fin 8) (x : Fin 128) :
    (b4 j.val s : S2x8x128.Idx → EReal) (ix3 b h x) = s.main_v73_0 (ix4 j b h x) := slice_at _ j b h x
theorem b9_at (j : Fin 16384) (s : State Ideal) (b : Fin 2) (h : Fin 8) (x : Fin 128) :
    (b9 j.val s : S2x8x128.Idx → EReal) (ix3 b h x) = s.main_v73_1 (ix4 j b h x) := slice_at _ j b h x
theorem b14_at (j : Fin 16384) (s : State Ideal) (b : Fin 2) (h : Fin 8) (x : Fin 128) :
    (b14 j.val s : S2x8x128.Idx → EReal) (ix3 b h x) = s.main_v73_2 (ix4 j b h x) := slice_at _ j b h x
theorem b19_at (j : Fin 16384) (s : State Ideal) (b : Fin 2) (h : Fin 8) (x : Fin 128) :
    (b19 j.val s : S2x8x128.Idx → EReal) (ix3 b h x) = s.main_v73_3 (ix4 j b h x) := slice_at _ j b h x
theorem b24_at (j : Fin 16384) (s : State Ideal) (b : Fin 2) (h : Fin 8) (x : Fin 128) :
    (b24 j.val s : S2x8x128.Idx → EReal) (ix3 b h x) = s.main_v73_4 (ix4 j b h x) := slice_at _ j b h x

section
variable {D : Nums} {j : Fin 16384} {s : State Ideal} (hF : Fixed D s) (hB : Built D j.val s)
include hF hB

theorem b33_at (b : Fin 2) (h : Fin 8) (e x : Fin 128) : (b33 j.val s : S2x8x128x128.Idx → EReal) (ix4 b h e x)
    = ((stJ (sq D b.val) D.H (j.val + 1) (h.val / 2) x.val (128 * (h.val % 2) + e.val) : ℝ) : EReal) := by
  pointwise [b33,b32,b31,b30,b29,b28,b27,b26,b25]
  rw [b14_at, b9_at, b19_at, hF.f, hF.k, hF.v, hB.st, ← EReal.coe_mul, ← EReal.coe_mul, ← EReal.coe_add]
  have h1 : (128 * (h.val % 2) + e.val) / 128 = h.val % 2 := by omega
  have h2 : stJ (sq D b.val) D.H (j.val + 1) (h.val / 2) x.val (128 * (h.val % 2) + e.val)
      = decR (lj D.H (h.val / 2)) (cj (sq D b.val) 20 (h.val / 2)) j.val (128 * (h.val % 2) + e.val)
          * stJ (sq D b.val) D.H j.val (h.val / 2) x.val (128 * (h.val % 2) + e.val)
        + keyR (lj D.H (h.val / 2)) (cj (sq D b.val) 20 (h.val / 2)) j.val (128 * (h.val % 2) + e.val)
          * cj (sq D b.val) 24 (h.val / 2) j.val (128 * ((128 * (h.val % 2) + e.val) / 128) + x.val) := rfl
  rw [h2, h1]

theorem b34_at (b : Fin 2) (h : Fin 8) (x : Fin 128) : (b34 j.val s : S2x8x128.Idx → EReal) (ix3 b h x)
    = ((oR (lj D.H (h.val / 2)) (cj (sq D b.val) 16 (h.val / 2)) (cj (sq D b.val) 20 (h.val / 2)) (cj (sq D b.val) 24 (h.val / 2)) j.val
        (128 * (h.val % 2) + x.val) : ℝ) : EReal) := by
  pointwise [b34]
  have h1 : (128 * (h.val % 2) + x.val) / 128 = h.val % 2 := by omega
  have h2 : (128 * (h.val % 2) + x.val) % 128 = x.val := by omega
  have h3 : oR (lj D.H (h.val / 2)) (cj (sq D b.val) 16 (h.val / 2)) (cj (sq D b.val) 20 (h.val / 2)) (cj (sq D b.val) 24 (h.val / 2)) j.val
        (128 * (h.val % 2) + x.val)
      = ∑ e ∈ Finset.range 128, cj (sq D b.val) 16 (h.val / 2) j.val (128 * ((128 * (h.val % 2) + x.val) / 128) + e)
          * stJ (sq D b.val) D.H (j.val + 1) (h.val / 2) ((128 * (h.val % 2) + x.val) % 128) (128 * ((128 * (h.val % 2) + x.val) / 128) + e) := rfl
  rw [h3, h1, h2]
  refine sum_range _ _ fun e => ?_
  rw [b4_at, hF.q, b33_at hF hB, ← EReal.coe_mul]

theorem b60_at (b : Fin 2) (h : Fin 8) (x : Fin 128) : (b60 j.val s : S2x8x128.Idx → EReal) (ix3 b h x)
    = ((yJ (sq D b.val) D.H D.G j.val (h.val / 2) (128 * (h.val % 2) + x.val) : ℝ) : EReal) := by
  pointwise [b60,b59,b58,b57,b56,b55,b54,b53,b52,b51,b50,b49,b48,b47,b46,b45,b44,b43,b42,b41,b40,b39,b38,b37,b36,b35]
  have h1 : (128 * (h.val % 2) + x.val) / 128 = h.val % 2 := by omega
  rw [sum_range _ (fun i => oR (lj D.H (h.val / 2)) (cj (sq D b.val) 16 (h.val / 2)) (cj (sq D b.val) 20 (h.val / 2)) (cj (sq D b.val) 24 (h.val / 2)) j.val
        (128 * (h.val % 2) + i)
      * oR (lj D.H (h.val / 2)) (cj (sq D b.val) 16 (h.val / 2)) (cj (sq D b.val) 20 (h.val / 2)) (cj (sq D b.val) 24 (h.val / 2)) j.val
        (128 * (h.val % 2) + i)) (fun i => by rw [b34_at hF hB, ← EReal.coe_mul]),
    b34_at hF hB, b24_at, hF.g, hF.w, sgn,
    show Ideal.ofBits FTy.f32 1124073472#32 = ((128 : ℝ) : EReal) from n128,
    show Ideal.ofBits FTy.f32 897988541#32 = ((eps : ℝ) : EReal) from eps_coe,
    rt_coe (by norm_num) (Finset.sum_nonneg fun i _ => mul_self_nonneg _),
    ← EReal.coe_mul, ← EReal.coe_mul, ← EReal.coe_mul, ← EReal.coe_mul]
  unfold yJ Cert.Pair.yR
  rw [h1]

theorem b65_new (b : Fin 2) (h : Fin 8) (x : Fin 128) : (b65 j.val s : S16384x2x8x128.Idx → EReal) (ix4 j b h x)
    = ((yJ (sq D b.val) D.H D.G j.val (h.val / 2) (128 * (h.val % 2) + x.val) : ℝ) : EReal) := by
  refine (congrFun (WordCmp.dynamicUpdateSlice_eq_update _ _ _ updateFits_S16384x2x8x128_S1x2x8x128 ![j.val, 0, 0, 0] (fits j) (starts j)) (ix4 j b h x)).trans ?_
  pointwise [b61]
  rw [b60_at hF hB, dif_pos ⟨Nat.le_refl _, Nat.lt_succ_self _⟩]

theorem b65_old (t : Fin 16384) (b : Fin 2) (h : Fin 8) (x : Fin 128) (ht : t.val < j.val) : (b65 j.val s : S16384x2x8x128.Idx → EReal) (ix4 t b h x)
    = ((yJ (sq D b.val) D.H D.G t.val (h.val / 2) (128 * (h.val % 2) + x.val) : ℝ) : EReal) := by
  refine (congrFun (WordCmp.dynamicUpdateSlice_eq_update _ _ _ updateFits_S16384x2x8x128_S1x2x8x128 ![j.val, 0, 0, 0] (fits j) (starts j)) (ix4 t b h x)).trans ?_
  rw [updateSlice_apply, dif_neg]
  · exact hB.y t b h x ht
  · intro hin
    have h0 : j.val ≤ t.val := (hin (0 : Fin 4)).1
    omega

theorem fixed_step : Fixed D (step j.val s) := ⟨hF.q, hF.k, hF.f, hF.v, hF.g, hF.w⟩

theorem built_step : Built D (j.val + 1) (step j.val s) := by
  refine ⟨fun b h e x => b33_at hF hB b h e x, fun t b h x ht => ?_⟩
  rcases Nat.lt_succ_iff_lt_or_eq.1 ht with h1 | h1
  · exact b65_old hF hB t b h x h1
  · obtain rfl : t = j := Fin.ext h1
    exact b65_new hF hB b h x
end

/-! All the tokens. -/

theorem zeros32 : Ideal.ofBits FTy.f32 0#32 = (0 : EReal) := by simp [Ideal.ofBits, Ideal.ieee]

theorem loop {a0 : S2x16384x2048.Idx → EReal} {a1 : S1x2048.Idx → EReal} {a2 : S1x2048x8200.Idx → EReal} {a8 : S2x1024.Idx → EReal}
    {a9 : S1x1024.Idx → EReal} {D : Nums} (hA : Holds a0 a1 a2 a8 a9 D) {it : ℕ → State Ideal}
    (h0 : it 0 = init (F := Ideal) a0 a1 a2 a8 a9) (hs : ∀ n, it (n + 1) = step n (it n)) :
    ∀ n, n ≤ 16384 → Fixed D (it n) ∧ Built D n (it n) := by
  intro n
  induction n with
  | zero =>
    intro _
    rw [h0]
    refine ⟨⟨v66_at hA, v67_at hA, v68_at hA, v69_at hA, v70_at hA, v65_at hA⟩, ⟨fun b h e x => ?_, fun t b h x ht => absurd ht (Nat.not_lt_zero _)⟩⟩
    show (K_main_v71 (F := Ideal) : S2x8x128x128.Idx → EReal) (ix4 b h e x) = ((0 : ℝ) : EReal)
    pointwise [K_main_v71, K_main_cst_11]
    exact EReal.coe_zero.symm
  | succ n ih =>
    intro hn
    obtain ⟨hF, hB⟩ := ih (by omega)
    rw [hs n]
    exact ⟨fixed_step (j := ⟨n, hn⟩) hF hB, built_step (j := ⟨n, hn⟩) hF hB⟩

theorem out_at {D : Nums} {s : State Ideal} (hB : Built D 16384 s) (T : Fin 32768) (hp : Fin 4) (i : Fin 2) (x : Fin 128) :
    (R_main_v79 s : S32768x2048.Idx → EReal) (ix2 T ⟨1024 + 256 * hp.val + 128 * i.val + x.val, by omega⟩)
      = ((yJ (sq D (T.val / 16384)) D.H D.G (T.val % 16384) hp.val (128 * i.val + x.val) : ℝ) : EReal) := by
  pointwise [R_main_v79]
  have e1 : (1024 + 256 * hp.val + 128 * i.val + x.val - 1024) / 128 / 2 = hp.val := by omega
  have e2 : 128 * ((1024 + 256 * hp.val + 128 * i.val + x.val - 1024) / 128 % 2) + (1024 + 256 * hp.val + 128 * i.val + x.val - 1024) % 128
      = 128 * i.val + x.val := by omega
  rw [dif_neg (by omega), hB.y _ _ _ _ (Nat.mod_lt _ (by decide))]
  dsimp only
  rw [e1, e2]

end Cert.RefVal
-- ==== Proof.Finite.lean ====
/- The numbers finite arguments hold, and the columns the mask marks. -/
module

public import proofs.«01_k».proof.Defs
public import proofs.«01_k».proof.Proof.Reads
public import Idealize.ShloMosaic.Lib.Pointwise

@[expose] public section

set_option maxRecDepth 16384

noncomputable section

namespace Cert.Finite

open Idealize.ShloMosaic hiding ix1 ix2 ix3 ix4
open Idealize.ShloMosaic.ValueIdx Cert.Reads Cert.Pair

instance pre_facts : Cert.Pre_finite.Facts := ⟨by decide, by decide, by decide, by decide, by decide⟩
instance mask_facts : Cert.On_group_b.Facts := ⟨by decide⟩

theorem top32 : Ideal.ofBits FTy.f32 0x7F800000#32 = (⊤ : EReal) := by
  simp [Ideal.ofBits, Ideal.ieee]

/-- A number whose magnitude is below infinity is a real number. -/
theorem real_of (x : EReal) (h : Ideal.cmp .olt (max x (-x)) (Ideal.ofBits FTy.f32 0x7F800000#32) = 1#1) : x = ((x.toReal : ℝ) : EReal) := by
  rw [top32] at h
  have h2 : max x (-x) < ⊤ := by
    by_contra hn
    simp [Ideal.cmp, hn] at h
  refine (EReal.coe_toReal ?_ ?_).symm
  · rintro rfl; simp at h2
  · rintro rfl; simp at h2

theorem mask_col (T : Fin 32768) (k : Fin 2048) (x0 x1 x2 x3 x4 x5 x6 x7 x8 x9)
    (h : Cert.On_group_b.fn (F := Ideal) x0 x1 x2 x3 x4 x5 x6 x7 x8 x9 (ix2 T k) = 1#1) : 1024 ≤ k.val := by
  have h1 : IntOp.cmpi .sge (BitVec.ofNat 32 k.val) (BitVec.ofNat 32 1024) = 1#1 := h
  exact (WordCmp.cmpi_sge_ofNat_eq_one_iff (by omega) (by norm_num)).1 h1

/-- The numbers five arrays hold. -/
def nums (a0 : Vec Ideal KernelIdeal.S2x16384x2048 .f32) (a1 : Vec Ideal KernelIdeal.S1x2048 .f32) (a2 : Vec Ideal KernelIdeal.S1x2048x8200 .f32)
    (a8 : Vec Ideal KernelIdeal.S2x1024 .f32) (a9 : Vec Ideal KernelIdeal.S1x1024 .f32) : Nums where
  X T d := (a0 (ix3 (n0 := 2) (n1 := 16384) (n2 := 2048) ⟨T / 16384 % 2, Nat.mod_lt _ (by decide)⟩ ⟨T % 16384, Nat.mod_lt _ (by decide)⟩ ⟨d % 2048, Nat.mod_lt _ (by decide)⟩) : EReal).toReal
  N d := (a1 (ix2 (n0 := 1) (n1 := 2048) 0 ⟨d % 2048, Nat.mod_lt _ (by decide)⟩) : EReal).toReal
  W d k := (a2 (ix3 (n0 := 1) (n1 := 2048) (n2 := 8200) 0 ⟨d % 2048, Nat.mod_lt _ (by decide)⟩ ⟨k % 8200, Nat.mod_lt _ (by decide)⟩) : EReal).toReal
  H l d := (a8 (ix2 (n0 := 2) (n1 := 1024) ⟨l % 2, Nat.mod_lt _ (by decide)⟩ ⟨d % 1024, Nat.mod_lt _ (by decide)⟩) : EReal).toReal
  G d := (a9 (ix2 (n0 := 1) (n1 := 1024) 0 ⟨d % 1024, Nat.mod_lt _ (by decide)⟩) : EReal).toReal

theorem nums_hold (a0 : Vec Ideal KernelIdeal.S2x16384x2048 .f32) (a1 : Vec Ideal KernelIdeal.S1x2048 .f32) (a2 : Vec Ideal KernelIdeal.S1x2048x8200 .f32)
    (a8 : Vec Ideal KernelIdeal.S2x1024 .f32) (a9 : Vec Ideal KernelIdeal.S1x1024 .f32)
    (h0 : ∀ i, (a0 i : EReal) = (((a0 i : EReal).toReal : ℝ) : EReal)) (h1 : ∀ i, (a1 i : EReal) = (((a1 i : EReal).toReal : ℝ) : EReal))
    (h2 : ∀ i, (a2 i : EReal) = (((a2 i : EReal).toReal : ℝ) : EReal)) (h8 : ∀ i, (a8 i : EReal) = (((a8 i : EReal).toReal : ℝ) : EReal))
    (h9 : ∀ i, (a9 i : EReal) = (((a9 i : EReal).toReal : ℝ) : EReal)) : Holds a0 a1 a2 a8 a9 (nums a0 a1 a2 a8 a9) := by
  refine ⟨fun b t d => (h0 _).trans ?_, fun z d => (h1 _).trans ?_, fun d k => (h2 _).trans ?_, fun l d => (h8 _).trans ?_, fun z d => (h9 _).trans ?_⟩
  · refine congrArg (fun i => (((a0 i : EReal).toReal : ℝ) : EReal)) ?_
    have e0 : b = ⟨(16384 * b.val + t.val) / 16384 % 2, Nat.mod_lt _ (by decide)⟩ := Fin.ext (by show b.val = (16384 * b.val + t.val) / 16384 % 2; omega)
    have e1 : t = ⟨(16384 * b.val + t.val) % 16384, Nat.mod_lt _ (by decide)⟩ := Fin.ext (by show t.val = (16384 * b.val + t.val) % 16384; omega)
    have e2 : d = ⟨d.val % 2048, Nat.mod_lt _ (by decide)⟩ := Fin.ext (by show d.val = d.val % 2048; omega)
    exact congr (congrArg₂ ix3 e0 e1) e2
  · refine congrArg (fun i => (((a1 i : EReal).toReal : ℝ) : EReal)) ?_
    have e2 : d = ⟨d.val % 2048, Nat.mod_lt _ (by decide)⟩ := Fin.ext (by show d.val = d.val % 2048; omega)
    exact congrArg₂ ix2 (Subsingleton.elim z 0) e2
  · refine congrArg (fun i => (((a2 i : EReal).toReal : ℝ) : EReal)) ?_
    have e1 : d = ⟨d.val % 2048, Nat.mod_lt _ (by decide)⟩ := Fin.ext (by show d.val = d.val % 2048; omega)
    have e2 : k = ⟨k.val % 8200, Nat.mod_lt _ (by decide)⟩ := Fin.ext (by show k.val = k.val % 8200; omega)
    exact congrArg₂ (ix3 0) e1 e2
  · refine congrArg (fun i => (((a8 i : EReal).toReal : ℝ) : EReal)) ?_
    have e1 : l = ⟨l.val % 2, Nat.mod_lt _ (by decide)⟩ := Fin.ext (by show l.val = l.val % 2; omega)
    have e2 : d = ⟨d.val % 1024, Nat.mod_lt _ (by decide)⟩ := Fin.ext (by show d.val = d.val % 1024; omega)
    exact congrArg₂ ix2 e1 e2
  · refine congrArg (fun i => (((a9 i : EReal).toReal : ℝ) : EReal)) ?_
    have e2 : d = ⟨d.val % 1024, Nat.mod_lt _ (by decide)⟩ := Fin.ext (by show d.val = d.val % 1024; omega)
    exact congrArg₂ ix2 (Subsingleton.elim z 0) e2

open KernelIdeal in
/-- What the precondition gives on a core. -/
theorem holds_of (m : (ℓ : Loc nD τ sig) → Buf (Elt Ideal) ℓ) (h : Cert.Pre_KernelIdeal_finite m) (c : Dev nD) :
    Holds (m (c.tc.loc main_arg0)) (m (c.tc.loc main_arg1)) (m (c.tc.loc main_arg2)) (m (c.tc.loc main_arg8)) (m (c.tc.loc main_arg9))
      (nums (m (c.tc.loc main_arg0)) (m (c.tc.loc main_arg1)) (m (c.tc.loc main_arg2)) (m (c.tc.loc main_arg8)) (m (c.tc.loc main_arg9))) :=
  nums_hold _ _ _ _ _ (fun i => real_of _ (congrFun (h c).1 i)) (fun i => real_of _ (congrFun (h c).2.1 i)) (fun i => real_of _ (congrFun (h c).2.2.1 i))
    (fun i => real_of _ (congrFun (h c).2.2.2.1 i)) (fun i => real_of _ (congrFun (h c).2.2.2.2 i))

end Cert.Finite
-- ==== Proof.lean ====
/- Assembles the certificate: the frames of the kernel, as printed and idealised, from one run over any float values, the
   reference's frame from its own run, and the value of head group B's columns from both read at an index; and the same for
   the output stage, whose every entry both sides compute by one formula. -/
module

public import proofs.«01_k».proof.Proof.Gen.ReferenceIdeal.Step
public import proofs.«01_k».proof.Proof.Gen.Kernel2Ideal.Value
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Same2
public import proofs.«01_k».proof.Proof.OutBlk
public import proofs.«01_k».proof.Proof.OutRef
public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Grid
public import proofs.«01_k».proof.Proof.RefSteps
public import proofs.«01_k».proof.Proof.RefVal
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

set_option maxHeartbeats 0 in
/-- The kernel as printed, over bit patterns, ends with its arguments unchanged and every counter at zero:
    its text is the idealised program's, whose run holds over any float values. -/
theorem frame_kernel : Cert.quiescent_Kernel (hKernel := Cert.Kernel.Gen.facts) := fun m ρ _ => by
  have h := Cert.KernelIdeal.Gen.frame (F := Bits) m ρ
  rw [Cert.Same.defs_eq, Cert.Same.main_eq] at h
  exact h

/-- The reference ends with its arguments unchanged: its run, token by token; it declares no semaphore. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- The states of the reference's loop, token after token. -/
def states (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.StepRun.initState m c
  | n + 1 => Cert.ReferenceIdeal.Step.step n (states m c n)

theorem holds_eq {a0 b0 : Vec Ideal Cert.KernelIdeal.S2x16384x2048 .f32} {a1 b1 : Vec Ideal Cert.KernelIdeal.S1x2048 .f32} {a2 b2 : Vec Ideal Cert.KernelIdeal.S1x2048x8200 .f32}
    {a8 b8 : Vec Ideal Cert.KernelIdeal.S2x1024 .f32} {a9 b9 : Vec Ideal Cert.KernelIdeal.S1x1024 .f32} {D : Cert.Reads.Nums} (e0 : b0 = a0) (e1 : b1 = a1)
    (e2 : b2 = a2) (e8 : b8 = a8) (e9 : b9 = a9) (h : Cert.Reads.Holds a0 a1 a2 a8 a9 D) : Cert.Reads.Holds b0 b1 b2 b8 b9 D := by
  subst e0 e1 e2 e8 e9; exact h

/-- The kernel and the reference return the same numbers in the columns of head group B, for finite arguments. -/
theorem values : Cert.algebraic_KernelIdeal_ReferenceIdeal_on_group_b_pre_finite (hKernelIdeal := Cert.KernelIdeal.Gen.facts)
    (hReferenceIdeal := Cert.ReferenceIdeal.Gen.facts) (hPre_finite := Cert.Finite.pre_facts) (hOn_group_b := Cert.Finite.mask_facts) := by
  intro m g m' g' hpre hargs
  refine ⟨fun c => (Cert.KernelIdeal.Gen.dats m 0 c).arrAt 12 Cert.KernelIdeal.cfg0.N,
    (θ_run (Cert.KernelIdeal.defs (F := Ideal)) _ _).mono (fun r h c => ⟨fun i _ => congrFun (h c).1 i, (h c).2⟩)
      (Cert.KernelIdeal.Value.run_blocks (F := Ideal) m g),
    (θ_run (Cert.ReferenceIdeal.defs (F := Ideal)) _ _).mono (fun r h c => ⟨fun i hi => ?_, (h c).2⟩)
      (Cert.ReferenceIdeal.StepRun.run_iter (F := Ideal) m' g' (states m') (fun _ => rfl) (fun _ _ => rfl))⟩
  have hD := Cert.Finite.holds_of m hpre c
  obtain ⟨e0, e1, e2, _, _, _, _, _, e8, e9⟩ := hargs c
  have hR := holds_eq e0 e1 e2 e8 e9 hD
  have hB := (Cert.RefVal.loop (it := states m' c) hR rfl (fun _ => rfl) 16384 (Nat.le_refl _)).2
  obtain ⟨T, k, rfl⟩ : ∃ (T : Fin 32768) (k : Fin 2048), i = ValueIdx.ix2 T k := ⟨i 0, i 1, ValueIdx.eq_ix2 i⟩
  have hk := Cert.Finite.mask_col T k _ _ _ _ _ _ _ _ _ _ hi
  obtain ⟨hp, j, x, hkk⟩ : ∃ (hp : Fin 4) (j : Fin 2) (x : Fin 128), k.val = 1024 + 256 * hp.val + 128 * j.val + x.val :=
    ⟨⟨(k.val - 1024) / 256, by omega⟩, ⟨(k.val - 1024) % 256 / 128, by omega⟩, ⟨(k.val - 1024) % 128, by omega⟩, by dsimp only; omega⟩
  have ek : k = ⟨1024 + 256 * hp.val + 128 * j.val + x.val, by omega⟩ := Fin.ext hkk
  rw [ek]
  have hL := Cert.Grid.out_eq hD T hp j x
  have hRv := Cert.RefVal.out_at hB T hp j x
  rw [ix2_eq_valueIdx] at hRv
  exact (congrFun (h c).1 _).trans (hRv.trans hL.symm)

set_option maxHeartbeats 0 in
/-- The output stage as printed, over bit patterns, ends with its arguments unchanged and every counter at zero. -/
theorem frame_kernel2 : Cert.quiescent_Kernel2 (hKernel2 := Cert.Kernel2.Gen.facts) := fun m ρ _ => by
  have h := Cert.Kernel2Ideal.Gen.frame (F := Bits) m ρ
  rw [Cert.Same2.defs_eq, Cert.Same2.main_eq] at h
  exact h

/-- The output stage's reference ends with its arguments unchanged; it declares no semaphore. -/
theorem frame_reference2 : Cert.quiescent_Reference2Ideal (hReference2Ideal := Cert.Reference2Ideal.Gen.facts) := fun m ρ _ =>
  (θ_run (Cert.Reference2Ideal.defs (F := Ideal)) _ _).mono
    (fun r h => ⟨fun c => (h c).2, sem_eq_zero_of_no_sems (by decide) r.2⟩)
    (Cert.Reference2Ideal.Value.run (F := Ideal) m ρ)

/-- The output stage and its reference return the same array, for any arguments. -/
theorem values2 : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 8 Cert.Kernel2Ideal.cfg0.N,
    (θ_run (Cert.Kernel2Ideal.defs (F := Ideal)) _ _).mono (fun r h c => h c) (Cert.Kernel2Ideal.Value.run_blocks (F := Ideal) m g),
    (θ_run (Cert.Reference2Ideal.defs (F := Ideal)) _ _).mono (fun r h c => ⟨(h c).1.trans ?_, (h c).2⟩)
      (Cert.Reference2Ideal.Value.run (F := Ideal) m' g')⟩
  obtain ⟨e0, e1, e2, e3, e4, e5, e6, e7⟩ := hargs c
  funext i
  obtain ⟨T, k, rfl⟩ : ∃ (T : Fin 32768) (k : Fin 2048), i = ValueIdx.ix2 T k := ⟨i 0, i 1, ValueIdx.eq_ix2 i⟩
  have hL := Cert.OutBlk.out_at m c T k
  have hR := (congrFun (Cert.OutRef.res_eq m' c) (ix2 T k)).trans ((Cert.OutRef.cast_at _ T k).trans (Cert.OutRef.resV_at _ _ _ _ _ _ _ _ _ _ k))
  rw [e0, e1, e2, e3, e4, e5, e6, e7] at hR
  simp only [ix1_eq_valueIdx, ix2_eq_valueIdx, ix3_eq_valueIdx, ix4_eq_valueIdx] at hR
  exact hR.trans hL.symm

/-- Every claim of the certificate. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Finite.pre_facts, Cert.Finite.mask_facts,
  frame_kernel, fun m ρ _ => Cert.KernelIdeal.Gen.frame m ρ, fun m ρ _ => Cert.KernelIdeal.Gen.frame m ρ, frame_reference,
  fun m ρ _ => frame_reference m ρ trivial, frame_kernel2, fun m ρ _ => Cert.Kernel2Ideal.Gen.frame m ρ, frame_reference2, trivial, values,
  trivial, values2⟩

end Cert.Proof

end
